-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v13_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v48_0)) (v1 : (c : Dev Cert.Kernel9Ideal.nD) → Buf (Elt Ideal) ((c.tc : Thread Cert.Kernel9Ideal.nD Cert.Kernel9Ideal.τ).loc Cert.Kernel9Ideal.main_v48_1)) (v2 : (c : Dev Cert.Kernel9Ideal.nD) → Buf (Elt Ideal) ((c.tc : Thread Cert.Kernel9Ideal.nD Cert.Kernel9Ideal.τ).loc Cert.Kernel9Ideal.main_v48_2)) (v3 : (c : Dev Cert.Kernel9Ideal.nD) → Buf (Elt Ideal) ((c.tc : Thread Cert.Kernel9Ideal.nD Cert.Kernel9Ideal.τ).loc Cert.Kernel9Ideal.main_v48_3)) (v4 : (c : Dev Cert.Kernel9Ideal.nD) → Buf (Elt Ideal) ((c.tc : Thread Cert.Kernel9Ideal.nD Cert.Kernel9Ideal.τ).loc Cert.Kernel9Ideal.main_v48_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v48_0) = v0 c
          ∧ r.2.mem ((c.tc : Thread Cert.Kernel9Ideal.nD Cert.Kernel9Ideal.τ).loc Cert.Kernel9Ideal.main_v48_1) = v1 c
          ∧ r.2.mem ((c.tc : Thread Cert.Kernel9Ideal.nD Cert.Kernel9Ideal.τ).loc Cert.Kernel9Ideal.main_v48_2) = v2 c
          ∧ r.2.mem ((c.tc : Thread Cert.Kernel9Ideal.nD Cert.Kernel9Ideal.τ).loc Cert.Kernel9Ideal.main_v48_3) = v3 c
          ∧ r.2.mem ((c.tc : Thread Cert.Kernel9Ideal.nD Cert.Kernel9Ideal.τ).loc Cert.Kernel9Ideal.main_v48_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v175) = v0 c
          ∧ r.2.mem ((c.tc : Thread Cert.Reference9Ideal.nD Cert.Reference9Ideal.τ).loc Cert.Reference9Ideal.main_v176) = v1 c
          ∧ r.2.mem ((c.tc : Thread Cert.Reference9Ideal.nD Cert.Reference9Ideal.τ).loc Cert.Reference9Ideal.main_v177) = v2 c
          ∧ r.2.mem ((c.tc : Thread Cert.Reference9Ideal.nD Cert.Reference9Ideal.τ).loc Cert.Reference9Ideal.main_v179) = v3 c
          ∧ r.2.mem ((c.tc : Thread Cert.Reference9Ideal.nD Cert.Reference9Ideal.τ).loc Cert.Reference9Ideal.main_v182) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v53_0)) (v1 : (c : Dev Cert.Kernel10Ideal.nD) → Buf (Elt Ideal) ((c.tc : Thread Cert.Kernel10Ideal.nD Cert.Kernel10Ideal.τ).loc Cert.Kernel10Ideal.main_v53_1)) (v2 : (c : Dev Cert.Kernel10Ideal.nD) → Buf (Elt Ideal) ((c.tc : Thread Cert.Kernel10Ideal.nD Cert.Kernel10Ideal.τ).loc Cert.Kernel10Ideal.main_v53_2)) (v3 : (c : Dev Cert.Kernel10Ideal.nD) → Buf (Elt Ideal) ((c.tc : Thread Cert.Kernel10Ideal.nD Cert.Kernel10Ideal.τ).loc Cert.Kernel10Ideal.main_v53_3)) (v4 : (c : Dev Cert.Kernel10Ideal.nD) → Buf (Elt Ideal) ((c.tc : Thread Cert.Kernel10Ideal.nD Cert.Kernel10Ideal.τ).loc Cert.Kernel10Ideal.main_v53_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v53_0) = v0 c
          ∧ r.2.mem ((c.tc : Thread Cert.Kernel10Ideal.nD Cert.Kernel10Ideal.τ).loc Cert.Kernel10Ideal.main_v53_1) = v1 c
          ∧ r.2.mem ((c.tc : Thread Cert.Kernel10Ideal.nD Cert.Kernel10Ideal.τ).loc Cert.Kernel10Ideal.main_v53_2) = v2 c
          ∧ r.2.mem ((c.tc : Thread Cert.Kernel10Ideal.nD Cert.Kernel10Ideal.τ).loc Cert.Kernel10Ideal.main_v53_3) = v3 c
          ∧ r.2.mem ((c.tc : Thread Cert.Kernel10Ideal.nD Cert.Kernel10Ideal.τ).loc Cert.Kernel10Ideal.main_v53_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v177) = v0 c
          ∧ r.2.mem ((c.tc : Thread Cert.Reference10Ideal.nD Cert.Reference10Ideal.τ).loc Cert.Reference10Ideal.main_v178) = v1 c
          ∧ r.2.mem ((c.tc : Thread Cert.Reference10Ideal.nD Cert.Reference10Ideal.τ).loc Cert.Reference10Ideal.main_v179) = v2 c
          ∧ r.2.mem ((c.tc : Thread Cert.Reference10Ideal.nD Cert.Reference10Ideal.τ).loc Cert.Reference10Ideal.main_v181) = v3 c
          ∧ r.2.mem ((c.tc : Thread Cert.Reference10Ideal.nD Cert.Reference10Ideal.τ).loc Cert.Reference10Ideal.main_v184) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite9 : Cert.Pre_finite9.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
-- ==== Pre_finite.lean ====
abbrev S16384x384 : Shape := ⟨2, ![16384, 384]⟩
abbrev S16384x128 : Shape := ⟨2, ![16384, 128]⟩
abbrev S17408x3840 : Shape := ⟨2, ![17408, 3840]⟩
abbrev S2x6x64x64 : Shape := ⟨4, ![2, 6, 64, 64]⟩
abbrev S1x64 : Shape := ⟨2, ![1, 64]⟩
abbrev S_ : Shape := ⟨0, ![]⟩
abbrev S16384x12 : Shape := ⟨2, ![16384, 12]⟩

class Facts : Prop where
  bcast_S_S16384x384 : S_.BroadcastsInDim S16384x384 (![] : Fin 0 → Fin S16384x384.rank)
  reducesTo_S16384x384_S_d0_1 : S16384x384.ReducesTo [0, 1] S_
  h_S_ : 0 < S_.numel
  slices_S16384x128_S16384x12_0_68 : S16384x128.Slices ![0, 68] S16384x12
  bcast_S_S16384x12 : S_.BroadcastsInDim S16384x12 (![] : Fin 0 → Fin S16384x12.rank)
  reducesTo_S16384x12_S_d0_1 : S16384x12.ReducesTo [0, 1] S_
  bcast_S_S2x6x64x64 : S_.BroadcastsInDim S2x6x64x64 (![] : Fin 0 → Fin S2x6x64x64.rank)
  reducesTo_S2x6x64x64_S_d0_1_2_3 : S2x6x64x64.ReducesTo [0, 1, 2, 3] S_

variable [Facts]

def fn_part1 {F : FTy → Type} [FloatOps F] (main_arg5 : FVec F S2x6x64x64 .f32) (main_v13 : IVec S_ 1) (main_v15 : FVec F S16384x12 .f32) (main_v16 : FVec F S16384x12 .f32) : IVec S_ 1 :=
  let main_v17 : IVec S16384x12 1 := cmpf .olt main_v15 main_v16
  let main_c_5 : IVec S_ 1 := constantI S_ 1 1#1
  let main_v18 : IVec S_ 1 := (fun x v => Host.reduce IntOp.andi x v reducesTo_S16384x12_S_d0_1 h_S_) main_v17 main_c_5
  let main_v19 : IVec S_ 1 := andi main_v13 main_v18
  let main_v20 : FVec F S2x6x64x64 .f32 := Host.absf main_arg5
  let main_cst_6 : FVec F S_ .f32 := constant S_ .f32 0x7F800000#32
  let main_v21 : FVec F S2x6x64x64 .f32 := broadcastInDim S2x6x64x64 ![] bcast_S_S2x6x64x64 main_cst_6
  let main_v22 : IVec S2x6x64x64 1 := cmpf .olt main_v20 main_v21
  let main_c_7 : IVec S_ 1 := constantI S_ 1 1#1
  let main_v23 : IVec S_ 1 := (fun x v => Host.reduce IntOp.andi x v reducesTo_S2x6x64x64_S_d0_1_2_3 h_S_) main_v22 main_c_7
  let main_v24 : IVec S_ 1 := andi main_v19 main_v23
  main_v24

def fn {F : FTy → Type} [FloatOps F] (main_arg0 : FVec F S16384x384 .f32) (main_arg1 : FVec F S16384x384 .f32) (main_arg2 : FVec F S16384x384 .f32) (main_arg3 : FVec F S16384x128 .f32) (main_arg4 : FVec F S17408x3840 .f32) (main_arg5 : FVec F S2x6x64x64 .f32) (main_arg6 : FVec F S1x64 .f32) : IVec S_ 1 :=
  let main_v0 : FVec F S16384x384 .f32 := Host.absf main_arg0
  let main_cst : FVec F S_ .f32 := constant S_ .f32 0x7F800000#32
  let main_v1 : FVec F S16384x384 .f32 := broadcastInDim S16384x384 ![] bcast_S_S16384x384 main_cst
  let main_v2 : IVec S16384x384 1 := cmpf .olt main_v0 main_v1
  let main_c : IVec S_ 1 := constantI S_ 1 1#1
  let main_v3 : IVec S_ 1 := (fun x v => Host.reduce IntOp.andi x v reducesTo_S16384x384_S_d0_1 h_S_) main_v2 main_c
  let main_v4 : FVec F S16384x384 .f32 := Host.absf main_arg1
  let main_cst_0 : FVec F S_ .f32 := constant S_ .f32 0x7F800000#32
  let main_v5 : FVec F S16384x384 .f32 := broadcastInDim S16384x384 ![] bcast_S_S16384x384 main_cst_0
  let main_v6 : IVec S16384x384 1 := cmpf .olt main_v4 main_v5
  let main_c_1 : IVec S_ 1 := constantI S_ 1 1#1
  let main_v7 : IVec S_ 1 := (fun x v => Host.reduce IntOp.andi x v reducesTo_S16384x384_S_d0_1 h_S_) main_v6 main_c_1
  let main_v8 : IVec S_ 1 := andi main_v3 main_v7
  let main_v9 : FVec F S16384x384 .f32 := Host.absf main_arg2
  let main_cst_2 : FVec F S_ .f32 := constant S_ .f32 0x7F800000#32
  let main_v10 : FVec F S16384x384 .f32 := broadcastInDim S16384x384 ![] bcast_S_S16384x384 main_cst_2
  let main_v11 : IVec S16384x384 1 := cmpf .olt main_v9 main_v10
  let main_c_3 : IVec S_ 1 := constantI S_ 1 1#1
  let main_v12 : IVec S_ 1 := (fun x v => Host.reduce IntOp.andi x v reducesTo_S16384x384_S_d0_1 h_S_) main_v11 main_c_3
  let main_v13 : IVec S_ 1 := andi main_v8 main_v12
  let main_v14 : FVec F S16384x12 .f32 := (extractStridedSlice S16384x12 ![0, 68] · slices_S16384x128_S16384x12_0_68) main_arg3
  let main_v15 : FVec F S16384x12 .f32 := Host.absf main_v14
  let main_cst_4 : FVec F S_ .f32 := constant S_ .f32 0x7F800000#32
  let main_v16 : FVec F S16384x12 .f32 := broadcastInDim S16384x12 ![] bcast_S_S16384x12 main_cst_4
  fn_part1 (F := F) main_arg5 main_v13 main_v15 main_v16
-- ==== Pre_finite10.lean ====
abbrev S17408x3840 : Shape := ⟨2, ![17408, 3840]⟩
abbrev S64 : Shape := ⟨1, ![64]⟩
abbrev S1024x768 : Shape := ⟨2, ![1024, 768]⟩
abbrev S_ : Shape := ⟨0, ![]⟩

class Facts : Prop where
  slices_S17408x3840_S1024x768_16384_1152 : S17408x3840.Slices ![16384, 1152] S1024x768
  bcast_S_S1024x768 : S_.BroadcastsInDim S1024x768 (![] : Fin 0 → Fin S1024x768.rank)
  reducesTo_S1024x768_S_d0_1 : S1024x768.ReducesTo [0, 1] S_
  h_S_ : 0 < S_.numel

variable [Facts]

def fn {F : FTy → Type} [FloatOps F] (main_arg0 : FVec F S17408x3840 .f32) (main_arg1 : FVec F S64 .f32) (main_arg2 : FVec F S64 .f32) : IVec S_ 1 :=
  let main_v0 : FVec F S1024x768 .f32 := (extractStridedSlice S1024x768 ![16384, 1152] · slices_S17408x3840_S1024x768_16384_1152) main_arg0
  let main_v1 : FVec F S1024x768 .f32 := Host.absf main_v0
  let main_cst : FVec F S_ .f32 := constant S_ .f32 0x7F800000#32
  let main_v2 : FVec F S1024x768 .f32 := broadcastInDim S1024x768 ![] bcast_S_S1024x768 main_cst
  let main_v3 : IVec S1024x768 1 := cmpf .olt main_v1 main_v2
  let main_c : IVec S_ 1 := constantI S_ 1 1#1
  let main_v4 : IVec S_ 1 := (fun x v => Host.reduce IntOp.andi x v reducesTo_S1024x768_S_d0_1 h_S_) main_v3 main_c
  main_v4
-- ==== Pre_finite9.lean ====
abbrev S17408x3840 : Shape := ⟨2, ![17408, 3840]⟩
abbrev S64 : Shape := ⟨1, ![64]⟩
abbrev S16384x768 : Shape := ⟨2, ![16384, 768]⟩
abbrev S_ : Shape := ⟨0, ![]⟩

class Facts : Prop where
  slices_S17408x3840_S16384x768_0_1152 : S17408x3840.Slices ![0, 1152] S16384x768
  bcast_S_S16384x768 : S_.BroadcastsInDim S16384x768 (![] : Fin 0 → Fin S16384x768.rank)
  reducesTo_S16384x768_S_d0_1 : S16384x768.ReducesTo [0, 1] S_
  h_S_ : 0 < S_.numel

variable [Facts]

def fn {F : FTy → Type} [FloatOps F] (main_arg0 : FVec F S17408x3840 .f32) (main_arg1 : FVec F S64 .f32) (main_arg2 : FVec F S64 .f32) : IVec S_ 1 :=
  let main_v0 : FVec F S16384x768 .f32 := (extractStridedSlice S16384x768 ![0, 1152] · slices_S17408x3840_S16384x768_0_1152) main_arg0
  let main_v1 : FVec F S16384x768 .f32 := Host.absf main_v0
  let main_cst : FVec F S_ .f32 := constant S_ .f32 0x7F800000#32
  let main_v2 : FVec F S16384x768 .f32 := broadcastInDim S16384x768 ![] bcast_S_S16384x768 main_cst
  let main_v3 : IVec S16384x768 1 := cmpf .olt main_v1 main_v2
  let main_c : IVec S_ 1 := constantI S_ 1 1#1
  let main_v4 : IVec S_ 1 := (fun x v => Host.reduce IntOp.andi x v reducesTo_S16384x768_S_d0_1 h_S_) main_v3 main_c
  main_v4
-- ==== Kernel.lean ====
abbrev S16384x384 : Shape := ⟨2, ![16384, 384]⟩
abbrev S16384x128 : Shape := ⟨2, ![16384, 128]⟩
abbrev S17408x3840 : Shape := ⟨2, ![17408, 3840]⟩
abbrev S2x6x64x64 : Shape := ⟨4, ![2, 6, 64, 64]⟩
abbrev S1x64 : Shape := ⟨2, ![1, 64]⟩
abbrev S2x1x6x64x64 : Shape := ⟨5, ![2, 1, 6, 64, 64]⟩
abbrev S2x6x1x64x64 : Shape := ⟨5, ![2, 6, 1, 64, 64]⟩
abbrev S64x384 : Shape := ⟨2, ![64, 384]⟩
abbrev S64x128 : Shape := ⟨2, ![64, 128]⟩
abbrev S1x6x64x64 : Shape := ⟨4, ![1, 6, 64, 64]⟩
abbrev S6x64x64 : Shape := ⟨3, ![6, 64, 64]⟩
abbrev S64x64 : Shape := ⟨2, ![64, 64]⟩
abbrev S64x1 : Shape := ⟨2, ![64, 1]⟩
abbrev S1x64x64 : Shape := ⟨3, ![1, 64, 64]⟩
abbrev S1x1 : Shape := ⟨2, ![1, 1]⟩
abbrev S64 : Shape := ⟨1, ![64]⟩

abbrev nBuf : Space → Nat
  | .hbm => 12
  | .vmem => 18
  | .smem => 0
  | _ => 0

abbrev bufTy : (tb : Table) → Fin (tcTables nBuf tb) → BufTy
  | .hbm, ⟨0, _⟩ => ⟨S16384x384, .f32⟩
  | .hbm, ⟨1, _⟩ => ⟨S16384x384, .f32⟩
  | .hbm, ⟨2, _⟩ => ⟨S16384x384, .f32⟩
  | .hbm, ⟨3, _⟩ => ⟨S16384x128, .f32⟩
  | .hbm, ⟨4, _⟩ => ⟨S17408x3840, .f32⟩
  | .hbm, ⟨5, _⟩ => ⟨S2x6x64x64, .f32⟩
  | .hbm, ⟨6, _⟩ => ⟨S1x64, .f32⟩
  | .hbm, ⟨7, _⟩ => ⟨S2x1x6x64x64, .f32⟩
  | .hbm, ⟨8, _⟩ => ⟨S2x6x1x64x64, .f32⟩
  | .hbm, ⟨9, _⟩ => ⟨S2x6x64x64, .f32⟩
  | .hbm, ⟨10, _⟩ => ⟨S16384x384, .f32⟩
  | .hbm, ⟨11, _⟩ => ⟨S2x6x64x64, .f32⟩
  | .local _ .vmem, ⟨0, _⟩ => ⟨S64x384, .f32⟩
  | .local _ .vmem, ⟨1, _⟩ => ⟨S64x384, .f32⟩
  | .local _ .vmem, ⟨2, _⟩ => ⟨S64x384, .f32⟩
  | .local _ .vmem, ⟨3, _⟩ => ⟨S64x384, .f32⟩
  | .local _ .vmem, ⟨4, _⟩ => ⟨S64x384, .f32⟩
  | .local _ .vmem, ⟨5, _⟩ => ⟨S64x384, .f32⟩
  | .local _ .vmem, ⟨6, _⟩ => ⟨S64x128, .f32⟩
  | .local _ .vmem, ⟨7, _⟩ => ⟨S64x128, .f32⟩
  | .local _ .vmem, ⟨8, _⟩ => ⟨S64x384, .f32⟩
  | .local _ .vmem, ⟨9, _⟩ => ⟨S64x384, .f32⟩
  | .local _ .vmem, ⟨10, _⟩ => ⟨S1x6x64x64, .f32⟩
  | .local _ .vmem, ⟨11, _⟩ => ⟨S1x6x64x64, .f32⟩
  | .local _ .vmem, ⟨12, _⟩ => ⟨S1x64, .f32⟩
  | .local _ .vmem, ⟨13, _⟩ => ⟨S64x384, .f32⟩
  | .local _ .vmem, ⟨14, _⟩ => ⟨S64x384, .f32⟩
  | .local _ .vmem, ⟨15, _⟩ => ⟨S1x6x64x64, .f32⟩
  | .local _ .vmem, ⟨16, _⟩ => ⟨S1x6x64x64, .f32⟩
  | .local _ .vmem, ⟨17, _⟩ => ⟨S6x64x64, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v692 : BitVec 1 := Scalar.cmpi .eq arg1 c127_i32
  let v693 : BitVec 32 := Scalar.extui v692
  let c0_i32_295 : BitVec 32 := 0#32
  let v694 : BitVec 1 := Scalar.cmpi .ne v693 c0_i32_295
  v694

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := Scalar.addi v1 arg1
  let c8_i32 : BitVec 32 := 8#32
  let c0_i32_0 : BitVec 32 := 0#32
  ![v2.toNat, c8_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16384x384 : Shape := ⟨2, ![16384, 384]⟩
abbrev S16384x128 : Shape := ⟨2, ![16384, 128]⟩
abbrev S17408x3840 : Shape := ⟨2, ![17408, 3840]⟩
abbrev S2x6x64x64 : Shape := ⟨4, ![2, 6, 64, 64]⟩
abbrev S1x64 : Shape := ⟨2, ![1, 64]⟩
abbrev S2x8192x6x64 : Shape := ⟨4, ![2, 8192, 6, 64]⟩
abbrev S8192x2x6x64 : Shape := ⟨4, ![8192, 2, 6, 64]⟩
abbrev S16384x6 : Shape := ⟨2, ![16384, 6]⟩
abbrev S2x8192x6 : Shape := ⟨3, ![2, 8192, 6]⟩
abbrev S8192x2x6 : Shape := ⟨3, ![8192, 2, 6]⟩
abbrev S_ : Shape := ⟨0, ![]⟩
abbrev S1x2x6x64 : Shape := ⟨4, ![1, 2, 6, 64]⟩
abbrev S2x6x64 : Shape := ⟨3, ![2, 6, 64]⟩
abbrev S1x2x6 : Shape := ⟨3, ![1, 2, 6]⟩
abbrev S2x6 : Shape := ⟨2, ![2, 6]⟩
abbrev S2x6x1 : Shape := ⟨3, ![2, 6, 1]⟩
abbrev S2x6x1x1 : Shape := ⟨4, ![2, 6, 1, 1]⟩
abbrev S2x6x64x1 : Shape := ⟨4, ![2, 6, 64, 1]⟩
abbrev S2x6x1x64 : Shape := ⟨4, ![2, 6, 1, 64]⟩
abbrev S64 : Shape := ⟨1, ![64]⟩
abbrev S2x8192x6x1 : Shape := ⟨4, ![2, 8192, 6, 1]⟩
abbrev S1x1x1x64 : Shape := ⟨4, ![1, 1, 1, 64]⟩

abbrev nBuf : Space → Nat
  | .hbm => 114
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S16384x384, .f32⟩
  | .hbm, ⟨2, _⟩ => ⟨S16384x384, .f32⟩
  | .hbm, ⟨3, _⟩ => ⟨S16384x128, .f32⟩
  | .hbm, ⟨4, _⟩ => ⟨S17408x3840, .f32⟩
  | .hbm, ⟨5, _⟩ => ⟨S2x6x64x64, .f32⟩
  | .hbm, ⟨6, _⟩ => ⟨S1x64, .f32⟩
  | .hbm, ⟨7, _⟩ => ⟨S2x8192x6x64, .f32⟩
  | .hbm, ⟨8, _⟩ => ⟨S8192x2x6x64, .f32⟩
  | .hbm, ⟨9, _⟩ => ⟨S2x8192x6x64, .f32⟩
  | .hbm, ⟨10, _⟩ => ⟨S8192x2x6x64, .f32⟩
  | .hbm, ⟨11, _⟩ => ⟨S2x8192x6x64, .f32⟩
  | .hbm, ⟨12, _⟩ => ⟨S8192x2x6x64, .f32⟩
  | .hbm, ⟨13, _⟩ => ⟨S16384x6, .f32⟩
  | .hbm, ⟨14, _⟩ => ⟨S2x8192x6, .f32⟩
  | .hbm, ⟨15, _⟩ => ⟨S8192x2x6, .f32⟩
  | .hbm, ⟨16, _⟩ => ⟨S16384x6, .f32⟩
  | .hbm, ⟨17, _⟩ => ⟨S2x8192x6, .f32⟩
  | .hbm, ⟨18, _⟩ => ⟨S8192x2x6, .f32⟩
  | .hbm, ⟨19, _⟩ => ⟨S_, .f32⟩
  | .hbm, ⟨20, _⟩ => ⟨S8192x2x6x64, .f32⟩
  | .hbm, ⟨21, _⟩ => ⟨S_, .i32⟩
  | .hbm, ⟨22, _⟩ => ⟨S8192x2x6x64, .f32⟩
  | .hbm, ⟨23, _⟩ => ⟨S8192x2x6x64, .f32⟩
  | .hbm, ⟨24, _⟩ => ⟨S8192x2x6x64, .f32⟩
  | .hbm, ⟨25, _⟩ => ⟨S8192x2x6, .f32⟩
  | .hbm, ⟨26, _⟩ => ⟨S8192x2x6, .f32⟩
  | .hbm, ⟨27, _⟩ => ⟨S_, .i32⟩
  | .hbm, ⟨28, _⟩ => ⟨S2x6x64x64, .f32⟩
  | .hbm, ⟨29, _⟩ => ⟨S8192x2x6x64, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x2x6x64, .f32⟩
  | .hbm, ⟨36, _⟩ => ⟨S2x6x64, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x2x6x64, .f32⟩
  | .hbm, ⟨41, _⟩ => ⟨S2x6x64, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x2x6x64, .f32⟩
  | .hbm, ⟨46, _⟩ => ⟨S2x6x64, .f32⟩
  | .hbm, ⟨47, _⟩ => ⟨S_, .i32⟩
  | .hbm, ⟨48, _⟩ => ⟨S_, .i32⟩
  | .hbm, ⟨49, _⟩ => ⟨S1x2x6, .f32⟩
  | .hbm, ⟨50, _⟩ => ⟨S2x6, .f32⟩
  | .hbm, ⟨51, _⟩ => ⟨S_, .i32⟩
  | .hbm, ⟨52, _⟩ => ⟨S_, .i32⟩
  | .hbm, ⟨53, _⟩ => ⟨S1x2x6, .f32⟩
  | .hbm, ⟨54, _⟩ => ⟨S2x6, .f32⟩
  | .hbm, ⟨55, _⟩ => ⟨S2x6x1, .f32⟩
  | .hbm, ⟨56, _⟩ => ⟨S2x6x64, .f32⟩
  | .hbm, ⟨57, _⟩ => ⟨S2x6x64, .f32⟩
  | .hbm, ⟨58, _⟩ => ⟨S2x6x64, .f32⟩
  | .hbm, ⟨59, _⟩ => ⟨S2x6, .f32⟩
  | .hbm, ⟨60, _⟩ => ⟨S2x6x1x1, .f32⟩
  | .hbm, ⟨61, _⟩ => ⟨S2x6x64x1, .f32⟩
  | .hbm, ⟨62, _⟩ => ⟨S2x6x1x64, .f32⟩
  | .hbm, ⟨63, _⟩ => ⟨S2x6x64x64, .f32⟩
  | .hbm, ⟨64, _⟩ => ⟨S2x6x64x64, .f32⟩
  | .hbm, ⟨65, _⟩ => ⟨S2x6x64x64, .f32⟩
  | .hbm, ⟨66, _⟩ => ⟨S2x6x64x64, .f32⟩
  | .hbm, ⟨67, _⟩ => ⟨S2x6x64x64, .f32⟩
  | .hbm, ⟨68, _⟩ => ⟨S2x6x64x64, .f32⟩
  | .hbm, ⟨69, _⟩ => ⟨S2x6x64x1, .f32⟩
  | .hbm, ⟨70, _⟩ => ⟨S2x6x1x64, .f32⟩
  | .hbm, ⟨71, _⟩ => ⟨S2x6x64x64, .f32⟩
  | .hbm, ⟨72, _⟩ => ⟨S2x6x64x64, .f32⟩
  | .hbm, ⟨73, _⟩ => ⟨S2x6x64x64, .f32⟩
  | .hbm, ⟨74, _⟩ => ⟨S2x6x64x64, .f32⟩
  | .hbm, ⟨75, _⟩ => ⟨S2x6x64, .f32⟩
  | .hbm, ⟨76, _⟩ => ⟨S1x2x6x64, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S8192x2x6x64, .f32⟩
  | .hbm, ⟨81, _⟩ => ⟨S_, .i32⟩
  | .hbm, ⟨82, _⟩ => ⟨S_, .i32⟩
  | .hbm, ⟨83, _⟩ => ⟨S2x8192x6x64, .f32⟩
  | .hbm, ⟨84, _⟩ => ⟨S16384x384, .f32⟩
  | .hbm, ⟨85, _⟩ => ⟨S2x8192x6x64, .f32⟩
  | .hbm, ⟨86, _⟩ => ⟨S64, .f32⟩
  | .hbm, ⟨87, _⟩ => ⟨S2x8192x6x64, .f32⟩
  | .hbm, ⟨88, _⟩ => ⟨S_, .f32⟩
  | .hbm, ⟨89, _⟩ => ⟨S2x8192x6, .f32⟩
  | .hbm, ⟨90, _⟩ => ⟨S2x8192x6x1, .f32⟩
  | .hbm, ⟨91, _⟩ => ⟨S_, .f32⟩
  | .hbm, ⟨92, _⟩ => ⟨S2x8192x6x1, .f32⟩
  | .hbm, ⟨93, _⟩ => ⟨S2x8192x6x1, .f32⟩
  | .hbm, ⟨94, _⟩ => ⟨S_, .f32⟩
  | .hbm, ⟨95, _⟩ => ⟨S2x8192x6x1, .f32⟩
  | .hbm, ⟨96, _⟩ => ⟨S2x8192x6x1, .f32⟩
  | .hbm, ⟨97, _⟩ => ⟨S2x8192x6x1, .f32⟩
  | .hbm, ⟨98, _⟩ => ⟨S2x8192x6x64, .f32⟩
  | .hbm, ⟨99, _⟩ => ⟨S2x8192x6x64, .f32⟩
  | .hbm, ⟨100, _⟩ => ⟨S1x1x1x64, .f32⟩
  | .hbm, ⟨101, _⟩ => ⟨S2x8192x6x64, .f32⟩
  | .hbm, ⟨102, _⟩ => ⟨S2x8192x6x64, .f32⟩
  | .hbm, ⟨103, _⟩ => ⟨S2x8192x6x64, .f32⟩
  | .hbm, ⟨104, _⟩ => ⟨S2x8192x6x64, .f32⟩
  | .hbm, ⟨105, _⟩ => ⟨S_, .f32⟩
  | .hbm, ⟨106, _⟩ => ⟨S2x8192x6x64, .f32⟩
  | .hbm, ⟨107, _⟩ => ⟨S2x8192x6x64, .f32⟩
  | .hbm, ⟨108, _⟩ => ⟨S_, .f32⟩
  | .hbm, ⟨109, _⟩ => ⟨S2x8192x6x64, .f32⟩
  | .hbm, ⟨110, _⟩ => ⟨S2x8192x6x64, .f32⟩
  | .hbm, ⟨111, _⟩ => ⟨S2x8192x6x64, .f32⟩
  | .hbm, ⟨112, _⟩ => ⟨S2x8192x6x64, .f32⟩
  | .hbm, ⟨113, _⟩ => ⟨S16384x384, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_c : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev main_while0c_c_10 : Ref sig .tc := ⟨.hbm, 30, rfl⟩
abbrev main_while0c_v34 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_c_1 : Ref sig .tc := ⟨.hbm, 34, rfl⟩
abbrev main_while0b_call0_v0 : Ref sig .tc := ⟨.hbm, 35, rfl⟩
abbrev main_while0b_v34 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_c_1 : Ref sig .tc := ⟨.hbm, 39, rfl⟩
abbrev main_while0b_call1_v0 : Ref sig .tc := ⟨.hbm, 40, rfl⟩
abbrev main_while0b_v35 : Ref sig .tc := ⟨.hbm, 41, rfl⟩
abbrev main_while0b_call2_c : Ref sig .tc := ⟨.hbm, 42, rfl⟩
abbrev main_while0b_call2_c_0 : Ref sig .tc := ⟨.hbm, 43, rfl⟩
abbrev main_while0b_call2_c_1 : Ref sig .tc := ⟨.hbm, 44, rfl⟩
abbrev main_while0b_call2_v0 : Ref sig .tc := ⟨.hbm, 45, rfl⟩
abbrev main_while0b_v36 : Ref sig .tc := ⟨.hbm, 46, rfl⟩
abbrev main_while0b_call3_c : Ref sig .tc := ⟨.hbm, 47, rfl⟩
abbrev main_while0b_call3_c_0 : Ref sig .tc := ⟨.hbm, 48, rfl⟩
abbrev main_while0b_call3_v0 : Ref sig .tc := ⟨.hbm, 49, rfl⟩
abbrev main_while0b_v37 : Ref sig .tc := ⟨.hbm, 50, rfl⟩
abbrev main_while0b_call4_c : Ref sig .tc := ⟨.hbm, 51, rfl⟩
abbrev main_while0b_call4_c_0 : Ref sig .tc := ⟨.hbm, 52, rfl⟩
abbrev main_while0b_call4_v0 : Ref sig .tc := ⟨.hbm, 53, rfl⟩
abbrev main_while0b_v38 : Ref sig .tc := ⟨.hbm, 54, rfl⟩
abbrev main_while0b_v39 : Ref sig .tc := ⟨.hbm, 55, rfl⟩
abbrev main_while0b_v40 : Ref sig .tc := ⟨.hbm, 56, rfl⟩
abbrev main_while0b_v41 : Ref sig .tc := ⟨.hbm, 57, rfl⟩
abbrev main_while0b_v42 : Ref sig .tc := ⟨.hbm, 58, rfl⟩
abbrev main_while0b_v43 : Ref sig .tc := ⟨.hbm, 59, rfl⟩
abbrev main_while0b_v44 : Ref sig .tc := ⟨.hbm, 60, rfl⟩
abbrev main_while0b_v45 : Ref sig .tc := ⟨.hbm, 61, rfl⟩
abbrev main_while0b_v46 : Ref sig .tc := ⟨.hbm, 62, rfl⟩
abbrev main_while0b_v47 : Ref sig .tc := ⟨.hbm, 63, rfl⟩
abbrev main_while0b_v48 : Ref sig .tc := ⟨.hbm, 64, rfl⟩
abbrev main_while0b_v49 : Ref sig .tc := ⟨.hbm, 65, rfl⟩
abbrev main_while0b_v50 : Ref sig .tc := ⟨.hbm, 66, rfl⟩
abbrev main_while0b_v51 : Ref sig .tc := ⟨.hbm, 67, rfl⟩
abbrev main_while0b_v52 : Ref sig .tc := ⟨.hbm, 68, rfl⟩
abbrev main_while0b_v53 : Ref sig .tc := ⟨.hbm, 69, rfl⟩
abbrev main_while0b_v54 : Ref sig .tc := ⟨.hbm, 70, rfl⟩
abbrev main_while0b_v55 : Ref sig .tc := ⟨.hbm, 71, rfl⟩
abbrev main_while0b_v56 : Ref sig .tc := ⟨.hbm, 72, rfl⟩
abbrev main_while0b_v57 : Ref sig .tc := ⟨.hbm, 73, rfl⟩
abbrev main_while0b_v58 : Ref sig .tc := ⟨.hbm, 74, rfl⟩
abbrev main_while0b_v59 : Ref sig .tc := ⟨.hbm, 75, rfl⟩
abbrev main_while0b_call5_v0 : Ref sig .tc := ⟨.hbm, 76, rfl⟩
abbrev main_while0b_call5_c : Ref sig .tc := ⟨.hbm, 77, rfl⟩
abbrev main_while0b_call5_c_0 : Ref sig .tc := ⟨.hbm, 78, rfl⟩
abbrev main_while0b_call5_c_1 : Ref sig .tc := ⟨.hbm, 79, rfl⟩
abbrev main_while0b_v60 : Ref sig .tc := ⟨.hbm, 80, rfl⟩
abbrev main_while0b_c_10 : Ref sig .tc := ⟨.hbm, 81, rfl⟩
abbrev main_while0b_v61 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_cst_0 : Ref sig .tc := ⟨.hbm, 88, rfl⟩
abbrev main_v19 : Ref sig .tc := ⟨.hbm, 89, rfl⟩
abbrev main_v20 : Ref sig .tc := ⟨.hbm, 90, rfl⟩
abbrev main_cst_1 : Ref sig .tc := ⟨.hbm, 91, rfl⟩
abbrev main_v21 : Ref sig .tc := ⟨.hbm, 92, rfl⟩
abbrev main_v22 : Ref sig .tc := ⟨.hbm, 93, rfl⟩
abbrev main_cst_2 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_call6_v0 : Ref sig .tc := ⟨.hbm, 103, rfl⟩
abbrev main_call6_v1 : Ref sig .tc := ⟨.hbm, 104, rfl⟩
abbrev main_call6_cst : Ref sig .tc := ⟨.hbm, 105, rfl⟩
abbrev main_call6_v2 : Ref sig .tc := ⟨.hbm, 106, rfl⟩
abbrev main_call6_v3 : Ref sig .tc := ⟨.hbm, 107, rfl⟩
abbrev main_call6_cst_0 : Ref sig .tc := ⟨.hbm, 108, rfl⟩
abbrev main_call6_v4 : Ref sig .tc := ⟨.hbm, 109, rfl⟩
abbrev main_call6_v5 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S17408x1024 : Shape := ⟨2, ![17408, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x256 : Shape := ⟨2, ![1024, 256]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩

abbrev nBuf : Space → Nat
  | .hbm => 10
  | .vmem => 13
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![34, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S17408x1024 : Shape := ⟨2, ![17408, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x2816 : Shape := ⟨2, ![17408, 2816]⟩

abbrev nBuf : Space → Nat
  | .hbm => 38
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S17408x1024, .f32⟩
  | .hbm, ⟨6, _⟩ => ⟨S_, .f32⟩
  | .hbm, ⟨7, _⟩ => ⟨S17408, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S17408x1, .f32⟩
  | .hbm, ⟨16, _⟩ => ⟨S17408x1024, .f32⟩
  | .hbm, ⟨17, _⟩ => ⟨S17408x1024, .f32⟩
  | .hbm, ⟨18, _⟩ => ⟨S1x1024, .f32⟩
  | .hbm, ⟨19, _⟩ => ⟨S17408x1024, .f32⟩
  | .hbm, ⟨20, _⟩ => ⟨S17408x1024, .f32⟩
  | .hbm, ⟨21, _⟩ => ⟨S17408x2816, .f32⟩
  | .hbm, ⟨22, _⟩ => ⟨S17408x2816, .f32⟩
  | .hbm, ⟨23, _⟩ => ⟨S17408x2816, .f32⟩
  | .hbm, ⟨24, _⟩ => ⟨S_, .f32⟩
  | .hbm, ⟨25, _⟩ => ⟨S17408x2816, .f32⟩
  | .hbm, ⟨26, _⟩ => ⟨S17408x2816, .f32⟩
  | .hbm, ⟨27, _⟩ => ⟨S_, .f32⟩
  | .hbm, ⟨28, _⟩ => ⟨S17408x2816, .f32⟩
  | .hbm, ⟨29, _⟩ => ⟨S17408x2816, .f32⟩
  | .hbm, ⟨30, _⟩ => ⟨S17408x2816, .f32⟩
  | .hbm, ⟨31, _⟩ => ⟨S17408x2816, .f32⟩
  | .hbm, ⟨32, _⟩ => ⟨S17408x2816, .f32⟩
  | .hbm, ⟨33, _⟩ => ⟨S17408x1024, .f32⟩
  | .hbm, ⟨34, _⟩ => ⟨S_, .f32⟩
  | .hbm, ⟨35, _⟩ => ⟨S17408x1024, .f32⟩
  | .hbm, ⟨36, _⟩ => ⟨S17408x1024, .f32⟩
  | .hbm, ⟨37, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel3.lean ====
abbrev S17408x1024 : Shape := ⟨2, ![17408, 1024]⟩
abbrev S1024 : Shape := ⟨1, ![1024]⟩
abbrev S1024x3840 : Shape := ⟨2, ![1024, 3840]⟩
abbrev S1x1024 : Shape := ⟨2, ![1, 1024]⟩
abbrev S17408x3840 : Shape := ⟨2, ![17408, 3840]⟩
abbrev S512x1024 : Shape := ⟨2, ![512, 1024]⟩
abbrev S1024x768 : Shape := ⟨2, ![1024, 768]⟩
abbrev S512x768 : Shape := ⟨2, ![512, 768]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3840, .f32⟩
  | .hbm, ⟨3, _⟩ => ⟨S1x1024, .f32⟩
  | .hbm, ⟨4, _⟩ => ⟨S1024x3840, .bf16⟩
  | .hbm, ⟨5, _⟩ => ⟨S17408x3840, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S512x768, .f32⟩
  | .local _ .vmem, ⟨6, _⟩ => ⟨S512x768, .f32⟩
  | .local _ .vmem, ⟨7, _⟩ => ⟨S512x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![34, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S17408x1024 : Shape := ⟨2, ![17408, 1024]⟩
abbrev S1024 : Shape := ⟨1, ![1024]⟩
abbrev S1024x3840 : Shape := ⟨2, ![1024, 3840]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x3840 : Shape := ⟨2, ![17408, 3840]⟩

abbrev nBuf : Space → Nat
  | .hbm => 20
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3840, .f32⟩
  | .hbm, ⟨3, _⟩ => ⟨S17408x1024, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x1024, .f32⟩
  | .hbm, ⟨15, _⟩ => ⟨S17408x1024, .f32⟩
  | .hbm, ⟨16, _⟩ => ⟨S1x1024, .f32⟩
  | .hbm, ⟨17, _⟩ => ⟨S17408x1024, .f32⟩
  | .hbm, ⟨18, _⟩ => ⟨S17408x1024, .f32⟩
  | .hbm, ⟨19, _⟩ => ⟨S17408x3840, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S17408x1024 : Shape := ⟨2, ![17408, 1024]⟩
abbrev S17408x256 : Shape := ⟨2, ![17408, 256]⟩
abbrev S17408x384 : Shape := ⟨2, ![17408, 384]⟩
abbrev S1024x1024 : Shape := ⟨2, ![1024, 1024]⟩
abbrev S512x1024 : Shape := ⟨2, ![512, 1024]⟩
abbrev S512x256 : Shape := ⟨2, ![512, 256]⟩
abbrev S512x384 : Shape := ⟨2, ![512, 384]⟩
abbrev S256x1024 : Shape := ⟨2, ![256, 1024]⟩
abbrev S384x1024 : Shape := ⟨2, ![384, 1024]⟩

abbrev nBuf : Space → Nat
  | .hbm => 7
  | .vmem => 11
  | .smem => 0
  | _ => 0

abbrev bufTy : (tb : Table) → Fin (tcTables nBuf tb) → BufTy
  | .hbm, ⟨0, _⟩ => ⟨S17408x1024, .f32⟩
  | .hbm, ⟨1, _⟩ => ⟨S17408x256, .f32⟩
  | .hbm, ⟨2, _⟩ => ⟨S17408x384, .f32⟩
  | .hbm, ⟨3, _⟩ => ⟨S17408x384, .f32⟩
  | .hbm, ⟨4, _⟩ => ⟨S1024x1024, .f32⟩
  | .hbm, ⟨5, _⟩ => ⟨S1024x1024, .bf16⟩
  | .hbm, ⟨6, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S17408x1024 : Shape := ⟨2, ![17408, 1024]⟩
abbrev S17408x256 : Shape := ⟨2, ![17408, 256]⟩
abbrev S17408x384 : Shape := ⟨2, ![17408, 384]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x256, .f32⟩
  | .hbm, ⟨2, _⟩ => ⟨S17408x384, .f32⟩
  | .hbm, ⟨3, _⟩ => ⟨S17408x384, .f32⟩
  | .hbm, ⟨4, _⟩ => ⟨S1024x1024, .f32⟩
  | .hbm, ⟨5, _⟩ => ⟨S17408x1024, .f32⟩
  | .hbm, ⟨6, _⟩ => ⟨S17408x1024, .f32⟩
  | .hbm, ⟨7, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Kernel5.lean ====
abbrev S17408x3840 : Shape := ⟨2, ![17408, 3840]⟩
abbrev S3x256 : Shape := ⟨2, ![3, 256]⟩
abbrev S2x2x256 : Shape := ⟨3, ![2, 2, 256]⟩
abbrev S_ : Shape := ⟨0, ![]⟩
abbrev S2x8x256 : Shape := ⟨3, ![2, 8, 256]⟩
abbrev S16384x256 : Shape := ⟨2, ![16384, 256]⟩
abbrev S256x768 : Shape := ⟨2, ![256, 768]⟩
abbrev S1x8x256 : Shape := ⟨3, ![1, 8, 256]⟩
abbrev S256x256 : Shape := ⟨2, ![256, 256]⟩
abbrev S1x264x256 : Shape := ⟨3, ![1, 264, 256]⟩
abbrev S1x256x256 : Shape := ⟨3, ![1, 256, 256]⟩
abbrev S1x256 : Shape := ⟨2, ![1, 256]⟩
abbrev S1x1x256 : Shape := ⟨3, ![1, 1, 256]⟩

abbrev nBuf : Space → Nat
  | .hbm => 8
  | .vmem => 10
  | .smem => 0
  | _ => 0

abbrev bufTy : (tb : Table) → Fin (tcTables nBuf tb) → BufTy
  | .hbm, ⟨0, _⟩ => ⟨S17408x3840, .f32⟩
  | .hbm, ⟨1, _⟩ => ⟨S3x256, .f32⟩
  | .hbm, ⟨2, _⟩ => ⟨S2x2x256, .f32⟩
  | .hbm, ⟨3, _⟩ => ⟨S_, .i32⟩
  | .hbm, ⟨4, _⟩ => ⟨S_, .f32⟩
  | .hbm, ⟨5, _⟩ => ⟨S2x8x256, .f32⟩
  | .hbm, ⟨6, _⟩ => ⟨S16384x256, .f32⟩
  | .hbm, ⟨7, _⟩ => ⟨S2x8x256, .f32⟩
  | .local _ .vmem, ⟨0, _⟩ => ⟨S256x768, .f32⟩
  | .local _ .vmem, ⟨1, _⟩ => ⟨S256x768, .f32⟩
  | .local _ .vmem, ⟨2, _⟩ => ⟨S3x256, .f32⟩
  | .local _ .vmem, ⟨3, _⟩ => ⟨S1x8x256, .f32⟩
  | .local _ .vmem, ⟨4, _⟩ => ⟨S1x8x256, .f32⟩
  | .local _ .vmem, ⟨5, _⟩ => ⟨S256x256, .f32⟩
  | .local _ .vmem, ⟨6, _⟩ => ⟨S256x256, .f32⟩
  | .local _ .vmem, ⟨7, _⟩ => ⟨S1x8x256, .f32⟩
  | .local _ .vmem, ⟨8, _⟩ => ⟨S1x8x256, .f32⟩
  | .local _ .vmem, ⟨9, _⟩ => ⟨S1x264x256, .f32⟩
  | _, _ => ⟨S17408x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S17408x3840 : Shape := ⟨2, ![17408, 3840]⟩
abbrev S3x256 : Shape := ⟨2, ![3, 256]⟩
abbrev S2x2x256 : Shape := ⟨3, ![2, 2, 256]⟩
abbrev S16384x3840 : Shape := ⟨2, ![16384, 3840]⟩
abbrev S16384x256 : Shape := ⟨2, ![16384, 256]⟩
abbrev S2x8192x256 : Shape := ⟨3, ![2, 8192, 256]⟩
abbrev S2x8194x256 : Shape := ⟨3, ![2, 8194, 256]⟩
abbrev S1x256 : Shape := ⟨2, ![1, 256]⟩
abbrev S256 : Shape := ⟨1, ![256]⟩
abbrev S1x1x256 : Shape := ⟨3, ![1, 1, 256]⟩
abbrev S2x8x256 : Shape := ⟨3, ![2, 8, 256]⟩

abbrev nBuf : Space → Nat
  | .hbm => 35
  | .vmem => 0
  | .smem => 0
  | _ => 0

abbrev bufTy : (tb : Table) → Fin (tcTables nBuf tb) → BufTy
  | .hbm, ⟨0, _⟩ => ⟨S17408x3840, .f32⟩
  | .hbm, ⟨1, _⟩ => ⟨S3x256, .f32⟩
  | .hbm, ⟨2, _⟩ => ⟨S2x2x256, .f32⟩
  | .hbm, ⟨3, _⟩ => ⟨S16384x3840, .f32⟩
  | .hbm, ⟨4, _⟩ => ⟨S16384x256, .f32⟩
  | .hbm, ⟨5, _⟩ => ⟨S2x8192x256, .f32⟩
  | .hbm, ⟨6, _⟩ => ⟨S16384x256, .f32⟩
  | .hbm, ⟨7, _⟩ => ⟨S2x8192x256, .f32⟩
  | .hbm, ⟨8, _⟩ => ⟨S16384x256, .f32⟩
  | .hbm, ⟨9, _⟩ => ⟨S2x8192x256, .f32⟩
  | .hbm, ⟨10, _⟩ => ⟨S2x8192x256, .f32⟩
  | .hbm, ⟨11, _⟩ => ⟨S2x8194x256, .f32⟩
  | .hbm, ⟨12, _⟩ => ⟨S2x8192x256, .f32⟩
  | .hbm, ⟨13, _⟩ => ⟨S1x256, .f32⟩
  | .hbm, ⟨14, _⟩ => ⟨S256, .f32⟩
  | .hbm, ⟨15, _⟩ => ⟨S1x1x256, .f32⟩
  | .hbm, ⟨16, _⟩ => ⟨S2x8192x256, .f32⟩
  | .hbm, ⟨17, _⟩ => ⟨S2x8192x256, .f32⟩
  | .hbm, ⟨18, _⟩ => ⟨S2x8192x256, .f32⟩
  | .hbm, ⟨19, _⟩ => ⟨S1x256, .f32⟩
  | .hbm, ⟨20, _⟩ => ⟨S256, .f32⟩
  | .hbm, ⟨21, _⟩ => ⟨S1x1x256, .f32⟩
  | .hbm, ⟨22, _⟩ => ⟨S2x8192x256, .f32⟩
  | .hbm, ⟨23, _⟩ => ⟨S2x8192x256, .f32⟩
  | .hbm, ⟨24, _⟩ => ⟨S2x8192x256, .f32⟩
  | .hbm, ⟨25, _⟩ => ⟨S2x8192x256, .f32⟩
  | .hbm, ⟨26, _⟩ => ⟨S1x256, .f32⟩
  | .hbm, ⟨27, _⟩ => ⟨S256, .f32⟩
  | .hbm, ⟨28, _⟩ => ⟨S1x1x256, .f32⟩
  | .hbm, ⟨29, _⟩ => ⟨S2x8192x256, .f32⟩
  | .hbm, ⟨30, _⟩ => ⟨S2x8192x256, .f32⟩
  | .hbm, ⟨31, _⟩ => ⟨S2x8192x256, .f32⟩
  | .hbm, ⟨32, _⟩ => ⟨S2x8x256, .f32⟩
  | .hbm, ⟨33, _⟩ => ⟨S2x8192x256, .f32⟩
  | .hbm, ⟨34, _⟩ => ⟨S16384x256, .f32⟩
  | _, _ => ⟨S17408x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== Kernel6.lean ====
abbrev S17408x3840 : Shape := ⟨2, ![17408, 3840]⟩
abbrev S3x256 : Shape := ⟨2, ![3, 256]⟩
abbrev S128x2x256 : Shape := ⟨3, ![128, 2, 256]⟩
abbrev S_ : Shape := ⟨0, ![]⟩
abbrev S128x8x256 : Shape := ⟨3, ![128, 8, 256]⟩
abbrev S1024x256 : Shape := ⟨2, ![1024, 256]⟩
abbrev S128x768 : Shape := ⟨2, ![128, 768]⟩
abbrev S16x8x256 : Shape := ⟨3, ![16, 8, 256]⟩
abbrev S128x256 : Shape := ⟨2, ![128, 256]⟩
abbrev S16x16x256 : Shape := ⟨3, ![16, 16, 256]⟩
abbrev S1x256 : Shape := ⟨2, ![1, 256]⟩
abbrev S1x1x256 : Shape := ⟨3, ![1, 1, 256]⟩

abbrev nBuf : Space → Nat
  | .hbm => 8
  | .vmem => 10
  | .smem => 0
  | _ => 0

abbrev bufTy : (tb : Table) → Fin (tcTables nBuf tb) → BufTy
  | .hbm, ⟨0, _⟩ => ⟨S17408x3840, .f32⟩
  | .hbm, ⟨1, _⟩ => ⟨S3x256, .f32⟩
  | .hbm, ⟨2, _⟩ => ⟨S128x2x256, .f32⟩
  | .hbm, ⟨3, _⟩ => ⟨S_, .i32⟩
  | .hbm, ⟨4, _⟩ => ⟨S_, .f32⟩
  | .hbm, ⟨5, _⟩ => ⟨S128x8x256, .f32⟩
  | .hbm, ⟨6, _⟩ => ⟨S1024x256, .f32⟩
  | .hbm, ⟨7, _⟩ => ⟨S128x8x256, .f32⟩
  | .local _ .vmem, ⟨0, _⟩ => ⟨S128x768, .f32⟩
  | .local _ .vmem, ⟨1, _⟩ => ⟨S128x768, .f32⟩
  | .local _ .vmem, ⟨2, _⟩ => ⟨S3x256, .f32⟩
  | .local _ .vmem, ⟨3, _⟩ => ⟨S16x8x256, .f32⟩
  | .local _ .vmem, ⟨4, _⟩ => ⟨S16x8x256, .f32⟩
  | .local _ .vmem, ⟨5, _⟩ => ⟨S128x256, .f32⟩
  | .local _ .vmem, ⟨6, _⟩ => ⟨S128x256, .f32⟩
  | .local _ .vmem, ⟨7, _⟩ => ⟨S16x8x256, .f32⟩
  | .local _ .vmem, ⟨8, _⟩ => ⟨S16x8x256, .f32⟩
  | .local _ .vmem, ⟨9, _⟩ => ⟨S16x16x256, .f32⟩
  | _, _ => ⟨S17408x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c3_i32 : BitVec 32 := 3#32
  let c0_i32 : BitVec 32 := 0#32
  ![v2.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S17408x3840 : Shape := ⟨2, ![17408, 3840]⟩
abbrev S3x256 : Shape := ⟨2, ![3, 256]⟩
abbrev S128x2x256 : Shape := ⟨3, ![128, 2, 256]⟩
abbrev S1024x3840 : Shape := ⟨2, ![1024, 3840]⟩
abbrev S1024x256 : Shape := ⟨2, ![1024, 256]⟩
abbrev S128x8x256 : Shape := ⟨3, ![128, 8, 256]⟩
abbrev S128x10x256 : Shape := ⟨3, ![128, 10, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 35
  | .vmem => 0
  | .smem => 0
  | _ => 0

abbrev bufTy : (tb : Table) → Fin (tcTables nBuf tb) → BufTy
  | .hbm, ⟨0, _⟩ => ⟨S17408x3840, .f32⟩
  | .hbm, ⟨1, _⟩ => ⟨S3x256, .f32⟩
  | .hbm, ⟨2, _⟩ => ⟨S128x2x256, .f32⟩
  | .hbm, ⟨3, _⟩ => ⟨S1024x3840, .f32⟩
  | .hbm, ⟨4, _⟩ => ⟨S1024x256, .f32⟩
  | .hbm, ⟨5, _⟩ => ⟨S128x8x256, .f32⟩
  | .hbm, ⟨6, _⟩ => ⟨S1024x256, .f32⟩
  | .hbm, ⟨7, _⟩ => ⟨S128x8x256, .f32⟩
  | .hbm, ⟨8, _⟩ => ⟨S1024x256, .f32⟩
  | .hbm, ⟨9, _⟩ => ⟨S128x8x256, .f32⟩
  | .hbm, ⟨10, _⟩ => ⟨S128x8x256, .f32⟩
  | .hbm, ⟨11, _⟩ => ⟨S128x10x256, .f32⟩
  | .hbm, ⟨12, _⟩ => ⟨S128x8x256, .f32⟩
  | .hbm, ⟨13, _⟩ => ⟨S1x256, .f32⟩
  | .hbm, ⟨14, _⟩ => ⟨S256, .f32⟩
  | .hbm, ⟨15, _⟩ => ⟨S1x1x256, .f32⟩
  | .hbm, ⟨16, _⟩ => ⟨S128x8x256, .f32⟩
  | .hbm, ⟨17, _⟩ => ⟨S128x8x256, .f32⟩
  | .hbm, ⟨18, _⟩ => ⟨S128x8x256, .f32⟩
  | .hbm, ⟨19, _⟩ => ⟨S1x256, .f32⟩
  | .hbm, ⟨20, _⟩ => ⟨S256, .f32⟩
  | .hbm, ⟨21, _⟩ => ⟨S1x1x256, .f32⟩
  | .hbm, ⟨22, _⟩ => ⟨S128x8x256, .f32⟩
  | .hbm, ⟨23, _⟩ => ⟨S128x8x256, .f32⟩
  | .hbm, ⟨24, _⟩ => ⟨S128x8x256, .f32⟩
  | .hbm, ⟨25, _⟩ => ⟨S128x8x256, .f32⟩
  | .hbm, ⟨26, _⟩ => ⟨S1x256, .f32⟩
  | .hbm, ⟨27, _⟩ => ⟨S256, .f32⟩
  | .hbm, ⟨28, _⟩ => ⟨S1x1x256, .f32⟩
  | .hbm, ⟨29, _⟩ => ⟨S128x8x256, .f32⟩
  | .hbm, ⟨30, _⟩ => ⟨S128x8x256, .f32⟩
  | .hbm, ⟨31, _⟩ => ⟨S128x8x256, .f32⟩
  | .hbm, ⟨32, _⟩ => ⟨S128x8x256, .f32⟩
  | .hbm, ⟨33, _⟩ => ⟨S128x8x256, .f32⟩
  | .hbm, ⟨34, _⟩ => ⟨S1024x256, .f32⟩
  | _, _ => ⟨S17408x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== Kernel9.lean ====
abbrev S17408x3840 : Shape := ⟨2, ![17408, 3840]⟩
abbrev S64 : Shape := ⟨1, ![64]⟩
abbrev S8192 : Shape := ⟨1, ![8192]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x64 : Shape := ⟨2, ![1, 64]⟩
abbrev S2x64 : Shape := ⟨2, ![2, 64]⟩
abbrev S16384x384 : Shape := ⟨2, ![16384, 384]⟩
abbrev S16384x256 : Shape := ⟨2, ![16384, 256]⟩
abbrev S16384x128 : Shape := ⟨2, ![16384, 128]⟩
abbrev S256x1152 : Shape := ⟨2, ![256, 1152]⟩
abbrev S256x384 : Shape := ⟨2, ![256, 384]⟩
abbrev S256x128 : Shape := ⟨2, ![256, 128]⟩
abbrev S256x256 : Shape := ⟨2, ![256, 256]⟩

abbrev nBuf : Space → Nat
  | .hbm => 95
  | .vmem => 23
  | .smem => 0
  | _ => 0

abbrev bufTy : (tb : Table) → Fin (tcTables nBuf tb) → BufTy
  | .hbm, ⟨0, _⟩ => ⟨S17408x3840, .f32⟩
  | .hbm, ⟨1, _⟩ => ⟨S64, .f32⟩
  | .hbm, ⟨2, _⟩ => ⟨S64, .f32⟩
  | .hbm, ⟨3, _⟩ => ⟨S8192, .i32⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x1, .i32⟩
  | .hbm, ⟨11, _⟩ => ⟨S_, .i32⟩
  | .hbm, ⟨12, _⟩ => ⟨S128x1, .i32⟩
  | .hbm, ⟨13, _⟩ => ⟨S128x1, .i1⟩
  | .hbm, ⟨14, _⟩ => ⟨S128x1, .i32⟩
  | .hbm, ⟨15, _⟩ => ⟨S128x1, .i32⟩
  | .hbm, ⟨16, _⟩ => ⟨S_, .i32⟩
  | .hbm, ⟨17, _⟩ => ⟨S128x1, .i32⟩
  | .hbm, ⟨18, _⟩ => ⟨S128x1, .i1⟩
  | .hbm, ⟨19, _⟩ => ⟨S128x1, .i1⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S128x1, .i32⟩
  | .hbm, ⟨24, _⟩ => ⟨S1x128, .i32⟩
  | .hbm, ⟨25, _⟩ => ⟨S_, .i32⟩
  | .hbm, ⟨26, _⟩ => ⟨S_, .i32⟩
  | .hbm, ⟨27, _⟩ => ⟨S1x128, .i32⟩
  | .hbm, ⟨28, _⟩ => ⟨S1x128, .i32⟩
  | .hbm, ⟨29, _⟩ => ⟨S1x128, .i32⟩
  | .hbm, ⟨30, _⟩ => ⟨S_, .i32⟩
  | .hbm, ⟨31, _⟩ => ⟨S1x128, .i32⟩
  | .hbm, ⟨32, _⟩ => ⟨S1x128, .i1⟩
  | .hbm, ⟨33, _⟩ => ⟨S1x128, .i32⟩
  | .hbm, ⟨34, _⟩ => ⟨S1x128, .i32⟩
  | .hbm, ⟨35, _⟩ => ⟨S_, .i32⟩
  | .hbm, ⟨36, _⟩ => ⟨S1x128, .i32⟩
  | .hbm, ⟨37, _⟩ => ⟨S1x128, .i1⟩
  | .hbm, ⟨38, _⟩ => ⟨S1x128, .i1⟩
  | .hbm, ⟨39, _⟩ => ⟨S_, .i32⟩
  | .hbm, ⟨40, _⟩ => ⟨S1x128, .i32⟩
  | .hbm, ⟨41, _⟩ => ⟨S1x128, .i32⟩
  | .hbm, ⟨42, _⟩ => ⟨S1x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S128x128, .bf16⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S8192, .f32⟩
  | .hbm, ⟨56, _⟩ => ⟨S8192x1, .f32⟩
  | .hbm, ⟨57, _⟩ => ⟨S1x8, .f32⟩
  | .hbm, ⟨58, _⟩ => ⟨S8192x8, .f32⟩
  | .hbm, ⟨59, _⟩ => ⟨S8192x8, .f32⟩
  | .hbm, ⟨60, _⟩ => ⟨S8192x8, .f32⟩
  | .hbm, ⟨61, _⟩ => ⟨S8192x8, .f32⟩
  | .hbm, ⟨62, _⟩ => ⟨S8192x8, .f32⟩
  | .hbm, ⟨63, _⟩ => ⟨S_, .f32⟩
  | .hbm, ⟨64, _⟩ => ⟨S8192x48, .f32⟩
  | .hbm, ⟨65, _⟩ => ⟨S_, .f32⟩
  | .hbm, ⟨66, _⟩ => ⟨S8192x8, .f32⟩
  | .hbm, ⟨67, _⟩ => ⟨S_, .f32⟩
  | .hbm, ⟨68, _⟩ => ⟨S8192x48, .f32⟩
  | .hbm, ⟨69, _⟩ => ⟨S8192x64, .f32⟩
  | .hbm, ⟨70, _⟩ => ⟨S8192x8, .f32⟩
  | .hbm, ⟨71, _⟩ => ⟨S8192x64, .f32⟩
  | .hbm, ⟨72, _⟩ => ⟨S8192x64, .f32⟩
  | .hbm, ⟨73, _⟩ => ⟨S1x8192x1x64, .f32⟩
  | .hbm, ⟨74, _⟩ => ⟨S1x8192x2x64, .f32⟩
  | .hbm, ⟨75, _⟩ => ⟨S8192x128, .f32⟩
  | .hbm, ⟨76, _⟩ => ⟨S1x8192x1x64, .f32⟩
  | .hbm, ⟨77, _⟩ => ⟨S1x8192x2x64, .f32⟩
  | .hbm, ⟨78, _⟩ => ⟨S8192x128, .f32⟩
  | .hbm, ⟨79, _⟩ => ⟨S1x8192x1x64, .f32⟩
  | .hbm, ⟨80, _⟩ => ⟨S1x8192x2x64, .f32⟩
  | .hbm, ⟨81, _⟩ => ⟨S8192x128, .f32⟩
  | .hbm, ⟨82, _⟩ => ⟨S1x64, .f32⟩
  | .hbm, ⟨83, _⟩ => ⟨S2x64, .f32⟩
  | .hbm, ⟨84, _⟩ => ⟨S128, .f32⟩
  | .hbm, ⟨85, _⟩ => ⟨S1x128, .f32⟩
  | .hbm, ⟨86, _⟩ => ⟨S1x64, .f32⟩
  | .hbm, ⟨87, _⟩ => ⟨S2x64, .f32⟩
  | .hbm, ⟨88, _⟩ => ⟨S128, .f32⟩
  | .hbm, ⟨89, _⟩ => ⟨S1x128, .f32⟩
  | .hbm, ⟨90, _⟩ => ⟨S16384x384, .bf16⟩
  | .hbm, ⟨91, _⟩ => ⟨S16384x384, .f32⟩
  | .hbm, ⟨92, _⟩ => ⟨S16384x384, .f32⟩
  | .hbm, ⟨93, _⟩ => ⟨S16384x256, .bf16⟩
  | .hbm, ⟨94, _⟩ => ⟨S16384x128, .f32⟩
  | .local _ .vmem, ⟨0, _⟩ => ⟨S256x1152, .f32⟩
  | .local _ .vmem, ⟨1, _⟩ => ⟨S256x1152, .f32⟩
  | .local _ .vmem, ⟨2, _⟩ => ⟨S256x384, .f32⟩
  | .local _ .vmem, ⟨3, _⟩ => ⟨S256x384, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S128x128, .bf16⟩
  | .local _ .vmem, ⟨11, _⟩ => ⟨S1x128, .f32⟩
  | .local _ .vmem, ⟨12, _⟩ => ⟨S1x128, .f32⟩
  | .local _ .vmem, ⟨13, _⟩ => ⟨S256x384, .bf16⟩
  | .local _ .vmem, ⟨14, _⟩ => ⟨S256x384, .bf16⟩
  | .local _ .vmem, ⟨15, _⟩ => ⟨S256x384, .f32⟩
  | .local _ .vmem, ⟨16, _⟩ => ⟨S256x384, .f32⟩
  | .local _ .vmem, ⟨17, _⟩ => ⟨S256x384, .f32⟩
  | .local _ .vmem, ⟨18, _⟩ => ⟨S256x384, .f32⟩
  | .local _ .vmem, ⟨19, _⟩ => ⟨S256x256, .bf16⟩
  | .local _ .vmem, ⟨20, _⟩ => ⟨S256x256, .bf16⟩
  | .local _ .vmem, ⟨21, _⟩ => ⟨S256x128, .f32⟩
  | .local _ .vmem, ⟨22, _⟩ => ⟨S256x128, .f32⟩
  | _, _ => ⟨S17408x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst : Ref sig .tc := ⟨.hbm, 49, rfl⟩
abbrev main_v12 : Ref sig .tc := ⟨.hbm, 50, rfl⟩
abbrev main_v13 : Ref sig .tc := ⟨.hbm, 51, rfl⟩
abbrev main_cst_1 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_2 : Ref sig .tc := ⟨.hbm, 63, rfl⟩
abbrev main_v24 : Ref sig .tc := ⟨.hbm, 64, rfl⟩
abbrev main_cst_3 : Ref sig .tc := ⟨.hbm, 65, rfl⟩
abbrev main_v25 : Ref sig .tc := ⟨.hbm, 66, rfl⟩
abbrev main_cst_4 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48_0 : Ref sig .tc := ⟨.hbm, 90, rfl⟩
abbrev main_v48_1 : Ref sig .tc := ⟨.hbm, 91, rfl⟩
abbrev main_v48_2 : Ref sig .tc := ⟨.hbm, 92, rfl⟩
abbrev main_v48_3 : Ref sig .tc := ⟨.hbm, 93, rfl⟩
abbrev main_v48_4 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c9_i32 : BitVec 32 := 9#32
  let c0_i32_0 : BitVec 32 := 0#32
  ![v0.toNat, c9_i32.toNat]

def cc0_transform_2 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S17408x3840 : Shape := ⟨2, ![17408, 3840]⟩
abbrev S64 : Shape := ⟨1, ![64]⟩
abbrev S16384x3840 : Shape := ⟨2, ![16384, 3840]⟩
abbrev S8192 : Shape := ⟨1, ![8192]⟩
abbrev S16384x384 : Shape := ⟨2, ![16384, 384]⟩
abbrev S2x8192x6x64 : Shape := ⟨4, ![2, 8192, 6, 64]⟩
abbrev S_ : Shape := ⟨0, ![]⟩
abbrev S2x8192x6 : Shape := ⟨3, ![2, 8192, 6]⟩
abbrev S2x8192x6x1 : Shape := ⟨4, ![2, 8192, 6, 1]⟩
abbrev S1x1x1x64 : Shape := ⟨4, ![1, 1, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x6x8 : Shape := ⟨4, ![2, 8192, 6, 8]⟩
abbrev S1x8192x1x8 : Shape := ⟨4, ![1, 8192, 1, 8]⟩
abbrev S2x8192x6x48 : Shape := ⟨4, ![2, 8192, 6, 48]⟩
abbrev S16384x256 : Shape := ⟨2, ![16384, 256]⟩
abbrev S2x8192x4x64 : Shape := ⟨4, ![2, 8192, 4, 64]⟩
abbrev S2x8192x4x8 : Shape := ⟨4, ![2, 8192, 4, 8]⟩
abbrev S2x8192x4x48 : Shape := ⟨4, ![2, 8192, 4, 48]⟩
abbrev S16384x64 : Shape := ⟨2, ![16384, 64]⟩
abbrev S2x8192x1x64 : Shape := ⟨4, ![2, 8192, 1, 64]⟩
abbrev S2x8192x1x8 : Shape := ⟨4, ![2, 8192, 1, 8]⟩
abbrev S2x8192x1x48 : Shape := ⟨4, ![2, 8192, 1, 48]⟩
abbrev S16384x128 : Shape := ⟨2, ![16384, 128]⟩

abbrev nBuf : Space → Nat
  | .hbm => 201
  | .vmem => 0
  | .smem => 0
  | _ => 0

abbrev hbmTy0_0 (i : Nat) : BufTy := match i % 128 with
  | 0 => ⟨S17408x3840, .f32⟩
  | 1 => ⟨S64, .f32⟩
  | 2 => ⟨S64, .f32⟩
  | 3 => ⟨S16384x3840, .f32⟩
  | 4 => ⟨S8192, .i32⟩
  | 5 => ⟨S16384x384, .f32⟩
  | 6 => ⟨S2x8192x6x64, .f32⟩
  | 7 => ⟨S2x8192x6x64, .f32⟩
  | 8 => ⟨S_, .f32⟩
  | 9 => ⟨S2x8192x6, .f32⟩
  | 10 => ⟨S2x8192x6x1, .f32⟩
  | 11 => ⟨S_, .f32⟩
  | 12 => ⟨S2x8192x6x1, .f32⟩
  | 13 => ⟨S2x8192x6x1, .f32⟩
  | 14 => ⟨S_, .f32⟩
  | 15 => ⟨S2x8192x6x1, .f32⟩
  | 16 => ⟨S2x8192x6x1, .f32⟩
  | 17 => ⟨S2x8192x6x1, .f32⟩
  | 18 => ⟨S2x8192x6x64, .f32⟩
  | 19 => ⟨S2x8192x6x64, .f32⟩
  | 20 => ⟨S1x1x1x64, .f32⟩
  | 21 => ⟨S2x8192x6x64, .f32⟩
  | 22 => ⟨S2x8192x6x64, .f32⟩
  | 23 => ⟨S8, .f32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S8192, .f32⟩
  | 32 => ⟨S8192x1, .f32⟩
  | 33 => ⟨S1x8, .f32⟩
  | 34 => ⟨S8192x8, .f32⟩
  | 35 => ⟨S8192x8, .f32⟩
  | 36 => ⟨S8192x8, .f32⟩
  | 37 => ⟨S8192x8, .f32⟩
  | 38 => ⟨S8192x1x8, .f32⟩
  | 39 => ⟨S8192x8, .f32⟩
  | 40 => ⟨S8192x1x8, .f32⟩
  | 41 => ⟨S2x8192x6x8, .f32⟩
  | 42 => ⟨S2x8192x6x8, .f32⟩
  | 43 => ⟨S1x8192x1x8, .f32⟩
  | 44 => ⟨S2x8192x6x8, .f32⟩
  | 45 => ⟨S2x8192x6x8, .f32⟩
  | 46 => ⟨S1x8192x1x8, .f32⟩
  | 47 => ⟨S2x8192x6x8, .f32⟩
  | 48 => ⟨S2x8192x6x8, .f32⟩
  | 49 => ⟨S2x8192x6x8, .f32⟩
  | 50 => ⟨S1x8192x1x8, .f32⟩
  | 51 => ⟨S2x8192x6x8, .f32⟩
  | 52 => ⟨S2x8192x6x8, .f32⟩
  | 53 => ⟨S1x8192x1x8, .f32⟩
  | 54 => ⟨S2x8192x6x8, .f32⟩
  | 55 => ⟨S2x8192x6x8, .f32⟩
  | 56 => ⟨S2x8192x6x8, .f32⟩
  | 57 => ⟨S2x8192x6x48, .f32⟩
  | 58 => ⟨S2x8192x6x64, .f32⟩
  | 59 => ⟨S_, .f32⟩
  | 60 => ⟨S2x8192x6x64, .f32⟩
  | 61 => ⟨S2x8192x6x64, .f32⟩
  | 62 => ⟨S16384x384, .f32⟩
  | 63 => ⟨S2x8192x6x64, .f32⟩
  | 64 => ⟨S2x8192x6x64, .f32⟩
  | 65 => ⟨S_, .f32⟩
  | 66 => ⟨S2x8192x6, .f32⟩
  | 67 => ⟨S2x8192x6x1, .f32⟩
  | 68 => ⟨S_, .f32⟩
  | 69 => ⟨S2x8192x6x1, .f32⟩
  | 70 => ⟨S2x8192x6x1, .f32⟩
  | 71 => ⟨S_, .f32⟩
  | 72 => ⟨S2x8192x6x1, .f32⟩
  | 73 => ⟨S2x8192x6x1, .f32⟩
  | 74 => ⟨S2x8192x6x1, .f32⟩
  | 75 => ⟨S2x8192x6x64, .f32⟩
  | 76 => ⟨S2x8192x6x64, .f32⟩
  | 77 => ⟨S1x1x1x64, .f32⟩
  | 78 => ⟨S2x8192x6x64, .f32⟩
  | 79 => ⟨S2x8192x6x64, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S8192, .f32⟩
  | 89 => ⟨S8192x1, .f32⟩
  | 90 => ⟨S1x8, .f32⟩
  | 91 => ⟨S8192x8, .f32⟩
  | 92 => ⟨S8192x8, .f32⟩
  | 93 => ⟨S8192x8, .f32⟩
  | 94 => ⟨S8192x8, .f32⟩
  | 95 => ⟨S8192x1x8, .f32⟩
  | 96 => ⟨S8192x8, .f32⟩
  | 97 => ⟨S8192x1x8, .f32⟩
  | 98 => ⟨S2x8192x6x8, .f32⟩
  | 99 => ⟨S2x8192x6x8, .f32⟩
  | 100 => ⟨S1x8192x1x8, .f32⟩
  | 101 => ⟨S2x8192x6x8, .f32⟩
  | 102 => ⟨S2x8192x6x8, .f32⟩
  | 103 => ⟨S1x8192x1x8, .f32⟩
  | 104 => ⟨S2x8192x6x8, .f32⟩
  | 105 => ⟨S2x8192x6x8, .f32⟩
  | 106 => ⟨S2x8192x6x8, .f32⟩
  | 107 => ⟨S1x8192x1x8, .f32⟩
  | 108 => ⟨S2x8192x6x8, .f32⟩
  | 109 => ⟨S2x8192x6x8, .f32⟩
  | 110 => ⟨S1x8192x1x8, .f32⟩
  | 111 => ⟨S2x8192x6x8, .f32⟩
  | 112 => ⟨S2x8192x6x8, .f32⟩
  | 113 => ⟨S2x8192x6x8, .f32⟩
  | 114 => ⟨S2x8192x6x48, .f32⟩
  | 115 => ⟨S2x8192x6x64, .f32⟩
  | 116 => ⟨S16384x256, .f32⟩
  | 117 => ⟨S2x8192x4x64, .f32⟩
  | 118 => ⟨S8, .f32⟩
  | 119 => ⟨S8, .f32⟩
  | 120 => ⟨S_, .f32⟩
  | 121 => ⟨S8, .f32⟩
  | 122 => ⟨S8, .f32⟩
  | 123 => ⟨S_, .f32⟩
  | 124 => ⟨S8, .f32⟩
  | 125 => ⟨S8, .f32⟩
  | 126 => ⟨S8192, .f32⟩
  | 127 => ⟨S8192x1, .f32⟩
  | _ => ⟨S17408x3840, .f32⟩

abbrev hbmTy0_1 (i : Nat) : BufTy := match i % 128 with
  | 0 => ⟨S1x8, .f32⟩
  | 1 => ⟨S8192x8, .f32⟩
  | 2 => ⟨S8192x8, .f32⟩
  | 3 => ⟨S8192x8, .f32⟩
  | 4 => ⟨S8192x8, .f32⟩
  | 5 => ⟨S8192x1x8, .f32⟩
  | 6 => ⟨S8192x8, .f32⟩
  | 7 => ⟨S8192x1x8, .f32⟩
  | 8 => ⟨S2x8192x4x8, .f32⟩
  | 9 => ⟨S2x8192x4x8, .f32⟩
  | 10 => ⟨S1x8192x1x8, .f32⟩
  | 11 => ⟨S2x8192x4x8, .f32⟩
  | 12 => ⟨S2x8192x4x8, .f32⟩
  | 13 => ⟨S1x8192x1x8, .f32⟩
  | 14 => ⟨S2x8192x4x8, .f32⟩
  | 15 => ⟨S2x8192x4x8, .f32⟩
  | 16 => ⟨S2x8192x4x8, .f32⟩
  | 17 => ⟨S1x8192x1x8, .f32⟩
  | 18 => ⟨S2x8192x4x8, .f32⟩
  | 19 => ⟨S2x8192x4x8, .f32⟩
  | 20 => ⟨S1x8192x1x8, .f32⟩
  | 21 => ⟨S2x8192x4x8, .f32⟩
  | 22 => ⟨S2x8192x4x8, .f32⟩
  | 23 => ⟨S2x8192x4x8, .f32⟩
  | 24 => ⟨S2x8192x4x48, .f32⟩
  | 25 => ⟨S2x8192x4x64, .f32⟩
  | 26 => ⟨S16384x64, .f32⟩
  | 27 => ⟨S2x8192x1x64, .f32⟩
  | 28 => ⟨S8, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8192, .f32⟩
  | 37 => ⟨S8192x1, .f32⟩
  | 38 => ⟨S1x8, .f32⟩
  | 39 => ⟨S8192x8, .f32⟩
  | 40 => ⟨S8192x8, .f32⟩
  | 41 => ⟨S8192x8, .f32⟩
  | 42 => ⟨S8192x8, .f32⟩
  | 43 => ⟨S8192x1x8, .f32⟩
  | 44 => ⟨S8192x8, .f32⟩
  | 45 => ⟨S8192x1x8, .f32⟩
  | 46 => ⟨S2x8192x1x8, .f32⟩
  | 47 => ⟨S2x8192x1x8, .f32⟩
  | 48 => ⟨S1x8192x1x8, .f32⟩
  | 49 => ⟨S2x8192x1x8, .f32⟩
  | 50 => ⟨S2x8192x1x8, .f32⟩
  | 51 => ⟨S1x8192x1x8, .f32⟩
  | 52 => ⟨S2x8192x1x8, .f32⟩
  | 53 => ⟨S2x8192x1x8, .f32⟩
  | 54 => ⟨S2x8192x1x8, .f32⟩
  | 55 => ⟨S1x8192x1x8, .f32⟩
  | 56 => ⟨S2x8192x1x8, .f32⟩
  | 57 => ⟨S2x8192x1x8, .f32⟩
  | 58 => ⟨S1x8192x1x8, .f32⟩
  | 59 => ⟨S2x8192x1x8, .f32⟩
  | 60 => ⟨S2x8192x1x8, .f32⟩
  | 61 => ⟨S2x8192x1x8, .f32⟩
  | 62 => ⟨S2x8192x1x48, .f32⟩
  | 63 => ⟨S2x8192x1x64, .f32⟩
  | 64 => ⟨S16384x384, .f32⟩
  | 65 => ⟨S16384x384, .bf16⟩
  | 66 => ⟨S16384x384, .f32⟩
  | 67 => ⟨S16384x384, .f32⟩
  | 68 => ⟨S16384x256, .f32⟩
  | 69 => ⟨S16384x256, .bf16⟩
  | 70 => ⟨S16384x64, .f32⟩
  | 71 => ⟨S16384x64, .f32⟩
  | 72 => ⟨S16384x128, .f32⟩
  | _ => ⟨S17408x3840, .f32⟩

abbrev hbmTy (i : Nat) : BufTy := match i / 128 with
  | 0 => hbmTy0_0 i
  | 1 => hbmTy0_1 i
  | _ => ⟨S17408x3840, .f32⟩

abbrev bufTy : (tb : Table) → Fin (tcTables nBuf tb) → BufTy
  | .hbm, ⟨i, _⟩ => hbmTy i
  | _, _ => ⟨S17408x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_8 : Ref sig .tc := ⟨.hbm, 82, rfl⟩
abbrev main_v70 : Ref sig .tc := ⟨.hbm, 83, rfl⟩
abbrev main_v71 : Ref sig .tc := ⟨.hbm, 84, rfl⟩
abbrev main_cst_9 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_cst_10 : Ref sig .tc := ⟨.hbm, 120, rfl⟩
abbrev main_v106 : Ref sig .tc := ⟨.hbm, 121, rfl⟩
abbrev main_v107 : Ref sig .tc := ⟨.hbm, 122, rfl⟩
abbrev main_cst_11 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_cst_12 : Ref sig .tc := ⟨.hbm, 158, rfl⟩
abbrev main_v142 : Ref sig .tc := ⟨.hbm, 159, rfl⟩
abbrev main_v143 : Ref sig .tc := ⟨.hbm, 160, rfl⟩
abbrev main_cst_13 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩

abbrev nD : Nat := 1
abbrev τ : Topo := Topo.v7x

variable {F : FTy → Type} [FloatOps F]
-- ==== Kernel10.lean ====
abbrev S17408x3840 : Shape := ⟨2, ![17408, 3840]⟩
abbrev S64 : Shape := ⟨1, ![64]⟩
abbrev S8 : Shape := ⟨1, ![8]⟩
abbrev S_ : Shape := ⟨0, ![]⟩
abbrev S1x8 : Shape := ⟨2, ![1, 8]⟩
abbrev S16x8 : Shape := ⟨2, ![16, 8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x8 : Shape := ⟨2, ![128, 8]⟩
abbrev S128x48 : Shape := ⟨2, ![128, 48]⟩
abbrev S128x64 : Shape := ⟨2, ![128, 64]⟩
abbrev S1x128x1x64 : Shape := ⟨4, ![1, 128, 1, 64]⟩
abbrev S1x128x2x64 : Shape := ⟨4, ![1, 128, 2, 64]⟩
abbrev S1x64 : Shape := ⟨2, ![1, 64]⟩
abbrev S2x64 : Shape := ⟨2, ![2, 64]⟩
abbrev S1024x384 : Shape := ⟨2, ![1024, 384]⟩
abbrev S1024x256 : Shape := ⟨2, ![1024, 256]⟩
abbrev S1024x128 : Shape := ⟨2, ![1024, 128]⟩
abbrev S128x1152 : Shape := ⟨2, ![128, 1152]⟩
abbrev S128x384 : Shape := ⟨2, ![128, 384]⟩
abbrev S128x256 : Shape := ⟨2, ![128, 256]⟩

abbrev nBuf : Space → Nat
  | .hbm => 101
  | .vmem => 20
  | .smem => 0
  | _ => 0

abbrev bufTy : (tb : Table) → Fin (tcTables nBuf tb) → BufTy
  | .hbm, ⟨0, _⟩ => ⟨S17408x3840, .f32⟩
  | .hbm, ⟨1, _⟩ => ⟨S64, .f32⟩
  | .hbm, ⟨2, _⟩ => ⟨S64, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1x8, .i32⟩
  | .hbm, ⟨8, _⟩ => ⟨S16x8, .i32⟩
  | .hbm, ⟨9, _⟩ => ⟨S128, .i32⟩
  | .hbm, ⟨10, _⟩ => ⟨S128, .i32⟩
  | .hbm, ⟨11, _⟩ => ⟨S128x1, .i32⟩
  | .hbm, ⟨12, _⟩ => ⟨S_, .i32⟩
  | .hbm, ⟨13, _⟩ => ⟨S_, .i32⟩
  | .hbm, ⟨14, _⟩ => ⟨S128x1, .i32⟩
  | .hbm, ⟨15, _⟩ => ⟨S128x1, .i32⟩
  | .hbm, ⟨16, _⟩ => ⟨S128x1, .i32⟩
  | .hbm, ⟨17, _⟩ => ⟨S_, .i32⟩
  | .hbm, ⟨18, _⟩ => ⟨S128x1, .i32⟩
  | .hbm, ⟨19, _⟩ => ⟨S128x1, .i1⟩
  | .hbm, ⟨20, _⟩ => ⟨S128x1, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i1⟩
  | .hbm, ⟨25, _⟩ => ⟨S128x1, .i1⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x1, .i32⟩
  | .hbm, ⟨30, _⟩ => ⟨S1x128, .i32⟩
  | .hbm, ⟨31, _⟩ => ⟨S_, .i32⟩
  | .hbm, ⟨32, _⟩ => ⟨S_, .i32⟩
  | .hbm, ⟨33, _⟩ => ⟨S1x128, .i32⟩
  | .hbm, ⟨34, _⟩ => ⟨S1x128, .i32⟩
  | .hbm, ⟨35, _⟩ => ⟨S1x128, .i32⟩
  | .hbm, ⟨36, _⟩ => ⟨S_, .i32⟩
  | .hbm, ⟨37, _⟩ => ⟨S1x128, .i32⟩
  | .hbm, ⟨38, _⟩ => ⟨S1x128, .i1⟩
  | .hbm, ⟨39, _⟩ => ⟨S1x128, .i32⟩
  | .hbm, ⟨40, _⟩ => ⟨S1x128, .i32⟩
  | .hbm, ⟨41, _⟩ => ⟨S_, .i32⟩
  | .hbm, ⟨42, _⟩ => ⟨S1x128, .i32⟩
  | .hbm, ⟨43, _⟩ => ⟨S1x128, .i1⟩
  | .hbm, ⟨44, _⟩ => ⟨S1x128, .i1⟩
  | .hbm, ⟨45, _⟩ => ⟨S_, .i32⟩
  | .hbm, ⟨46, _⟩ => ⟨S1x128, .i32⟩
  | .hbm, ⟨47, _⟩ => ⟨S1x128, .i32⟩
  | .hbm, ⟨48, _⟩ => ⟨S1x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S128x128, .bf16⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S128, .f32⟩
  | .hbm, ⟨62, _⟩ => ⟨S128x1, .f32⟩
  | .hbm, ⟨63, _⟩ => ⟨S1x8, .f32⟩
  | .hbm, ⟨64, _⟩ => ⟨S128x8, .f32⟩
  | .hbm, ⟨65, _⟩ => ⟨S128x8, .f32⟩
  | .hbm, ⟨66, _⟩ => ⟨S128x8, .f32⟩
  | .hbm, ⟨67, _⟩ => ⟨S128x8, .f32⟩
  | .hbm, ⟨68, _⟩ => ⟨S128x8, .f32⟩
  | .hbm, ⟨69, _⟩ => ⟨S_, .f32⟩
  | .hbm, ⟨70, _⟩ => ⟨S128x48, .f32⟩
  | .hbm, ⟨71, _⟩ => ⟨S_, .f32⟩
  | .hbm, ⟨72, _⟩ => ⟨S128x8, .f32⟩
  | .hbm, ⟨73, _⟩ => ⟨S_, .f32⟩
  | .hbm, ⟨74, _⟩ => ⟨S128x48, .f32⟩
  | .hbm, ⟨75, _⟩ => ⟨S128x64, .f32⟩
  | .hbm, ⟨76, _⟩ => ⟨S128x8, .f32⟩
  | .hbm, ⟨77, _⟩ => ⟨S128x64, .f32⟩
  | .hbm, ⟨78, _⟩ => ⟨S128x64, .f32⟩
  | .hbm, ⟨79, _⟩ => ⟨S1x128x1x64, .f32⟩
  | .hbm, ⟨80, _⟩ => ⟨S1x128x2x64, .f32⟩
  | .hbm, ⟨81, _⟩ => ⟨S128x128, .f32⟩
  | .hbm, ⟨82, _⟩ => ⟨S1x128x1x64, .f32⟩
  | .hbm, ⟨83, _⟩ => ⟨S1x128x2x64, .f32⟩
  | .hbm, ⟨84, _⟩ => ⟨S128x128, .f32⟩
  | .hbm, ⟨85, _⟩ => ⟨S1x128x1x64, .f32⟩
  | .hbm, ⟨86, _⟩ => ⟨S1x128x2x64, .f32⟩
  | .hbm, ⟨87, _⟩ => ⟨S128x128, .f32⟩
  | .hbm, ⟨88, _⟩ => ⟨S1x64, .f32⟩
  | .hbm, ⟨89, _⟩ => ⟨S2x64, .f32⟩
  | .hbm, ⟨90, _⟩ => ⟨S128, .f32⟩
  | .hbm, ⟨91, _⟩ => ⟨S1x128, .f32⟩
  | .hbm, ⟨92, _⟩ => ⟨S1x64, .f32⟩
  | .hbm, ⟨93, _⟩ => ⟨S2x64, .f32⟩
  | .hbm, ⟨94, _⟩ => ⟨S128, .f32⟩
  | .hbm, ⟨95, _⟩ => ⟨S1x128, .f32⟩
  | .hbm, ⟨96, _⟩ => ⟨S1024x384, .bf16⟩
  | .hbm, ⟨97, _⟩ => ⟨S1024x384, .f32⟩
  | .hbm, ⟨98, _⟩ => ⟨S1024x384, .f32⟩
  | .hbm, ⟨99, _⟩ => ⟨S1024x256, .bf16⟩
  | .hbm, ⟨100, _⟩ => ⟨S1024x128, .f32⟩
  | .local _ .vmem, ⟨0, _⟩ => ⟨S128x1152, .f32⟩
  | .local _ .vmem, ⟨1, _⟩ => ⟨S128x1152, .f32⟩
  | .local _ .vmem, ⟨2, _⟩ => ⟨S128x384, .f32⟩
  | .local _ .vmem, ⟨3, _⟩ => ⟨S128x384, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S128x384, .bf16⟩
  | .local _ .vmem, ⟨11, _⟩ => ⟨S128x384, .bf16⟩
  | .local _ .vmem, ⟨12, _⟩ => ⟨S128x384, .f32⟩
  | .local _ .vmem, ⟨13, _⟩ => ⟨S128x384, .f32⟩
  | .local _ .vmem, ⟨14, _⟩ => ⟨S128x384, .f32⟩
  | .local _ .vmem, ⟨15, _⟩ => ⟨S128x384, .f32⟩
  | .local _ .vmem, ⟨16, _⟩ => ⟨S128x256, .bf16⟩
  | .local _ .vmem, ⟨17, _⟩ => ⟨S128x256, .bf16⟩
  | .local _ .vmem, ⟨18, _⟩ => ⟨S128x128, .f32⟩
  | .local _ .vmem, ⟨19, _⟩ => ⟨S128x128, .f32⟩
  | _, _ => ⟨S17408x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst : Ref sig .tc := ⟨.hbm, 55, rfl⟩
abbrev main_v17 : Ref sig .tc := ⟨.hbm, 56, rfl⟩
abbrev main_v18 : Ref sig .tc := ⟨.hbm, 57, rfl⟩
abbrev main_cst_2 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_3 : Ref sig .tc := ⟨.hbm, 69, rfl⟩
abbrev main_v29 : Ref sig .tc := ⟨.hbm, 70, rfl⟩
abbrev main_cst_4 : Ref sig .tc := ⟨.hbm, 71, rfl⟩
abbrev main_v30 : Ref sig .tc := ⟨.hbm, 72, rfl⟩
abbrev main_cst_5 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53_0 : Ref sig .tc := ⟨.hbm, 96, rfl⟩
abbrev main_v53_1 : Ref sig .tc := ⟨.hbm, 97, rfl⟩
abbrev main_v53_2 : Ref sig .tc := ⟨.hbm, 98, rfl⟩
abbrev main_v53_3 : Ref sig .tc := ⟨.hbm, 99, rfl⟩
abbrev main_v53_4 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c128_i32 : BitVec 32 := 128#32
  let v0 : BitVec 32 := Scalar.addi c128_i32 arg0
  let c9_i32 : BitVec 32 := 9#32
  let c0_i32 : BitVec 32 := 0#32
  ![v0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference10Ideal.lean ====
abbrev S17408x3840 : Shape := ⟨2, ![17408, 3840]⟩
abbrev S64 : Shape := ⟨1, ![64]⟩
abbrev S1024x3840 : Shape := ⟨2, ![1024, 3840]⟩
abbrev S8 : Shape := ⟨1, ![8]⟩
abbrev S_ : Shape := ⟨0, ![]⟩
abbrev S1024x384 : Shape := ⟨2, ![1024, 384]⟩
abbrev S128x8x6x64 : Shape := ⟨4, ![128, 8, 6, 64]⟩
abbrev S128x8x6 : Shape := ⟨3, ![128, 8, 6]⟩
abbrev S128x8x6x1 : Shape := ⟨4, ![128, 8, 6, 1]⟩
abbrev S1x1x1x64 : Shape := ⟨4, ![1, 1, 1, 64]⟩
abbrev S8x1 : Shape := ⟨2, ![8, 1]⟩
abbrev S1x8 : Shape := ⟨2, ![1, 8]⟩
abbrev S8x8 : Shape := ⟨2, ![8, 8]⟩
abbrev S8x1x8 : Shape := ⟨3, ![8, 1, 8]⟩
abbrev S128x8x6x8 : Shape := ⟨4, ![128, 8, 6, 8]⟩
abbrev S1x8x1x8 : Shape := ⟨4, ![1, 8, 1, 8]⟩
abbrev S128x8x6x48 : Shape := ⟨4, ![128, 8, 6, 48]⟩
abbrev S1024x256 : Shape := ⟨2, ![1024, 256]⟩
abbrev S128x8x4x64 : Shape := ⟨4, ![128, 8, 4, 64]⟩
abbrev S128x8x4x8 : Shape := ⟨4, ![128, 8, 4, 8]⟩
abbrev S128x8x4x48 : Shape := ⟨4, ![128, 8, 4, 48]⟩
abbrev S1024x64 : Shape := ⟨2, ![1024, 64]⟩
abbrev S128x8x1x64 : Shape := ⟨4, ![128, 8, 1, 64]⟩
abbrev S128x8x1x8 : Shape := ⟨4, ![128, 8, 1, 8]⟩
abbrev S128x8x1x48 : Shape := ⟨4, ![128, 8, 1, 48]⟩
abbrev S1024x128 : Shape := ⟨2, ![1024, 128]⟩

abbrev nBuf : Space → Nat
  | .hbm => 204
  | .vmem => 0
  | .smem => 0
  | _ => 0

abbrev hbmTy0_0 (i : Nat) : BufTy := match i % 128 with
  | 0 => ⟨S17408x3840, .f32⟩
  | 1 => ⟨S64, .f32⟩
  | 2 => ⟨S64, .f32⟩
  | 3 => ⟨S1024x3840, .f32⟩
  | 4 => ⟨S8, .i32⟩
  | 5 => ⟨S_, .i32⟩
  | 6 => ⟨S8, .i32⟩
  | 7 => ⟨S8, .i32⟩
  | 8 => ⟨S1024x384, .f32⟩
  | 9 => ⟨S128x8x6x64, .f32⟩
  | 10 => ⟨S128x8x6x64, .f32⟩
  | 11 => ⟨S_, .f32⟩
  | 12 => ⟨S128x8x6, .f32⟩
  | 13 => ⟨S128x8x6x1, .f32⟩
  | 14 => ⟨S_, .f32⟩
  | 15 => ⟨S128x8x6x1, .f32⟩
  | 16 => ⟨S128x8x6x1, .f32⟩
  | 17 => ⟨S_, .f32⟩
  | 18 => ⟨S128x8x6x1, .f32⟩
  | 19 => ⟨S128x8x6x1, .f32⟩
  | 20 => ⟨S128x8x6x1, .f32⟩
  | 21 => ⟨S128x8x6x64, .f32⟩
  | 22 => ⟨S128x8x6x64, .f32⟩
  | 23 => ⟨S1x1x1x64, .f32⟩
  | 24 => ⟨S128x8x6x64, .f32⟩
  | 25 => ⟨S128x8x6x64, .f32⟩
  | 26 => ⟨S8, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S8x1, .f32⟩
  | 36 => ⟨S1x8, .f32⟩
  | 37 => ⟨S8x8, .f32⟩
  | 38 => ⟨S8x8, .f32⟩
  | 39 => ⟨S8x8, .f32⟩
  | 40 => ⟨S8x8, .f32⟩
  | 41 => ⟨S8x1x8, .f32⟩
  | 42 => ⟨S8x8, .f32⟩
  | 43 => ⟨S8x1x8, .f32⟩
  | 44 => ⟨S128x8x6x8, .f32⟩
  | 45 => ⟨S128x8x6x8, .f32⟩
  | 46 => ⟨S1x8x1x8, .f32⟩
  | 47 => ⟨S128x8x6x8, .f32⟩
  | 48 => ⟨S128x8x6x8, .f32⟩
  | 49 => ⟨S1x8x1x8, .f32⟩
  | 50 => ⟨S128x8x6x8, .f32⟩
  | 51 => ⟨S128x8x6x8, .f32⟩
  | 52 => ⟨S128x8x6x8, .f32⟩
  | 53 => ⟨S1x8x1x8, .f32⟩
  | 54 => ⟨S128x8x6x8, .f32⟩
  | 55 => ⟨S128x8x6x8, .f32⟩
  | 56 => ⟨S1x8x1x8, .f32⟩
  | 57 => ⟨S128x8x6x8, .f32⟩
  | 58 => ⟨S128x8x6x8, .f32⟩
  | 59 => ⟨S128x8x6x8, .f32⟩
  | 60 => ⟨S128x8x6x48, .f32⟩
  | 61 => ⟨S128x8x6x64, .f32⟩
  | 62 => ⟨S_, .f32⟩
  | 63 => ⟨S128x8x6x64, .f32⟩
  | 64 => ⟨S128x8x6x64, .f32⟩
  | 65 => ⟨S1024x384, .f32⟩
  | 66 => ⟨S128x8x6x64, .f32⟩
  | 67 => ⟨S128x8x6x64, .f32⟩
  | 68 => ⟨S_, .f32⟩
  | 69 => ⟨S128x8x6, .f32⟩
  | 70 => ⟨S128x8x6x1, .f32⟩
  | 71 => ⟨S_, .f32⟩
  | 72 => ⟨S128x8x6x1, .f32⟩
  | 73 => ⟨S128x8x6x1, .f32⟩
  | 74 => ⟨S_, .f32⟩
  | 75 => ⟨S128x8x6x1, .f32⟩
  | 76 => ⟨S128x8x6x1, .f32⟩
  | 77 => ⟨S128x8x6x1, .f32⟩
  | 78 => ⟨S128x8x6x64, .f32⟩
  | 79 => ⟨S128x8x6x64, .f32⟩
  | 80 => ⟨S1x1x1x64, .f32⟩
  | 81 => ⟨S128x8x6x64, .f32⟩
  | 82 => ⟨S128x8x6x64, .f32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S8, .f32⟩
  | 92 => ⟨S8x1, .f32⟩
  | 93 => ⟨S1x8, .f32⟩
  | 94 => ⟨S8x8, .f32⟩
  | 95 => ⟨S8x8, .f32⟩
  | 96 => ⟨S8x8, .f32⟩
  | 97 => ⟨S8x8, .f32⟩
  | 98 => ⟨S8x1x8, .f32⟩
  | 99 => ⟨S8x8, .f32⟩
  | 100 => ⟨S8x1x8, .f32⟩
  | 101 => ⟨S128x8x6x8, .f32⟩
  | 102 => ⟨S128x8x6x8, .f32⟩
  | 103 => ⟨S1x8x1x8, .f32⟩
  | 104 => ⟨S128x8x6x8, .f32⟩
  | 105 => ⟨S128x8x6x8, .f32⟩
  | 106 => ⟨S1x8x1x8, .f32⟩
  | 107 => ⟨S128x8x6x8, .f32⟩
  | 108 => ⟨S128x8x6x8, .f32⟩
  | 109 => ⟨S128x8x6x8, .f32⟩
  | 110 => ⟨S1x8x1x8, .f32⟩
  | 111 => ⟨S128x8x6x8, .f32⟩
  | 112 => ⟨S128x8x6x8, .f32⟩
  | 113 => ⟨S1x8x1x8, .f32⟩
  | 114 => ⟨S128x8x6x8, .f32⟩
  | 115 => ⟨S128x8x6x8, .f32⟩
  | 116 => ⟨S128x8x6x8, .f32⟩
  | 117 => ⟨S128x8x6x48, .f32⟩
  | 118 => ⟨S128x8x6x64, .f32⟩
  | 119 => ⟨S1024x256, .f32⟩
  | 120 => ⟨S128x8x4x64, .f32⟩
  | 121 => ⟨S8, .f32⟩
  | 122 => ⟨S8, .f32⟩
  | 123 => ⟨S_, .f32⟩
  | 124 => ⟨S8, .f32⟩
  | 125 => ⟨S8, .f32⟩
  | 126 => ⟨S_, .f32⟩
  | 127 => ⟨S8, .f32⟩
  | _ => ⟨S17408x3840, .f32⟩

abbrev hbmTy0_1 (i : Nat) : BufTy := match i % 128 with
  | 0 => ⟨S8, .f32⟩
  | 1 => ⟨S8, .f32⟩
  | 2 => ⟨S8x1, .f32⟩
  | 3 => ⟨S1x8, .f32⟩
  | 4 => ⟨S8x8, .f32⟩
  | 5 => ⟨S8x8, .f32⟩
  | 6 => ⟨S8x8, .f32⟩
  | 7 => ⟨S8x8, .f32⟩
  | 8 => ⟨S8x1x8, .f32⟩
  | 9 => ⟨S8x8, .f32⟩
  | 10 => ⟨S8x1x8, .f32⟩
  | 11 => ⟨S128x8x4x8, .f32⟩
  | 12 => ⟨S128x8x4x8, .f32⟩
  | 13 => ⟨S1x8x1x8, .f32⟩
  | 14 => ⟨S128x8x4x8, .f32⟩
  | 15 => ⟨S128x8x4x8, .f32⟩
  | 16 => ⟨S1x8x1x8, .f32⟩
  | 17 => ⟨S128x8x4x8, .f32⟩
  | 18 => ⟨S128x8x4x8, .f32⟩
  | 19 => ⟨S128x8x4x8, .f32⟩
  | 20 => ⟨S1x8x1x8, .f32⟩
  | 21 => ⟨S128x8x4x8, .f32⟩
  | 22 => ⟨S128x8x4x8, .f32⟩
  | 23 => ⟨S1x8x1x8, .f32⟩
  | 24 => ⟨S128x8x4x8, .f32⟩
  | 25 => ⟨S128x8x4x8, .f32⟩
  | 26 => ⟨S128x8x4x8, .f32⟩
  | 27 => ⟨S128x8x4x48, .f32⟩
  | 28 => ⟨S128x8x4x64, .f32⟩
  | 29 => ⟨S1024x64, .f32⟩
  | 30 => ⟨S128x8x1x64, .f32⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S8, .f32⟩
  | 40 => ⟨S8x1, .f32⟩
  | 41 => ⟨S1x8, .f32⟩
  | 42 => ⟨S8x8, .f32⟩
  | 43 => ⟨S8x8, .f32⟩
  | 44 => ⟨S8x8, .f32⟩
  | 45 => ⟨S8x8, .f32⟩
  | 46 => ⟨S8x1x8, .f32⟩
  | 47 => ⟨S8x8, .f32⟩
  | 48 => ⟨S8x1x8, .f32⟩
  | 49 => ⟨S128x8x1x8, .f32⟩
  | 50 => ⟨S128x8x1x8, .f32⟩
  | 51 => ⟨S1x8x1x8, .f32⟩
  | 52 => ⟨S128x8x1x8, .f32⟩
  | 53 => ⟨S128x8x1x8, .f32⟩
  | 54 => ⟨S1x8x1x8, .f32⟩
  | 55 => ⟨S128x8x1x8, .f32⟩
  | 56 => ⟨S128x8x1x8, .f32⟩
  | 57 => ⟨S128x8x1x8, .f32⟩
  | 58 => ⟨S1x8x1x8, .f32⟩
  | 59 => ⟨S128x8x1x8, .f32⟩
  | 60 => ⟨S128x8x1x8, .f32⟩
  | 61 => ⟨S1x8x1x8, .f32⟩
  | 62 => ⟨S128x8x1x8, .f32⟩
  | 63 => ⟨S128x8x1x8, .f32⟩
  | 64 => ⟨S128x8x1x8, .f32⟩
  | 65 => ⟨S128x8x1x48, .f32⟩
  | 66 => ⟨S128x8x1x64, .f32⟩
  | 67 => ⟨S1024x384, .f32⟩
  | 68 => ⟨S1024x384, .bf16⟩
  | 69 => ⟨S1024x384, .f32⟩
  | 70 => ⟨S1024x384, .f32⟩
  | 71 => ⟨S1024x256, .f32⟩
  | 72 => ⟨S1024x256, .bf16⟩
  | 73 => ⟨S1024x64, .f32⟩
  | 74 => ⟨S1024x64, .f32⟩
  | 75 => ⟨S1024x128, .f32⟩
  | _ => ⟨S17408x3840, .f32⟩

abbrev hbmTy (i : Nat) : BufTy := match i / 128 with
  | 0 => hbmTy0_0 i
  | 1 => hbmTy0_1 i
  | _ => ⟨S17408x3840, .f32⟩

abbrev bufTy : (tb : Table) → Fin (tcTables nBuf tb) → BufTy
  | .hbm, ⟨i, _⟩ => hbmTy i
  | _, _ => ⟨S17408x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_8 : Ref sig .tc := ⟨.hbm, 85, rfl⟩
abbrev main_v72 : Ref sig .tc := ⟨.hbm, 86, rfl⟩
abbrev main_v73 : Ref sig .tc := ⟨.hbm, 87, rfl⟩
abbrev main_cst_9 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_10 : Ref sig .tc := ⟨.hbm, 123, rfl⟩
abbrev main_v108 : Ref sig .tc := ⟨.hbm, 124, rfl⟩
abbrev main_v109 : Ref sig .tc := ⟨.hbm, 125, rfl⟩
abbrev main_cst_11 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_cst_12 : Ref sig .tc := ⟨.hbm, 161, rfl⟩
abbrev main_v144 : Ref sig .tc := ⟨.hbm, 162, rfl⟩
abbrev main_v145 : Ref sig .tc := ⟨.hbm, 163, rfl⟩
abbrev main_cst_13 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩

abbrev nD : Nat := 1
abbrev τ : Topo := Topo.v7x

variable {F : FTy → Type} [FloatOps F]
-- ==== Proof.Recurrence.lean ====
/- The gated delta rule over the real numbers, one head: the recurrence token by token, and the same thing done one
   chunk of 64 tokens at a time. Nothing here knows of a program. -/
module

public import Mathlib.Data.Matrix.Mul
public import Mathlib.Analysis.SpecialFunctions.Exp
public import Mathlib.Algebra.BigOperators.Fin

@[expose] public section

noncomputable section

namespace Cert.Gdn

/-- The state of one head: a 64 by 64 real matrix. -/
abbrev Mat : Type := Matrix (Fin 64) (Fin 64) ℝ

/-- One token: `S ↦ e^g (S - β k (kᵀ S)) + β k vᵀ`. -/
def tokenStep (k v : Fin 64 → ℝ) (g β : ℝ) (S : Mat) : Mat := fun a b =>
  Real.exp g * (S a b - k a * β * ∑ l, k l * S l b) + k a * β * v b

/-- The state after the first `t` tokens of a sequence. -/
def state (k v : ℕ → Fin 64 → ℝ) (g β : ℕ → ℝ) (S : Mat) : ℕ → Mat
  | 0 => S
  | t + 1 => tokenStep (k t) (v t) (g t) (β t) (state k v g β S t)

/-- What token `t` reads out: the new state's transpose applied to the query. -/
def readOut (q k v : ℕ → Fin 64 → ℝ) (g β : ℕ → ℝ) (S : Mat) (t : ℕ) (b : Fin 64) : ℝ :=
  ∑ a, q t a * state k v g β S (t + 1) a b

/-- Starting later: the state after `n + t` tokens is the state after `t` tokens of the sequence that starts at `n`,
    from the state after `n`. -/
theorem state_add (k v : ℕ → Fin 64 → ℝ) (g β : ℕ → ℝ) (S : Mat) (n t : ℕ) :
    state k v g β S (n + t) =
      state (fun i => k (n + i)) (fun i => v (n + i)) (fun i => g (n + i)) (fun i => β (n + i)) (state k v g β S n) t := by
  induction t with
  | zero => rfl
  | succ t ih => rw [← Nat.add_assoc]; show tokenStep _ _ _ _ _ = tokenStep _ _ _ _ _; rw [ih]

section Chunk

variable (q k v : ℕ → Fin 64 → ℝ) (g β : ℕ → ℝ) (S : Mat)

/-- The sum of the gates up to and including token `i`. -/
def gate (i : ℕ) : ℝ := ∑ l ∈ Finset.range (i + 1), g l

/-- The row that token `i` adds to the state, under its key. -/
def newRow (i : ℕ) (b : Fin 64) : ℝ := β i * (v i b - Real.exp (g i) * ∑ l, k i l * state k v g β S i l b)

theorem state_succ_newRow (i : ℕ) (a b : Fin 64) :
    state k v g β S (i + 1) a b = Real.exp (g i) * state k v g β S i a b + k i a * newRow k v g β S i b := by
  show tokenStep _ _ _ _ _ a b = _
  unfold tokenStep newRow
  ring

theorem gate_succ (i : ℕ) : gate g (i + 1) = gate g i + g (i + 1) := by
  unfold gate; rw [Finset.sum_range_succ]

/-- The state after token `i` as the decayed start and the decayed rows added since. -/
theorem state_closed (i : ℕ) (a b : Fin 64) :
    state k v g β S (i + 1) a b = Real.exp (gate g i) * S a b
      + ∑ j ∈ Finset.range (i + 1), Real.exp (gate g i - gate g j) * k j a * newRow k v g β S j b := by
  induction i with
  | zero =>
    rw [state_succ_newRow]
    have h0 : gate g 0 = g 0 := by unfold gate; simp
    simp [h0, state]
  | succ i ih =>
    rw [state_succ_newRow, ih, Finset.sum_range_succ _ (i + 1), mul_add, Finset.mul_sum, gate_succ]
    rw [← mul_assoc, ← Real.exp_add, add_comm (g (i + 1)) (gate g i)]
    rw [sub_self, Real.exp_zero, one_mul, add_assoc]
    congr 2
    refine Finset.sum_congr rfl fun j _ => ?_
    rw [show gate g i + g (i + 1) - gate g j = g (i + 1) + (gate g i - gate g j) by ring, Real.exp_add]
    ring

/-- What token `i` sees of the old state, decayed through its own gate. -/
theorem state_decayed (i : ℕ) (a b : Fin 64) :
    Real.exp (g i) * state k v g β S i a b = Real.exp (gate g i) * S a b
      + ∑ j ∈ Finset.range i, Real.exp (gate g i - gate g j) * k j a * newRow k v g β S j b := by
  have h := state_closed k v g β S i a b
  rw [state_succ_newRow, Finset.sum_range_succ, sub_self, Real.exp_zero] at h
  linarith

end Chunk

section Solve

/-- Powers of a strictly lower triangular matrix are lower and lower. -/
theorem pow_strictLower (P : Mat) (hP : ∀ i j : Fin 64, i.val < j.val + 1 → P i j = 0) (n : ℕ) :
    ∀ i j : Fin 64, i.val < j.val + n → (P ^ n) i j = 0 := by
  induction n with
  | zero =>
    intro i j h
    rw [pow_zero, Matrix.one_apply_ne]
    intro e; rw [e] at h; omega
  | succ n ih =>
    intro i j h
    rw [pow_succ, Matrix.mul_apply]
    refine Finset.sum_eq_zero fun l _ => ?_
    by_cases h1 : i.val < l.val + n
    · rw [ih i l h1, zero_mul]
    · rw [hP l j (by omega), mul_zero]

theorem pow_strictLower_64 (P : Mat) (hP : ∀ i j : Fin 64, i.val < j.val + 1 → P i j = 0) : P ^ 64 = 0 := by
  ext i j
  exact pow_strictLower P hP 64 i j (by omega)

/-- The product that six squarings build: `(1+P)(1+P²)(1+P⁴)(1+P⁸)(1+P¹⁶)(1+P³²)`, each factor added to what is there. -/
def inverse (P : Mat) : Mat :=
  let t1 := 1 + P
  let p2 := P * P
  let t2 := t1 + t1 * p2
  let p4 := p2 * p2
  let t3 := t2 + t2 * p4
  let p8 := p4 * p4
  let t4 := t3 + t3 * p8
  let p16 := p8 * p8
  let t5 := t4 + t4 * p16
  let p32 := p16 * p16
  t5 + t5 * p32

theorem inverse_mul (P : Mat) (hP : ∀ i j : Fin 64, i.val < j.val + 1 → P i j = 0) : inverse P * (1 - P) = 1 := by
  have h : inverse P * (1 - P) = 1 - P ^ 64 := by
    unfold inverse
    noncomm_ring
  rw [h, pow_strictLower_64 P hP, sub_zero]

end Solve

section ChunkMatrix

variable (q k v : ℕ → Fin 64 → ℝ) (g β : ℕ → ℝ) (S : Mat)

/-- The first 64 rows of a sequence as a matrix. -/
def rows (x : ℕ → Fin 64 → ℝ) : Mat := fun i b => x i.val b

/-- The decay from token `j` to token `i ≥ j`; nothing above the diagonal. -/
def decay : Mat := fun i j => if j.val ≤ i.val then Real.exp (gate g i.val - gate g j.val) else 0

/-- Minus the strictly lower triangular matrix `β_i (k_i · k_j) e^{G_i - G_j}`. -/
def lower : Mat := fun i j =>
  -((∑ a, k i.val a * β i.val * k j.val a) * (if j.val < i.val then decay g i j else 0))

/-- The values, scaled by `β`. -/
def vBeta : Mat := fun i b => v i.val b * β i.val

/-- The keys, scaled by `β` and decayed from the chunk's start. -/
def kGate : Mat := fun i a => k i.val a * β i.val * Real.exp (gate g i.val)

/-- The queries, decayed from the chunk's start. -/
def qGate : Mat := fun i a => q i.val a * Real.exp (gate g i.val)

/-- The scores of queries against the chunk's keys, decayed. -/
def qkDecay : Mat := fun i j => (∑ a, q i.val a * k j.val a) * decay g i j

/-- The keys, decayed to the chunk's end, transposed. -/
def kEnd : Mat := fun a i => k i.val a * Real.exp (gate g 63 - gate g i.val)

/-- The old state, decayed to the chunk's end. -/
def sEnd : Mat := fun a b => S a b * Real.exp (gate g 63)

theorem lower_strict : ∀ i j : Fin 64, i.val < j.val + 1 → lower k g β i j = 0 := by
  intro i j h
  unfold lower
  rw [if_neg (by omega), mul_zero, neg_zero]

/-- A sum over the tokens up to `i` as a sum over the whole chunk. -/
theorem sum_range_eq (f : ℕ → ℝ) (n : ℕ) (hn : n ≤ 64) :
    ∑ j ∈ Finset.range n, f j = ∑ j : Fin 64, if j.val < n then f j.val else 0 := by
  rw [Fin.sum_univ_eq_sum_range (fun j => if j < n then f j else 0) 64, ← Finset.sum_filter]
  congr 1
  ext j
  simp only [Finset.mem_range, Finset.mem_filter]
  omega

/-- THE CHUNK'S ROWS: the rows the 64 tokens add, by one triangular inverse instead of 64 steps. -/
theorem newRow_eq :
    rows (newRow k v g β S) =
      inverse (lower k g β) * vBeta v β
        - inverse (lower k g β) * kGate k g β * S := by
  have h : (1 - lower k g β) * rows (newRow k v g β S) =
      vBeta v β - kGate k g β * S := by
    ext i b
    rw [sub_mul, one_mul, Matrix.sub_apply, Matrix.sub_apply, Matrix.mul_apply, Matrix.mul_apply]
    have e : rows (newRow k v g β S) i b = β i.val * (v i.val b - ∑ l, k i.val l * (Real.exp (g i.val) * state k v g β S i.val l b)) := by
      show β i.val * (v i.val b - Real.exp (g i.val) * ∑ l, k i.val l * state k v g β S i.val l b) = _
      rw [Finset.mul_sum]
      congr 3
      funext l; ring
    rw [e]
    simp only [state_decayed]
    have e2 : ∑ l, k i.val l * (Real.exp (gate g i.val) * S l b
          + ∑ j ∈ Finset.range i.val, Real.exp (gate g i.val - gate g j) * k j l * newRow k v g β S j b)
        = (∑ l, k i.val l * Real.exp (gate g i.val) * S l b)
          + ∑ j : Fin 64, (if j.val < i.val then (∑ l, k i.val l * k j.val l) * Real.exp (gate g i.val - gate g j.val) * newRow k v g β S j.val b else 0) := by
      rw [← sum_range_eq (fun j => (∑ l, k i.val l * k j l) * Real.exp (gate g i.val - gate g j) * newRow k v g β S j b) i.val (by omega)]
      simp only [mul_add, Finset.sum_add_distrib, Finset.mul_sum, Finset.sum_mul]
      rw [Finset.sum_comm]
      congr 1
      · exact Finset.sum_congr rfl fun l _ => by ring
      · exact Finset.sum_congr rfl fun j _ => Finset.sum_congr rfl fun l _ => by ring
    rw [e2]
    have e3 : ∀ j : Fin 64, lower k g β i j * rows (newRow k v g β S) j b
        = -(β i.val * (if j.val < i.val then (∑ l, k i.val l * k j.val l) * Real.exp (gate g i.val - gate g j.val) * newRow k v g β S j.val b else 0)) := by
      intro j
      unfold lower decay rows
      by_cases hj : j.val < i.val
      · rw [if_pos hj, if_pos hj, if_pos (le_of_lt hj)]
        have : ∑ a, k i.val a * β i.val * k j.val a = β i.val * ∑ l, k i.val l * k j.val l := by
          rw [Finset.mul_sum]; exact Finset.sum_congr rfl fun a _ => by ring
        rw [this]; ring
      · rw [if_neg hj, if_neg hj]; ring
    simp only [e3, Finset.sum_neg_distrib, ← Finset.mul_sum]
    have e4 : ∑ j, k i.val j * β i.val * Real.exp (gate g i.val) * S j b = β i.val * ∑ l, k i.val l * Real.exp (gate g i.val) * S l b := by
      rw [Finset.mul_sum]; exact Finset.sum_congr rfl fun a _ => by ring
    unfold vBeta kGate
    rw [e4]
    ring
  have h2 := congrArg (inverse (lower k g β) * ·) h
  simp only [← Matrix.mul_assoc, inverse_mul _ (lower_strict k g β), Matrix.one_mul, Matrix.mul_sub] at h2
  exact h2

/-- THE CHUNK'S READ-OUTS. -/
theorem readOut_eq :
    rows (readOut q k v g β S) =
      qGate q g * S
        + qkDecay q k g * rows (newRow k v g β S) := by
  ext i b
  rw [Matrix.add_apply, Matrix.mul_apply, Matrix.mul_apply]
  show ∑ a, q i.val a * state k v g β S (i.val + 1) a b = _
  simp only [state_closed, mul_add, Finset.sum_add_distrib]
  unfold qGate qkDecay
  congr 1
  · exact Finset.sum_congr rfl fun l _ => by ring
  · simp only [sum_range_eq _ (i.val + 1) (show i.val + 1 ≤ 64 by omega), Finset.mul_sum]
    rw [Finset.sum_comm]
    refine Finset.sum_congr rfl fun j _ => ?_
    unfold decay rows
    by_cases hj : j.val ≤ i.val
    · rw [if_pos hj, Finset.sum_mul, Finset.sum_mul]
      refine Finset.sum_congr rfl fun l _ => ?_
      rw [if_pos (by omega)]; ring
    · rw [if_neg hj, mul_zero, zero_mul]
      refine Finset.sum_eq_zero fun l _ => ?_
      rw [if_neg (by omega), mul_zero]

/-- THE CHUNK'S LAST STATE. -/
theorem state_64_eq :
    state k v g β S 64 =
      sEnd g S
        + kEnd k g * rows (newRow k v g β S) := by
  ext a b
  rw [Matrix.add_apply, Matrix.mul_apply]
  refine (state_closed k v g β S 63 a b).trans ?_
  rw [sum_range_eq _ (63 + 1) (by omega)]
  unfold sEnd kEnd
  congr 1
  · exact mul_comm _ _
  · refine Finset.sum_congr rfl fun j _ => ?_
    rw [if_pos (by omega)]
    unfold rows
    ring

end ChunkMatrix

end Cert.Gdn

end
-- ==== Proof.HeadOps.lean ====
/- What the kernel's vector operations make of matrices of real numbers: each operation on the extended reals that the
   body of the gated delta rule uses on its 64 by 64 blocks, at blocks of reals, is that operation on real matrices. -/
module

public import proofs.«01_k».proof.Proof.Recurrence
public import proofs.«01_k».proof.Proof.Gen.KernelIdeal.Skeleton
public import Idealize.ShloMosaic.Lib.Pointwise

@[expose] public section

set_option maxRecDepth 16384

noncomputable section

open Idealize.ShloMosaic Idealize.ShloMosaic.TcCoe
open Cert.KernelIdeal Cert.KernelIdeal.Gen

namespace Cert.Gdn

/-- The matrix with the given entries. -/
def mat (f : Fin 64 → Fin 64 → ℝ) : Mat := f

theorem mat_apply (f : Fin 64 → Fin 64 → ℝ) (i j : Fin 64) : mat f i j = f i j := rfl

/-- A real matrix as a block of extended reals. -/
def ofReal (M : Mat) : FVec Ideal S64x64 .f32 := fun j => ((M (j 0) (j 1) : ℝ) : EReal)

theorem ofReal_apply (M : Mat) (i j : Fin 64) : ofReal M (ix2 i j) = ((M i j : ℝ) : EReal) := rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

abbrev zero64 : FVec Ideal S64x64 .f32 := constant S64x64 .f32 0x00000000#32

theorem matmul_ofReal (p : Option ContractPrecision) (A B : Mat) :
    matmul dot_S64x64_S64x64_S64x64_1_0_0_1_n_n p (ofReal A) (ofReal B) zero64 = ofReal (A * B) := by
  funext j
  idx_vars j
  pointwise [ofReal, mat]
  rw [Matrix.mul_apply, coe_sum]
  simp only [EReal.coe_mul]

theorem matmul_nt_ofReal (p : Option ContractPrecision) (A B : Mat) :
    matmul dot_S64x64_S64x64_S64x64_1_1_0_0_n_n p (ofReal A) (ofReal B) zero64 = ofReal (A * B.transpose) := by
  funext j
  idx_vars j
  pointwise [ofReal, mat]
  rw [Matrix.mul_apply, coe_sum]
  simp only [EReal.coe_mul, Matrix.transpose_apply]

theorem matmul_nt_ofReal_bf16 (p : Option ContractPrecision) (A B : Mat) :
    matmul dot_S64x64_S64x64_S64x64_1_1_0_0_n_n p (ofReal A : FVec Ideal S64x64 .bf16) (ofReal B : FVec Ideal S64x64 .bf16) zero64
      = ofReal (A * B.transpose) := by
  funext j
  idx_vars j
  pointwise [ofReal]
  rw [Matrix.mul_apply, coe_sum]
  simp only [EReal.coe_mul, Matrix.transpose_apply]

theorem addf_ofReal (A B : Mat) : addf (ofReal A) (ofReal B) = ofReal (A + B) := by
  funext j
  exact (EReal.coe_add _ _).symm

theorem subf_ofReal (A B : Mat) : subf (ofReal A) (ofReal B) = ofReal (A - B) := by
  funext j
  exact (EReal.coe_sub _ _).symm

theorem mulf_ofReal (A B : Mat) : mulf (ofReal A) (ofReal B) = ofReal (mat fun i j => A i j * B i j) := by
  funext j
  exact (EReal.coe_mul _ _).symm

/-- A column of reals, stretched along the lanes. -/
theorem column_ofReal (x : FVec Ideal S64x1 .f32) (r : Fin 64 → ℝ) (hx : ∀ i, x (ix2 i 0) = ((r i : ℝ) : EReal)) :
    broadcastTo S64x64 x broadcasts_S64x1_S64x64 = ofReal (mat fun i _ => r i) := by
  funext j
  idx_vars j
  pointwise [ofReal, mat]
  exact hx _

theorem exp_column (x : FVec Ideal S64x1 .f32) (r : Fin 64 → ℝ) (hx : ∀ i, x (ix2 i 0) = ((r i : ℝ) : EReal)) (i : Fin 64) :
    exp x (ix2 i 0) = ((Real.exp (r i) : ℝ) : EReal) := by
  show Ideal.exp (x (ix2 i 0)) = _
  rw [hx, Ideal.exp_coe]

/-! ## The masks -/

/-- The mask of the lower triangle with the diagonal: tokens of the same chunk, not later. -/
abbrev incl : IVec S64x64 1 :=
  k0_pay7 (iota Kind.tc S64x64 32 [0] iota_S64x64_d0_w32) (iota Kind.tc S64x64 32 [1] iota_S64x64_d1_w32) k0_pay3 (64#32) k0_pay4 k0_pay5 1#32
/-- The mask of the strictly lower triangle. -/
abbrev strict : IVec S64x64 1 :=
  k0_pay8 (iota Kind.tc S64x64 32 [0] iota_S64x64_d0_w32) (iota Kind.tc S64x64 32 [1] iota_S64x64_d1_w32) k0_pay3 (64#32) k0_pay4 k0_pay5 1#32
/-- The identity. -/
abbrev eye : FVec Ideal S64x64 .f32 := k0_pay9 (iota Kind.tc S64x64 32 [0] iota_S64x64_d0_w32) (iota Kind.tc S64x64 32 [1] iota_S64x64_d1_w32)
/-- The matrix that picks the chunk's last row. -/
abbrev lastsel : FVec Ideal S64x64 .f32 := k0_pay10 (iota Kind.tc S64x64 32 [0] iota_S64x64_d0_w32) (iota Kind.tc S64x64 32 [1] iota_S64x64_d1_w32)

/-- The mask "same chunk" alone: the chunk is the whole block, so it is everywhere set. -/
abbrev same : IVec S64x64 1 :=
  k0_pay6 (iota Kind.tc S64x64 32 [1] iota_S64x64_d1_w32) k0_pay3 (64#32) k0_pay4 k0_pay5 1#32

theorem chunk_of_row : ∀ i : Fin 64, k0_pay3 (ix2 i 0) = k0_pay3 (ix2 0 0) := by decide +kernel

theorem same_first : ∀ j : Fin 64, same (ix2 0 j) = 1#1 := by decide +kernel

theorem same_apply (i j : Fin 64) : same (ix2 i j) = 1#1 := by
  refine Eq.trans ?_ (same_first j)
  exact congrArg (fun w => IntOp.cmpi .eq w _) (chunk_of_row i)

theorem le_word : ∀ i j : Fin 64, IntOp.cmpi .sle (BitVec.ofNat 32 j.val) (BitVec.ofNat 32 i.val) = BitVec.ofBool (decide (j.val ≤ i.val)) := by
  decide +kernel

theorem lt_word : ∀ i j : Fin 64, IntOp.cmpi .slt (BitVec.ofNat 32 j.val) (BitVec.ofNat 32 i.val) = BitVec.ofBool (decide (j.val < i.val)) := by
  decide +kernel

theorem eq_word : ∀ i j : Fin 64, IntOp.cmpi .eq (BitVec.ofNat 32 i.val) (BitVec.ofNat 32 j.val) = BitVec.ofBool (decide (i.val = j.val)) := by
  decide +kernel

theorem incl_apply (i j : Fin 64) : incl (ix2 i j) = BitVec.ofBool (decide (j.val ≤ i.val)) := by
  pointwise [k0_pay7]
  refine (congrArg (IntOp.andi · _) (same_apply i j)).trans ?_
  rw [le_word]
  cases decide (j.val ≤ i.val) <;> rfl

theorem strict_apply (i j : Fin 64) : strict (ix2 i j) = BitVec.ofBool (decide (j.val < i.val)) := by
  pointwise [k0_pay8]
  refine (congrArg (IntOp.andi · _) (same_apply i j)).trans ?_
  rw [lt_word]
  cases decide (j.val < i.val) <;> rfl

/-- A bit as a real number. -/
theorem bit_toReal (b : Bool) : FloatOps.sitofp (F := Ideal) .f32 ((BitVec.ofBool b).setWidth 32) = ((if b then 1 else 0 : ℝ) : EReal) := by
  cases b
  · show (((BitVec.toInt (0#32) : ℤ) : ℝ) : EReal) = _
    simp
  · show (((BitVec.toInt (1#32) : ℤ) : ℝ) : EReal) = _
    simp

theorem eye_eq : eye = ofReal 1 := by
  funext j
  idx_vars j
  pointwise [k0_pay9]
  rw [eq_word, bit_toReal, ofReal_apply, Matrix.one_apply]
  simp only [decide_eq_true_eq, Fin.ext_iff]

theorem lastsel_eq : lastsel = ofReal (mat fun _ j => if j.val = 63 then 1 else 0) := by
  funext j
  idx_vars j
  pointwise [k0_pay10]
  refine Eq.trans (congrArg (fun w => FloatOps.sitofp (F := Ideal) .f32
    (BitVec.setWidth 32 (IntOp.cmpi .eq (BitVec.ofNat 32 j1.val) w))) (?_ : _ = BitVec.ofNat 32 63)) ?_
  · revert j0
    decide +kernel
  · have h := eq_word j1 63
    refine (congrArg (fun w => FloatOps.sitofp (F := Ideal) .f32 (BitVec.setWidth 32 w)) h).trans ?_
    rw [bit_toReal]
    show _ = (((if j1.val = 63 then 1 else 0 : ℝ)) : EReal)
    simp only [decide_eq_true_eq]
    rfl

theorem eyeb_eq : k0_pay13 (F := Ideal) = ofReal 1 := eye_eq

end Cert.Gdn

end
-- ==== Proof.Head.lean ====
/- One head of one chunk, as the kernel's vector operations: the same term for every head, over the columns and blocks
   the head reads; and its value at reals, which is the chunk's step of the gated delta rule. -/
module

public import proofs.«01_k».proof.Proof.HeadOps

@[expose] public section

set_option maxRecDepth 16384

noncomputable section

open Idealize.ShloMosaic Idealize.ShloMosaic.TcCoe
open Cert.KernelIdeal Cert.KernelIdeal.Gen

namespace Cert.Gdn

abbrev Blk : Type := FVec Ideal S64x64 .f32
abbrev Col : Type := FVec Ideal S64x1 .f32

/-- A column stretched along the lanes. -/
abbrev wide (x : Col) : Blk := broadcastTo S64x64 x broadcasts_S64x1_S64x64
/-- Rows times columns. -/
abbrev mm (p : Option ContractPrecision) (x y : Blk) : Blk := matmul dot_S64x64_S64x64_S64x64_1_0_0_1_n_n p x y zero64
/-- Rows times rows. -/
abbrev mmt (p : Option ContractPrecision) (x y : Blk) : Blk := matmul dot_S64x64_S64x64_S64x64_1_1_0_0_n_n p x y zero64

def hDecay (gcol : Col) (grow : Blk) : Blk :=
  exp (select incl (subf (wide gcol) grow) (broadcast S64x64 (Scalar.ofBits .f32 0xFF800000#32)))

def hKb (beta : Col) (k : Blk) : Blk := mulf k (wide beta)

def hLower (gcol beta : Col) (grow k : Blk) : Blk :=
  subf (broadcast S64x64 (Scalar.ofBits .f32 0x00000000#32))
    (mulf (mmt none (hKb beta k) k) (select strict (hDecay gcol grow) (broadcast S64x64 (Scalar.ofBits .f32 0x00000000#32))))

/-- One factor more of the product that inverts: `T + T P`. -/
def hMore (t p : Blk) : Blk := addf t (mm (some .fp32) t p)
def hSq (p : Blk) : Blk := mm (some .fp32) p p

def hInverse (p : Blk) : Blk :=
  hMore (hMore (hMore (hMore (hMore (addf eye p) (hSq p)) (hSq (hSq p))) (hSq (hSq (hSq p)))) (hSq (hSq (hSq (hSq p)))))
    (hSq (hSq (hSq (hSq (hSq p)))))

def hNew (gcol beta : Col) (grow k v s : Blk) : Blk :=
  subf (mm none (hInverse (hLower gcol beta grow k)) (mulf v (wide beta)))
    (mm none (mm none (hInverse (hLower gcol beta grow k)) (mulf (hKb beta k) (wide (exp gcol)))) s)

def hOut (gcol beta : Col) (grow q k v s : Blk) : Blk :=
  addf (mm none (mulf q (wide (exp gcol))) s)
    (mm none (mulf (mmt none q k) (hDecay gcol grow)) (hNew gcol beta grow k v s))

def hState (gcol glc beta : Col) (gend : FVec Ideal S1x1 .f32) (grow k v s : Blk) : Blk :=
  addf (mulf s (broadcastTo S64x64 (exp gend) broadcasts_S1x1_S64x64))
    (mm none (matmul dot_S64x64_S64x64_S64x64_1_1_0_0_n_n none (k0_pay13 (F := Ideal))
        (truncf .bf16 (mulf k (wide (exp (subf glc gcol)))) bitsLt_bf16_f32) zero64)
      (hNew gcol beta grow k v s))

/-- The gated norm of what the head reads out. -/
def hY (o z : Blk) (gn : FVec Ideal S1x64 .f32) : Blk :=
  mulf
    (mulf
      (mulf o (wide (rsqrt (addf
        (divf (shapeCast S64x1 (multiReduction .add [1] S64 (mulf o o) 0x00000000#32 reduces_S64x64_S64 (.inl rfl) rfl) shapeCasts_S64_S64x1)
          (broadcast S64x1 (Scalar.ofBits .f32 0x42800000#32)))
        (broadcast S64x1 (Scalar.ofBits .f32 0x358637BD#32))))))
      (broadcastTo S64x64 gn broadcasts_S1x64_S64x64))
    (mulf z (divf (broadcast S64x64 (Scalar.ofBits .f32 0x3F800000#32))
      (addf (broadcast S64x64 (Scalar.ofBits .f32 0x3F800000#32))
        (exp (subf (broadcast S64x64 (Scalar.ofBits .f32 0x00000000#32)) z)))))

/-! ## At reals -/

section Values

variable (q k v : ℕ → Fin 64 → ℝ) (g β : ℕ → ℝ) (S : Mat)
variable (gcol glc beta : Col) (gend : FVec Ideal S1x1 .f32) (grow : Blk)

theorem wide_ofReal (x : Col) (r : ℕ → ℝ) (hx : ∀ i : Fin 64, x (ix2 i 0) = ((r i.val : ℝ) : EReal)) :
    wide x = ofReal (mat fun i _ => r i.val) := column_ofReal x (fun i => r i.val) hx

theorem zero_ofReal : (broadcast S64x64 (Scalar.ofBits (F := Ideal) .f32 0x00000000#32) : Blk) = ofReal 0 := by
  funext j
  idx_vars j
  pointwise
  exact EReal.coe_zero.symm

theorem exp_minus_infinity : Ideal.exp (FloatOps.ofBits (F := Ideal) .f32 0xFF800000#32) = ((0 : ℝ) : EReal) := by
  have h : FloatOps.ofBits (F := Ideal) .f32 0xFF800000#32 = (⊥ : EReal) := by
    simp [Ideal.ofBits_def, Ideal.ofBits, Ideal.ieee]
  rw [h]
  rfl

theorem hDecay_ofReal (hgc : ∀ i : Fin 64, gcol (ix2 i 0) = ((gate g i.val : ℝ) : EReal))
    (hgr : grow = ofReal (mat fun _ j => gate g j.val)) : hDecay gcol grow = ofReal (decay g) := by
  unfold hDecay
  rw [wide_ofReal gcol (gate g) hgc, hgr, subf_ofReal]
  funext j
  idx_vars j
  show Ideal.exp (Scalar.select (incl (ix2 j0 j1)) (ofReal _ (ix2 j0 j1)) (Scalar.ofBits (F := Ideal) .f32 0xFF800000#32)) = _
  rw [incl_apply, Scalar.select_ofBool, ofReal_apply, ofReal_apply]
  unfold decay
  by_cases h : j1.val ≤ j0.val
  · simp only [h, decide_true, if_true]
    exact Ideal.exp_coe _
  · simp only [h, decide_false, if_false]
    exact exp_minus_infinity

theorem hKb_ofReal (hb : ∀ i : Fin 64, beta (ix2 i 0) = ((β i.val : ℝ) : EReal)) :
    hKb beta (ofReal (rows k)) = ofReal (mat fun i a => k i.val a * β i.val) := by
  unfold hKb
  rw [wide_ofReal beta β hb, mulf_ofReal]
  rfl

theorem hLower_ofReal (hgc : ∀ i : Fin 64, gcol (ix2 i 0) = ((gate g i.val : ℝ) : EReal))
    (hb : ∀ i : Fin 64, beta (ix2 i 0) = ((β i.val : ℝ) : EReal))
    (hgr : grow = ofReal (mat fun _ j => gate g j.val)) :
    hLower gcol beta grow (ofReal (rows k)) = ofReal (lower k g β) := by
  unfold hLower
  rw [hDecay_ofReal g gcol grow hgc hgr, hKb_ofReal k β beta hb, zero_ofReal]
  have hsel : select strict (ofReal (decay g)) (ofReal 0) = ofReal (mat fun i j => if j.val < i.val then decay g i j else 0) := by
    funext j
    idx_vars j
    show Scalar.select (strict (ix2 j0 j1)) (ofReal _ (ix2 j0 j1)) (ofReal _ (ix2 j0 j1)) = _
    rw [strict_apply, Scalar.select_ofBool, ofReal_apply, ofReal_apply, ofReal_apply, mat_apply]
    by_cases h : j1.val < j0.val <;> simp [h]
  rw [hsel]
  unfold mmt
  rw [matmul_nt_ofReal, mulf_ofReal, subf_ofReal]
  congr 1
  funext i j
  show (0 : ℝ) - (mat (fun i a => k i.val a * β i.val) * (rows k).transpose) i j * (if j.val < i.val then decay g i j else 0) = _
  rw [zero_sub, Matrix.mul_apply]
  rfl

theorem hSq_ofReal (P : Mat) : hSq (ofReal P) = ofReal (P * P) := matmul_ofReal _ P P

theorem hMore_ofReal (T P : Mat) : hMore (ofReal T) (ofReal P) = ofReal (T + T * P) := by
  unfold hMore mm
  rw [matmul_ofReal, addf_ofReal]

theorem hInverse_ofReal (P : Mat) : hInverse (ofReal P) = ofReal (inverse P) := by
  unfold hInverse inverse
  simp only [hSq_ofReal, eye_eq, addf_ofReal, hMore_ofReal]

theorem hNew_ofReal (hgc : ∀ i : Fin 64, gcol (ix2 i 0) = ((gate g i.val : ℝ) : EReal))
    (hb : ∀ i : Fin 64, beta (ix2 i 0) = ((β i.val : ℝ) : EReal))
    (hgr : grow = ofReal (mat fun _ j => gate g j.val)) :
    hNew gcol beta grow (ofReal (rows k)) (ofReal (rows v)) (ofReal S) = ofReal (rows (newRow k v g β S)) := by
  unfold hNew mm
  rw [hLower_ofReal k g β gcol beta grow hgc hb hgr, hInverse_ofReal, hKb_ofReal k β beta hb, wide_ofReal beta β hb,
    wide_ofReal (exp gcol) (fun i => Real.exp (gate g i)) (fun i => exp_column gcol (fun i => gate g i.val) hgc i), newRow_eq]
  simp only [mulf_ofReal, matmul_ofReal, subf_ofReal]
  rfl

theorem hOut_ofReal (hgc : ∀ i : Fin 64, gcol (ix2 i 0) = ((gate g i.val : ℝ) : EReal))
    (hb : ∀ i : Fin 64, beta (ix2 i 0) = ((β i.val : ℝ) : EReal))
    (hgr : grow = ofReal (mat fun _ j => gate g j.val)) :
    hOut gcol beta grow (ofReal (rows q)) (ofReal (rows k)) (ofReal (rows v)) (ofReal S) = ofReal (rows (readOut q k v g β S)) := by
  unfold hOut mm mmt
  rw [hNew_ofReal k v g β S gcol beta grow hgc hb hgr, hDecay_ofReal g gcol grow hgc hgr,
    wide_ofReal (exp gcol) (fun i => Real.exp (gate g i)) (fun i => exp_column gcol (fun i => gate g i.val) hgc i), readOut_eq]
  simp only [mulf_ofReal, matmul_ofReal, matmul_nt_ofReal, addf_ofReal]
  rfl

theorem hState_ofReal (hgc : ∀ i : Fin 64, gcol (ix2 i 0) = ((gate g i.val : ℝ) : EReal))
    (hgl : ∀ i : Fin 64, glc (ix2 i 0) = ((gate g 63 : ℝ) : EReal))
    (hb : ∀ i : Fin 64, beta (ix2 i 0) = ((β i.val : ℝ) : EReal))
    (hge : gend (ix2 0 0) = ((gate g 63 : ℝ) : EReal))
    (hgr : grow = ofReal (mat fun _ j => gate g j.val)) :
    hState gcol glc beta gend grow (ofReal (rows k)) (ofReal (rows v)) (ofReal S) = ofReal (state k v g β S 64) := by
  unfold hState mm
  have hx : ∀ i : Fin 64, (subf glc gcol) (ix2 i 0) = ((gate g 63 - gate g i.val : ℝ) : EReal) := by
    intro i
    show glc (ix2 i 0) - gcol (ix2 i 0) = _
    rw [hgl, hgc, EReal.coe_sub]
  have hend : broadcastTo S64x64 (exp gend) broadcasts_S1x1_S64x64 = ofReal (mat fun _ _ => Real.exp (gate g 63)) := by
    funext j
    idx_vars j
    pointwise [ofReal, mat]
    rw [hge]
    exact Ideal.exp_coe _
  have hkd : matmul dot_S64x64_S64x64_S64x64_1_1_0_0_n_n none (k0_pay13 (F := Ideal))
        (truncf .bf16 (mulf (ofReal (rows k)) (wide (exp (subf glc gcol)))) bitsLt_bf16_f32) zero64 = ofReal (kEnd k g) := by
    rw [wide_ofReal (exp (subf glc gcol)) (fun i => Real.exp (gate g 63 - gate g i))
      (fun i => exp_column (subf glc gcol) (fun i => gate g 63 - gate g i.val) hx i), mulf_ofReal]
    rw [eyeb_eq]
    refine (matmul_nt_ofReal_bf16 none 1 _).trans ?_
    rw [Matrix.one_mul]
    rfl
  rw [hkd, hend, hNew_ofReal k v g β S gcol beta grow hgc hb hgr, state_64_eq, mulf_ofReal, matmul_ofReal, addf_ofReal]
  rfl

end Values

end Cert.Gdn

end
-- ==== Proof.Columns.lean ====
/- The columns one head reads off the chunk's block of gates, at reals: cumulative gates, the last one, the factors `β`;
   and the head's step on them. -/
module

public import proofs.«01_k».proof.Proof.Head

@[expose] public section

set_option maxRecDepth 16384

noncomputable section

open Idealize.ShloMosaic Idealize.ShloMosaic.TcCoe
open Cert.KernelIdeal Cert.KernelIdeal.Gen

namespace Cert.Gdn

abbrev Gates : Type := FVec Ideal S64x128 .f32

/-- The cumulative gates of a chunk. -/
abbrev gcum (x3 : Gates) : Gates := k0_pay11 incl x3
/-- The last of them, in every row. -/
abbrev glast (x3 : Gates) : Gates := k0_pay12 incl lastsel x3

/-- One lane of the block, as a row under every row. -/
def hGrow (w : BitVec 32) (x : Gates) : Blk :=
  matmul dot_S64x128_S64x128_S64x64_1_1_0_0_n_n (some .fp32)
    (sitofp (F := Ideal) .f32 (extui 32 (cmpi .eq (iota .tc S64x128 32 [1] iota_S64x128_d1_w32) (broadcast S64x128 w)) natLt_1_32)) x zero64

theorem word_eq (a b : ℕ) (ha : a < 128) (hb : b < 128) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff, ← BitVec.toNat_inj, BitVec.toNat_ofNat, BitVec.toNat_ofNat]
  omega

section Lanes

variable (x3 : Gates) (c : ℕ) (hc : c < 128) (g : ℕ → ℝ) (hx : ∀ i : Fin 64, x3 (ix2 i ⟨c, hc⟩) = ((g i.val : ℝ) : EReal))
include hx

theorem gcum_lane (i : Fin 64) : gcum x3 (ix2 i ⟨c, hc⟩) = ((gate g i.val : ℝ) : EReal) := by
  pointwise [k0_pay11]
  have h : ∀ l : Fin 64, FloatOps.sitofp (F := Ideal) .f32 (BitVec.setWidth 32 (incl (ix2 i l))) * x3 (ix2 l ⟨c, hc⟩)
      = ((if l.val < i.val + 1 then g l.val else 0 : ℝ) : EReal) := by
    intro l
    rw [incl_apply, bit_toReal, hx, ← EReal.coe_mul]
    congr 1
    by_cases h : l.val ≤ i.val
    · simp [h, Nat.lt_succ_of_le h]
    · simp [h, show ¬ l.val < i.val + 1 by omega]
  refine (Finset.sum_congr rfl (fun l _ => h l)).trans ?_
  rw [← coe_sum]
  unfold gate
  rw [sum_range_eq g (i.val + 1) (by omega)]

theorem glast_lane (i : Fin 64) : glast x3 (ix2 i ⟨c, hc⟩) = ((gate g 63 : ℝ) : EReal) := by
  pointwise [k0_pay12]
  have h : ∀ l : Fin 64, lastsel (ix2 i l) * gcum x3 (ix2 l ⟨c, hc⟩) = ((if l = 63 then gate g l.val else 0 : ℝ) : EReal) := by
    intro l
    rw [lastsel_eq, ofReal_apply, gcum_lane x3 c hc g hx, ← EReal.coe_mul, mat_apply]
    congr 1
    by_cases h : l = 63
    · subst h; simp
    · have h' : l.val ≠ 63 := fun e => h (Fin.ext e)
      simp [h, h']
  refine (Finset.sum_congr rfl (fun l _ => h l)).trans ?_
  rw [← coe_sum, Finset.sum_ite_eq' Finset.univ (63 : Fin 64)]
  simp

theorem hGrow_lane : hGrow (BitVec.ofNat 32 c) (gcum x3) = ofReal (mat fun _ j => gate g j.val) := by
  funext j
  idx_vars j
  unfold hGrow
  pointwise
  refine (Finset.sum_eq_single (⟨c, hc⟩ : Fin 128) ?_ ?_).trans ?_
  · intro l _ hl
    rw [word_eq l.val c l.isLt hc, decide_eq_false (fun e => hl (Fin.ext e)), bit_toReal]
    simp
  · intro h; exact absurd (Finset.mem_univ _) h
  · rw [word_eq c c hc hc, decide_eq_true rfl, bit_toReal]
    refine (congrArg _ (gcum_lane x3 c hc g hx j1)).trans ?_
    simp [ofReal_apply, mat_apply]

end Lanes

theorem slice_lane (x : Gates) (c : ℕ) (hc : c < 128) (hs : S64x128.Slices ![0, c] S64x1) (i : Fin 64) :
    extractStridedSlice S64x1 ![0, c] x hs (ix2 i 0) = x (ix2 i ⟨c, hc⟩) := by
  refine congrArg x (funext fun a => Fin.ext ?_)
  revert a
  rw [Fin.forall_fin_two]
  constructor
  · exact Nat.zero_add _
  · exact Nat.add_zero _

theorem slice_last (x : Gates) (c : ℕ) (hc : c < 128) (hs : S64x128.Slices ![63, c] S1x1) :
    extractStridedSlice S1x1 ![63, c] x hs (ix2 0 0) = x (ix2 63 ⟨c, hc⟩) := by
  refine congrArg x (funext fun a => Fin.ext ?_)
  revert a
  rw [Fin.forall_fin_two]
  constructor
  · rfl
  · exact Nat.add_zero _

/-- What head number `c - 68` leaves as its state, from the chunk's block of gates, its keys, values and old state. -/
def headState (c d : ℕ) (hs : S64x128.Slices ![0, c] S64x1) (hd : S64x128.Slices ![0, d] S64x1) (he : S64x128.Slices ![63, c] S1x1)
    (x3 : Gates) (k v s : Blk) : Blk :=
  hState (extractStridedSlice S64x1 ![0, c] (gcum x3) hs) (extractStridedSlice S64x1 ![0, c] (glast x3) hs)
    (extractStridedSlice S64x1 ![0, d] x3 hd) (extractStridedSlice S1x1 ![63, c] (gcum x3) he) (hGrow (BitVec.ofNat 32 c) (gcum x3)) k v s

/-- What it reads out. -/
def headOut (c d : ℕ) (hs : S64x128.Slices ![0, c] S64x1) (hd : S64x128.Slices ![0, d] S64x1)
    (x3 : Gates) (q k v s : Blk) : Blk :=
  hOut (extractStridedSlice S64x1 ![0, c] (gcum x3) hs)
    (extractStridedSlice S64x1 ![0, d] x3 hd) (hGrow (BitVec.ofNat 32 c) (gcum x3)) q k v s

section Steps

variable (x3 : Gates) (c d : ℕ) (hs : S64x128.Slices ![0, c] S64x1) (hd : S64x128.Slices ![0, d] S64x1) (he : S64x128.Slices ![63, c] S1x1)
  (hc : c < 128) (hdl : d < 128) (q k v : ℕ → Fin 64 → ℝ) (g β : ℕ → ℝ) (S : Mat)
  (hg : ∀ i : Fin 64, x3 (ix2 i ⟨c, hc⟩) = ((g i.val : ℝ) : EReal))
  (hb : ∀ i : Fin 64, x3 (ix2 i ⟨d, hdl⟩) = ((β i.val : ℝ) : EReal))
include hg hb

theorem headState_ofReal :
    headState c d hs hd he x3 (ofReal (rows k)) (ofReal (rows v)) (ofReal S) = ofReal (state k v g β S 64) := by
  unfold headState
  refine hState_ofReal k v g β S _ _ _ _ _ (fun i => ?_) (fun i => ?_) (fun i => ?_) ?_ (hGrow_lane x3 c hc g hg)
  · rw [slice_lane _ c hc, gcum_lane x3 c hc g hg]
  · rw [slice_lane _ c hc, glast_lane x3 c hc g hg]
  · rw [slice_lane _ d hdl, hb]
  · rw [slice_last _ c hc, gcum_lane x3 c hc g hg]; rfl

theorem headOut_ofReal :
    headOut c d hs hd x3 (ofReal (rows q)) (ofReal (rows k)) (ofReal (rows v)) (ofReal S) = ofReal (rows (readOut q k v g β S)) := by
  unfold headOut
  refine hOut_ofReal q k v g β S _ _ _ (fun i => ?_) (fun i => ?_) (hGrow_lane x3 c hc g hg)
  · rw [slice_lane _ c hc, gcum_lane x3 c hc g hg]
  · rw [slice_lane _ d hdl, hb]

end Steps

end Cert.Gdn

end
-- ==== Proof.Pieces.lean ====
/- The pieces a chunk writes, one per head, as the head's one term; and their values at reals. -/
module

public import proofs.«01_k».proof.Proof.Columns
public import Idealize.ShloMosaic.Lib.Pipeline.ValueKit
public import Idealize.ShloMosaic.Lib.Pipeline.ReadBack

@[expose] public section

set_option maxRecDepth 16384

noncomputable section

open Idealize.ShloMosaic Idealize.ShloMosaic.TcCoe
open Cert.KernelIdeal Cert.KernelIdeal.Gen

namespace Cert.Gdn

abbrev Seq : Type := Vec Ideal S64x384 .f32
abbrev St6 : Type := Vec Ideal S6x64x64 .f32

/-- Head `h`'s 64 lanes of a block. -/
abbrev lanes (h : ℕ) (x : Seq) (hi : ∀ a, (![0, 64 * h] : Fin 2 → Nat) a + S64x64.size a ≤ S64x384.size a) : Blk :=
  View.ld x (Rect.unit ![0, 64 * h] ![64, 64] hi)

/-- Head `h`'s matrix of the state. -/
abbrev member (h : ℕ) (x : St6) (hi : ∀ a, (![h, 0, 0] : Fin 3 → Nat) a + S1x64x64.size a ≤ S6x64x64.size a) : Blk :=
  shapeCast S64x64 (View.ld x (Rect.unit ![h, 0, 0] ![1, 64, 64] hi)) shapeCasts_S1x64x64_S64x64

abbrev statePiece (h c d : ℕ) (x1 x2 : Seq) (x3 : Gates) (xs : St6)
    (hl : ∀ a, (![0, 64 * h] : Fin 2 → Nat) a + S64x64.size a ≤ S64x384.size a := by decide)
    (hm : ∀ a, (![h, 0, 0] : Fin 3 → Nat) a + S1x64x64.size a ≤ S6x64x64.size a := by decide)
    (hs : S64x128.Slices ![0, c] S64x1 := by decide) (hd : S64x128.Slices ![0, d] S64x1 := by decide)
    (he : S64x128.Slices ![63, c] S1x1 := by decide) : View.Piece (Elt Ideal) S6x64x64 .f32 :=
  ⟨Rect.unit ![h, 0, 0] ![1, 64, 64] hm,
    shapeCast S1x64x64 (headState c d hs hd he x3 (lanes h x1 hl) (lanes h x2 hl) (member h xs hm)) shapeCasts_S64x64_S1x64x64⟩

abbrev statePieces (x1 x2 : Seq) (x3 : Gates) (xs : St6) : List (View.Piece (Elt Ideal) S6x64x64 .f32) :=
  [statePiece 5 73 79 x1 x2 x3 xs, statePiece 4 72 78 x1 x2 x3 xs, statePiece 3 71 77 x1 x2 x3 xs,
   statePiece 2 70 76 x1 x2 x3 xs, statePiece 1 69 75 x1 x2 x3 xs, statePiece 0 68 74 x1 x2 x3 xs]

abbrev yPiece (h c d : ℕ) (x0 x1 x2 x4 : Seq) (x3 : Gates) (x6 : FVec Ideal S1x64 .f32) (xs : St6)
    (hl : ∀ a, (![0, 64 * h] : Fin 2 → Nat) a + S64x64.size a ≤ S64x384.size a := by decide)
    (hm : ∀ a, (![h, 0, 0] : Fin 3 → Nat) a + S1x64x64.size a ≤ S6x64x64.size a := by decide)
    (hs : S64x128.Slices ![0, c] S64x1 := by decide) (hd : S64x128.Slices ![0, d] S64x1 := by decide) :
    View.Piece (Elt Ideal) S64x384 .f32 :=
  ⟨Rect.unit ![0, 64 * h] ![64, 64] hl,
    hY (headOut c d hs hd x3 (lanes h x0 hl) (lanes h x1 hl) (lanes h x2 hl) (member h xs hm)) (lanes h x4 hl) x6⟩

abbrev yPieces (x0 x1 x2 x4 : Seq) (x3 : Gates) (x6 : FVec Ideal S1x64 .f32) (xs : St6) : List (View.Piece (Elt Ideal) S64x384 .f32) :=
  [yPiece 5 73 79 x0 x1 x2 x4 x3 x6 xs, yPiece 4 72 78 x0 x1 x2 x4 x3 x6 xs, yPiece 3 71 77 x0 x1 x2 x4 x3 x6 xs,
   yPiece 2 70 76 x0 x1 x2 x4 x3 x6 xs, yPiece 1 69 75 x0 x1 x2 x4 x3 x6 xs, yPiece 0 68 74 x0 x1 x2 x4 x3 x6 xs]

end Cert.Gdn

end
-- ==== Proof.Chunk.lean ====
/- One chunk of one batch at reals: the six heads' new states and the block of `y`, as the recurrence's values. -/
module

public import proofs.«01_k».proof.Proof.Pieces
public import Idealize.ShloMosaic.Lib.Pipeline.CanonAppend

@[expose] public section

set_option maxRecDepth 16384

noncomputable section

open Idealize.ShloMosaic Idealize.ShloMosaic.TcCoe
open Cert.KernelIdeal Cert.KernelIdeal.Gen

namespace Cert.Gdn

/-- A block of 64 tokens whose six heads' lanes are the reals `X h t a`. -/
def SeqReal (x : Seq) (X : ℕ → ℕ → Fin 64 → ℝ) : Prop :=
  ∀ (i : Fin 64) (l : Fin 384), x (ix2 i l) = ((X (l.val / 64) i.val ⟨l.val % 64, Nat.mod_lt _ (by decide)⟩ : ℝ) : EReal)

/-- A block of gates whose lanes from `c` on are the reals `g h t`. -/
def GateReal (x : Gates) (c : ℕ) (g : ℕ → ℕ → ℝ) : Prop :=
  ∀ (i : Fin 64) (h : ℕ) (hc : c + h < 128), h < 6 → x (ix2 i ⟨c + h, hc⟩) = ((g h i.val : ℝ) : EReal)

/-- Six states that are real. -/
def StateReal (x : St6) (S : ℕ → Mat) : Prop := ∀ (h : Fin 6) (a b : Fin 64), x (ix3 h a b) = ((S h.val a b : ℝ) : EReal)

theorem lanes_ofReal (h : ℕ) (x : Seq) (X : ℕ → ℕ → Fin 64 → ℝ) (hx : SeqReal x X)
    (hl : ∀ a, (![0, 64 * h] : Fin 2 → Nat) a + S64x64.size a ≤ S64x384.size a) : lanes h x hl = ofReal (rows (X h)) := by
  funext j
  idx_vars j
  have hh : 64 * h + 64 ≤ 384 := hl 1
  have hi : (Rect.unit (s := S64x384) ![0, 64 * h] ![64, 64] hl).emb (ix2 j0 j1) = ix2 j0 ⟨64 * h + j1.val, by omega⟩ := by
    funext a
    apply Fin.ext
    rw [Rect.emb_apply]
    revert a
    rw [Fin.forall_fin_two]
    exact ⟨by show 0 + 1 * j0.val = j0.val; omega, by show 64 * h + 1 * j1.val = 64 * h + j1.val; omega⟩
  show x ((Rect.unit (s := S64x384) ![0, 64 * h] ![64, 64] hl).emb (ix2 j0 j1)) = _
  rw [hi, hx]
  have e1 : (64 * h + j1.val) / 64 = h := by omega
  have e2 : (⟨(64 * h + j1.val) % 64, Nat.mod_lt _ (by decide)⟩ : Fin 64) = j1 := Fin.ext (by show (64 * h + j1.val) % 64 = j1.val; omega)
  show ((X ((64 * h + j1.val) / 64) j0.val ⟨(64 * h + j1.val) % 64, _⟩ : ℝ) : EReal) = _
  rw [e1, e2]
  rfl

theorem member_emb (h : ℕ) (hm : ∀ a, (![h, 0, 0] : Fin 3 → Nat) a + S1x64x64.size a ≤ S6x64x64.size a) (hh : h < 6) (o : Fin 1)
    (j0 j1 : Fin 64) : (Rect.unit (s := S6x64x64) ![h, 0, 0] ![1, 64, 64] hm).emb (ix3 o j0 j1) = ix3 ⟨h, hh⟩ j0 j1 := by
  funext a
  apply Fin.ext
  rw [Rect.emb_apply]
  have ho : o.val = 0 := by omega
  match a with
  | 0 => show h + 1 * o.val = h; omega
  | 1 => show 0 + 1 * j0.val = j0.val; omega
  | 2 => show 0 + 1 * j1.val = j1.val; omega

theorem cast_member (w : FVec Ideal S1x64x64 .f32) (i b : Fin 64) :
    shapeCast S64x64 w shapeCasts_S1x64x64_S64x64 (ix2 i b) = w (ix3 0 i b) := by
  pointwise

theorem member_ofReal (h : ℕ) (x : St6) (S : ℕ → Mat) (hx : StateReal x S)
    (hm : ∀ a, (![h, 0, 0] : Fin 3 → Nat) a + S1x64x64.size a ≤ S6x64x64.size a) : member h x hm = ofReal (S h) := by
  funext j
  idx_vars j
  have hh : h + 1 ≤ 6 := hm 0
  rw [member, cast_member]
  exact (congrArg x (member_emb h hm hh 0 j0 j1)).trans (hx ⟨h, hh⟩ j0 j1)

/-- One entry of `y`: the read-out's row, normalised, times the norm's weight, times the gate `z σ(z)`. -/
def yEntry (o : Fin 64 → ℝ) (z w : EReal) (b : Fin 64) : EReal :=
  (o b : EReal) *
      Ideal.rsqrt (Ideal.div (∑ x, (o x : EReal) * (o x : EReal)) (Ideal.ofBits .f32 0x42800000#32) + Ideal.ofBits .f32 0x358637BD#32) *
    w * (z * Ideal.div 1 (1 + Ideal.exp (0 - z)))

theorem hY_ofReal (O : Mat) (z : Blk) (gn : FVec Ideal S1x64 .f32) (i b : Fin 64) :
    hY (ofReal O) z gn (ix2 i b) = yEntry (O i) (z (ix2 i b)) (gn (ix2 0 b)) b := by
  pointwise [hY, ofReal]
  rfl

theorem cast_new (w : Blk) (o : Fin 1) (i b : Fin 64) :
    shapeCast S1x64x64 w shapeCasts_S64x64_S1x64x64 (ix3 o i b) = w (ix2 i b) := by
  pointwise

section Pieces

variable (x0 x1 x2 x4 : Seq) (x3 : Gates) (x6 : FVec Ideal S1x64 .f32) (xs : St6)
  (Q K V : ℕ → ℕ → Fin 64 → ℝ) (g β : ℕ → ℕ → ℝ) (S : ℕ → Mat)
  (hq : SeqReal x0 Q) (hk : SeqReal x1 K) (hv : SeqReal x2 V) (hg : GateReal x3 68 g) (hb : GateReal x3 74 β) (hs : StateReal xs S)

/-- The new states, as one array. -/
def newState : St6 := fun j =>
  ((state (K (j 0).val) (V (j 0).val) (g (j 0).val) (β (j 0).val) (S (j 0).val) 64 (j 1) (j 2) : ℝ) : EReal)

/-- The block of `y`. -/
def newY : Seq := fun j =>
  yEntry (readOut (Q ((j 1).val / 64)) (K ((j 1).val / 64)) (V ((j 1).val / 64)) (g ((j 1).val / 64)) (β ((j 1).val / 64)) (S ((j 1).val / 64)) (j 0).val)
    (x4 j) (x6 (ix2 0 ⟨(j 1).val % 64, Nat.mod_lt _ (by decide)⟩)) ⟨(j 1).val % 64, Nat.mod_lt _ (by decide)⟩

include hk hv hs in
theorem state_piece (h c d : ℕ)
    (hl : ∀ a, (![0, 64 * h] : Fin 2 → Nat) a + S64x64.size a ≤ S64x384.size a)
    (hm : ∀ a, (![h, 0, 0] : Fin 3 → Nat) a + S1x64x64.size a ≤ S6x64x64.size a)
    (ht : S64x128.Slices ![0, c] S64x1) (hd : S64x128.Slices ![0, d] S64x1) (he : S64x128.Slices ![63, c] S1x1)
    (hc : c < 128) (hdl : d < 128)
    (hgc : ∀ i : Fin 64, x3 (ix2 i ⟨c, hc⟩) = ((g h i.val : ℝ) : EReal))
    (hbd : ∀ i : Fin 64, x3 (ix2 i ⟨d, hdl⟩) = ((β h i.val : ℝ) : EReal)) (u : S1x64x64.Idx) :
    (statePiece h c d x1 x2 x3 xs hl hm ht hd he).2 u
      = newState K V g β S ((statePiece h c d x1 x2 x3 xs hl hm ht hd he).1.emb u) := by
  obtain ⟨o, i, b, rfl⟩ : ∃ (o : Fin 1) (i b : Fin 64), u = ix3 o i b := ⟨u 0, u 1, u 2, by funext a; match a with | 0 => rfl | 1 => rfl | 2 => rfl⟩
  have hh : h < 6 := hm 0
  show shapeCast S1x64x64 (headState c d ht hd he x3 (lanes h x1 hl) (lanes h x2 hl) (member h xs hm)) shapeCasts_S64x64_S1x64x64 (ix3 o i b) = _
  rw [cast_new]
  refine Eq.trans ?_ (congrArg (newState K V g β S) (member_emb h hm hh o i b)).symm
  rw [lanes_ofReal h x1 K hk hl, lanes_ofReal h x2 V hv hl, member_ofReal h xs S hs hm,
    headState_ofReal x3 c d ht hd he hc hdl (K h) (V h) (g h) (β h) (S h) hgc hbd]
  rfl

include hk hv hg hb hs in
/-- The pieces a chunk writes are the new states. -/
theorem state_pieces : View.PiecesOf (newState K V g β S) (statePieces x1 x2 x3 xs) :=
  ⟨state_piece x1 x2 x3 xs K V g β S hk hv hs 5 73 79 (by decide) (by decide) (by decide) (by decide) (by decide) (by decide) (by decide)
      (fun i => hg i 5 (by decide) (by decide)) (fun i => hb i 5 (by decide) (by decide)),
   state_piece x1 x2 x3 xs K V g β S hk hv hs 4 72 78 (by decide) (by decide) (by decide) (by decide) (by decide) (by decide) (by decide)
      (fun i => hg i 4 (by decide) (by decide)) (fun i => hb i 4 (by decide) (by decide)),
   state_piece x1 x2 x3 xs K V g β S hk hv hs 3 71 77 (by decide) (by decide) (by decide) (by decide) (by decide) (by decide) (by decide)
      (fun i => hg i 3 (by decide) (by decide)) (fun i => hb i 3 (by decide) (by decide)),
   state_piece x1 x2 x3 xs K V g β S hk hv hs 2 70 76 (by decide) (by decide) (by decide) (by decide) (by decide) (by decide) (by decide)
      (fun i => hg i 2 (by decide) (by decide)) (fun i => hb i 2 (by decide) (by decide)),
   state_piece x1 x2 x3 xs K V g β S hk hv hs 1 69 75 (by decide) (by decide) (by decide) (by decide) (by decide) (by decide) (by decide)
      (fun i => hg i 1 (by decide) (by decide)) (fun i => hb i 1 (by decide) (by decide)),
   state_piece x1 x2 x3 xs K V g β S hk hv hs 0 68 74 (by decide) (by decide) (by decide) (by decide) (by decide) (by decide) (by decide)
      (fun i => hg i 0 (by decide) (by decide)) (fun i => hb i 0 (by decide) (by decide)), trivial⟩

include hk hv hg hb hs in
/-- Whatever was written before, the six pieces leave the new states. -/
theorem state_canon (L : List (View.Piece (Elt Ideal) S6x64x64 .f32)) :
    View.canon (statePieces x1 x2 x3 xs ++ L) = newState K V g β S :=
  funext fun y => View.canon_append_of_piecesOf _ _ _ (state_pieces x1 x2 x3 xs K V g β S hk hv hg hb hs) y
    (View.cover_of_tiled_head _ _ _ rfl y)

theorem lanes_emb (h : ℕ) (hl : ∀ a, (![0, 64 * h] : Fin 2 → Nat) a + S64x64.size a ≤ S64x384.size a) (i b : Fin 64)
    (hh : 64 * h + b.val < 384) : (Rect.unit (s := S64x384) ![0, 64 * h] ![64, 64] hl).emb (ix2 i b) = ix2 i ⟨64 * h + b.val, hh⟩ := by
  funext a
  apply Fin.ext
  rw [Rect.emb_apply]
  match a with
  | 0 => show 0 + 1 * i.val = i.val; omega
  | 1 => show 64 * h + 1 * b.val = 64 * h + b.val; omega

include hq hk hv hs in
theorem y_piece (h c d : ℕ)
    (hl : ∀ a, (![0, 64 * h] : Fin 2 → Nat) a + S64x64.size a ≤ S64x384.size a)
    (hm : ∀ a, (![h, 0, 0] : Fin 3 → Nat) a + S1x64x64.size a ≤ S6x64x64.size a)
    (ht : S64x128.Slices ![0, c] S64x1) (hd : S64x128.Slices ![0, d] S64x1)
    (hc : c < 128) (hdl : d < 128)
    (hgc : ∀ i : Fin 64, x3 (ix2 i ⟨c, hc⟩) = ((g h i.val : ℝ) : EReal))
    (hbd : ∀ i : Fin 64, x3 (ix2 i ⟨d, hdl⟩) = ((β h i.val : ℝ) : EReal)) (u : S64x64.Idx) :
    (yPiece h c d x0 x1 x2 x4 x3 x6 xs hl hm ht hd).2 u
      = newY x4 x6 Q K V g β S ((yPiece h c d x0 x1 x2 x4 x3 x6 xs hl hm ht hd).1.emb u) := by
  obtain ⟨i, b, rfl⟩ : ∃ (i b : Fin 64), u = ix2 i b := ⟨u 0, u 1, by funext a; match a with | 0 => rfl | 1 => rfl⟩
  have hh : 64 * h + 64 ≤ 384 := hl 1
  have hb' : 64 * h + b.val < 384 := by omega
  show hY (headOut c d ht hd x3 (lanes h x0 hl) (lanes h x1 hl) (lanes h x2 hl) (member h xs hm)) (lanes h x4 hl) x6 (ix2 i b) = _
  refine Eq.trans ?_ (congrArg (newY x4 x6 Q K V g β S) (lanes_emb h hl i b hb')).symm
  rw [lanes_ofReal h x0 Q hq hl, lanes_ofReal h x1 K hk hl, lanes_ofReal h x2 V hv hl, member_ofReal h xs S hs hm,
    headOut_ofReal x3 c d ht hd hc hdl (Q h) (K h) (V h) (g h) (β h) (S h) hgc hbd, hY_ofReal]
  have hz : lanes h x4 hl (ix2 i b) = x4 (ix2 i ⟨64 * h + b.val, hb'⟩) := congrArg x4 (lanes_emb h hl i b hb')
  have e1 : (64 * h + b.val) / 64 = h := by omega
  have e2 : (⟨(64 * h + b.val) % 64, Nat.mod_lt _ (by decide)⟩ : Fin 64) = b := Fin.ext (by show (64 * h + b.val) % 64 = b.val; omega)
  rw [hz]
  show _ = yEntry (readOut (Q ((64 * h + b.val) / 64)) (K ((64 * h + b.val) / 64)) (V ((64 * h + b.val) / 64)) (g ((64 * h + b.val) / 64))
    (β ((64 * h + b.val) / 64)) (S ((64 * h + b.val) / 64)) i.val) (x4 (ix2 i ⟨64 * h + b.val, hb'⟩))
    (x6 (ix2 0 ⟨(64 * h + b.val) % 64, Nat.mod_lt _ (by decide)⟩)) ⟨(64 * h + b.val) % 64, Nat.mod_lt _ (by decide)⟩
  rw [e1, e2]
  rfl

include hq hk hv hg hb hs in
/-- The pieces of `y`. -/
theorem y_pieces : View.PiecesOf (newY x4 x6 Q K V g β S) (yPieces x0 x1 x2 x4 x3 x6 xs) :=
  ⟨y_piece x0 x1 x2 x4 x3 x6 xs Q K V g β S hq hk hv hs 5 73 79 (by decide) (by decide) (by decide) (by decide) (by decide) (by decide)
      (fun i => hg i 5 (by decide) (by decide)) (fun i => hb i 5 (by decide) (by decide)),
   y_piece x0 x1 x2 x4 x3 x6 xs Q K V g β S hq hk hv hs 4 72 78 (by decide) (by decide) (by decide) (by decide) (by decide) (by decide)
      (fun i => hg i 4 (by decide) (by decide)) (fun i => hb i 4 (by decide) (by decide)),
   y_piece x0 x1 x2 x4 x3 x6 xs Q K V g β S hq hk hv hs 3 71 77 (by decide) (by decide) (by decide) (by decide) (by decide) (by decide)
      (fun i => hg i 3 (by decide) (by decide)) (fun i => hb i 3 (by decide) (by decide)),
   y_piece x0 x1 x2 x4 x3 x6 xs Q K V g β S hq hk hv hs 2 70 76 (by decide) (by decide) (by decide) (by decide) (by decide) (by decide)
      (fun i => hg i 2 (by decide) (by decide)) (fun i => hb i 2 (by decide) (by decide)),
   y_piece x0 x1 x2 x4 x3 x6 xs Q K V g β S hq hk hv hs 1 69 75 (by decide) (by decide) (by decide) (by decide) (by decide) (by decide)
      (fun i => hg i 1 (by decide) (by decide)) (fun i => hb i 1 (by decide) (by decide)),
   y_piece x0 x1 x2 x4 x3 x6 xs Q K V g β S hq hk hv hs 0 68 74 (by decide) (by decide) (by decide) (by decide) (by decide) (by decide)
      (fun i => hg i 0 (by decide) (by decide)) (fun i => hb i 0 (by decide) (by decide)), trivial⟩

include hq hk hv hg hb hs in
theorem y_canon : View.canon (yPieces x0 x1 x2 x4 x3 x6 xs) = newY x4 x6 Q K V g β S :=
  funext fun y => View.canon_append_of_piecesOf (newY x4 x6 Q K V g β S) [] (yPieces x0 x1 x2 x4 x3 x6 xs)
    (y_pieces x0 x1 x2 x4 x3 x6 xs Q K V g β S hq hk hv hg hb hs) y (View.cover_of_tiled_head _ _ _ rfl y)

end Pieces

end Cert.Gdn

end
-- ==== Proof.Blocks.lean ====
/- The blocks one grid point is given, at reals: point `t` has the 64 rows from row `64 t` on. -/
module

public import proofs.«01_k».proof.Proof.Chunk
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Gdn

variable (m : ((l : Loc nD τ sig) → Buf (Elt Ideal) l)) (c : Dev nD)

theorem windows : ∀ t : Fin cfg0.N, win0_0.index t = ![t.val, 0] ∧ win0_1.index t = ![t.val, 0] ∧ win0_2.index t = ![t.val, 0] ∧
    win0_3.index t = ![t.val, 0] ∧ win0_4.index t = ![t.val, 8] ∧ win0_5.index t = ![t.val / 128, 0, 0, 0] ∧ win0_6.index t = ![0, 0] := by
  decide +kernel

theorem N256 (t : Fin cfg0.N) : t.val < 256 := t.isLt

theorem block_q (t : Fin cfg0.N) (i : Fin 64) (l : Fin 384) :
    iblk m c 0 t (ix2 i l) = m ((c : Thread nD τ).loc main_arg0) (ix2 ⟨64 * t.val + i.val, by have := N256 t; omega⟩ l) := by
  have hw := (windows t).1
  blk_ext [iblk, V_main_arg0, hw]

theorem block_k (t : Fin cfg0.N) (i : Fin 64) (l : Fin 384) :
    iblk m c 1 t (ix2 i l) = m ((c : Thread nD τ).loc main_arg1) (ix2 ⟨64 * t.val + i.val, by have := N256 t; omega⟩ l) := by
  have hw := (windows t).2.1
  blk_ext [iblk, V_main_arg1, hw]

theorem block_v (t : Fin cfg0.N) (i : Fin 64) (l : Fin 384) :
    iblk m c 2 t (ix2 i l) = m ((c : Thread nD τ).loc main_arg2) (ix2 ⟨64 * t.val + i.val, by have := N256 t; omega⟩ l) := by
  have hw := (windows t).2.2.1
  blk_ext [iblk, V_main_arg2, hw]

theorem block_g (t : Fin cfg0.N) (i : Fin 64) (l : Fin 128) :
    iblk m c 3 t (ix2 i l) = m ((c : Thread nD τ).loc main_arg3) (ix2 ⟨64 * t.val + i.val, by have := N256 t; omega⟩ l) := by
  have hw := (windows t).2.2.2.1
  blk_ext [iblk, V_main_arg3, hw]

theorem block_z (t : Fin cfg0.N) (i : Fin 64) (l : Fin 384) :
    iblk m c 4 t (ix2 i l) = m ((c : Thread nD τ).loc main_arg4) (ix2 ⟨64 * t.val + i.val, by have := N256 t; omega⟩ ⟨3072 + l.val, by omega⟩) := by
  have hw := (windows t).2.2.2.2.1
  blk_ext [iblk, V_main_arg4, hw]

theorem entry_s (bb : Fin 2) (h : Fin 6) (a b : Fin 64) :
    V m c main_v2 (ix4 bb h a b) = m ((c : Thread nD τ).loc main_arg5) (ix4 bb h a b) := by
  entry_read
  pointwise

theorem block_s (t : Fin cfg0.N) (h : Fin 6) (a b : Fin 64) :
    k0_pay2 (F := Ideal) (iblk m c 5 t) (ix3 h a b) = m ((c : Thread nD τ).loc main_arg5) (ix4 (⟨t.val / 128, by have := N256 t; omega⟩ : Fin 2) h a b) := by
  have hw := (windows t).2.2.2.2.2.1
  pointwise [k0_pay2]
  refine Eq.trans ?_ (entry_s m c _ h a b)
  blk_ext [iblk, hw]

theorem block_n (t : Fin cfg0.N) (l : Fin 64) :
    iblk m c 6 t (ix2 0 l) = m ((c : Thread nD τ).loc main_arg6) (ix2 0 l) := by
  have hw := (windows t).2.2.2.2.2.2
  blk_ext [iblk, V_main_arg6, hw]

end Cert.Gdn

end
-- ==== Proof.Cases.lean ====
/- What the body of the kernel writes, case by case, as lists of the heads' pieces. -/
module
public import proofs.«01_k».proof.Proof.Gen.KernelIdeal.Value
public import proofs.«01_k».proof.Proof.Pieces
public import Idealize.ShloMosaic.Lib.VecWindow
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Gdn.Cases
open Cert.KernelIdeal Cert.KernelIdeal.Gen
variable (c : Dev nD) (i : grid0.Coords) (arg2 : Memref sig .tc .vmem S64x384 .f32) (harg2 : arg2.IsWhole) (arg3 : Memref sig .tc .vmem S64x384 .f32) (harg3 : arg3.IsWhole) (arg4 : Memref sig .tc .vmem S64x384 .f32) (harg4 : arg4.IsWhole) (arg5 : Memref sig .tc .vmem S64x128 .f32) (harg5 : arg5.IsWhole) (arg6 : Memref sig .tc .vmem S64x384 .f32) (harg6 : arg6.IsWhole) (arg7 : Memref sig .tc .vmem S1x6x64x64 .f32) (harg7 : arg7.IsWhole) (arg8 : Memref sig .tc .vmem S1x64 .f32) (harg8 : arg8.IsWhole) (arg9 : Memref sig .tc .vmem S64x384 .f32) (harg9 : arg9.IsWhole) (arg10 : Memref sig .tc .vmem S1x6x64x64 .f32) (harg10 : arg10.IsWhole) (arg11 : Memref sig .tc .vmem S6x64x64 .f32) (harg11 : arg11.IsWhole)
    (x0 : Vec Ideal S64x384 .f32) (x1 : Vec Ideal S64x384 .f32) (x2 : Vec Ideal S64x384 .f32) (x3 : Vec Ideal S64x128 .f32) (x4 : Vec Ideal S64x384 .f32) (x5 : Vec Ideal S1x6x64x64 .f32) (x6 : Vec Ideal S1x64 .f32) (xs0 : Vec Ideal S6x64x64 .f32)

/-- The new state at a point of case A. -/
theorem sout_A (hc0 : cond0_0 i) (hc1 : ¬cond0_1 i) : sout0_A_0 c i arg2 harg2 arg3 harg3 arg4 harg4 arg5 harg5 arg6 harg6 arg7 harg7 arg8 harg8 arg9 harg9 arg10 harg10 arg11 harg11 hc0 hc1 x0 x1 x2 x3 x4 x5 x6 = View.canon (Gdn.statePieces x1 x2 x3 (k0_pay2 x5) ++ [⟨Rect.unit ![0, 0, 0] ![6, 64, 64] (by decide), k0_pay2 x5⟩]) := by
  frame_open
  simp (disch := decide) only [↓ View.readCov_skip, ↓ View.readCov_cons_toLoadRect, ↓ View.readCov_fill]
  frame_out
  rfl

/-- The block of `y` at a point of case A. -/
theorem out_A (hc0 : cond0_0 i) (hc1 : ¬cond0_1 i) : out0_A_7 c i arg2 harg2 arg3 harg3 arg4 harg4 arg5 harg5 arg6 harg6 arg7 harg7 arg8 harg8 arg9 harg9 arg10 harg10 arg11 harg11 hc0 hc1 x0 x1 x2 x3 x4 x5 x6 = View.canon (Gdn.yPieces x0 x1 x2 x4 x3 x6 (k0_pay2 x5)) := by
  frame_open
  simp (disch := decide) only [↓ View.readCov_skip, ↓ View.readCov_cons_toLoadRect, ↓ View.readCov_fill]
  frame_out
  rfl

/-- The new state at a point of case B. -/
theorem sout_B (hc0 : ¬cond0_0 i) (hc1 : ¬cond0_1 i) : sout0_B_0 c i arg2 harg2 arg3 harg3 arg4 harg4 arg5 harg5 arg6 harg6 arg7 harg7 arg8 harg8 arg9 harg9 arg10 harg10 arg11 harg11 hc0 hc1 x0 x1 x2 x3 x4 x5 x6 xs0 = View.canon (Gdn.statePieces x1 x2 x3 xs0) := by
  frame_open
  simp (disch := decide) only [↓ View.readCov_skip, ↓ View.readCov_cons_toLoadRect, ↓ View.readCov_fill]
  frame_out
  rfl

/-- The block of `y` at a point of case B. -/
theorem out_B (hc0 : ¬cond0_0 i) (hc1 : ¬cond0_1 i) : out0_B_7 c i arg2 harg2 arg3 harg3 arg4 harg4 arg5 harg5 arg6 harg6 arg7 harg7 arg8 harg8 arg9 harg9 arg10 harg10 arg11 harg11 hc0 hc1 x0 x1 x2 x3 x4 x5 x6 xs0 = View.canon (Gdn.yPieces x0 x1 x2 x4 x3 x6 xs0) := by
  frame_open
  simp (disch := decide) only [↓ View.readCov_skip, ↓ View.readCov_cons_toLoadRect, ↓ View.readCov_fill]
  frame_out
  rfl

/-- The new state at a point of case C. -/
theorem sout_C (hc0 : ¬cond0_0 i) (hc1 : cond0_1 i) : sout0_C_0 c i arg2 harg2 arg3 harg3 arg4 harg4 arg5 harg5 arg6 harg6 arg7 harg7 arg8 harg8 arg9 harg9 arg10 harg10 arg11 harg11 hc0 hc1 x0 x1 x2 x3 x4 x5 x6 xs0 = View.canon (Gdn.statePieces x1 x2 x3 xs0) := by
  frame_open
  simp (disch := decide) only [↓ View.readCov_skip, ↓ View.readCov_cons_toLoadRect, ↓ View.readCov_fill]
  frame_out
  rfl

/-- The block of `y` at a point of case C. -/
theorem out_C (hc0 : ¬cond0_0 i) (hc1 : cond0_1 i) : out0_C_7 c i arg2 harg2 arg3 harg3 arg4 harg4 arg5 harg5 arg6 harg6 arg7 harg7 arg8 harg8 arg9 harg9 arg10 harg10 arg11 harg11 hc0 hc1 x0 x1 x2 x3 x4 x5 x6 xs0 = View.canon (Gdn.yPieces x0 x1 x2 x4 x3 x6 xs0) := by
  frame_open
  simp (disch := decide) only [↓ View.readCov_skip, ↓ View.readCov_cons_toLoadRect, ↓ View.readCov_fill]
  frame_out
  rfl

/-- The last state, written out at a point of case C. -/
theorem last_C (hc0 : ¬cond0_0 i) (hc1 : cond0_1 i) : out0_C_8 c i arg2 harg2 arg3 harg3 arg4 harg4 arg5 harg5 arg6 harg6 arg7 harg7 arg8 harg8 arg9 harg9 arg10 harg10 arg11 harg11 hc0 hc1 x0 x1 x2 x3 x4 x5 x6 xs0 = k0_pay1 (View.canon (Gdn.statePieces x1 x2 x3 xs0)) := by
  frame_open
  simp (disch := decide) only [↓ View.readCov_skip, ↓ View.readCov_cons_toLoadRect, ↓ View.readCov_fill]
  frame_out
  refine congrArg k0_pay1 ((View.readCov_eq_canon' _ _ _).trans (funext fun j => ?_))
  exact congrArg (View.canon (Gdn.statePieces x1 x2 x3 xs0)) (Rect.emb_unit_full _ j)
end Cert.Gdn.Cases
end
-- ==== Proof.Grid.lean ====
/- The kernel's grid at reals: after every point the carried scratch is the recurrence's state after that many tokens,
   and the point's block of `y` is the read-outs of its tokens. -/
module

public import proofs.«01_k».proof.Proof.Blocks
public import proofs.«01_k».proof.Proof.Cases

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Gdn

/-- The rows of head `h` from row `r` on. -/
def stream {α : Type} (X : ℕ → ℕ → α) (r h : ℕ) : ℕ → α := fun i => X (r + i) h

theorem stream_shift {α : Type} (X : ℕ → ℕ → α) (r s h : ℕ) : (fun i => stream X r h (s + i)) = stream X (r + s) h := by
  funext i
  unfold stream
  rw [Nat.add_assoc]

section

variable (Q K V : ℕ → ℕ → Fin 64 → ℝ) (G B : ℕ → ℕ → ℝ) (S0 : ℕ → ℕ → Mat)

/-- The state of batch `b`, head `h` after `n` of its 8192 tokens. -/
def runState (b h n : ℕ) : Mat :=
  state (stream K (8192 * b) h) (stream V (8192 * b) h) (stream G (8192 * b) h) (stream B (8192 * b) h) (S0 b h) n

/-- What token `n` of batch `b` reads out at head `h`. -/
def runOut (b h n : ℕ) : Fin 64 → ℝ :=
  readOut (stream Q (8192 * b) h) (stream K (8192 * b) h) (stream V (8192 * b) h) (stream G (8192 * b) h) (stream B (8192 * b) h) (S0 b h) n

theorem runState_chunk (b h s n r : ℕ) (hr : r = 8192 * b + s) :
    state (stream K r h) (stream V r h) (stream G r h) (stream B r h) (runState K V G B S0 b h s) n = runState K V G B S0 b h (s + n) := by
  subst hr
  unfold runState
  rw [state_add, stream_shift, stream_shift, stream_shift, stream_shift]

theorem runOut_chunk (b h s n r : ℕ) (hr : r = 8192 * b + s) :
    readOut (stream Q r h) (stream K r h) (stream V r h) (stream G r h) (stream B r h) (runState K V G B S0 b h s) n
      = runOut Q K V G B S0 b h (s + n) := by
  subst hr
  funext d
  unfold runOut readOut
  rw [runState_chunk K V G B S0 b h s (n + 1) _ rfl]
  refine Finset.sum_congr rfl fun a _ => ?_
  rw [← stream_shift Q]
  rfl

variable (m : ((l : Loc nD τ sig) → Buf (Elt Ideal) l)) (c : Dev nD)

/-- The launch's arguments are the reals `Q`, `K`, `V`, `G`, `B` and `S0`. -/
structure RealArgs : Prop where
  q : ∀ (r : Fin 16384) (l : Fin 384), m ((c : Thread nD τ).loc main_arg0) (ix2 r l)
    = ((Q r.val (l.val / 64) ⟨l.val % 64, Nat.mod_lt _ (by decide)⟩ : ℝ) : EReal)
  k : ∀ (r : Fin 16384) (l : Fin 384), m ((c : Thread nD τ).loc main_arg1) (ix2 r l)
    = ((K r.val (l.val / 64) ⟨l.val % 64, Nat.mod_lt _ (by decide)⟩ : ℝ) : EReal)
  v : ∀ (r : Fin 16384) (l : Fin 384), m ((c : Thread nD τ).loc main_arg2) (ix2 r l)
    = ((V r.val (l.val / 64) ⟨l.val % 64, Nat.mod_lt _ (by decide)⟩ : ℝ) : EReal)
  g : ∀ (r : Fin 16384) (h : ℕ) (hl : 68 + h < 128), h < 6 → m ((c : Thread nD τ).loc main_arg3) (ix2 r ⟨68 + h, hl⟩) = ((G r.val h : ℝ) : EReal)
  b : ∀ (r : Fin 16384) (h : ℕ) (hl : 74 + h < 128), h < 6 → m ((c : Thread nD τ).loc main_arg3) (ix2 r ⟨74 + h, hl⟩) = ((B r.val h : ℝ) : EReal)
  s : ∀ (b : Fin 2) (h : Fin 6) (a d : Fin 64), m ((c : Thread nD τ).loc main_arg5) (ix4 b h a d) = ((S0 b.val h.val a d : ℝ) : EReal)

variable (H : RealArgs Q K V G B S0 m c)
include H

theorem seq_q (t : Fin cfg0.N) : SeqReal (iblk m c 0 t) (fun h => stream Q (64 * t.val) h) := fun i l => (block_q m c t i l).trans (H.q _ l)
theorem seq_k (t : Fin cfg0.N) : SeqReal (iblk m c 1 t) (fun h => stream K (64 * t.val) h) := fun i l => (block_k m c t i l).trans (H.k _ l)
theorem seq_v (t : Fin cfg0.N) : SeqReal (iblk m c 2 t) (fun h => stream V (64 * t.val) h) := fun i l => (block_v m c t i l).trans (H.v _ l)
theorem gate_g (t : Fin cfg0.N) : GateReal (iblk m c 3 t) 68 (fun h => stream G (64 * t.val) h) :=
  fun i h hl hh => (block_g m c t i ⟨68 + h, hl⟩).trans (H.g _ h hl hh)
theorem gate_b (t : Fin cfg0.N) : GateReal (iblk m c 3 t) 74 (fun h => stream B (64 * t.val) h) :=
  fun i h hl hh => (block_g m c t i ⟨74 + h, hl⟩).trans (H.b _ h hl hh)
theorem state_s (t : Fin cfg0.N) : StateReal (k0_pay2 (F := Ideal) (iblk m c 5 t)) (fun h => S0 (t.val / 128) h) :=
  fun h a b => (block_s m c t h a b).trans (H.s _ h a b)

omit H in
/-- The states after `n` tokens of batch `b`, as the scratch holds them. -/
def scratchAt (b n : ℕ) : St6 := fun j => ((runState K V G B S0 b (j 0).val n (j 1) (j 2) : ℝ) : EReal)

omit H in
/-- The block of `y` at point `t`. -/
def yAt (t : Fin cfg0.N) : Seq := fun j =>
  yEntry (runOut Q K V G B S0 (t.val / 128) ((j 1).val / 64) (64 * (t.val % 128) + (j 0).val))
    (iblk m c 4 t j) (iblk m c 6 t (ix2 0 ⟨(j 1).val % 64, Nat.mod_lt _ (by decide)⟩)) ⟨(j 1).val % 64, Nat.mod_lt _ (by decide)⟩

omit H in
theorem scratch_real (b n : ℕ) : StateReal (scratchAt K V G B S0 b n) (fun h => runState K V G B S0 b h n) := fun _ _ _ => rfl

omit H in
theorem row_split (t : ℕ) : 64 * t = 8192 * (t / 128) + 64 * (t % 128) := by omega

/-- One point from the state after `64 (t % 128)` tokens. -/
theorem point_state (t : Fin cfg0.N) :
    newState (fun h => stream K (64 * t.val) h) (fun h => stream V (64 * t.val) h) (fun h => stream G (64 * t.val) h)
      (fun h => stream B (64 * t.val) h) (fun h => runState K V G B S0 (t.val / 128) h (64 * (t.val % 128)))
      = scratchAt K V G B S0 (t.val / 128) (64 * (t.val % 128) + 64) := by
  funext j
  unfold newState scratchAt
  rw [runState_chunk K V G B S0 (t.val / 128) (j 0).val (64 * (t.val % 128)) 64 (64 * t.val) (row_split _)]

theorem point_y (t : Fin cfg0.N) :
    newY (iblk m c 4 t) (iblk m c 6 t) (fun h => stream Q (64 * t.val) h) (fun h => stream K (64 * t.val) h) (fun h => stream V (64 * t.val) h) (fun h => stream G (64 * t.val) h)
      (fun h => stream B (64 * t.val) h) (fun h => runState K V G B S0 (t.val / 128) h (64 * (t.val % 128)))
      = yAt Q K V G B S0 m c t := by
  funext j
  unfold newY yAt
  rw [runOut_chunk Q K V G B S0 (t.val / 128) ((j 1).val / 64) (64 * (t.val % 128)) (j 0).val (64 * t.val) (row_split _)]

/-- After each point: the scratch is the state after the point's last token, the block of `y` its read-outs; at a batch's
    last point the state goes out. -/
def Good (t : Fin cfg0.N) : Prop :=
  (outsAt0 m c t.val t.isLt).2.2 = scratchAt K V G B S0 (t.val / 128) (64 * (t.val % 128) + 64)
    ∧ (outsAt0 m c t.val t.isLt).1 = yAt Q K V G B S0 m c t
    ∧ (t.val % 128 = 127 → (outsAt0 m c t.val t.isLt).2.1 = k0_pay1 (scratchAt K V G B S0 (t.val / 128) (64 * (t.val % 128) + 64)))

theorem good_first (t : Fin cfg0.N) (h0 : t.val % 128 = 0) : Good Q K V G B S0 m c t := by
  have h1 : ¬ t.val % 128 = 127 := by omega
  have hS : StateReal (k0_pay2 (F := Ideal) (iblk m c 5 t)) (fun h => runState K V G B S0 (t.val / 128) h (64 * (t.val % 128))) := by
    rw [h0]; exact state_s Q K V G B S0 m c H t
  unfold Good
  rw [outsAt0_A m c t h0 h1]
  refine ⟨?_, ?_, fun h => absurd h h1⟩
  · dsimp only
    rw [Cases.sout_A, state_canon _ _ _ _ _ _ _ _ _ (seq_k Q K V G B S0 m c H t) (seq_v Q K V G B S0 m c H t) (gate_g Q K V G B S0 m c H t) (gate_b Q K V G B S0 m c H t) hS,
      point_state Q K V G B S0 m c H t]
  · dsimp only
    rw [Cases.out_A, y_canon _ _ _ _ _ _ _ _ _ _ _ _ _ (seq_q Q K V G B S0 m c H t) (seq_k Q K V G B S0 m c H t) (seq_v Q K V G B S0 m c H t) (gate_g Q K V G B S0 m c H t) (gate_b Q K V G B S0 m c H t) hS,
      point_y Q K V G B S0 m c H t]

theorem good_next (t : Fin cfg0.N) (h0 : ¬ t.val % 128 = 0)
    (hp : (outsAt0 m c (t.val - 1) (Nat.lt_of_le_of_lt (Nat.sub_le _ _) t.isLt)).2.2 = scratchAt K V G B S0 (t.val / 128) (64 * (t.val % 128))) :
    Good Q K V G B S0 m c t := by
  have hS : StateReal (outsAt0 m c (t.val - 1) (Nat.lt_of_le_of_lt (Nat.sub_le _ _) t.isLt)).2.2
      (fun h => runState K V G B S0 (t.val / 128) h (64 * (t.val % 128))) := by
    rw [hp]; exact scratch_real K V G B S0 _ _
  have hs := fun L => state_canon _ _ _ _ _ _ _ _ _ (seq_k Q K V G B S0 m c H t) (seq_v Q K V G B S0 m c H t) (gate_g Q K V G B S0 m c H t) (gate_b Q K V G B S0 m c H t) hS L
  have hs' := hs []
  rw [List.append_nil] at hs'
  unfold Good
  by_cases h1 : t.val % 128 = 127
  · rw [outsAt0_C m c t h0 h1]
    refine ⟨?_, ?_, fun _ => ?_⟩
    · dsimp only
      rw [Cases.sout_C, hs', point_state Q K V G B S0 m c H t]
    · dsimp only
      rw [Cases.out_C, y_canon _ _ _ _ _ _ _ _ _ _ _ _ _ (seq_q Q K V G B S0 m c H t) (seq_k Q K V G B S0 m c H t) (seq_v Q K V G B S0 m c H t) (gate_g Q K V G B S0 m c H t) (gate_b Q K V G B S0 m c H t) hS,
        point_y Q K V G B S0 m c H t]
    · dsimp only
      rw [Cases.last_C, hs', point_state Q K V G B S0 m c H t]
  · rw [outsAt0_B m c t h0 h1]
    refine ⟨?_, ?_, fun h => absurd h h1⟩
    · dsimp only
      rw [Cases.sout_B, hs', point_state Q K V G B S0 m c H t]
    · dsimp only
      rw [Cases.out_B, y_canon _ _ _ _ _ _ _ _ _ _ _ _ _ (seq_q Q K V G B S0 m c H t) (seq_k Q K V G B S0 m c H t) (seq_v Q K V G B S0 m c H t) (gate_g Q K V G B S0 m c H t) (gate_b Q K V G B S0 m c H t) hS,
        point_y Q K V G B S0 m c H t]

theorem good : ∀ (n : ℕ) (hn : n < cfg0.N), Good Q K V G B S0 m c ⟨n, hn⟩ := by
  intro n
  induction n with
  | zero => intro hn; exact good_first Q K V G B S0 m c H ⟨0, hn⟩ rfl
  | succ n ih =>
    intro hn
    by_cases h0 : (n + 1) % 128 = 0
    · exact good_first Q K V G B S0 m c H ⟨n + 1, hn⟩ h0
    · refine good_next Q K V G B S0 m c H ⟨n + 1, hn⟩ h0 ?_
      have h := (ih (Nat.lt_of_succ_lt hn)).1
      have e1 : n / 128 = (n + 1) / 128 := by omega
      have e2 : 64 * (n % 128) + 64 = 64 * ((n + 1) % 128) := by omega
      dsimp only at h ⊢
      rw [e1, e2] at h
      exact h

end

end Cert.Gdn

end
-- ==== Proof.KernelOut.lean ====
/- What the kernel's two result arrays hold, at reals. -/
module

public import proofs.«01_k».proof.Proof.Grid

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Value

namespace Cert.Gdn

variable (Q K V : ℕ → ℕ → Fin 64 → ℝ) (G B : ℕ → ℕ → ℝ) (S0 : ℕ → ℕ → Mat)
variable (m : ((l : Loc nD τ sig) → Buf (Elt Ideal) l)) (c : Dev nD)
variable (H : RealArgs Q K V G B S0 m c)

/-- `y` at row `r`, lane `l`, over the gate's array `p` and the norm's weights `w`. -/
def yValue (p : Vec Ideal S17408x3840 .f32) (w : Vec Ideal S1x64 .f32) (r : Fin 16384) (l : Fin 384) : EReal :=
  yEntry (runOut Q K V G B S0 (r.val / 8192) (l.val / 64) (r.val % 8192))
    (p (ix2 ⟨r.val, by omega⟩ ⟨3072 + l.val, by omega⟩)) (w (ix2 0 ⟨l.val % 64, Nat.mod_lt _ (by decide)⟩)) ⟨l.val % 64, Nat.mod_lt _ (by decide)⟩

include H

theorem G7_eq (r : Fin 16384) (l : Fin 384) :
    G7 m c (ix2 r l) = yValue Q K V G B S0 (m ((c : Thread nD τ).loc main_arg4)) (m ((c : Thread nD τ).loc main_arg6)) r l := by
  have hpt : pt7Of (ix2 r l) = r.val / 64 := by
    show 1 * (r.val / 64 - 0) + 1 * (l.val / 384 - 0) = _
    omega
  have hlt : r.val / 64 < cfg0.N := by show r.val / 64 < 256; omega
  unfold G7
  rw [dif_pos (by rw [hpt]; exact hlt)]
  have hf := fold0_congr m c (pt7Of (ix2 r l)) (by rw [hpt]; omega) (r.val / 64) (by omega) hpt
  rw [hf, ← outsAt0_sweep m c (r.val / 64) hlt, (good Q K V G B S0 m c H (r.val / 64) hlt).2.1]
  have hloc : loc7Of (ix2 r l) = ix2 ⟨r.val % 64, Nat.mod_lt _ (by decide)⟩ l := by
    funext a
    match a with
    | 0 => rfl
    | 1 => exact Fin.ext (by show l.val % 384 = l.val; omega)
  rw [hloc]
  unfold yAt yValue
  rw [block_z, block_n]
  have e1 : r.val / 64 / 128 = r.val / 8192 := by omega
  have e2 : 64 * (r.val / 64 % 128) + r.val % 64 = r.val % 8192 := by omega
  have e3 : 64 * (r.val / 64) + r.val % 64 = r.val := by omega
  show yEntry (runOut Q K V G B S0 (r.val / 64 / 128) (l.val / 64) (64 * (r.val / 64 % 128) + r.val % 64)) _ _ _ = _
  rw [e1, e2]
  congr 2
  funext a
  match a with
  | 0 => exact Fin.ext e3
  | 1 => rfl

theorem G8_eq (b : Fin 2) (h : Fin 6) (a d : Fin 64) :
    G8 m c (ix4 b h a d) = ((runState K V G B S0 b.val h.val 8192 a d : ℝ) : EReal) := by
  have hpt : pt8Of (ix4 b h a d) = 128 * b.val + 127 := by
    show 128 * (1 * (b.val / 1 - 0) + 1 * (h.val / 6 - 0) + 1 * (a.val / 64 - 0) + 1 * (d.val / 64 - 0)) + 127 = _
    omega
  have hlt : 128 * b.val + 127 < cfg0.N := by show 128 * b.val + 127 < 256; omega
  unfold G8
  rw [dif_pos (by rw [hpt]; exact hlt)]
  have hf := fold0_congr m c (pt8Of (ix4 b h a d)) (by rw [hpt]; omega) (128 * b.val + 127) (by omega) hpt
  rw [hf, ← outsAt0_sweep m c (128 * b.val + 127) hlt, (good Q K V G B S0 m c H (128 * b.val + 127) hlt).2.2 (by show (128 * b.val + 127) % 128 = 127; omega)]
  have hloc : loc8Of (ix4 b h a d) = ix4 0 h a d := by
    funext x
    match x with
    | 0 => exact Fin.ext (by show b.val % 1 = 0; omega)
    | 1 => exact Fin.ext (by show h.val % 6 = h.val; omega)
    | 2 => exact Fin.ext (by show a.val % 64 = a.val; omega)
    | 3 => exact Fin.ext (by show d.val % 64 = d.val; omega)
  rw [hloc]
  have hp : ∀ w : FVec Ideal S6x64x64 .f32, k0_pay1 w (ix4 0 h a d) = w (ix3 h a d) := by
    intro w
    pointwise [k0_pay1]
  rw [hp]
  have e1 : (128 * b.val + 127) / 128 = b.val := by omega
  have e2 : 64 * ((128 * b.val + 127) % 128) + 64 = 8192 := by omega
  show scratchAt K V G B S0 ((128 * b.val + 127) / 128) (64 * ((128 * b.val + 127) % 128) + 64) (ix3 h a d) = _
  rw [e1, e2]
  rfl

end Cert.Gdn

end
-- ==== Proof.Token.lean ====
/- One trip of the reference's loop at an index: the token it reads, the state it writes, the row it writes. -/
module

public import proofs.«01_k».proof.Proof.Gen.ReferenceIdeal.Step
public import proofs.«01_k».proof.Proof.Recurrence
public import proofs.«01_k».proof.Proof.HeadOps
public import Idealize.ShloMosaic.Lib.DynamicIndex
public import Idealize.ShloMosaic.Lib.WordCmp
public import Idealize.ShloMosaic.Lib.Pointwise

@[expose] public section

set_option maxRecDepth 16384

noncomputable section

open Idealize.ShloMosaic
open Cert.ReferenceIdeal Cert.ReferenceIdeal.Gen Cert.ReferenceIdeal.Step

namespace Cert.Gdn.Token

variable (j : ℕ) (hj : j < 8192) (s : State Ideal)

theorem starts4 (hj : j < 8192) : ∀ a : Fin 4, ((![(constantI S_ 32 (BitVec.ofNat 32 j) : (⟨S_, .i32⟩ : BufTy).Contents (Elt Ideal)), constantI S_ 32 0#32,
    constantI S_ 32 0#32, constantI S_ 32 0#32] : Fin 4 → (⟨S_, .i32⟩ : BufTy).Contents (Elt Ideal)) a (Shape.Idx.first h_S_)).toInt = ((![j, 0, 0, 0] : Fin 4 → ℕ) a : Int) := by
  intro a
  match a with
  | 0 => exact Idealize.ShloMosaic.toInt_ofNat_of_lt (by omega)
  | 1 => rfl
  | 2 => rfl
  | 3 => rfl

theorem starts3 (hj : j < 8192) : ∀ a : Fin 3, ((![(constantI S_ 32 (BitVec.ofNat 32 j) : (⟨S_, .i32⟩ : BufTy).Contents (Elt Ideal)), constantI S_ 32 0#32,
    constantI S_ 32 0#32] : Fin 3 → (⟨S_, .i32⟩ : BufTy).Contents (Elt Ideal)) a (Shape.Idx.first h_S_)).toInt = ((![j, 0, 0] : Fin 3 → ℕ) a : Int) := by
  intro a
  match a with
  | 0 => exact Idealize.ShloMosaic.toInt_ofNat_of_lt (by omega)
  | 1 => rfl
  | 2 => rfl

theorem slices4 (hj : j < 8192) : S8192x2x6x64.Slices ![j, 0, 0, 0] S1x2x6x64 :=
  ⟨rfl, fun a => match a with
    | 0 => by show j + 1 ≤ 8192; omega
    | 1 => by show 0 + _ ≤ _; decide
    | 2 => by show 0 + _ ≤ _; decide
    | 3 => by show 0 + _ ≤ _; decide⟩

theorem slices3 (hj : j < 8192) : S8192x2x6.Slices ![j, 0, 0] S1x2x6 :=
  ⟨rfl, fun a => match a with
    | 0 => by show j + 1 ≤ 8192; omega
    | 1 => by show 0 + _ ≤ _; decide
    | 2 => by show 0 + _ ≤ _; decide⟩

/-- Token `j` of an array of tokens, by head and lane. -/
theorem row4 (hj : j < 8192) (x : Vec Ideal S8192x2x6x64 .f32) (b : Fin 2) (h : Fin 6) (a : Fin 64) :
    shapeCast S2x6x64 (Host.dynamicSlice S1x2x6x64 x (fun k => ((![(constantI S_ 32 (BitVec.ofNat 32 j) : (⟨S_, .i32⟩ : BufTy).Contents (Elt Ideal)), constantI S_ 32 0#32,
      constantI S_ 32 0#32, constantI S_ 32 0#32] : Fin 4 → (⟨S_, .i32⟩ : BufTy).Contents (Elt Ideal)) k (Shape.Idx.first h_S_)).toInt)
      sliceFits_S8192x2x6x64_S1x2x6x64) shapeCasts_S1x2x6x64_S2x6x64 (ix3 b h a) = x (ix4 ⟨j, hj⟩ b h a) := by
  rw [Host.dynamicSlice_eq_extractStridedSlice S1x2x6x64 x _ ![j, 0, 0, 0] _ (slices4 j hj) (starts4 j hj)]
  pointwise

theorem row3 (hj : j < 8192) (x : Vec Ideal S8192x2x6 .f32) (b : Fin 2) (h : Fin 6) :
    shapeCast S2x6 (Host.dynamicSlice S1x2x6 x (fun k => ((![(constantI S_ 32 (BitVec.ofNat 32 j) : (⟨S_, .i32⟩ : BufTy).Contents (Elt Ideal)), constantI S_ 32 0#32,
      constantI S_ 32 0#32] : Fin 3 → (⟨S_, .i32⟩ : BufTy).Contents (Elt Ideal)) k (Shape.Idx.first h_S_)).toInt)
      sliceFits_S8192x2x6_S1x2x6) shapeCasts_S1x2x6_S2x6 (ix2 b h) = x (ix3 ⟨j, hj⟩ b h) := by
  rw [Host.dynamicSlice_eq_extractStridedSlice S1x2x6 x _ ![j, 0, 0] _ (slices3 j hj) (starts3 j hj)]
  pointwise

/-- The update of one row, by index. -/
theorem put_row (hj : j < 8192) (x : Vec Ideal S8192x2x6x64 .f32) (u : Vec Ideal S1x2x6x64 .f32) (t : Fin 8192) (b : Fin 2) (h : Fin 6) (d : Fin 64) :
    Host.dynamicUpdateSlice x u (fun k => ((![(constantI S_ 32 (BitVec.ofNat 32 j) : (⟨S_, .i32⟩ : BufTy).Contents (Elt Ideal)), constantI S_ 32 0#32,
      constantI S_ 32 0#32, constantI S_ 32 0#32] : Fin 4 → (⟨S_, .i32⟩ : BufTy).Contents (Elt Ideal)) k (Shape.Idx.first h_S_)).toInt)
      updateFits_S8192x2x6x64_S1x2x6x64 (ix4 t b h d) = if t.val = j then u (ix4 0 b h d) else x (ix4 t b h d) := by
  rw [WordCmp.dynamicUpdateSlice_eq_update x u _ _ ![j, 0, 0, 0] (slices4 j hj) (starts4 j hj)]
  unfold updateSlice
  by_cases ht : t.val = j
  · rw [if_pos ht, dif_pos (fun a => match a with
      | 0 => by show j ≤ t.val ∧ t.val < j + 1; omega
      | 1 => by show 0 ≤ b.val ∧ b.val < 0 + 2; omega
      | 2 => by show 0 ≤ h.val ∧ h.val < 0 + 6; omega
      | 3 => by show 0 ≤ d.val ∧ d.val < 0 + 64; omega)]
    refine congrArg u (funext fun a => Fin.ext ?_)
    match a with
    | 0 => show t.val - j = 0; omega
    | 1 => rfl
    | 2 => rfl
    | 3 => rfl
  · rw [if_neg ht, dif_neg fun hh => ht (by have := hh 0; change j ≤ t.val ∧ t.val < j + 1 at this; omega)]

/-- A trip's query, key, value, gate and strength are the tokens' row `j`. -/
theorem b4_apply (hj : j < 8192) (b : Fin 2) (h : Fin 6) (a : Fin 64) : b4 j s (ix3 b h a) = s.main_v13_0 (ix4 ⟨j, hj⟩ b h a) := row4 j hj _ b h a
theorem b9_apply (hj : j < 8192) (b : Fin 2) (h : Fin 6) (a : Fin 64) : b9 j s (ix3 b h a) = s.main_v13_1 (ix4 ⟨j, hj⟩ b h a) := row4 j hj _ b h a
theorem b14_apply (hj : j < 8192) (b : Fin 2) (h : Fin 6) (a : Fin 64) : b14 j s (ix3 b h a) = s.main_v13_2 (ix4 ⟨j, hj⟩ b h a) := row4 j hj _ b h a
theorem b18_apply (hj : j < 8192) (b : Fin 2) (h : Fin 6) : b18 j s (ix2 b h) = s.main_v13_3 (ix3 ⟨j, hj⟩ b h) := row3 j hj _ b h
theorem b22_apply (hj : j < 8192) (b : Fin 2) (h : Fin 6) : b22 j s (ix2 b h) = s.main_v13_4 (ix3 ⟨j, hj⟩ b h) := row3 j hj _ b h

/-- The new state at an index. -/
theorem b42_apply (b : Fin 2) (h : Fin 6) (a d : Fin 64) :
    b42 j s (ix4 b h a d) = Ideal.exp (b18 j s (ix2 b h)) *
        (s.main_v13_6 (ix4 b h a d) - b9 j s (ix3 b h a) * b22 j s (ix2 b h) * ∑ x, b9 j s (ix3 b h x) * s.main_v13_6 (ix4 b h x d)) +
      b9 j s (ix3 b h a) * b22 j s (ix2 b h) * b14 j s (ix3 b h d) := by
  unfold b42 b41 b40 b39 b38 b37 b36 b35 b34 b33 b32 b31 b30 b29 b28 b27 b26 b25 b24 b23
  generalize b9 j s = k
  generalize b22 j s = β
  generalize b14 j s = v
  generalize b18 j s = g
  pointwise

/-- The row a trip reads out, at an index. -/
theorem b43_apply (b : Fin 2) (h : Fin 6) (d : Fin 64) :
    b43 j s (ix3 b h d) = ∑ x, b4 j s (ix3 b h x) * b42 j s (ix4 b h x d) := by
  unfold b43
  generalize b4 j s = q
  generalize b42 j s = x
  pointwise

theorem b48_apply (hj : j < 8192) (t : Fin 8192) (b : Fin 2) (h : Fin 6) (d : Fin 64) :
    b48 j s (ix4 t b h d) = if t.val = j then b43 j s (ix3 b h d) else s.main_v13_7 (ix4 t b h d) := by
  refine (put_row j hj _ _ t b h d).trans ?_
  have e : b44 j s (ix4 0 b h d) = b43 j s (ix3 b h d) := by
    unfold b44
    generalize b43 j s = x
    pointwise
  rw [e]

variable (Q K V : ℕ → ℕ → Fin 64 → ℝ) (G B : ℕ → ℕ → ℝ)

/-- The tokens a trip reads are the reals `Q`, `K`, `V`, `G`, `B`, batch `b`'s rows from `8192 b` on. -/
structure Reals : Prop where
  q (t : Fin 8192) (b : Fin 2) (h : Fin 6) (a : Fin 64) : s.main_v13_0 (ix4 t b h a) = ((Q (8192 * b.val + t.val) h.val a : ℝ) : EReal)
  k (t : Fin 8192) (b : Fin 2) (h : Fin 6) (a : Fin 64) : s.main_v13_1 (ix4 t b h a) = ((K (8192 * b.val + t.val) h.val a : ℝ) : EReal)
  v (t : Fin 8192) (b : Fin 2) (h : Fin 6) (a : Fin 64) : s.main_v13_2 (ix4 t b h a) = ((V (8192 * b.val + t.val) h.val a : ℝ) : EReal)
  g (t : Fin 8192) (b : Fin 2) (h : Fin 6) : s.main_v13_3 (ix3 t b h) = ((G (8192 * b.val + t.val) h.val : ℝ) : EReal)
  b (t : Fin 8192) (b : Fin 2) (h : Fin 6) : s.main_v13_4 (ix3 t b h) = ((B (8192 * b.val + t.val) h.val : ℝ) : EReal)

variable {s} {Q K V G B}

/-- At reals a trip's new state is one token's step. -/
theorem b42_real (R : Reals s Q K V G B) (hj : j < 8192) (b : Fin 2) (h : Fin 6) (S : Mat)
    (hS : ∀ a d, s.main_v13_6 (ix4 b h a d) = ((S a d : ℝ) : EReal)) (a d : Fin 64) :
    b42 j s (ix4 b h a d) = ((tokenStep (K (8192 * b.val + j) h.val) (V (8192 * b.val + j) h.val) (G (8192 * b.val + j) h.val) (B (8192 * b.val + j) h.val) S a d : ℝ) : EReal) := by
  rw [b42_apply]
  simp only [b9_apply j s hj, b14_apply j s hj, b18_apply j s hj, b22_apply j s hj, R.k, R.v, R.g, R.b, hS]
  unfold tokenStep
  simp only [Ideal.exp_coe, ← EReal.coe_mul, ← EReal.coe_sub, ← EReal.coe_add, ← coe_sum]

/-- At reals a trip's row is the new state's transpose applied to the query. -/
theorem b43_real (R : Reals s Q K V G B) (hj : j < 8192) (b : Fin 2) (h : Fin 6) (S : Mat)
    (hS : ∀ a d, b42 j s (ix4 b h a d) = ((S a d : ℝ) : EReal)) (d : Fin 64) :
    b43 j s (ix3 b h d) = ((∑ a, Q (8192 * b.val + j) h.val a * S a d : ℝ) : EReal) := by
  rw [b43_apply]
  simp only [b4_apply j s hj, R.q, hS, ← EReal.coe_mul, ← coe_sum]

end Cert.Gdn.Token

end
-- ==== Proof.Trips.lean ====
/- The reference's loop at reals: after `n` trips its state is the recurrence's after `n` tokens, and the rows written so
   far are the read-outs of those tokens. -/
module

public import proofs.«01_k».proof.Proof.Gen.ReferenceIdeal.Run
public import proofs.«01_k».proof.Proof.Token
public import proofs.«01_k».proof.Proof.Grid

@[expose] public section

set_option maxRecDepth 16384

noncomputable section

open Idealize.ShloMosaic Idealize.ShloMosaic.TcCoe Idealize.SL.Sem
open Idealize.ShloMosaic.StableHlo
open Cert.ReferenceIdeal Cert.ReferenceIdeal.Gen Cert.ReferenceIdeal.Step Cert.ReferenceIdeal.Value
open Cert.Gdn.Token

namespace Cert.Gdn.Trips

/-- The loop's state in the buffers' contents. -/
def stateOf (V0 : Valuation τ sig (Elt Ideal)) : State Ideal where
  main_v13_6 := V0 (Proc.devRef .tc main_v13_6)
  main_v13_7 := V0 (Proc.devRef .tc main_v13_7)
  main_v13_0 := V0 (Proc.devRef .tc main_v13_0)
  main_v13_1 := V0 (Proc.devRef .tc main_v13_1)
  main_v13_2 := V0 (Proc.devRef .tc main_v13_2)
  main_v13_3 := V0 (Proc.devRef .tc main_v13_3)
  main_v13_4 := V0 (Proc.devRef .tc main_v13_4)

theorem stateOf_STEP (j : ℕ) (V0 : Valuation τ sig (Elt Ideal)) (hn : V0 (Proc.devRef .tc main_v13_5) = constantI S_ 32 (BitVec.ofNat 32 j)) :
    stateOf (STEP V0) = step j (stateOf V0) := by
  have h6 : Value.step_main_v13_6 V0 = b42 j (stateOf V0) := by
    unfold Value.step_main_v13_6 res_main_while0b_v58 res_main_while0b_v41 res_main_while0b_v35
    simp only [hn]
    rfl
  have h7 : Value.step_main_v13_7 V0 = b48 j (stateOf V0) := by
    unfold Value.step_main_v13_7 res_main_while0b_v58 res_main_while0b_v41 res_main_while0b_v35
    simp only [hn]
    rfl
  unfold stateOf
  rw [STEP_main_v13_0, STEP_main_v13_1, STEP_main_v13_2, STEP_main_v13_3, STEP_main_v13_4, STEP_main_v13_6, STEP_main_v13_7, h6, h7]
  rfl

section

variable (m : ((l : Loc nD τ sig) → Buf (Elt Ideal) l)) (c : Dev nD)

/-- The loop's state before trip `n`. -/
def before (n : ℕ) : State Ideal := stateOf (STEP^[n] (entryContents preI m c))

theorem counter (n : ℕ) : (STEP^[n] (entryContents preI m c)) (Proc.devRef .tc main_v13_5) = (constantI S_ 32 (BitVec.ofNat 32 n) : (⟨S_, .i32⟩ : BufTy).Contents (Elt Ideal)) := by
  induction n with
  | zero => exact ctr_entry m c
  | succ n ih =>
    rw [Function.iterate_succ_apply', STEP_main_v13_5]
    unfold step_main_v13_5
    rw [ih]
    funext i
    show BitVec.ofNat 32 n + 1#32 = BitVec.ofNat 32 (n + 1)
    exact (BitVec.ofNat_add n 1).symm

theorem before_succ (n : ℕ) : before m c (n + 1) = step n (before m c n) := by
  unfold before
  rw [Function.iterate_succ_apply']
  exact stateOf_STEP n _ (counter m c n)

theorem before_zero : before m c 0 = init (m ((c : Thread nD τ).loc main_arg5)) (m ((c : Thread nD τ).loc main_arg0)) (m ((c : Thread nD τ).loc main_arg1))
    (m ((c : Thread nD τ).loc main_arg2)) (m ((c : Thread nD τ).loc main_arg3)) := by
  have e6 : entryContents preI m c (Proc.devRef .tc main_v13_6) = m ((c : Thread nD τ).loc main_arg5) := by
    simp only [entryContents, afterL_cons, afterL_nil]; after_reads_simp; rfl
  have e7 : entryContents preI m c (Proc.devRef .tc main_v13_7) = (K_main_v12 (F := Ideal)) := by
    simp only [entryContents, afterL_cons, afterL_nil]; after_reads_simp; rfl
  have e0 : entryContents preI m c (Proc.devRef .tc main_v13_0) = A_main_v1 (m ((c : Thread nD τ).loc main_arg0)) (m ((c : Thread nD τ).loc main_arg1))
      (m ((c : Thread nD τ).loc main_arg2)) (m ((c : Thread nD τ).loc main_arg3)) := by
    simp only [entryContents, afterL_cons, afterL_nil]; after_reads_simp; rfl
  have e1 : entryContents preI m c (Proc.devRef .tc main_v13_1) = A_main_v3 (m ((c : Thread nD τ).loc main_arg0)) (m ((c : Thread nD τ).loc main_arg1))
      (m ((c : Thread nD τ).loc main_arg2)) (m ((c : Thread nD τ).loc main_arg3)) := by
    simp only [entryContents, afterL_cons, afterL_nil]; after_reads_simp; rfl
  have e2 : entryContents preI m c (Proc.devRef .tc main_v13_2) = A_main_v5 (m ((c : Thread nD τ).loc main_arg0)) (m ((c : Thread nD τ).loc main_arg1))
      (m ((c : Thread nD τ).loc main_arg2)) (m ((c : Thread nD τ).loc main_arg3)) := by
    simp only [entryContents, afterL_cons, afterL_nil]; after_reads_simp; rfl
  have e3 : entryContents preI m c (Proc.devRef .tc main_v13_3) = A_main_v8 (m ((c : Thread nD τ).loc main_arg0)) (m ((c : Thread nD τ).loc main_arg1))
      (m ((c : Thread nD τ).loc main_arg2)) (m ((c : Thread nD τ).loc main_arg3)) := by
    simp only [entryContents, afterL_cons, afterL_nil]; after_reads_simp; rfl
  have e4 : entryContents preI m c (Proc.devRef .tc main_v13_4) = A_main_v11 (m ((c : Thread nD τ).loc main_arg0)) (m ((c : Thread nD τ).loc main_arg1))
      (m ((c : Thread nD τ).loc main_arg2)) (m ((c : Thread nD τ).loc main_arg3)) := by
    simp only [entryContents, afterL_cons, afterL_nil]; after_reads_simp; rfl
  unfold before stateOf
  rw [Function.iterate_zero, id_eq, e0, e1, e2, e3, e4, e6, e7]
  rfl

end

/-- A token's row of an argument with a head's 64 lanes side by side. -/
theorem tokens4 (x : Vec Ideal S16384x384 .f32) (t : Fin 8192) (b : Fin 2) (h : Fin 6) (a : Fin 64) :
    transpose S8192x2x6x64 [1, 0, 2, 3] (shapeCast S2x8192x6x64 x shapeCasts_S16384x384_S2x8192x6x64) transposes_S2x8192x6x64_S8192x2x6x64_1_0_2_3 (ix4 t b h a)
      = x (ix2 ⟨8192 * b.val + t.val, by omega⟩ ⟨64 * h.val + a.val, by omega⟩) := by
  pointwise
  simp only [Nat.mul_comm _ 8192, Nat.mul_comm _ 64]

theorem tokens3 (o : ℕ) (ho : o + 6 ≤ 128) (x : Vec Ideal S16384x128 .f32) (hs : S16384x128.Slices ![0, o] S16384x6) (t : Fin 8192) (b : Fin 2) (h : Fin 6) :
    transpose S8192x2x6 [1, 0, 2] (shapeCast S2x8192x6 (extractStridedSlice S16384x6 ![0, o] x hs) shapeCasts_S16384x6_S2x8192x6) transposes_S2x8192x6_S8192x2x6_1_0_2 (ix3 t b h)
      = x (ix2 ⟨8192 * b.val + t.val, by omega⟩ ⟨o + h.val, by omega⟩) := by
  pointwise
  simp only [Nat.mul_comm _ 8192, Nat.mul_comm _ 64]

section

variable (Q K V : ℕ → ℕ → Fin 64 → ℝ) (G B : ℕ → ℕ → ℝ) (S0 : ℕ → ℕ → Mat)
variable (m : ((l : Loc nD τ sig) → Buf (Elt Ideal) l)) (c : Dev nD)

/-- The arguments are the reals `Q`, `K`, `V`, `G`, `B` and `S0`. -/
structure Args : Prop where
  q : ∀ (r : Fin 16384) (l : Fin 384), m ((c : Thread nD τ).loc main_arg0) (ix2 r l)
    = ((Q r.val (l.val / 64) ⟨l.val % 64, Nat.mod_lt _ (by decide)⟩ : ℝ) : EReal)
  k : ∀ (r : Fin 16384) (l : Fin 384), m ((c : Thread nD τ).loc main_arg1) (ix2 r l)
    = ((K r.val (l.val / 64) ⟨l.val % 64, Nat.mod_lt _ (by decide)⟩ : ℝ) : EReal)
  v : ∀ (r : Fin 16384) (l : Fin 384), m ((c : Thread nD τ).loc main_arg2) (ix2 r l)
    = ((V r.val (l.val / 64) ⟨l.val % 64, Nat.mod_lt _ (by decide)⟩ : ℝ) : EReal)
  g : ∀ (r : Fin 16384) (h : ℕ) (hl : 68 + h < 128), h < 6 → m ((c : Thread nD τ).loc main_arg3) (ix2 r ⟨68 + h, hl⟩) = ((G r.val h : ℝ) : EReal)
  b : ∀ (r : Fin 16384) (h : ℕ) (hl : 74 + h < 128), h < 6 → m ((c : Thread nD τ).loc main_arg3) (ix2 r ⟨74 + h, hl⟩) = ((B r.val h : ℝ) : EReal)
  s : ∀ (b : Fin 2) (h : Fin 6) (a d : Fin 64), m ((c : Thread nD τ).loc main_arg5) (ix4 b h a d) = ((S0 b.val h.val a d : ℝ) : EReal)

/-- What holds before trip `n`. -/
structure At (n : ℕ) : Prop where
  toks : Reals (before m c n) Q K V G B
  st : ∀ (b : Fin 2) (h : Fin 6) (a d : Fin 64), (before m c n).main_v13_6 (ix4 b h a d) = ((runState K V G B S0 b.val h.val n a d : ℝ) : EReal)
  out : ∀ (t : Fin 8192) (b : Fin 2) (h : Fin 6) (d : Fin 64), t.val < n →
    (before m c n).main_v13_7 (ix4 t b h d) = ((runOut Q K V G B S0 b.val h.val t.val d : ℝ) : EReal)

/-- A head's lane in a row. -/
theorem lane_eq (X : ℕ → ℕ → Fin 64 → ℝ) (r : ℕ) (h : Fin 6) (a : Fin 64) :
    X r ((64 * h.val + a.val) / 64) ⟨(64 * h.val + a.val) % 64, Nat.mod_lt _ (by decide)⟩ = X r h.val a := by
  have e1 : (64 * h.val + a.val) / 64 = h.val := by omega
  have e2 : (⟨(64 * h.val + a.val) % 64, Nat.mod_lt _ (by decide)⟩ : Fin 64) = a := Fin.ext (by show (64 * h.val + a.val) % 64 = a.val; omega)
  rw [e1, e2]

variable {Q K V G B S0} {m c}

theorem at_zero (H : Args Q K V G B S0 m c) : At Q K V G B S0 m c 0 where
  toks := by
    rw [before_zero]
    exact
      { q := fun t b h a => (tokens4 _ t b h a).trans ((H.q _ _).trans (congrArg _ (lane_eq Q _ h a)))
        k := fun t b h a => (tokens4 _ t b h a).trans ((H.k _ _).trans (congrArg _ (lane_eq K _ h a)))
        v := fun t b h a => (tokens4 _ t b h a).trans ((H.v _ _).trans (congrArg _ (lane_eq V _ h a)))
        g := fun t b h => (tokens3 68 (by decide) _ slices_S16384x128_S16384x6_0_68 t b h).trans (H.g _ h.val (by omega) h.isLt)
        b := fun t b h => (tokens3 74 (by decide) _ slices_S16384x128_S16384x6_0_74 t b h).trans (H.b _ h.val (by omega) h.isLt) }
  st := fun b h a d => by
    rw [before_zero]
    exact H.s b h a d
  out := fun t b h d ht => absurd ht (Nat.not_lt_zero _)

theorem at_succ (n : ℕ) (hn : n < 8192) (A : At Q K V G B S0 m c n) : At Q K V G B S0 m c (n + 1) := by
  have hst : ∀ (b : Fin 2) (h : Fin 6) (a d : Fin 64), b42 n (before m c n) (ix4 b h a d) = ((runState K V G B S0 b.val h.val (n + 1) a d : ℝ) : EReal) :=
    fun b h a d => b42_real n A.toks hn b h _ (A.st b h) a d
  have e := before_succ m c n
  refine ⟨?_, ?_, ?_⟩
  · rw [e]
    exact ⟨A.toks.q, A.toks.k, A.toks.v, A.toks.g, A.toks.b⟩
  · rw [e]
    exact hst
  · intro t b h d ht
    rw [e]
    refine (b48_apply n _ hn t b h d).trans ?_
    by_cases htn : t.val = n
    · rw [if_pos htn, b43_real n A.toks hn b h _ (hst b h) d, htn]
      rfl
    · rw [if_neg htn]
      exact A.out t b h d (by omega)

theorem at_all (H : Args Q K V G B S0 m c) : ∀ n ≤ 8192, At Q K V G B S0 m c n
  | 0, _ => at_zero H
  | n + 1, hn => at_succ n (by omega) (at_all H n (by omega))

end

/-- The operations after the loop, at row `r`, lane `l`, where the rows the loop wrote are reals. -/
theorem post_apply (s : State Ideal) (p : Vec Ideal S17408x3840 .f32) (w : Vec Ideal S1x64 .f32) (r : Fin 16384) (l : Fin 384) (f : Fin 64 → ℝ)
    (hf : ∀ d, s.main_v13_7 (ix4 ⟨r.val % 8192, Nat.mod_lt _ (by decide)⟩ ⟨r.val / 8192, by omega⟩ ⟨l.val / 64, by omega⟩ d) = ((f d : ℝ) : EReal)) :
    R_main_v33 s p w (ix2 r l) = yEntry f (p (ix2 ⟨r.val, by omega⟩ ⟨3072 + l.val, by omega⟩)) (w (ix2 0 ⟨l.val % 64, Nat.mod_lt _ (by decide)⟩))
      ⟨l.val % 64, Nat.mod_lt _ (by decide)⟩ := by
  unfold R_main_v33 yEntry
  simp only [← hf]
  generalize s.main_v13_7 = o
  pointwise
  simp only [zero_sub]

theorem out_eq (V0 : Valuation τ sig (Elt Ideal)) :
    out_main_v33 V0 = R_main_v33 (stateOf V0) (V0 (Proc.devRef .tc main_arg4)) (V0 (Proc.devRef .tc main_arg6)) := rfl

variable {Q K V : ℕ → ℕ → Fin 64 → ℝ} {G B : ℕ → ℕ → ℝ} {S0 : ℕ → ℕ → Mat}
variable {m : ((l : Loc nD τ sig) → Buf (Elt Ideal) l)} {c : Dev nD}

/-- The reference's state, entry by entry. -/
theorem state_apply (n : ℕ) (A : At Q K V G B S0 m c n) (b : Fin 2) (h : Fin 6) (a d : Fin 64) :
    ((STEP^[n] (entryContents preI m c)) (Proc.devRef .tc main_v13_6) : Vec Ideal S2x6x64x64 .f32) (ix4 b h a d) = ((runState K V G B S0 b.val h.val n a d : ℝ) : EReal) :=
  A.st b h a d

/-- The reference's `y` at row `r`, lane `l`. -/
theorem out_apply (A : At Q K V G B S0 m c 8192) (r : Fin 16384) (l : Fin 384) :
    out_main_v33 (STEP^[8192] (entryContents preI m c)) (ix2 r l) =
      yEntry (runOut Q K V G B S0 (r.val / 8192) (l.val / 64) (r.val % 8192))
        ((m ((c : Thread nD τ).loc main_arg4) : Vec Ideal S17408x3840 .f32) (ix2 ⟨r.val, by omega⟩ ⟨3072 + l.val, by omega⟩))
        ((m ((c : Thread nD τ).loc main_arg6) : Vec Ideal S1x64 .f32) (ix2 0 ⟨l.val % 64, Nat.mod_lt _ (by decide)⟩)) ⟨l.val % 64, Nat.mod_lt _ (by decide)⟩ := by
  rw [out_eq, iter_main_arg4, iter_main_arg6]
  exact post_apply (before m c 8192) _ _ r l _ fun d => A.out _ _ _ d (Nat.mod_lt _ (by decide))

end Cert.Gdn.Trips

end
-- ==== Proof.Finite.lean ====
/- What the precondition `finite` says: the entries it names are real numbers. -/
module

public import proofs.«01_k».proof.Pre_finite
public import Idealize.ShloMosaic.Lib.ReduceAll
public import Idealize.ShloMosaic.Lib.Pointwise
public import Idealize.ShloMosaic.Lib.Affine

@[expose] public section

set_option maxRecDepth 16384

noncomputable section

open Idealize.ShloMosaic

namespace Cert.Gdn.Finite

/-- An entry whose size is below infinity is a real number. -/
theorem real_of_lt {s : Shape} (x : FVec Ideal s .f32) (i : s.Idx) (hb : (⟨0, ![]⟩ : Shape).BroadcastsInDim s (![] : Fin 0 → Fin s.rank))
    (h : cmpf (F := Ideal) .olt (Host.absf x) (broadcastInDim s ![] hb (constant ⟨0, ![]⟩ .f32 0x7F800000#32)) i = 1#1) : x i = ((x i).toReal : EReal) := by
  revert h
  pointwise
  intro h
  have htop : Ideal.ofBits FTy.f32 2139095040#32 = ⊤ := by simp [Ideal.ofBits, Ideal.ieee]
  have hlt : max (x i) (-(x i)) < ⊤ := by
    by_contra hn
    rw [Ideal.absf_def, htop, decide_eq_false hn] at h
    exact absurd h (by decide)
  refine (EReal.coe_toReal ?_ ?_).symm
  · intro e
    rw [e] at hlt
    exact absurd (lt_of_le_of_lt (le_max_left _ _) hlt) (lt_irrefl _)
  · intro e
    rw [e] at hlt
    exact absurd (lt_of_le_of_lt (le_max_right _ _) hlt) (by rw [EReal.neg_bot]; exact lt_irrefl _)

instance : Subsingleton (Shape.Idx (⟨0, ![]⟩ : Shape)) := ⟨fun a b => funext fun i => i.elim0⟩

/-- The precondition's shape relations. -/
instance facts : Cert.Pre_finite.Facts where
  bcast_S_S16384x384 := by decide
  reducesTo_S16384x384_S_d0_1 := by decide
  h_S_ := by decide
  slices_S16384x128_S16384x12_0_68 := by decide
  bcast_S_S16384x12 := by decide
  reducesTo_S16384x12_S_d0_1 := by decide
  bcast_S_S2x6x64x64 := by decide
  reducesTo_S2x6x64x64_S_d0_1_2_3 := by decide

theorem and_one {s : Shape} {a b : IVec s 1} {i : s.Idx} (h : andi a b i = 1#1) : a i = 1#1 ∧ b i = 1#1 := by
  have h' : IntOp.andi (a i) (b i) = 1#1 := h
  generalize a i = x at h' ⊢
  generalize b i = y at h' ⊢
  revert x y
  decide

open Cert.Pre_finite in
/-- Under the precondition `q`, `k`, `v`, the gates, the strengths and the initial state are real. -/
theorem decode (q k v : FVec Ideal S16384x384 .f32) (g : FVec Ideal S16384x128 .f32) (p : FVec Ideal S17408x3840 .f32) (s : FVec Ideal S2x6x64x64 .f32)
    (w : FVec Ideal S1x64 .f32) (i₀ : S_.Idx) (e : fn (F := Ideal) q k v g p s w i₀ = 1#1) :
    (∀ i, q i = ((q i).toReal : EReal)) ∧ (∀ i, k i = ((k i).toReal : EReal)) ∧ (∀ i, v i = ((v i).toReal : EReal)) ∧
      (∀ (r : Fin 16384) (l : Fin 12), g (ix2 r ⟨68 + l.val, by omega⟩) = ((g (ix2 r ⟨68 + l.val, by omega⟩)).toReal : EReal)) ∧
      (∀ i, s i = ((s i).toReal : EReal)) := by
  unfold fn fn_part1 at e
  dsimp only at e
  obtain ⟨e, hs⟩ := and_one e
  obtain ⟨e, hg⟩ := and_one e
  obtain ⟨e, hv⟩ := and_one e
  obtain ⟨hq, hk⟩ := and_one e
  refine ⟨fun i => real_of_lt q i _ (Host.reduce_andi_all _ _ _ _ _ hq i), fun i => real_of_lt k i _ (Host.reduce_andi_all _ _ _ _ _ hk i),
    fun i => real_of_lt v i _ (Host.reduce_andi_all _ _ _ _ _ hv i), fun r l => ?_, fun i => real_of_lt s i _ (Host.reduce_andi_all _ _ _ _ _ hs i)⟩
  have := real_of_lt _ (ix2 r l) _ (Host.reduce_andi_all _ _ _ _ _ hg (ix2 r l))
  have hsl : ∀ hh, extractStridedSlice S16384x12 ![0, 68] g hh (ix2 r l) = g (ix2 r ⟨68 + l.val, by omega⟩) := by
    intro hh
    pointwise
  rw [hsl] at this
  exact this

end Cert.Gdn.Finite

end
-- ==== Proof.Tie.lean ====
/- The kernel's two results and the reference's are equal, of equal arguments under the precondition. -/
module

public import proofs.«01_k».proof.Proof.KernelOut
public import proofs.«01_k».proof.Proof.Trips
public import proofs.«01_k».proof.Proof.Finite

@[expose] public section

set_option maxRecDepth 16384

noncomputable section

open Idealize.ShloMosaic Idealize.ShloMosaic.TcCoe Idealize.SL.Sem
open Idealize.ShloMosaic.StableHlo
open Cert.ReferenceIdeal.Value (STEP preI out_main_v33)

namespace Cert.Gdn.Tie

abbrev KMem : Type := (l : Loc Cert.KernelIdeal.nD Cert.KernelIdeal.τ Cert.KernelIdeal.sig) → Buf (Elt Ideal) l
abbrev RMem : Type := (l : Loc Cert.ReferenceIdeal.nD Cert.ReferenceIdeal.τ Cert.ReferenceIdeal.sig) → Buf (Elt Ideal) l

/-- An array's row `r`, head `h`, as reals. -/
def heads (x : FVec Ideal ⟨2, ![16384, 384]⟩ .f32) : ℕ → ℕ → Fin 64 → ℝ := fun r h a =>
  if H : r < 16384 ∧ h < 6 then (x (ix2 ⟨r, H.1⟩ ⟨64 * h + a.val, by omega⟩)).toReal else 0

/-- Lane `o + h` of an array's row `r`, as a real. -/
def lanesFrom (o : ℕ) (x : FVec Ideal ⟨2, ![16384, 128]⟩ .f32) : ℕ → ℕ → ℝ := fun r h =>
  if H : r < 16384 ∧ o + h < 128 then (x (ix2 ⟨r, H.1⟩ ⟨o + h, H.2⟩)).toReal else 0

/-- The initial state of batch `b`, head `h`, as reals. -/
def start (x : FVec Ideal ⟨4, ![2, 6, 64, 64]⟩ .f32) : ℕ → ℕ → Mat := fun b h a d =>
  if H : b < 2 ∧ h < 6 then (x (ix4 ⟨b, H.1⟩ ⟨h, H.2⟩ a d)).toReal else 0

theorem heads_eq (x : FVec Ideal ⟨2, ![16384, 384]⟩ .f32) (hx : ∀ i, x i = ((x i).toReal : EReal)) (r : Fin 16384) (l : Fin 384) :
    x (ix2 r l) = ((heads x r.val (l.val / 64) ⟨l.val % 64, Nat.mod_lt _ (by decide)⟩ : ℝ) : EReal) := by
  unfold heads
  rw [dif_pos ⟨r.isLt, by omega⟩]
  have e : (⟨64 * (l.val / 64) + l.val % 64, by omega⟩ : Fin 384) = l := Fin.ext (by show 64 * (l.val / 64) + l.val % 64 = l.val; omega)
  show _ = (((x (ix2 r ⟨64 * (l.val / 64) + l.val % 64, _⟩)).toReal : ℝ) : EReal)
  rw [e]
  exact hx _

theorem lanesFrom_eq (o : ℕ) (x : FVec Ideal ⟨2, ![16384, 128]⟩ .f32) (r : Fin 16384) (h : ℕ) (hl : o + h < 128)
    (hx : x (ix2 r ⟨o + h, hl⟩) = ((x (ix2 r ⟨o + h, hl⟩)).toReal : EReal)) :
    x (ix2 r ⟨o + h, hl⟩) = ((lanesFrom o x r.val h : ℝ) : EReal) := by
  unfold lanesFrom
  rw [dif_pos ⟨r.isLt, hl⟩]
  exact hx

theorem shift (x : FVec Ideal ⟨2, ![16384, 128]⟩ .f32) (r : Fin 16384) (h : ℕ) (hl : 74 + h < 128)
    (e : x (ix2 r ⟨68 + (6 + h), by omega⟩) = ((x (ix2 r ⟨68 + (6 + h), by omega⟩)).toReal : EReal)) :
    x (ix2 r ⟨74 + h, hl⟩) = ((x (ix2 r ⟨74 + h, hl⟩)).toReal : EReal) := by
  have e' : (⟨68 + (6 + h), by omega⟩ : Fin 128) = ⟨74 + h, hl⟩ := Fin.ext (by show 68 + (6 + h) = 74 + h; omega)
  rw [← e']
  exact e

theorem start_eq (x : FVec Ideal ⟨4, ![2, 6, 64, 64]⟩ .f32) (hx : ∀ i, x i = ((x i).toReal : EReal)) (b : Fin 2) (h : Fin 6) (a d : Fin 64) :
    x (ix4 b h a d) = ((start x b.val h.val a d : ℝ) : EReal) := by
  unfold start
  rw [dif_pos ⟨b.isLt, h.isLt⟩]
  exact hx _

section

variable (m : KMem) (m' : RMem) (c : Dev Cert.KernelIdeal.nD)

/-- The two memories hold the same arguments. -/
structure Same : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- Both results agree: `y`, and the last state. -/
theorem results (E : Same m m' c)
    (hpre : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = fun _ => 1#1) :
    out_main_v33 (STEP^[8192] (entryContents preI m' c)) = Cert.KernelIdeal.Value.G7 m c ∧
      (STEP^[8192] (entryContents preI m' c)) (Proc.devRef .tc Cert.ReferenceIdeal.main_v13_6) = Cert.KernelIdeal.Value.G8 m c := by
  obtain ⟨hq, hk, hv, hg, hs⟩ := Finite.decode _ _ _ _ _ _ _ (fun i => i.elim0) (congrFun hpre _)
  have HK : RealArgs (heads (m ((c.tc : Thread Cert.KernelIdeal.nD Cert.KernelIdeal.τ).loc Cert.KernelIdeal.main_arg0))) (heads (m ((c.tc : Thread Cert.KernelIdeal.nD Cert.KernelIdeal.τ).loc Cert.KernelIdeal.main_arg1)))
      (heads (m ((c.tc : Thread Cert.KernelIdeal.nD Cert.KernelIdeal.τ).loc Cert.KernelIdeal.main_arg2))) (lanesFrom 68 (m ((c.tc : Thread Cert.KernelIdeal.nD Cert.KernelIdeal.τ).loc Cert.KernelIdeal.main_arg3)))
      (lanesFrom 74 (m ((c.tc : Thread Cert.KernelIdeal.nD Cert.KernelIdeal.τ).loc Cert.KernelIdeal.main_arg3))) (start (m ((c.tc : Thread Cert.KernelIdeal.nD Cert.KernelIdeal.τ).loc Cert.KernelIdeal.main_arg5))) m c :=
    { q := heads_eq _ hq
      k := heads_eq _ hk
      v := heads_eq _ hv
      g := fun r h hl hh => lanesFrom_eq 68 _ r h hl (hg r ⟨h, by omega⟩)
      b := fun r h hl hh => lanesFrom_eq 74 _ r h hl (shift _ r h hl (hg r ⟨6 + h, by omega⟩))
      s := start_eq _ hs }
  generalize heads (m ((c.tc : Thread Cert.KernelIdeal.nD Cert.KernelIdeal.τ).loc Cert.KernelIdeal.main_arg0)) = Q at HK
  generalize heads (m ((c.tc : Thread Cert.KernelIdeal.nD Cert.KernelIdeal.τ).loc Cert.KernelIdeal.main_arg1)) = K at HK
  generalize heads (m ((c.tc : Thread Cert.KernelIdeal.nD Cert.KernelIdeal.τ).loc Cert.KernelIdeal.main_arg2)) = V at HK
  generalize lanesFrom 68 (m ((c.tc : Thread Cert.KernelIdeal.nD Cert.KernelIdeal.τ).loc Cert.KernelIdeal.main_arg3)) = G at HK
  generalize lanesFrom 74 (m ((c.tc : Thread Cert.KernelIdeal.nD Cert.KernelIdeal.τ).loc Cert.KernelIdeal.main_arg3)) = B at HK
  generalize start (m ((c.tc : Thread Cert.KernelIdeal.nD Cert.KernelIdeal.τ).loc Cert.KernelIdeal.main_arg5)) = S0 at HK
  have HR : Trips.Args Q K V G B S0 m' c :=
    { q := fun r l => (congrFun E.a0 _).trans (HK.q r l)
      k := fun r l => (congrFun E.a1 _).trans (HK.k r l)
      v := fun r l => (congrFun E.a2 _).trans (HK.v r l)
      g := fun r h hl hh => (congrFun E.a3 _).trans (HK.g r h hl hh)
      b := fun r h hl hh => (congrFun E.a3 _).trans (HK.b r h hl hh)
      s := fun b h a d => (congrFun E.a5 _).trans (HK.s b h a d) }
  have A := Trips.at_all HR 8192 (le_refl _)
  constructor
  · funext i
    obtain ⟨r, l, rfl⟩ : ∃ r l, i = ix2 r l := ⟨i 0, i 1, funext fun a => match a with
      | 0 => rfl
      | 1 => rfl⟩
    refine ((Trips.out_apply A r l).trans ?_).trans (G7_eq Q K V G B S0 m c HK r l).symm
    exact congrArg₂ (fun z w => yEntry (runOut Q K V G B S0 (r.val / 8192) (l.val / 64) (r.val % 8192)) z w ⟨l.val % 64, Nat.mod_lt _ (by decide)⟩)
      (congrFun E.a4 _) (congrFun E.a6 _)
  · funext i
    obtain ⟨b, h, a, d, rfl⟩ : ∃ b h a d, i = ix4 b h a d := ⟨i 0, i 1, i 2, i 3, funext fun a => match a with
      | 0 => rfl
      | 1 => rfl
      | 2 => rfl
      | 3 => rfl⟩
    exact (Trips.state_apply 8192 A b h a d).trans (G8_eq Q K V G B S0 m c HK b h a d).symm

end

end Cert.Gdn.Tie

end
-- ==== Proof.Norm.lean ====
/- The row norm that opens the projections and the feed-forward halves, as one formula over a row. -/
module

public import Idealize.ShloMosaic.Lib.VecWindow
public import Idealize.ShloMosaic.Lib.Pipeline.ValueKit
public import Idealize.ShloMosaic.Lib.Pipeline.ReadBack

@[expose] public section

noncomputable section

open Idealize.ShloMosaic

namespace Cert.Layer

/-- Entry `k` of the row `x` divided by its root mean square and scaled by `g`. -/
def normed (x g : Fin 1024 → EReal) (k : Fin 1024) : EReal :=
  x k * Ideal.rsqrt (Ideal.div (∑ i, x i * x i) (Ideal.ofBits .f32 0x44800000#32) + Ideal.ofBits .f32 0x358637BD#32) * g k

/-- The gated unit's entry from the two products `a` and `b`: `a` through the sigmoid gate, times `b`. -/
def gated (a b : EReal) : EReal := a * Ideal.div (Ideal.ofBits .f32 0x3F800000#32) (Ideal.ofBits .f32 0x3F800000#32 + Ideal.exp (-a)) * b

end Cert.Layer

end
-- ==== Proof.Ext.lean ====
/- A staging array of rows whose first eight were carried over and whose others are new, read entry by entry; and a sequence
   that goes on from earlier rows. -/
module

public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Conv

/-- The sequence `a` followed by `u`, read at position `n`. -/
def after {k T : ℕ} (a : Fin k → EReal) (u : Fin T → EReal) (n : ℕ) : EReal :=
  if h : n < k then a ⟨n, h⟩ else if h' : n - k < T then u ⟨n - k, h'⟩ else 0

theorem after_lt {k T : ℕ} (a : Fin k → EReal) (u : Fin T → EReal) (n : ℕ) (h : n < k) : after a u n = a ⟨n, h⟩ := dif_pos h

theorem after_ge {k T : ℕ} (a : Fin k → EReal) (u : Fin T → EReal) (n i : ℕ) (hi : i < T) (h : n = i + k) : after a u n = u ⟨i, hi⟩ := by
  subst h
  unfold after
  rw [dif_neg (by omega), dif_pos (by omega)]
  exact congrArg u (Fin.ext (by show i + k - k = i; omega))

section

variable {B T N W : ℕ} (iu : ∀ a, (![0, 8, 0] : Fin 3 → Nat) a + (![B, T, W] : Fin 3 → Nat) a ≤ (⟨3, ![B, N, W]⟩ : Shape).size a)
  (ih : ∀ a, (![0, 0, 0] : Fin 3 → Nat) a + (![B, 8, W] : Fin 3 → Nat) a ≤ (⟨3, ![B, N, W]⟩ : Shape).size a)
  (u : Vec Ideal (⟨3, ![B, T, W]⟩ : Shape) .f32) (h : Vec Ideal (⟨3, ![B, 8, W]⟩ : Shape) .f32)

/-- New rows `u` behind eight carried rows `h`. -/
abbrev pieces : List (View.Piece (Elt Ideal) (⟨3, ![B, N, W]⟩ : Shape) .f32) :=
  [⟨Rect.unit ![0, 8, 0] ![B, T, W] iu, u⟩, ⟨Rect.unit ![0, 0, 0] ![B, 8, W] ih, h⟩]

theorem ext_new (b : Fin B) (k : Fin N) (l : Fin W) (i : Fin T) (hk : k.val = 8 + i.val) : View.canon (pieces iu ih u h) (ix3 b k l) = u (ix3 b i l) := by
  have he : (ix3 b k l : (⟨3, ![B, N, W]⟩ : Shape).Idx) = (Rect.unit ![0, 8, 0] ![B, T, W] iu).emb (ix3 b i l) := by
    funext a
    refine Fin.ext ?_
    rw [Rect.emb_apply]
    match a with
    | 0 => show b.val = 0 + 1 * b.val; omega
    | 1 => show k.val = 8 + 1 * i.val; omega
    | 2 => show l.val = 0 + 1 * l.val; omega
  rw [he, View.canon_cons_emb]

omit u h ih in
theorem old_not_mem (b : Fin B) (k : Fin N) (l : Fin W) (hk : k.val < 8) :
    (ix3 b k l : (⟨3, ![B, N, W]⟩ : Shape).Idx) ∉ (Rect.unit (s := (⟨3, ![B, N, W]⟩ : Shape)) ![0, 8, 0] ![B, T, W] iu).set := fun hm => by
  obtain ⟨x, hx⟩ := (Rect.unit (s := (⟨3, ![B, N, W]⟩ : Shape)) ![0, 8, 0] ![B, T, W] iu).exists_idx_of_mem hm
  have h1 : ((Rect.unit (s := (⟨3, ![B, N, W]⟩ : Shape)) ![0, 8, 0] ![B, T, W] iu).emb x 1).val = k.val := congrArg (fun y => Fin.val (y 1)) hx
  rw [Rect.emb_apply] at h1
  exact absurd (lt_of_le_of_lt (Nat.le_add_right 8 _) (lt_of_eq_of_lt h1 hk)) (Nat.lt_irrefl 8)

theorem ext_old (b : Fin B) (k : Fin N) (l : Fin W) (i : Fin 8) (hk : k.val = i.val) : View.canon (pieces iu ih u h) (ix3 b k l) = h (ix3 b i l) := by
  have he : (ix3 b k l : (⟨3, ![B, N, W]⟩ : Shape).Idx) = (Rect.unit ![0, 0, 0] ![B, 8, W] ih).emb (ix3 b i l) := by
    funext a
    refine Fin.ext ?_
    rw [Rect.emb_apply]
    match a with
    | 0 => show b.val = 0 + 1 * b.val; omega
    | 1 => show k.val = 0 + 1 * i.val; omega
    | 2 => show l.val = 0 + 1 * l.val; omega
  have hk8 : k.val < 8 := lt_of_eq_of_lt hk i.isLt
  have hn := old_not_mem iu b k l hk8
  have hc := View.canon_cons_of_not_mem (⟨Rect.unit ![0, 8, 0] ![B, T, W] iu, u⟩ : View.Piece (Elt Ideal) (⟨3, ![B, N, W]⟩ : Shape) .f32)
    [⟨Rect.unit ![0, 0, 0] ![B, 8, W] ih, h⟩] hn
  rw [hc, he, View.canon_cons_emb]

end

/-- A window of rows read off a staging array written in pieces. -/
theorem readCov_rows {B T N W : ℕ} {sig : RefSig} {κ : Kind} {sp : Space} (v : View sig κ sp (⟨3, ![B, N, W]⟩ : Shape) .f32)
    (L : List (View.Piece (Elt Ideal) (⟨3, ![B, N, W]⟩ : Shape) .f32)) (o : ℕ)
    (ho : ∀ a, (![0, o, 0] : Fin 3 → Nat) a + (![B, T, W] : Fin 3 → Nat) a ≤ (⟨3, ![B, N, W]⟩ : Shape).size a)
    (b : Fin B) (i : Fin T) (l : Fin W) (k : Fin N) (hk : k.val = o + i.val) :
    v.readCov L (Rect.unit (s := (⟨3, ![B, N, W]⟩ : Shape)) ![0, o, 0] ![B, T, W] ho).toLoadRect (ix3 b i l) = View.canon L (ix3 b k l) := by
  rw [View.readCov_eq_canon']
  refine congrArg (View.canon L) (funext fun a => Fin.ext ?_)
  refine (Rect.emb_apply _ _ _).trans ?_
  match a with
  | 0 => show 0 + 1 * b.val = b.val; omega
  | 1 => show o + 1 * i.val = k.val; omega
  | 2 => show 0 + 1 * l.val = l.val; omega

theorem ld_rows3 {B T N W : ℕ} (X : Vec Ideal (⟨3, ![B, N, W]⟩ : Shape) .f32) (o : ℕ)
    (ho : ∀ a, (![0, o, 0] : Fin 3 → Nat) a + (![B, T, W] : Fin 3 → Nat) a ≤ (⟨3, ![B, N, W]⟩ : Shape).size a)
    (b : Fin B) (i : Fin T) (l : Fin W) (k : Fin N) (hk : k.val = o + i.val) :
    View.ld X (Rect.unit (s := (⟨3, ![B, N, W]⟩ : Shape)) ![0, o, 0] ![B, T, W] ho) (ix3 b i l) = X (ix3 b k l) := by
  refine congrArg X (funext fun a => Fin.ext ?_)
  refine (Rect.emb_apply _ _ _).trans ?_
  match a with
  | 0 => show 0 + 1 * b.val = b.val; omega
  | 1 => show o + 1 * i.val = k.val; omega
  | 2 => show 0 + 1 * l.val = l.val; omega

/-- One row of taps. -/
theorem ld_tap {M W : ℕ} (X : Vec Ideal (⟨2, ![M, W]⟩ : Shape) .f32) (o : ℕ)
    (ho : ∀ a, (![o, 0] : Fin 2 → Nat) a + (![1, W] : Fin 2 → Nat) a ≤ (⟨2, ![M, W]⟩ : Shape).size a) (l : Fin W) (k : Fin M) (hk : k.val = o) :
    View.ld X (Rect.unit (s := (⟨2, ![M, W]⟩ : Shape)) ![o, 0] ![1, W] ho) (ix2 0 l) = X (ix2 k l) := by
  refine congrArg X (funext fun a => Fin.ext ?_)
  refine (Rect.emb_apply _ _ _).trans ?_
  match a with
  | 0 => show o + 1 * 0 = k.val; omega
  | 1 => show 0 + 1 * l.val = l.val; omega

end Cert.Conv

end
-- ==== Proof.ConvPrompt.lean ====
/- The gated convolution over the long sequences: the staging array carries the last eight rows from tile to tile. -/
module

public import Idealize.ShloMosaic.Lib.KernelVsHost
public import proofs.«01_k».proof.Proof.Gen.Kernel5Ideal.Value
public import proofs.«01_k».proof.Proof.Ext

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen Cert.Kernel5Ideal.Value Cert.Conv

namespace Cert.ConvPrompt

theorem pay_u (x : Vec Ideal S256x768 .f32) (i : Fin 256) (l : Fin 256) :
    @Eq EReal (k0_pay4 x (ix3 0 i l)) (x (ix2 i ⟨256 + l.val, by omega⟩) * x (ix2 i ⟨512 + l.val, by omega⟩)) := by
  pointwise [k0_pay4]

theorem pay_prev (h : Vec Ideal S1x8x256 .f32) (k : Fin 8) (l : Fin 256) : @Eq EReal (k0_pay2 h (ix3 0 k l)) (h (ix3 0 k l)) := by
  pointwise [k0_pay2]

theorem pay_carry (h : Vec Ideal S1x8x256 .f32) (k : Fin 8) (l : Fin 256) : @Eq EReal (k0_pay3 h (ix3 0 k l)) (h (ix3 0 k l)) := by
  pointwise [k0_pay3]

theorem pay_y (x : Vec Ideal S256x768 .f32) (e0 e1 e2 : Vec Ideal S1x256x256 .f32) (w0 w1 w2 : Vec Ideal S1x256 .f32) (i l : Fin 256) :
    @Eq EReal (k0_pay1 x (k0_pay5 e2 w2 e1 w1 e0 w0) (ix2 i l))
      (x (ix2 i ⟨l.val, by omega⟩) * ((e2 (ix3 0 i l) * w2 (ix2 0 l) + e1 (ix3 0 i l) * w1 (ix2 0 l)) + e0 (ix3 0 i l) * w0 (ix2 0 l))) := by
  pointwise [k0_pay1, k0_pay5]

variable (m : ((l : Loc nD τ sig) → Buf (Elt Ideal) l)) (c : Dev nD)

theorem windows : ∀ t : Fin cfg0.N, win0_0.index t = ![t.val, 3] ∧ win0_1.index t = ![0, 0] ∧ win0_2.index t = ![t.val / 32, 0, 0] := by
  decide +kernel

theorem N64 (t : Fin cfg0.N) : t.val < 64 := t.isLt

theorem block_p (t : Fin cfg0.N) (i : Fin 256) (l : Fin 768) :
    iblk m c 0 t (ix2 i l) = m ((c : Thread nD τ).loc main_arg0) (ix2 ⟨256 * t.val + i.val, by have := N64 t; omega⟩ ⟨2304 + l.val, by omega⟩) := by
  have hw := (windows t).1
  blk_ext [iblk, V_main_arg0, hw]

theorem block_w (t : Fin cfg0.N) (i : Fin 3) (l : Fin 256) : iblk m c 1 t (ix2 i l) = m ((c : Thread nD τ).loc main_arg1) (ix2 i l) := by
  have hw := (windows t).2.1
  blk_ext [iblk, V_main_arg1, hw]

theorem entry_prev (b : Fin 2) (k : Fin 8) (l : Fin 256) (a : Fin 2) (hk : k.val = 6 + a.val) :
    V m c main_v0 (ix3 b k l) = m ((c : Thread nD τ).loc main_arg2) (ix3 b a l) := by
  entry_read
  simp only [List.flatten_cons, List.flatten_nil, List.cons_append, List.nil_append, List.append_nil, StableHlo.after_cons, StableHlo.after_nil]
  after_results_simp
  refine (show _ = (pad S2x8x256 ![0, 6, 0] ![0, 0, 0] ![0, 0, 0] (m ((c : Thread nD τ).loc main_arg2)) (sitofp .f32 (constantI S_ 32 0#32) : FVec Ideal S_ .f32)
    pads_S2x2x256_S2x8x256_000_600_000 h_S_ : FVec Ideal S2x8x256 .f32) (ix3 b k l) from rfl).trans ?_
  exact pad_apply_of_inside _ _ _ _ _ _ _ _ (ix3 b a l) (fun x => match x with
    | 0 => by show b.val = 0 + b.val * (0 + 1); omega
    | 1 => by show k.val = 6 + a.val * (0 + 1); omega
    | 2 => by show l.val = 0 + l.val * (0 + 1); omega)

theorem block_prev (t : Fin cfg0.N) (k : Fin 8) (l : Fin 256) (a : Fin 2) (hk : k.val = 6 + a.val) :
    iblk m c 2 t (ix3 0 k l) = m ((c : Thread nD τ).loc main_arg2) (ix3 ⟨t.val / 32, by have := N64 t; omega⟩ a l) := by
  have hw := (windows t).2.2
  refine Eq.trans ?_ (entry_prev m c _ k l a hk)
  blk_ext [iblk, hw]

section

variable (i : grid0.Coords) (arg2 : Memref sig .tc .vmem S256x768 .f32) (harg2 : arg2.IsWhole) (arg3 : Memref sig .tc .vmem S3x256 .f32) (harg3 : arg3.IsWhole) (arg4 : Memref sig .tc .vmem S1x8x256 .f32) (harg4 : arg4.IsWhole) (arg5 : Memref sig .tc .vmem S256x256 .f32) (harg5 : arg5.IsWhole) (arg6 : Memref sig .tc .vmem S1x8x256 .f32) (harg6 : arg6.IsWhole) (arg7 : Memref sig .tc .vmem S1x264x256 .f32) (harg7 : arg7.IsWhole)
  (x0 : Vec Ideal S256x768 .f32) (x1 : Vec Ideal S3x256 .f32) (x2 : Vec Ideal S1x8x256 .f32) (xs0 : Vec Ideal S1x264x256 .f32)

/-- The staging array after the tile's rows were put behind eight carried ones. -/
def staged (h : Vec Ideal S1x8x256 .f32) (x0 : Vec Ideal S256x768 .f32) : Vec Ideal S1x264x256 .f32 :=
  View.canon (pieces (B := 1) (T := 256) (N := 264) (W := 256) (by decide) (by decide) (k0_pay4 x0) h)

theorem staged_new (h : Vec Ideal S1x8x256 .f32) (k : Fin 264) (l : Fin 256) (i : Fin 256) (hk : k.val = 8 + i.val) :
    @Eq EReal (staged h x0 (ix3 0 k l)) (x0 (ix2 i ⟨256 + l.val, by omega⟩) * x0 (ix2 i ⟨512 + l.val, by omega⟩)) :=
  (ext_new _ _ _ _ _ k l i hk).trans (pay_u x0 i l)

theorem staged_old (h : Vec Ideal S1x8x256 .f32) (k : Fin 264) (l : Fin 256) (i : Fin 8) (hk : k.val = i.val) :
    @Eq EReal (staged h x0 (ix3 0 k l)) (h (ix3 0 i l)) :=
  ext_old _ _ _ _ _ k l i hk

/-- The last eight rows of a staging array. -/
def lastRows (xs : Vec Ideal S1x264x256 .f32) : Vec Ideal S1x8x256 .f32 := View.ld xs (Rect.unit ![0, 256, 0] ![1, 8, 256] (by decide))

theorem scratch_A (hc0 : cond0_0 i) (hc1 : ¬cond0_1 i) : sout0_A_0 c i arg2 harg2 arg3 harg3 arg4 harg4 arg5 harg5 arg6 harg6 arg7 harg7 hc0 hc1 x0 x1 x2 = staged (k0_pay2 x2) x0 := by
  frame_open
  simp (disch := decide) only [↓ View.readCov_skip, ↓ View.readCov_cons_toLoadRect, ↓ View.readCov_fill]
  frame_out

theorem scratch_B (hc0 : ¬cond0_0 i) (hc1 : cond0_1 i) : sout0_B_0 c i arg2 harg2 arg3 harg3 arg4 harg4 arg5 harg5 arg6 harg6 arg7 harg7 hc0 hc1 x0 x1 x2 xs0 = staged (k0_pay3 (lastRows xs0)) x0 := by
  frame_open
  simp (disch := decide) only [↓ View.readCov_skip, ↓ View.readCov_cons_toLoadRect, ↓ View.readCov_fill]
  frame_out
  rfl

/-- The tile's output over its staging array. -/
def outOf (x0 : Vec Ideal S256x768 .f32) (x1 : Vec Ideal S3x256 .f32) (e : Vec Ideal S1x264x256 .f32) (i l : Fin 256) : EReal :=
  x0 (ix2 i ⟨l.val, by omega⟩) * ((e (ix3 0 ⟨8 + i.val, by omega⟩ l) * x1 (ix2 2 l) + e (ix3 0 ⟨7 + i.val, by omega⟩ l) * x1 (ix2 1 l)) + e (ix3 0 ⟨6 + i.val, by omega⟩ l) * x1 (ix2 0 l))

theorem out_A (hc0 : cond0_0 i) (hc1 : ¬cond0_1 i) (r l : Fin 256) :
    @Eq EReal (out0_A_3 c i arg2 harg2 arg3 harg3 arg4 harg4 arg5 harg5 arg6 harg6 arg7 harg7 hc0 hc1 x0 x1 x2 (ix2 r l)) (outOf x0 x1 (staged (k0_pay2 x2) x0) r l) := by
  frame_open
  simp (disch := decide) only [↓ View.readCov_skip, ↓ View.readCov_cons_toLoadRect, ↓ View.readCov_fill]
  frame_out
  rw [pay_y]
  rw [ld_tap x1 2 _ l 2 rfl, ld_tap x1 1 _ l 1 rfl, ld_tap x1 0 _ l 0 rfl]
  rw [readCov_rows _ _ 7 _ 0 r l ⟨7 + r.val, by omega⟩ rfl, readCov_rows _ _ 6 _ 0 r l ⟨6 + r.val, by omega⟩ rfl]
  rw [← ext_new (B := 1) (T := 256) (N := 264) (W := 256) (by decide) (by decide) (k0_pay4 x0) (k0_pay2 x2) 0 ⟨8 + r.val, by omega⟩ l r rfl]
  rfl

theorem out_B (hc0 : ¬cond0_0 i) (hc1 : cond0_1 i) (r l : Fin 256) :
    @Eq EReal (out0_B_3 c i arg2 harg2 arg3 harg3 arg4 harg4 arg5 harg5 arg6 harg6 arg7 harg7 hc0 hc1 x0 x1 x2 xs0 (ix2 r l)) (outOf x0 x1 (staged (k0_pay3 (lastRows xs0)) x0) r l) := by
  frame_open
  simp (disch := decide) only [↓ View.readCov_skip, ↓ View.readCov_cons_toLoadRect, ↓ View.readCov_fill]
  frame_out
  rw [pay_y]
  rw [ld_tap x1 2 _ l 2 rfl, ld_tap x1 1 _ l 1 rfl, ld_tap x1 0 _ l 0 rfl]
  rw [readCov_rows _ _ 7 _ 0 r l ⟨7 + r.val, by omega⟩ rfl, readCov_rows _ _ 6 _ 0 r l ⟨6 + r.val, by omega⟩ rfl]
  rw [← ext_new (B := 1) (T := 256) (N := 264) (W := 256) (by decide) (by decide) (k0_pay4 x0) (k0_pay3 (lastRows xs0)) 0 ⟨8 + r.val, by omega⟩ l r rfl]
  rfl

theorem tail_A (hc0 : cond0_0 i) (hc1 : ¬cond0_1 i) (k : Fin 8) (l : Fin 256) :
    @Eq EReal (out0_A_4 c i arg2 harg2 arg3 harg3 arg4 harg4 arg5 harg5 arg6 harg6 arg7 harg7 hc0 hc1 x0 x1 x2 (ix3 0 k l)) (staged (k0_pay2 x2) x0 (ix3 0 ⟨256 + k.val, by omega⟩ l)) := by
  frame_open
  simp (disch := decide) only [↓ View.readCov_skip, ↓ View.readCov_cons_toLoadRect, ↓ View.readCov_fill]
  frame_out
  exact readCov_rows _ _ 256 _ 0 k l ⟨256 + k.val, by omega⟩ rfl

theorem tail_B (hc0 : ¬cond0_0 i) (hc1 : cond0_1 i) (k : Fin 8) (l : Fin 256) :
    @Eq EReal (out0_B_4 c i arg2 harg2 arg3 harg3 arg4 harg4 arg5 harg5 arg6 harg6 arg7 harg7 hc0 hc1 x0 x1 x2 xs0 (ix3 0 k l)) (staged (k0_pay3 (lastRows xs0)) x0 (ix3 0 ⟨256 + k.val, by omega⟩ l)) := by
  frame_open
  simp (disch := decide) only [↓ View.readCov_skip, ↓ View.readCov_cons_toLoadRect, ↓ View.readCov_fill]
  frame_out
  exact readCov_rows _ _ 256 _ 0 k l ⟨256 + k.val, by omega⟩ rfl

end

end Cert.ConvPrompt

end
-- ==== Proof.ConvPromptGrid.lean ====
/- The gated convolution over the long sequences: what every grid point leaves behind, and so what the two results hold. -/
module

public import proofs.«01_k».proof.Proof.ConvPrompt

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen Cert.Kernel5Ideal.Value Cert.Conv

namespace Cert.ConvPrompt

/-- A sequence's gated rows behind its two earlier ones, read at position `n`. -/
def xp (p : Vec Ideal S17408x3840 .f32) (prev : Vec Ideal S2x2x256 .f32) (b : Fin 2) (l : Fin 256) (n : ℕ) : EReal :=
  after (fun a : Fin 2 => prev (ix3 b a l))
    (fun i : Fin 8192 => p (ix2 ⟨8192 * b.val + i.val, by omega⟩ ⟨2560 + l.val, by omega⟩) * p (ix2 ⟨8192 * b.val + i.val, by omega⟩ ⟨2816 + l.val, by omega⟩)) n

/-- The gated convolution at a row's position `n` of sequence `b`. -/
def conv (p : Vec Ideal S17408x3840 .f32) (w : Vec Ideal S3x256 .f32) (prev : Vec Ideal S2x2x256 .f32) (b : Fin 2) (n : ℕ) (r : Fin 17408) (l : Fin 256) : EReal :=
  p (ix2 r ⟨2304 + l.val, by omega⟩)
    * ((xp p prev b l (n + 2) * w (ix2 2 l) + xp p prev b l (n + 1) * w (ix2 1 l)) + xp p prev b l n * w (ix2 0 l))

variable (m : ((l : Loc nD τ sig) → Buf (Elt Ideal) l)) (c : Dev nD)

/-- The sequence point `t` works on. -/
abbrev seqOf (t : Fin cfg0.N) : Fin 2 := ⟨t.val / 32, by have := N64 t; omega⟩

/-- The sequence's rows as the launch has them. -/
abbrev rowsOf (b : Fin 2) (l : Fin 256) (n : ℕ) : EReal := xp (m ((c : Thread nD τ).loc main_arg0)) (m ((c : Thread nD τ).loc main_arg2)) b l n

/-- Eight carried rows that are right in their last two leave a staging array that is right from its seventh row on. -/
theorem staged_ok (t : Fin cfg0.N) (h : Vec Ideal S1x8x256 .f32)
    (hh : ∀ (k : Fin 8) (l : Fin 256), 6 ≤ k.val → @Eq EReal (h (ix3 0 k l)) (rowsOf m c (seqOf t) l (256 * (t.val % 32) + k.val - 6)))
    (k : Fin 264) (l : Fin 256) (hk : 6 ≤ k.val) :
    @Eq EReal (staged h (iblk m c 0 t) (ix3 0 k l)) (rowsOf m c (seqOf t) l (256 * (t.val % 32) + k.val - 6)) := by
  have ht := N64 t
  by_cases h8 : k.val < 8
  · exact (staged_old (iblk m c 0 t) h k l ⟨k.val, h8⟩ rfl).trans (hh ⟨k.val, h8⟩ l hk)
  · refine (staged_new (iblk m c 0 t) h k l ⟨k.val - 8, by omega⟩ (by show k.val = 8 + (k.val - 8); omega)).trans ?_
    rw [block_p, block_p]
    refine Eq.symm ((after_ge _ _ _ (256 * (t.val % 32) + k.val - 8) (by omega) (by omega)).trans ?_)
    congr 1 <;> refine congrArg _ ?_ <;> congr 1 <;> refine Fin.ext ?_
    · show 8192 * (t.val / 32) + (256 * (t.val % 32) + k.val - 8) = 256 * t.val + (k.val - 8)
      omega
    · show 2560 + l.val = 2304 + (256 + l.val)
      omega
    · show 8192 * (t.val / 32) + (256 * (t.val % 32) + k.val - 8) = 256 * t.val + (k.val - 8)
      omega
    · show 2816 + l.val = 2304 + (512 + l.val)
      omega

theorem out_ok (t : Fin cfg0.N) (e : Vec Ideal S1x264x256 .f32)
    (he : ∀ (k : Fin 264) (l : Fin 256), 6 ≤ k.val → @Eq EReal (e (ix3 0 k l)) (rowsOf m c (seqOf t) l (256 * (t.val % 32) + k.val - 6))) (r l : Fin 256) :
    outOf (iblk m c 0 t) (iblk m c 1 t) e r l
      = conv (m ((c : Thread nD τ).loc main_arg0)) (m ((c : Thread nD τ).loc main_arg1)) (m ((c : Thread nD τ).loc main_arg2)) (seqOf t)
          (256 * (t.val % 32) + r.val) ⟨256 * t.val + r.val, by have := N64 t; omega⟩ l := by
  unfold outOf conv
  rw [block_p, block_w, block_w, block_w, he _ l (by show 6 ≤ 8 + r.val; omega), he _ l (by show 6 ≤ 7 + r.val; omega), he _ l (by show 6 ≤ 6 + r.val; omega)]
  have h0 : 256 * (t.val % 32) + (8 + r.val) - 6 = 256 * (t.val % 32) + r.val + 2 := by omega
  have h1 : 256 * (t.val % 32) + (7 + r.val) - 6 = 256 * (t.val % 32) + r.val + 1 := by omega
  have h2 : 256 * (t.val % 32) + (6 + r.val) - 6 = 256 * (t.val % 32) + r.val := by omega
  dsimp only
  rw [h0, h1, h2]

/-- What point `t` leaves behind: the staging array's rows, its tile of the first result, and its last eight rows. -/
def Good (t : Fin cfg0.N) : Prop :=
  (∀ (k : Fin 264) (l : Fin 256), 6 ≤ k.val →
      @Eq EReal ((outsAt0 m c t.val t.isLt).2.2 (ix3 0 k l)) (rowsOf m c (seqOf t) l (256 * (t.val % 32) + k.val - 6)))
    ∧ (∀ r l : Fin 256, @Eq EReal ((outsAt0 m c t.val t.isLt).1 (ix2 r l))
        (conv (m ((c : Thread nD τ).loc main_arg0)) (m ((c : Thread nD τ).loc main_arg1)) (m ((c : Thread nD τ).loc main_arg2)) (seqOf t)
          (256 * (t.val % 32) + r.val) ⟨256 * t.val + r.val, by have := N64 t; omega⟩ l))
    ∧ ∀ (k : Fin 8) (l : Fin 256), @Eq EReal ((outsAt0 m c t.val t.isLt).2.1 (ix3 0 k l)) (rowsOf m c (seqOf t) l (256 * (t.val % 32) + 250 + k.val))

theorem tail_ok (t : Fin cfg0.N) (e : Vec Ideal S1x264x256 .f32)
    (he : ∀ (k : Fin 264) (l : Fin 256), 6 ≤ k.val → @Eq EReal (e (ix3 0 k l)) (rowsOf m c (seqOf t) l (256 * (t.val % 32) + k.val - 6))) (k : Fin 8) (l : Fin 256) :
    @Eq EReal (e (ix3 0 ⟨256 + k.val, by omega⟩ l)) (rowsOf m c (seqOf t) l (256 * (t.val % 32) + 250 + k.val)) := by
  refine (he _ l (by show 6 ≤ 256 + k.val; omega)).trans ?_
  congr 1
  show 256 * (t.val % 32) + (256 + k.val) - 6 = _
  omega

theorem good_first (t : Fin cfg0.N) (h0 : t.val % 32 = 0) : Good m c t := by
  have hp : ∀ (k : Fin 8) (l : Fin 256), 6 ≤ k.val →
      @Eq EReal (k0_pay2 (iblk m c 2 t) (ix3 0 k l)) (rowsOf m c (seqOf t) l (256 * (t.val % 32) + k.val - 6)) := fun k l hk => by
    refine (pay_prev _ k l).trans ((block_prev m c t k l ⟨k.val - 6, by omega⟩ (by show k.val = 6 + (k.val - 6); omega)).trans ?_)
    refine Eq.symm ((after_lt _ _ _ (by omega)).trans ?_)
    refine congrArg _ ?_
    congr 1
    refine Fin.ext ?_
    show 256 * (t.val % 32) + k.val - 6 = k.val - 6
    omega
  have hs := staged_ok m c t _ hp
  unfold Good
  rw [outsAt0_A m c t h0 (by omega)]
  dsimp only
  rw [scratch_A]
  refine ⟨hs, fun r l => ?_, fun k l => ?_⟩
  · rw [out_A]
    exact out_ok m c t _ hs r l
  · rw [tail_A]
    exact tail_ok m c t _ hs k l

theorem last_entry (xs : Vec Ideal S1x264x256 .f32) (k : Fin 8) (l : Fin 256) : lastRows xs (ix3 0 k l) = xs (ix3 0 ⟨256 + k.val, by omega⟩ l) := by
  unfold lastRows View.ld
  refine congrArg xs (funext fun a => Fin.ext ?_)
  match a with
  | 0 => rfl
  | 1 => show 256 + 1 * k.val = 256 + k.val; omega
  | 2 => show 0 + 1 * l.val = l.val; omega

theorem good_next (t : Fin cfg0.N) (h0 : ¬ t.val % 32 = 0)
    (hq : ∀ (k : Fin 264) (l : Fin 256), 6 ≤ k.val →
      @Eq EReal ((outsAt0 m c (t.val - 1) (Nat.lt_of_le_of_lt (Nat.sub_le _ _) t.isLt)).2.2 (ix3 0 k l)) (rowsOf m c (seqOf t) l (256 * (t.val % 32 - 1) + k.val - 6))) : Good m c t := by
  have hp : ∀ (k : Fin 8) (l : Fin 256), 6 ≤ k.val →
      @Eq EReal (k0_pay3 (lastRows (outsAt0 m c (t.val - 1) (Nat.lt_of_le_of_lt (Nat.sub_le _ _) t.isLt)).2.2) (ix3 0 k l)) (rowsOf m c (seqOf t) l (256 * (t.val % 32) + k.val - 6)) := fun k l hk => by
    refine (pay_carry _ k l).trans ((last_entry _ k l).trans ((hq _ l (by show 6 ≤ 256 + k.val; omega)).trans ?_))
    congr 1
    show 256 * (t.val % 32 - 1) + (256 + k.val) - 6 = _
    omega
  have hs := staged_ok m c t _ hp
  unfold Good
  rw [outsAt0_B m c t h0 (by omega)]
  dsimp only
  rw [scratch_B]
  refine ⟨hs, fun r l => ?_, fun k l => ?_⟩
  · rw [out_B]
    exact out_ok m c t _ hs r l
  · rw [tail_B]
    exact tail_ok m c t _ hs k l

theorem good : ∀ (n : ℕ) (hn : n < cfg0.N), Good m c ⟨n, hn⟩ := by
  intro n
  induction n with
  | zero => intro hn; exact good_first m c ⟨0, hn⟩ rfl
  | succ n ih =>
    intro hn
    by_cases h0 : (n + 1) % 32 = 0
    · exact good_first m c ⟨n + 1, hn⟩ h0
    · refine good_next m c ⟨n + 1, hn⟩ h0 fun k l hk => ?_
      refine ((ih (Nat.lt_of_succ_lt hn)).1 k l hk).trans ?_
      congr 1
      · refine Fin.ext ?_
        show n / 32 = (n + 1) / 32
        omega
      · show 256 * (n % 32) + k.val - 6 = 256 * ((n + 1) % 32 - 1) + k.val - 6
        omega

/-- The first result. -/
theorem G3_eq (r : Fin 16384) (l : Fin 256) :
    @Eq EReal (G3 m c (ix2 r l))
      (conv (m ((c : Thread nD τ).loc main_arg0)) (m ((c : Thread nD τ).loc main_arg1)) (m ((c : Thread nD τ).loc main_arg2)) ⟨r.val / 8192, by omega⟩
        (r.val % 8192) ⟨r.val, by omega⟩ l) := by
  have hpt : pt3Of (ix2 r l) = r.val / 256 := by
    show 1 * (r.val / 256 - 0) + 1 * (l.val / 256 - 0) = _
    omega
  have hlt : r.val / 256 < cfg0.N := by show _ < 64; omega
  unfold G3
  rw [dif_pos (by rw [hpt]; exact hlt)]
  rw [fold0_congr m c (pt3Of (ix2 r l)) (by rw [hpt]; omega) (r.val / 256) (by omega) hpt, ← outsAt0_sweep m c _ hlt]
  have hloc : loc3Of (ix2 r l) = ix2 ⟨r.val % 256, Nat.mod_lt _ (by decide)⟩ l := by
    funext a
    match a with
    | 0 => rfl
    | 1 => exact Fin.ext (Nat.mod_eq_of_lt l.isLt)
  rw [hloc]
  refine ((good m c _ hlt).2.1 _ _).trans ?_
  congr 1
  · refine Fin.ext ?_
    show r.val / 256 / 32 = r.val / 8192
    omega
  · show 256 * (r.val / 256 % 32) + r.val % 256 = r.val % 8192
    omega
  · refine Fin.ext ?_
    show 256 * (r.val / 256) + r.val % 256 = r.val
    omega

/-- The second result: each sequence's last eight rows. -/
theorem G4_eq (b : Fin 2) (k : Fin 8) (l : Fin 256) :
    @Eq EReal (G4 m c (ix3 b k l)) (rowsOf m c b l (8186 + k.val)) := by
  have hpt : pt4Of (ix3 b k l) = 32 * b.val + 31 := by
    show 32 * (1 * (b.val / 1 - 0) + 1 * (k.val / 8 - 0) + 1 * (l.val / 256 - 0)) + 31 = _
    omega
  have hlt : 32 * b.val + 31 < cfg0.N := by show _ < 64; omega
  unfold G4
  rw [dif_pos (by rw [hpt]; exact hlt)]
  rw [fold0_congr m c (pt4Of (ix3 b k l)) (by rw [hpt]; omega) (32 * b.val + 31) (by omega) hpt, ← outsAt0_sweep m c _ hlt]
  have hloc : loc4Of (ix3 b k l) = ix3 0 k l := by
    funext a
    match a with
    | 0 => exact Fin.ext (Nat.mod_one b.val)
    | 1 => exact Fin.ext (Nat.mod_eq_of_lt k.isLt)
    | 2 => exact Fin.ext (Nat.mod_eq_of_lt l.isLt)
  rw [hloc]
  refine ((good m c _ hlt).2.2 _ _).trans ?_
  congr 1
  · refine Fin.ext ?_
    show (32 * b.val + 31) / 32 = b.val
    omega
  · show 256 * ((32 * b.val + 31) % 32) + 250 + k.val = 8186 + k.val
    omega

end Cert.ConvPrompt

end
-- ==== Proof.ConvPromptRef.lean ====
/- The gated convolution over the long sequences in the plain program. -/
module

public import proofs.«01_k».proof.Proof.ConvPromptGrid
public import proofs.«01_k».proof.Proof.Gen.Reference5Ideal.Run

@[expose] public section

set_option maxRecDepth 16384

noncomputable section

open Idealize.ShloMosaic Idealize.ShloMosaic.TcCoe Idealize.SL.Sem Idealize.ShloMosaic.StableHlo
open Cert.Reference5Ideal Cert.Reference5Ideal.Gen Cert.Conv

namespace Cert.ConvPrompt

variable (p : Vec Ideal S17408x3840 .f32) (w : Vec Ideal S3x256 .f32) (prev : Vec Ideal S2x2x256 .f32)

/-- The plain program's rows behind the earlier ones. -/
def refRows : Vec Ideal S2x8194x256 .f32 :=
  concatenate S2x8194x256 1 [⟨S2x2x256, prev⟩, ⟨S2x8192x256, (mulf (F := Ideal) (φ := .f32) (shapeCast _ (extractStridedSlice S16384x256 ![0, 2560] (extractStridedSlice S16384x3840 ![0, 0] p slices_S17408x3840_S16384x3840_0_0) slices_S16384x3840_S16384x256_0_2560) shapeCasts_S16384x256_S2x8192x256) (shapeCast _ (extractStridedSlice S16384x256 ![0, 2816] (extractStridedSlice S16384x3840 ![0, 0] p slices_S17408x3840_S16384x3840_0_0) slices_S16384x3840_S16384x256_0_2816) shapeCasts_S16384x256_S2x8192x256))⟩] concatenates_S2x2x256_S2x8192x256_S2x8194x256_d1

theorem refRows_entry (b : Fin 2) (k : Fin 8194) (l : Fin 256) : @Eq EReal (refRows p prev (ix3 b k l)) (xp p prev b l k.val) := by
  by_cases h : k.val < 2
  · refine Eq.trans ?_ (after_lt _ _ _ h).symm
    unfold refRows
    pointwise
    exact dif_pos h
  · refine Eq.trans ?_ (after_ge _ _ _ (k.val - 2) (by omega) (by omega)).symm
    unfold refRows
    pointwise
    refine (dif_neg h).trans ?_
    congr 1 <;> refine congrArg _ ?_ <;> congr 1 <;> refine Fin.ext ?_
    · show b.val * 8192 + (k.val - 2) = 8192 * b.val + (k.val - 2)
      omega
    · show b.val * 8192 + (k.val - 2) = 8192 * b.val + (k.val - 2)
      omega

theorem ref_rows (e : Vec Ideal S2x8194x256 .f32) (r : Fin 16384) (l : Fin 256) :
    @Eq EReal ((shapeCast S16384x256 (mulf (F := Ideal) (φ := .f32) (shapeCast _ (extractStridedSlice S16384x256 ![0, 2304] (extractStridedSlice S16384x3840 ![0, 0] p slices_S17408x3840_S16384x3840_0_0) slices_S16384x3840_S16384x256_0_2304) shapeCasts_S16384x256_S2x8192x256) (addf (addf (mulf (F := Ideal) (φ := .f32) (extractStridedSlice S2x8192x256 ![0, 0, 0] e slices_S2x8194x256_S2x8192x256_0_0_0) (broadcastInDim S2x8192x256 ![0, 1, 2] bcast_S1x1x256_S2x8192x256_0_1_2 (broadcastInDim S1x1x256 ![2] bcast_S256_S1x1x256_2 (shapeCast _ (extractStridedSlice S1x256 ![0, 0] w slices_S3x256_S1x256_0_0) shapeCasts_S1x256_S256)))) (mulf (F := Ideal) (φ := .f32) (extractStridedSlice S2x8192x256 ![0, 1, 0] e slices_S2x8194x256_S2x8192x256_0_1_0) (broadcastInDim S2x8192x256 ![0, 1, 2] bcast_S1x1x256_S2x8192x256_0_1_2 (broadcastInDim S1x1x256 ![2] bcast_S256_S1x1x256_2 (shapeCast _ (extractStridedSlice S1x256 ![1, 0] w slices_S3x256_S1x256_1_0) shapeCasts_S1x256_S256))))) (mulf (F := Ideal) (φ := .f32) (extractStridedSlice S2x8192x256 ![0, 2, 0] e slices_S2x8194x256_S2x8192x256_0_2_0) (broadcastInDim S2x8192x256 ![0, 1, 2] bcast_S1x1x256_S2x8192x256_0_1_2 (broadcastInDim S1x1x256 ![2] bcast_S256_S1x1x256_2 (shapeCast _ (extractStridedSlice S1x256 ![2, 0] w slices_S3x256_S1x256_2_0) shapeCasts_S1x256_S256)))))) shapeCasts_S2x8192x256_S16384x256 : Vec Ideal S16384x256 .f32) (ix2 r l))
      (p (ix2 ⟨r.val, by omega⟩ ⟨2304 + l.val, by omega⟩)
        * ((e (ix3 ⟨r.val / 8192, by omega⟩ ⟨r.val % 8192, by omega⟩ l) * w (ix2 0 l) + e (ix3 ⟨r.val / 8192, by omega⟩ ⟨1 + r.val % 8192, by omega⟩ l) * w (ix2 1 l))
          + e (ix3 ⟨r.val / 8192, by omega⟩ ⟨2 + r.val % 8192, by omega⟩ l) * w (ix2 2 l))) := by
  pointwise

theorem reference_y (r : Fin 16384) (l : Fin 256) :
    @Eq EReal ((shapeCast S16384x256 (mulf (F := Ideal) (φ := .f32) (shapeCast _ (extractStridedSlice S16384x256 ![0, 2304] (extractStridedSlice S16384x3840 ![0, 0] p slices_S17408x3840_S16384x3840_0_0) slices_S16384x3840_S16384x256_0_2304) shapeCasts_S16384x256_S2x8192x256) (addf (addf (mulf (F := Ideal) (φ := .f32) (extractStridedSlice S2x8192x256 ![0, 0, 0] (refRows p prev) slices_S2x8194x256_S2x8192x256_0_0_0) (broadcastInDim S2x8192x256 ![0, 1, 2] bcast_S1x1x256_S2x8192x256_0_1_2 (broadcastInDim S1x1x256 ![2] bcast_S256_S1x1x256_2 (shapeCast _ (extractStridedSlice S1x256 ![0, 0] w slices_S3x256_S1x256_0_0) shapeCasts_S1x256_S256)))) (mulf (F := Ideal) (φ := .f32) (extractStridedSlice S2x8192x256 ![0, 1, 0] (refRows p prev) slices_S2x8194x256_S2x8192x256_0_1_0) (broadcastInDim S2x8192x256 ![0, 1, 2] bcast_S1x1x256_S2x8192x256_0_1_2 (broadcastInDim S1x1x256 ![2] bcast_S256_S1x1x256_2 (shapeCast _ (extractStridedSlice S1x256 ![1, 0] w slices_S3x256_S1x256_1_0) shapeCasts_S1x256_S256))))) (mulf (F := Ideal) (φ := .f32) (extractStridedSlice S2x8192x256 ![0, 2, 0] (refRows p prev) slices_S2x8194x256_S2x8192x256_0_2_0) (broadcastInDim S2x8192x256 ![0, 1, 2] bcast_S1x1x256_S2x8192x256_0_1_2 (broadcastInDim S1x1x256 ![2] bcast_S256_S1x1x256_2 (shapeCast _ (extractStridedSlice S1x256 ![2, 0] w slices_S3x256_S1x256_2_0) shapeCasts_S1x256_S256)))))) shapeCasts_S2x8192x256_S16384x256 : Vec Ideal S16384x256 .f32) (ix2 r l))
      (conv p w prev ⟨r.val / 8192, by omega⟩ (r.val % 8192) ⟨r.val, by omega⟩ l) := by
  refine (ref_rows p w (refRows p prev) r l).trans ?_
  rw [refRows_entry, refRows_entry, refRows_entry]
  unfold conv
  refine congrArg _ ?_
  dsimp only
  rw [Nat.add_comm 1 (r.val % 8192), Nat.add_comm 2 (r.val % 8192)]
  refine (add_comm _ _).trans ?_
  rw [add_comm (xp p prev _ l (r.val % 8192) * _), ← add_assoc]

theorem reference_state (b : Fin 2) (k : Fin 8) (l : Fin 256) :
    @Eq EReal (extractStridedSlice S2x8x256 ![0, 8186, 0] (refRows p prev) slices_S2x8194x256_S2x8x256_0_8186_0 (ix3 b k l)) (xp p prev b l (8186 + k.val)) := by
  refine Eq.trans ?_ (refRows_entry p prev b ⟨8186 + k.val, by omega⟩ l)
  pointwise

end Cert.ConvPrompt

end
-- ==== Proof.ConvSample.lean ====
/- The gated convolution over the short sequences: every grid point does whole sequences of its own. -/
module

public import Idealize.ShloMosaic.Lib.KernelVsHost
public import proofs.«01_k».proof.Proof.Gen.Kernel6Ideal.Value
public import proofs.«01_k».proof.Proof.Ext

@[expose] public section

set_option maxRecDepth 16384

noncomputable section

open Idealize.ShloMosaic Idealize.ShloMosaic.TcCoe Idealize.SL.Sem
open Idealize.ShloMosaic.Pipeline (Dat)
open Cert.Kernel6Ideal Cert.Kernel6Ideal.Gen Cert.Kernel6Ideal.Value Cert.Conv

namespace Cert.ConvSample

theorem pay_u (x : Vec Ideal S128x768 .f32) (b : Fin 16) (i : Fin 8) (l : Fin 256) :
    @Eq EReal (k0_pay4 x (ix3 b i l)) (x (ix2 ⟨b.val * 8 + i.val, by omega⟩ ⟨256 + l.val, by omega⟩) * x (ix2 ⟨b.val * 8 + i.val, by omega⟩ ⟨512 + l.val, by omega⟩)) := by
  pointwise [k0_pay4]

theorem pay_prev (h : Vec Ideal S16x8x256 .f32) (b : Fin 16) (k : Fin 8) (l : Fin 256) : @Eq EReal (k0_pay2 h (ix3 b k l)) (h (ix3 b k l)) := by
  pointwise [k0_pay2]

theorem pay_y (x : Vec Ideal S128x768 .f32) (e0 e1 e2 : Vec Ideal S16x8x256 .f32) (w0 w1 w2 : Vec Ideal S1x256 .f32) (r : Fin 128) (l : Fin 256) :
    @Eq EReal (k0_pay1 x (k0_pay5 e2 w2 e1 w1 e0 w0) (ix2 r l))
      (x (ix2 r ⟨l.val, by omega⟩) * ((e2 (ix3 ⟨r.val / 8, by omega⟩ ⟨r.val % 8, by omega⟩ l) * w2 (ix2 0 l) + e1 (ix3 ⟨r.val / 8, by omega⟩ ⟨r.val % 8, by omega⟩ l) * w1 (ix2 0 l))
        + e0 (ix3 ⟨r.val / 8, by omega⟩ ⟨r.val % 8, by omega⟩ l) * w0 (ix2 0 l))) := by
  pointwise [k0_pay1, k0_pay5]

variable (m : ((l : Loc nD τ sig) → Buf (Elt Ideal) l)) (c : Dev nD)

theorem windows : ∀ t : Fin cfg0.N, win0_0.index t = ![128 + t.val, 3] ∧ win0_1.index t = ![0, 0] ∧ win0_2.index t = ![t.val, 0, 0]
    ∧ win0_3.index t = ![t.val, 0] ∧ win0_4.index t = ![t.val, 0, 0] := by
  decide +kernel

theorem flushes3 : ∀ t : Fin cfg0.N, (cfg0.win 3).flush t = true := by decide +kernel
theorem flushes4 : ∀ t : Fin cfg0.N, (cfg0.win 4).flush t = true := by decide +kernel

theorem N8 (t : Fin cfg0.N) : t.val < 8 := t.isLt

theorem block_p (t : Fin cfg0.N) (i : Fin 128) (l : Fin 768) :
    iblk m c 0 t (ix2 i l) = m ((c : Thread nD τ).loc main_arg0) (ix2 ⟨16384 + (128 * t.val + i.val), by have := N8 t; omega⟩ ⟨2304 + l.val, by omega⟩) := by
  have hw := (windows t).1
  blk_ext [iblk, V_main_arg0, hw]

theorem block_w (t : Fin cfg0.N) (i : Fin 3) (l : Fin 256) : iblk m c 1 t (ix2 i l) = m ((c : Thread nD τ).loc main_arg1) (ix2 i l) := by
  have hw := (windows t).2.1
  blk_ext [iblk, V_main_arg1, hw]

theorem entry_prev (b : Fin 128) (k : Fin 8) (l : Fin 256) (a : Fin 2) (hk : k.val = 6 + a.val) :
    V m c main_v0 (ix3 b k l) = m ((c : Thread nD τ).loc main_arg2) (ix3 b a l) := by
  entry_read
  simp only [List.flatten_cons, List.flatten_nil, List.cons_append, List.nil_append, List.append_nil, StableHlo.after_cons, StableHlo.after_nil]
  after_results_simp
  refine (show _ = (pad S128x8x256 ![0, 6, 0] ![0, 0, 0] ![0, 0, 0] (m ((c : Thread nD τ).loc main_arg2)) (sitofp .f32 (constantI S_ 32 0#32) : FVec Ideal S_ .f32)
    pads_S128x2x256_S128x8x256_000_600_000 h_S_ : FVec Ideal S128x8x256 .f32) (ix3 b k l) from rfl).trans ?_
  exact pad_apply_of_inside _ _ _ _ _ _ _ _ (ix3 b a l) (fun x => match x with
    | 0 => by show b.val = 0 + b.val * (0 + 1); omega
    | 1 => by show k.val = 6 + a.val * (0 + 1); omega
    | 2 => by show l.val = 0 + l.val * (0 + 1); omega)

theorem block_prev (t : Fin cfg0.N) (b : Fin 16) (k : Fin 8) (l : Fin 256) (a : Fin 2) (hk : k.val = 6 + a.val) :
    iblk m c 2 t (ix3 b k l) = m ((c : Thread nD τ).loc main_arg2) (ix3 ⟨16 * t.val + b.val, by have := N8 t; omega⟩ a l) := by
  have hw := (windows t).2.2.1
  refine Eq.trans ?_ (entry_prev m c _ k l a hk)
  blk_ext [iblk, hw]

section

variable (i : grid0.Coords) (arg2 : Memref sig .tc .vmem S128x768 .f32) (harg2 : arg2.IsWhole) (arg3 : Memref sig .tc .vmem S3x256 .f32) (harg3 : arg3.IsWhole) (arg4 : Memref sig .tc .vmem S16x8x256 .f32) (harg4 : arg4.IsWhole) (arg5 : Memref sig .tc .vmem S128x256 .f32) (harg5 : arg5.IsWhole) (arg6 : Memref sig .tc .vmem S16x8x256 .f32) (harg6 : arg6.IsWhole) (arg7 : Memref sig .tc .vmem S16x16x256 .f32) (harg7 : arg7.IsWhole)
  (x0 : Vec Ideal S128x768 .f32) (x1 : Vec Ideal S3x256 .f32) (x2 : Vec Ideal S16x8x256 .f32)

/-- The staging array after the tile's rows were put behind eight earlier ones of each sequence. -/
def staged (h : Vec Ideal S16x8x256 .f32) (x0 : Vec Ideal S128x768 .f32) : Vec Ideal S16x16x256 .f32 :=
  View.canon (pieces (B := 16) (T := 8) (N := 16) (W := 256) (by decide) (by decide) (k0_pay4 x0) h)

theorem staged_new (h : Vec Ideal S16x8x256 .f32) (b k : Fin 16) (l : Fin 256) (i : Fin 8) (hk : k.val = 8 + i.val) :
    @Eq EReal (staged h x0 (ix3 b k l)) (x0 (ix2 ⟨b.val * 8 + i.val, by omega⟩ ⟨256 + l.val, by omega⟩) * x0 (ix2 ⟨b.val * 8 + i.val, by omega⟩ ⟨512 + l.val, by omega⟩)) :=
  (ext_new _ _ _ _ b k l i hk).trans (pay_u x0 b i l)

theorem staged_old (h : Vec Ideal S16x8x256 .f32) (b k : Fin 16) (l : Fin 256) (i : Fin 8) (hk : k.val = i.val) :
    @Eq EReal (staged h x0 (ix3 b k l)) (h (ix3 b i l)) :=
  ext_old _ _ _ _ b k l i hk

/-- The tile's output over its staging array. -/
def outOf (x0 : Vec Ideal S128x768 .f32) (x1 : Vec Ideal S3x256 .f32) (e : Vec Ideal S16x16x256 .f32) (r : Fin 128) (l : Fin 256) : EReal :=
  x0 (ix2 r ⟨l.val, by omega⟩) * ((e (ix3 ⟨r.val / 8, by omega⟩ ⟨8 + r.val % 8, by omega⟩ l) * x1 (ix2 2 l) + e (ix3 ⟨r.val / 8, by omega⟩ ⟨7 + r.val % 8, by omega⟩ l) * x1 (ix2 1 l))
    + e (ix3 ⟨r.val / 8, by omega⟩ ⟨6 + r.val % 8, by omega⟩ l) * x1 (ix2 0 l))

theorem out_A (hc0 : cond0_0 i) (hc1 : ¬cond0_1 i) (r : Fin 128) (l : Fin 256) :
    @Eq EReal (out0_A_3 c i arg2 harg2 arg3 harg3 arg4 harg4 arg5 harg5 arg6 harg6 arg7 harg7 hc0 hc1 x0 x1 x2 (ix2 r l)) (outOf x0 x1 (staged (k0_pay2 x2) x0) r l) := by
  frame_open
  simp (disch := decide) only [↓ View.readCov_skip, ↓ View.readCov_cons_toLoadRect, ↓ View.readCov_fill]
  frame_out
  rw [pay_y]
  rw [ld_tap x1 2 _ l 2 rfl, ld_tap x1 1 _ l 1 rfl, ld_tap x1 0 _ l 0 rfl]
  rw [readCov_rows _ _ 7 _ ⟨r.val / 8, by omega⟩ ⟨r.val % 8, by omega⟩ l ⟨7 + r.val % 8, by omega⟩ rfl,
    readCov_rows _ _ 6 _ ⟨r.val / 8, by omega⟩ ⟨r.val % 8, by omega⟩ l ⟨6 + r.val % 8, by omega⟩ rfl]
  rw [← ext_new (B := 16) (T := 8) (N := 16) (W := 256) (by decide) (by decide) (k0_pay4 x0) (k0_pay2 x2) ⟨r.val / 8, by omega⟩ ⟨8 + r.val % 8, by omega⟩ l ⟨r.val % 8, by omega⟩ rfl]
  rfl

theorem tail_A (hc0 : cond0_0 i) (hc1 : ¬cond0_1 i) (b : Fin 16) (k : Fin 8) (l : Fin 256) :
    @Eq EReal (out0_A_4 c i arg2 harg2 arg3 harg3 arg4 harg4 arg5 harg5 arg6 harg6 arg7 harg7 hc0 hc1 x0 x1 x2 (ix3 b k l)) (staged (k0_pay2 x2) x0 (ix3 b ⟨8 + k.val, by omega⟩ l)) := by
  frame_open
  simp (disch := decide) only [↓ View.readCov_skip, ↓ View.readCov_cons_toLoadRect, ↓ View.readCov_fill]
  frame_out
  exact (ext_new (B := 16) (T := 8) (N := 16) (W := 256) (by decide) (by decide) (k0_pay4 x0) (k0_pay2 x2) b ⟨8 + k.val, by omega⟩ l k rfl).symm

end

/-- A sequence's gated rows behind its two earlier ones, read at position `n`. -/
def xp (p : Vec Ideal S17408x3840 .f32) (prev : Vec Ideal S128x2x256 .f32) (b : Fin 128) (l : Fin 256) (n : ℕ) : EReal :=
  after (fun a : Fin 2 => prev (ix3 b a l))
    (fun i : Fin 8 => p (ix2 ⟨16384 + (8 * b.val + i.val), by omega⟩ ⟨2560 + l.val, by omega⟩) * p (ix2 ⟨16384 + (8 * b.val + i.val), by omega⟩ ⟨2816 + l.val, by omega⟩)) n

/-- The gated convolution at a row's position `n` of sequence `b`. -/
def conv (p : Vec Ideal S17408x3840 .f32) (w : Vec Ideal S3x256 .f32) (prev : Vec Ideal S128x2x256 .f32) (b : Fin 128) (n : ℕ) (r : Fin 17408) (l : Fin 256) : EReal :=
  p (ix2 r ⟨2304 + l.val, by omega⟩)
    * ((xp p prev b l (n + 2) * w (ix2 2 l) + xp p prev b l (n + 1) * w (ix2 1 l)) + xp p prev b l n * w (ix2 0 l))

/-- The first result. -/
def Gy (i : S1024x256.Idx) : EReal :=
  conv (m ((c : Thread nD τ).loc main_arg0)) (m ((c : Thread nD τ).loc main_arg1)) (m ((c : Thread nD τ).loc main_arg2))
    ⟨(i 0).val / 8, by have : (i 0).val < 1024 := (i 0).isLt; omega⟩ ((i 0).val % 8) ⟨16384 + (i 0).val, by have : (i 0).val < 1024 := (i 0).isLt; omega⟩ (i 1)

/-- The second result: each sequence's last eight rows. -/
def Gs (i : S128x8x256.Idx) : EReal :=
  xp (m ((c : Thread nD τ).loc main_arg0)) (m ((c : Thread nD τ).loc main_arg2)) (i 0) (i 2) (2 + (i 1).val)

theorem staged_ok (t : Fin cfg0.N) (b k : Fin 16) (l : Fin 256) (hk : 6 ≤ k.val) :
    @Eq EReal (staged (k0_pay2 (iblk m c 2 t)) (iblk m c 0 t) (ix3 b k l))
      (xp (m ((c : Thread nD τ).loc main_arg0)) (m ((c : Thread nD τ).loc main_arg2)) ⟨16 * t.val + b.val, by have := N8 t; omega⟩ l (k.val - 6)) := by
  have ht := N8 t
  by_cases h8 : k.val < 8
  · refine (staged_old (iblk m c 0 t) _ b k l ⟨k.val, h8⟩ rfl).trans ((pay_prev _ b _ l).trans ?_)
    refine (block_prev m c t b _ l ⟨k.val - 6, by omega⟩ (by show k.val = 6 + (k.val - 6); omega)).trans ?_
    exact Eq.symm ((after_lt _ _ _ (by omega)).trans rfl)
  · refine (staged_new (iblk m c 0 t) _ b k l ⟨k.val - 8, by omega⟩ (by show k.val = 8 + (k.val - 8); omega)).trans ?_
    rw [block_p, block_p]
    refine Eq.symm ((after_ge _ _ _ (k.val - 8) (by omega) (by omega)).trans ?_)
    congr 1 <;> refine congrArg _ ?_ <;> congr 1 <;> refine Fin.ext ?_
    · show 16384 + (8 * (16 * t.val + b.val) + (k.val - 8)) = 16384 + (128 * t.val + (b.val * 8 + (k.val - 8)))
      omega
    · show 2560 + l.val = 2304 + (256 + l.val)
      omega
    · show 16384 + (8 * (16 * t.val + b.val) + (k.val - 8)) = 16384 + (128 * t.val + (b.val * 8 + (k.val - 8)))
      omega
    · show 2816 + l.val = 2304 + (512 + l.val)
      omega

theorem out_ok (t : Fin cfg0.N) (r : Fin 128) (l : Fin 256) :
    outOf (iblk m c 0 t) (iblk m c 1 t) (staged (k0_pay2 (iblk m c 2 t)) (iblk m c 0 t)) r l
      = Gy m c (ix2 ⟨128 * t.val + r.val, by have := N8 t; omega⟩ l) := by
  have ht := N8 t
  unfold outOf Gy conv
  rw [block_p, block_w, block_w, block_w, staged_ok m c t _ _ l (by show 6 ≤ 8 + r.val % 8; omega), staged_ok m c t _ _ l (by show 6 ≤ 7 + r.val % 8; omega), staged_ok m c t _ _ l (by show 6 ≤ 6 + r.val % 8; omega)]
  have hb : (⟨16 * t.val + r.val / 8, by omega⟩ : Fin 128) = ⟨(128 * t.val + r.val) / 8, by omega⟩ := Fin.ext (by show 16 * t.val + r.val / 8 = (128 * t.val + r.val) / 8; omega)
  have h0 : 8 + r.val % 8 - 6 = (128 * t.val + r.val) % 8 + 2 := by omega
  have h1 : 7 + r.val % 8 - 6 = (128 * t.val + r.val) % 8 + 1 := by omega
  have h2 : 6 + r.val % 8 - 6 = (128 * t.val + r.val) % 8 := by omega
  dsimp only
  rw [h0, h1, h2, hb]
  rfl

theorem tail_ok (t : Fin cfg0.N) (b : Fin 16) (k : Fin 8) (l : Fin 256) :
    @Eq EReal (staged (k0_pay2 (iblk m c 2 t)) (iblk m c 0 t) (ix3 b ⟨8 + k.val, by omega⟩ l)) (Gs m c (ix3 ⟨16 * t.val + b.val, by have := N8 t; omega⟩ k l)) := by
  refine (staged_ok m c t b _ l (by show 6 ≤ 8 + k.val; omega)).trans ?_
  unfold Gs
  have h : 8 + k.val - 6 = 2 + k.val := by omega
  dsimp only
  rw [h]
  rfl

theorem final3 : (dats m 0 c).arrAt 3 cfg0.N = Gy m c := by
  funext i
  have h0 : (i 0).val < 1024 := (i 0).isLt
  have ht : (i 0).val / 128 < cfg0.N := by show (i 0).val / 128 < 8; omega
  have hw := (windows ⟨(i 0).val / 128, ht⟩).2.2.2.1
  have hb := congrFun (blocks3 m c ⟨(i 0).val / 128, ht⟩ (flushes3 _))
    (ix2 ⟨(i 0).val % 128, Nat.mod_lt _ (by decide)⟩ (i 1))
  have he : ((cfg0.win 3).blk ⟨(i 0).val / 128, ht⟩).view.emb (ix2 ⟨(i 0).val % 128, Nat.mod_lt _ (by decide)⟩ (i 1)) = i := by
    funext a
    refine Fin.ext ?_
    match a with
    | 0 =>
      show win0_3.index ⟨(i 0).val / 128, ht⟩ (0 : Fin 2) * 128 + 1 * ((i 0).val % 128) = (i 0).val
      rw [hw]; show (i 0).val / 128 * 128 + 1 * ((i 0).val % 128) = _; omega
    | 1 =>
      show win0_3.index ⟨(i 0).val / 128, ht⟩ (1 : Fin 2) * 256 + 1 * (i 1).val = (i 1).val
      rw [hw]; show 0 * 256 + 1 * (i 1).val = _; omega
  rw [flushed3_A] at hb
  have hp := (out_A c (grid0.coords ⟨(i 0).val / 128, ht⟩) (ms0_0 ⟨(i 0).val / 128, ht⟩) (hs0_0 ⟨(i 0).val / 128, ht⟩) (ms0_1 ⟨(i 0).val / 128, ht⟩) (hs0_1 ⟨(i 0).val / 128, ht⟩) (ms0_2 ⟨(i 0).val / 128, ht⟩) (hs0_2 ⟨(i 0).val / 128, ht⟩) (ms0_3 ⟨(i 0).val / 128, ht⟩) (hs0_3 ⟨(i 0).val / 128, ht⟩) (ms0_4 ⟨(i 0).val / 128, ht⟩) (hs0_4 ⟨(i 0).val / 128, ht⟩) scM0_0 (Memref.isWhole_whole _)
    (iblk m c 0 ⟨(i 0).val / 128, ht⟩) (iblk m c 1 ⟨(i 0).val / 128, ht⟩) (iblk m c 2 ⟨(i 0).val / 128, ht⟩) (hcond0_0 ⟨(i 0).val / 128, ht⟩) (hcond0_1 ⟨(i 0).val / 128, ht⟩)
    ⟨(i 0).val % 128, Nat.mod_lt _ (by decide)⟩ (i 1)).trans (out_ok m c ⟨(i 0).val / 128, ht⟩ ⟨(i 0).val % 128, Nat.mod_lt _ (by decide)⟩ (i 1))
  have hi : (ix2 ⟨128 * ((i 0).val / 128) + (i 0).val % 128, by omega⟩ (i 1) : S1024x256.Idx) = i := by
    funext a
    match a with
    | 0 => exact Fin.ext (by show 128 * ((i 0).val / 128) + (i 0).val % 128 = _; omega)
    | 1 => rfl
  refine ((congrArg _ he.symm).trans hb).trans (hp.trans (congrArg (Gy m c) hi))

theorem final4 : (dats m 0 c).arrAt 4 cfg0.N = Gs m c := by
  funext i
  have h0 : (i 0).val < 128 := (i 0).isLt
  have ht : (i 0).val / 16 < cfg0.N := by show (i 0).val / 16 < 8; omega
  have hw := (windows ⟨(i 0).val / 16, ht⟩).2.2.2.2
  have hb := congrFun (blocks4 m c ⟨(i 0).val / 16, ht⟩ (flushes4 _))
    (ix3 ⟨(i 0).val % 16, Nat.mod_lt _ (by decide)⟩ (i 1) (i 2))
  have he : ((cfg0.win 4).blk ⟨(i 0).val / 16, ht⟩).view.emb (ix3 ⟨(i 0).val % 16, Nat.mod_lt _ (by decide)⟩ (i 1) (i 2)) = i := by
    funext a
    refine Fin.ext ?_
    match a with
    | 0 =>
      show win0_4.index ⟨(i 0).val / 16, ht⟩ (0 : Fin 3) * 16 + 1 * ((i 0).val % 16) = (i 0).val
      rw [hw]; show (i 0).val / 16 * 16 + 1 * ((i 0).val % 16) = _; omega
    | 1 =>
      show win0_4.index ⟨(i 0).val / 16, ht⟩ (1 : Fin 3) * 8 + 1 * (i 1).val = (i 1).val
      rw [hw]; show 0 * 8 + 1 * (i 1).val = _; omega
    | 2 =>
      show win0_4.index ⟨(i 0).val / 16, ht⟩ (2 : Fin 3) * 256 + 1 * (i 2).val = (i 2).val
      rw [hw]; show 0 * 256 + 1 * (i 2).val = _; omega
  rw [flushed4_A] at hb
  have hp := (tail_A c (grid0.coords ⟨(i 0).val / 16, ht⟩) (ms0_0 ⟨(i 0).val / 16, ht⟩) (hs0_0 ⟨(i 0).val / 16, ht⟩) (ms0_1 ⟨(i 0).val / 16, ht⟩) (hs0_1 ⟨(i 0).val / 16, ht⟩) (ms0_2 ⟨(i 0).val / 16, ht⟩) (hs0_2 ⟨(i 0).val / 16, ht⟩) (ms0_3 ⟨(i 0).val / 16, ht⟩) (hs0_3 ⟨(i 0).val / 16, ht⟩) (ms0_4 ⟨(i 0).val / 16, ht⟩) (hs0_4 ⟨(i 0).val / 16, ht⟩) scM0_0 (Memref.isWhole_whole _)
    (iblk m c 0 ⟨(i 0).val / 16, ht⟩) (iblk m c 1 ⟨(i 0).val / 16, ht⟩) (iblk m c 2 ⟨(i 0).val / 16, ht⟩) (hcond0_0 ⟨(i 0).val / 16, ht⟩) (hcond0_1 ⟨(i 0).val / 16, ht⟩)
    ⟨(i 0).val % 16, Nat.mod_lt _ (by decide)⟩ (i 1) (i 2)).trans
      (tail_ok m c ⟨(i 0).val / 16, ht⟩ ⟨(i 0).val % 16, Nat.mod_lt _ (by decide)⟩ (i 1) (i 2))
  have hi : (ix3 ⟨16 * ((i 0).val / 16) + (i 0).val % 16, by omega⟩ (i 1) (i 2) : S128x8x256.Idx) = i := by
    funext a
    match a with
    | 0 => exact Fin.ext (by show 16 * ((i 0).val / 16) + (i 0).val % 16 = _; omega)
    | 1 => rfl
    | 2 => rfl
  refine ((congrArg _ he.symm).trans hb).trans (hp.trans (congrArg (Gs m c) hi))

end Cert.ConvSample

end
-- ==== Proof.ConvSampleRef.lean ====
/- The gated convolution over the short sequences in the plain program. -/
module

public import proofs.«01_k».proof.Proof.ConvSample
public import proofs.«01_k».proof.Proof.Gen.Reference6Ideal.Run

@[expose] public section

set_option maxRecDepth 16384

noncomputable section

open Idealize.ShloMosaic Idealize.ShloMosaic.TcCoe Idealize.SL.Sem Idealize.ShloMosaic.StableHlo
open Cert.Reference6Ideal Cert.Reference6Ideal.Gen Cert.Conv

namespace Cert.ConvSample

variable (p : Vec Ideal S17408x3840 .f32) (w : Vec Ideal S3x256 .f32) (prev : Vec Ideal S128x2x256 .f32)

/-- The plain program's rows behind the earlier ones. -/
def refRows : Vec Ideal S128x10x256 .f32 :=
  concatenate S128x10x256 1 [⟨S128x2x256, prev⟩, ⟨S128x8x256, (mulf (F := Ideal) (φ := .f32) (shapeCast _ (extractStridedSlice S1024x256 ![0, 2560] (extractStridedSlice S1024x3840 ![16384, 0] p slices_S17408x3840_S1024x3840_16384_0) slices_S1024x3840_S1024x256_0_2560) shapeCasts_S1024x256_S128x8x256) (shapeCast _ (extractStridedSlice S1024x256 ![0, 2816] (extractStridedSlice S1024x3840 ![16384, 0] p slices_S17408x3840_S1024x3840_16384_0) slices_S1024x3840_S1024x256_0_2816) shapeCasts_S1024x256_S128x8x256))⟩] concatenates_S128x2x256_S128x8x256_S128x10x256_d1

theorem refRows_entry (b : Fin 128) (k : Fin 10) (l : Fin 256) : @Eq EReal (refRows p prev (ix3 b k l)) (xp p prev b l k.val) := by
  by_cases h : k.val < 2
  · refine Eq.trans ?_ (after_lt _ _ _ h).symm
    unfold refRows
    pointwise
    exact dif_pos h
  · refine Eq.trans ?_ (after_ge _ _ _ (k.val - 2) (by omega) (by omega)).symm
    unfold refRows
    pointwise
    refine (dif_neg h).trans ?_
    congr 1 <;> refine congrArg _ ?_ <;> congr 1 <;> refine Fin.ext ?_
    · show 16384 + (b.val * 8 + (k.val - 2)) = 16384 + (8 * b.val + (k.val - 2))
      omega
    · show 16384 + (b.val * 8 + (k.val - 2)) = 16384 + (8 * b.val + (k.val - 2))
      omega

theorem ref_rows (e : Vec Ideal S128x10x256 .f32) (r : Fin 1024) (l : Fin 256) :
    @Eq EReal ((shapeCast S1024x256 (mulf (F := Ideal) (φ := .f32) (shapeCast _ (extractStridedSlice S1024x256 ![0, 2304] (extractStridedSlice S1024x3840 ![16384, 0] p slices_S17408x3840_S1024x3840_16384_0) slices_S1024x3840_S1024x256_0_2304) shapeCasts_S1024x256_S128x8x256) (addf (addf (mulf (F := Ideal) (φ := .f32) (extractStridedSlice S128x8x256 ![0, 0, 0] e slices_S128x10x256_S128x8x256_0_0_0) (broadcastInDim S128x8x256 ![0, 1, 2] bcast_S1x1x256_S128x8x256_0_1_2 (broadcastInDim S1x1x256 ![2] bcast_S256_S1x1x256_2 (shapeCast _ (extractStridedSlice S1x256 ![0, 0] w slices_S3x256_S1x256_0_0) shapeCasts_S1x256_S256)))) (mulf (F := Ideal) (φ := .f32) (extractStridedSlice S128x8x256 ![0, 1, 0] e slices_S128x10x256_S128x8x256_0_1_0) (broadcastInDim S128x8x256 ![0, 1, 2] bcast_S1x1x256_S128x8x256_0_1_2 (broadcastInDim S1x1x256 ![2] bcast_S256_S1x1x256_2 (shapeCast _ (extractStridedSlice S1x256 ![1, 0] w slices_S3x256_S1x256_1_0) shapeCasts_S1x256_S256))))) (mulf (F := Ideal) (φ := .f32) (extractStridedSlice S128x8x256 ![0, 2, 0] e slices_S128x10x256_S128x8x256_0_2_0) (broadcastInDim S128x8x256 ![0, 1, 2] bcast_S1x1x256_S128x8x256_0_1_2 (broadcastInDim S1x1x256 ![2] bcast_S256_S1x1x256_2 (shapeCast _ (extractStridedSlice S1x256 ![2, 0] w slices_S3x256_S1x256_2_0) shapeCasts_S1x256_S256)))))) shapeCasts_S128x8x256_S1024x256 : Vec Ideal S1024x256 .f32) (ix2 r l))
      (p (ix2 ⟨16384 + r.val, by omega⟩ ⟨2304 + l.val, by omega⟩)
        * ((e (ix3 ⟨r.val / 8, by omega⟩ ⟨r.val % 8, by omega⟩ l) * w (ix2 0 l) + e (ix3 ⟨r.val / 8, by omega⟩ ⟨1 + r.val % 8, by omega⟩ l) * w (ix2 1 l))
          + e (ix3 ⟨r.val / 8, by omega⟩ ⟨2 + r.val % 8, by omega⟩ l) * w (ix2 2 l))) := by
  pointwise

theorem reference_y (r : Fin 1024) (l : Fin 256) :
    @Eq EReal ((shapeCast S1024x256 (mulf (F := Ideal) (φ := .f32) (shapeCast _ (extractStridedSlice S1024x256 ![0, 2304] (extractStridedSlice S1024x3840 ![16384, 0] p slices_S17408x3840_S1024x3840_16384_0) slices_S1024x3840_S1024x256_0_2304) shapeCasts_S1024x256_S128x8x256) (addf (addf (mulf (F := Ideal) (φ := .f32) (extractStridedSlice S128x8x256 ![0, 0, 0] (refRows p prev) slices_S128x10x256_S128x8x256_0_0_0) (broadcastInDim S128x8x256 ![0, 1, 2] bcast_S1x1x256_S128x8x256_0_1_2 (broadcastInDim S1x1x256 ![2] bcast_S256_S1x1x256_2 (shapeCast _ (extractStridedSlice S1x256 ![0, 0] w slices_S3x256_S1x256_0_0) shapeCasts_S1x256_S256)))) (mulf (F := Ideal) (φ := .f32) (extractStridedSlice S128x8x256 ![0, 1, 0] (refRows p prev) slices_S128x10x256_S128x8x256_0_1_0) (broadcastInDim S128x8x256 ![0, 1, 2] bcast_S1x1x256_S128x8x256_0_1_2 (broadcastInDim S1x1x256 ![2] bcast_S256_S1x1x256_2 (shapeCast _ (extractStridedSlice S1x256 ![1, 0] w slices_S3x256_S1x256_1_0) shapeCasts_S1x256_S256))))) (mulf (F := Ideal) (φ := .f32) (extractStridedSlice S128x8x256 ![0, 2, 0] (refRows p prev) slices_S128x10x256_S128x8x256_0_2_0) (broadcastInDim S128x8x256 ![0, 1, 2] bcast_S1x1x256_S128x8x256_0_1_2 (broadcastInDim S1x1x256 ![2] bcast_S256_S1x1x256_2 (shapeCast _ (extractStridedSlice S1x256 ![2, 0] w slices_S3x256_S1x256_2_0) shapeCasts_S1x256_S256)))))) shapeCasts_S128x8x256_S1024x256 : Vec Ideal S1024x256 .f32) (ix2 r l))
      (conv p w prev ⟨r.val / 8, by omega⟩ (r.val % 8) ⟨16384 + r.val, by omega⟩ l) := by
  refine (ref_rows p w (refRows p prev) r l).trans ?_
  rw [refRows_entry, refRows_entry, refRows_entry]
  unfold conv
  refine congrArg _ ?_
  dsimp only
  rw [Nat.add_comm 1 (r.val % 8), Nat.add_comm 2 (r.val % 8)]
  refine (add_comm _ _).trans ?_
  rw [add_comm (xp p prev _ l (r.val % 8) * _), ← add_assoc]

theorem reference_state (b : Fin 128) (k : Fin 8) (l : Fin 256) :
    @Eq EReal (extractStridedSlice S128x8x256 ![0, 2, 0] (refRows p prev) slices_S128x10x256_S128x8x256_0_2_0 (ix3 b k l)) (xp p prev b l (2 + k.val)) := by
  refine Eq.trans ?_ (refRows_entry p prev b ⟨2 + k.val, by omega⟩ l)
  pointwise

end Cert.ConvSample

end
-- ==== Proof.Attn.lean ====
/- Column pieces of a block, and the head norm and the rotation by position as formulas over the 128 lanes of a column piece. -/
module

public import proofs.«01_k».proof.Proof.Norm
public import Idealize.ShloMosaic.Lib.Pipeline.ValueKit
public import Idealize.ShloMosaic.Lib.Pipeline.ReadBack
public import Idealize.ShloMosaic.Lib.KernelVsHost

@[expose] public section

set_option maxRecDepth 16384

noncomputable section

open Idealize.ShloMosaic Idealize.ShloMosaic.TcCoe Idealize.SL.Sem

namespace Cert.Attn

section

variable {R C W : ℕ} {e : EltTy} (o : ℕ) (h : ∀ a, (![0, o] : Fin 2 → Nat) a + (![R, W] : Fin 2 → Nat) a ≤ (⟨2, ![R, C]⟩ : Shape).size a)

theorem hit (x : Vec Ideal (⟨2, ![R, W]⟩ : Shape) e) (L : List (View.Piece (Elt Ideal) (⟨2, ![R, C]⟩ : Shape) e)) (r : Fin R) (l : Fin C) (j : Fin W) (hl : l.val = o + j.val) :
    View.canon (⟨Rect.unit ![0, o] ![R, W] h, x⟩ :: L) (ix2 r l) = x (ix2 r j) := by
  have he : (ix2 r l : (⟨2, ![R, C]⟩ : Shape).Idx) = (Rect.unit ![0, o] ![R, W] h).emb (ix2 r j) := by
    funext a
    refine Fin.ext ?_
    rw [Rect.emb_apply]
    match a with
    | 0 => show r.val = 0 + 1 * r.val; omega
    | 1 => show l.val = o + 1 * j.val; omega
  rw [he, View.canon_cons_emb]

theorem not_mem (r : Fin R) (l : Fin C) (hl : l.val < o ∨ o + W ≤ l.val) :
    (ix2 r l : (⟨2, ![R, C]⟩ : Shape).Idx) ∉ (Rect.unit (s := (⟨2, ![R, C]⟩ : Shape)) ![0, o] ![R, W] h).set := fun hm => by
  obtain ⟨x, hx⟩ := (Rect.unit (s := (⟨2, ![R, C]⟩ : Shape)) ![0, o] ![R, W] h).exists_idx_of_mem hm
  have h1 : ((Rect.unit (s := (⟨2, ![R, C]⟩ : Shape)) ![0, o] ![R, W] h).emb x 1).val = l.val := congrArg (fun y => Fin.val (y 1)) hx
  rw [Rect.emb_apply] at h1
  have h2 : (x 1).val < W := (x 1).isLt
  have h3 : o + 1 * (x 1).val = l.val := h1
  omega

theorem miss (x : Vec Ideal (⟨2, ![R, W]⟩ : Shape) e) (L : List (View.Piece (Elt Ideal) (⟨2, ![R, C]⟩ : Shape) e)) (r : Fin R) (l : Fin C)
    (hl : l.val < o ∨ o + W ≤ l.val) : View.canon (⟨Rect.unit ![0, o] ![R, W] h, x⟩ :: L) (ix2 r l) = View.canon L (ix2 r l) :=
  View.canon_cons_of_not_mem ⟨Rect.unit ![0, o] ![R, W] h, x⟩ L (not_mem o h r l hl)

theorem ld_cols (x : Vec Ideal (⟨2, ![R, C]⟩ : Shape) e) (r : Fin R) (j : Fin W) (l : Fin C) (hl : l.val = o + j.val) :
    View.ld x (Rect.unit (s := (⟨2, ![R, C]⟩ : Shape)) ![0, o] ![R, W] h) (ix2 r j) = x (ix2 r l) := by
  unfold View.ld
  refine congrArg x (funext fun a => Fin.ext ?_)
  match a with
  | 0 => show 0 + 1 * r.val = r.val; omega
  | 1 => show o + 1 * j.val = l.val; omega

end

/-- A lane divided by the root mean square over the lanes `bd` puts with it (the squares split in two), and scaled. -/
def normL (x g : Fin 128 → EReal) (bd : Fin 128 → Fin 128 → EReal) (l : Fin 128) : EReal :=
  x l * Ideal.rsqrt (((∑ k, x k * x k * bd k l) + ∑ k, (x k * x k - x k * x k) * bd k l) * Ideal.ofBits .f32 0x3C800000#32 + Ideal.ofBits .f32 0x358637BD#32) * g l

/-- The rotation of the lanes by position: three tables, the lane itself and the lanes eight on and eight back. -/
def rotL (x c s1 s2 : Fin 128 → EReal) (l : Fin 128) : EReal :=
  (x l * c l + x ⟨(l.val + 128 - 120) % 128, Nat.mod_lt _ (by decide)⟩ * s1 l) + x ⟨(l.val + 128 - 8) % 128, Nat.mod_lt _ (by decide)⟩ * s2 l

/-- The scale of a head's lane itself: the cosines on its first sixteen lanes, one after. -/
def tabC (co : Fin 8 → EReal) (l : Fin 64) : EReal :=
  if h : l.val < 8 then co ⟨l.val, h⟩ else if h : l.val - 8 < 8 then co ⟨l.val - 8, h⟩ else Ideal.ofBits .f32 0x3F800000#32

/-- The scale of the lane eight on: minus the sines on its first eight lanes, zero after. -/
def tab1 (si : Fin 8 → EReal) (l : Fin 64) : EReal :=
  if h : l.val < 8 then -si ⟨l.val, h⟩ else Ideal.ofBits .f32 0x00000000#32

/-- The scale of the lane eight back: the sines on its second eight lanes, zero elsewhere. -/
def tab2 (si : Fin 8 → EReal) (l : Fin 64) : EReal :=
  if h : l.val < 8 then Ideal.ofBits .f32 0x00000000#32 else if h : l.val - 8 < 8 then si ⟨l.val - 8, h⟩ else Ideal.ofBits .f32 0x00000000#32

end Cert.Attn

end
-- ==== Proof.AttnPromptTab.lean ====
/- The operands of the preparation of the attention's rows over the prompt: the blocks a grid point reads, and the tables the host makes. -/
module

public import proofs.«01_k».proof.Proof.Gen.Kernel9Ideal.Value
public import proofs.«01_k».proof.Proof.Attn

@[expose] public section

set_option maxRecDepth 16384

noncomputable section

open Idealize.ShloMosaic Idealize.ShloMosaic.TcCoe Idealize.SL.Sem
open Idealize.ShloMosaic.Pipeline (Dat)
open Cert.Kernel9Ideal Cert.Kernel9Ideal.Gen Cert.Kernel9Ideal.Value Cert.Attn

namespace Cert.AttnPrompt

/-- The angle of each position and frequency. -/
def angT : Vec Ideal S8192x8 .f32 := ((mulf (F := Ideal) (φ := .f32)) ((broadcastInDim S8192x8 ![0, 1] bcast_S8192x1_S8192x8_0_1) ((broadcastInDim S8192x1 ![0] bcast_S8192_S8192x1_0) ((sitofp (F := Ideal) .f32) (iotaInDim S8192 32 0)))) ((broadcastInDim S8192x8 ![0, 1] bcast_S1x8_S8192x8_0_1) ((broadcastInDim S1x8 ![1] bcast_S8_S1x8_1) ((Host.powf (F := Ideal) (φ := .f32)) ((broadcastInDim S8 ![] bcast_S_S8) (constant (F := Ideal) S_ .f32 0x48F42400#32)) ((Host.divf (F := Ideal) (φ := .f32)) ((Host.negf (F := Ideal) (φ := .f32)) (sitofp (F := Ideal) .f32 (iotaInDim S8 32 0))) ((broadcastInDim S8 ![] bcast_S_S8) (constant (F := Ideal) S_ .f32 0x41000000#32)))))))

/-- Its cosine. -/
def cosT : Vec Ideal S8192x8 .f32 := Host.cos (F := Ideal) (φ := .f32) angT

/-- Its sine. -/
def sinT : Vec Ideal S8192x8 .f32 := Host.sin (F := Ideal) (φ := .f32) angT

/-- One head's lanes of the table the lane itself is scaled by. -/
def catC : Vec Ideal S8192x64 .f32 := concatenate S8192x64 1 [⟨S8192x8, (cosT : Vec Ideal S8192x8 .f32)⟩, ⟨S8192x8, (cosT : Vec Ideal S8192x8 .f32)⟩, ⟨S8192x48, (((broadcastInDim S8192x48 ![] bcast_S_S8192x48) (constant (F := Ideal) S_ .f32 0x3F800000#32)) : Vec Ideal S8192x48 .f32)⟩] concatenates_S8192x8_S8192x8_S8192x48_S8192x64_d1

/-- One head's lanes of the table the lane eight on is scaled by. -/
def cat1 : Vec Ideal S8192x64 .f32 := concatenate S8192x64 1 [⟨S8192x8, (((Host.negf (F := Ideal) (φ := .f32)) sinT) : Vec Ideal S8192x8 .f32)⟩, ⟨S8192x8, (((broadcastInDim S8192x8 ![] bcast_S_S8192x8) (constant (F := Ideal) S_ .f32 0x00000000#32)) : Vec Ideal S8192x8 .f32)⟩, ⟨S8192x48, (((broadcastInDim S8192x48 ![] bcast_S_S8192x48) (constant (F := Ideal) S_ .f32 0x00000000#32)) : Vec Ideal S8192x48 .f32)⟩] concatenates_S8192x8_S8192x8_S8192x48_S8192x64_d1

/-- One head's lanes of the table the lane eight back is scaled by. -/
def cat2 : Vec Ideal S8192x64 .f32 := concatenate S8192x64 1 [⟨S8192x8, (((broadcastInDim S8192x8 ![] bcast_S_S8192x8) (constant (F := Ideal) S_ .f32 0x00000000#32)) : Vec Ideal S8192x8 .f32)⟩, ⟨S8192x8, (sinT : Vec Ideal S8192x8 .f32)⟩, ⟨S8192x48, (((broadcastInDim S8192x48 ![] bcast_S_S8192x48) (constant (F := Ideal) S_ .f32 0x00000000#32)) : Vec Ideal S8192x48 .f32)⟩] concatenates_S8192x8_S8192x8_S8192x48_S8192x64_d1

/-- A head's lanes repeated over a column piece. -/
def tileT (z : Vec Ideal S8192x64 .f32) : Vec Ideal S8192x128 .f32 := (shapeCast S8192x128 ((broadcastInDim S1x8192x2x64 ![0, 1, 2, 3] bcast_S1x8192x1x64_S1x8192x2x64_0_1_2_3) (shapeCast S1x8192x1x64 z shapeCasts_S8192x64_S1x8192x1x64)) shapeCasts_S1x8192x2x64_S8192x128)

theorem cat3_congr {a a' b b' : Vec Ideal S8192x8 .f32} {d d' : Vec Ideal S8192x48 .f32} (ha : a = a') (hb : b = b') (hd : d = d') :
    (concatenate S8192x64 1 [⟨S8192x8, a⟩, ⟨S8192x8, b⟩, ⟨S8192x48, d⟩] concatenates_S8192x8_S8192x8_S8192x48_S8192x64_d1 : Vec Ideal S8192x64 .f32)
      = concatenate S8192x64 1 [⟨S8192x8, a'⟩, ⟨S8192x8, b'⟩, ⟨S8192x48, d'⟩] concatenates_S8192x8_S8192x8_S8192x48_S8192x64_d1 := by
  subst ha hb hd
  rfl

theorem tileT_entry (z : Vec Ideal S8192x64 .f32) (r : Fin 8192) (l : Fin 128) : @Eq EReal (tileT z (ix2 r l)) (z (ix2 r ⟨l.val % 64, by omega⟩)) := by
  unfold tileT
  pointwise

theorem catC_entry (r : Fin 8192) (l : Fin 64) : @Eq EReal (catC (ix2 r l)) (tabC (fun j => cosT (ix2 r j)) l) := by
  unfold catC tabC
  pointwise

theorem cat1_entry (r : Fin 8192) (l : Fin 64) : @Eq EReal (cat1 (ix2 r l)) (tab1 (fun j => sinT (ix2 r j)) l) := by
  unfold cat1 tab1
  pointwise
  by_cases h : l.val < 8 <;> simp [h]

theorem cat2_entry (r : Fin 8192) (l : Fin 64) : @Eq EReal (cat2 (ix2 r l)) (tab2 (fun j => sinT (ix2 r j)) l) := by
  unfold cat2 tab2
  pointwise

variable (m : ((l : Loc nD τ sig) → Buf (Elt Ideal) l)) (c : Dev nD)

theorem made_c : V m c main_v33 = tileT catC := by
  entry_read
  simp only [List.flatten_cons, List.flatten_nil, List.cons_append, List.nil_append, List.append_nil, StableHlo.after_cons, StableHlo.after_nil]
  after_results_simp
  try dsimp only [Matrix.cons_val]
  unfold catC
  refine congrArg tileT (cat3_congr (a' := cosT) (b' := cosT) (d' := ((broadcastInDim S8192x48 ![] bcast_S_S8192x48) (constant (F := Ideal) S_ .f32 0x3F800000#32))) ?_ ?_ ?_) <;> (after_results_simp; try rfl)

theorem entry_c (r : Fin 8192) (l : Fin 128) : @Eq EReal (V m c main_v33 (ix2 r l)) (tabC (fun j => cosT (ix2 r j)) ⟨l.val % 64, by omega⟩) := by
  rw [made_c]
  exact (tileT_entry _ r l).trans (catC_entry r _)

theorem made_s1 : V m c main_v36 = tileT cat1 := by
  entry_read
  simp only [List.flatten_cons, List.flatten_nil, List.cons_append, List.nil_append, List.append_nil, StableHlo.after_cons, StableHlo.after_nil]
  after_results_simp
  try dsimp only [Matrix.cons_val]
  unfold cat1
  refine congrArg tileT (cat3_congr (a' := ((Host.negf (F := Ideal) (φ := .f32)) sinT)) (b' := ((broadcastInDim S8192x8 ![] bcast_S_S8192x8) (constant (F := Ideal) S_ .f32 0x00000000#32))) (d' := ((broadcastInDim S8192x48 ![] bcast_S_S8192x48) (constant (F := Ideal) S_ .f32 0x00000000#32))) ?_ ?_ ?_) <;> (after_results_simp; try rfl)

theorem entry_s1 (r : Fin 8192) (l : Fin 128) : @Eq EReal (V m c main_v36 (ix2 r l)) (tab1 (fun j => sinT (ix2 r j)) ⟨l.val % 64, by omega⟩) := by
  rw [made_s1]
  exact (tileT_entry _ r l).trans (cat1_entry r _)

theorem made_s2 : V m c main_v39 = tileT cat2 := by
  entry_read
  simp only [List.flatten_cons, List.flatten_nil, List.cons_append, List.nil_append, List.append_nil, StableHlo.after_cons, StableHlo.after_nil]
  after_results_simp
  try dsimp only [Matrix.cons_val]
  unfold cat2
  refine congrArg tileT (cat3_congr (a' := ((broadcastInDim S8192x8 ![] bcast_S_S8192x8) (constant (F := Ideal) S_ .f32 0x00000000#32))) (b' := sinT) (d' := ((broadcastInDim S8192x48 ![] bcast_S_S8192x48) (constant (F := Ideal) S_ .f32 0x00000000#32))) ?_ ?_ ?_) <;> (after_results_simp; try rfl)

theorem entry_s2 (r : Fin 8192) (l : Fin 128) : @Eq EReal (V m c main_v39 (ix2 r l)) (tab2 (fun j => sinT (ix2 r j)) ⟨l.val % 64, by omega⟩) := by
  rw [made_s2]
  exact (tileT_entry _ r l).trans (cat2_entry r _)

theorem lane_head : ∀ k : Fin 128, Scalar.select
    (IntOp.andi (IntOp.cmpi CmpIPredicate.ne (if BitVec.ofNat 32 k.val = 0 then 0 else if (BitVec.ofNat 32 k.val).msb = true then -1 else 1 : BitVec 32)
        (if 64#32 = 0 then 0 else if (64#32).msb = true then -1 else 1 : BitVec 32))
      (IntOp.cmpi CmpIPredicate.ne (IntOp.remsi ArithUnit.host (BitVec.ofNat 32 k.val) 64#32) 0#32))
    (IntOp.subi (IntOp.divsi ArithUnit.host (BitVec.ofNat 32 k.val) 64#32) 1#32) (IntOp.divsi ArithUnit.host (BitVec.ofNat 32 k.val) 64#32)
    = BitVec.ofNat 32 (k.val / 64) := by
  decide +kernel

theorem head_eq : ∀ k l : Fin 128, IntOp.cmpi CmpIPredicate.eq (BitVec.ofNat 32 (k.val / 64)) (BitVec.ofNat 32 (l.val / 64)) = if k.val / 64 = l.val / 64 then 1#1 else 0#1 := by
  decide +kernel

theorem made_bd : V m c main_v9 = ((uitofp (F := Ideal) .bf16 ((cmpi .eq) ((broadcastInDim S128x128 ![0, 1] bcast_S128x1_S128x128_0_1) (select (andi ((cmpi .ne) (signi ((broadcastInDim S128x1 ![0] bcast_S128_S128x1_0) (iotaInDim S128 32 0))) ((broadcastInDim S128x1 ![] bcast_S_S128x1) (signi (constantI S_ 32 64#32)))) ((cmpi .ne) (Host.remsi ((broadcastInDim S128x1 ![0] bcast_S128_S128x1_0) (iotaInDim S128 32 0)) ((broadcastInDim S128x1 ![] bcast_S_S128x1) (constantI S_ 32 64#32))) ((broadcastInDim S128x1 ![] bcast_S_S128x1) (constantI S_ 32 0#32)))) (subi (Host.divsi ((broadcastInDim S128x1 ![0] bcast_S128_S128x1_0) (iotaInDim S128 32 0)) ((broadcastInDim S128x1 ![] bcast_S_S128x1) (constantI S_ 32 64#32))) ((broadcastInDim S128x1 ![] bcast_S_S128x1) (constantI S_ 32 1#32))) (Host.divsi ((broadcastInDim S128x1 ![0] bcast_S128_S128x1_0) (iotaInDim S128 32 0)) ((broadcastInDim S128x1 ![] bcast_S_S128x1) (constantI S_ 32 64#32))))) ((broadcastInDim S128x128 ![0, 1] bcast_S1x128_S128x128_0_1) (select (andi ((cmpi .ne) (signi ((broadcastInDim S1x128 ![1] bcast_S128_S1x128_1) (iotaInDim S128 32 0))) ((broadcastInDim S1x128 ![] bcast_S_S1x128) (signi (constantI S_ 32 64#32)))) ((cmpi .ne) (Host.remsi ((broadcastInDim S1x128 ![1] bcast_S128_S1x128_1) (iotaInDim S128 32 0)) ((broadcastInDim S1x128 ![] bcast_S_S1x128) (constantI S_ 32 64#32))) ((broadcastInDim S1x128 ![] bcast_S_S1x128) (constantI S_ 32 0#32)))) (subi (Host.divsi ((broadcastInDim S1x128 ![1] bcast_S128_S1x128_1) (iotaInDim S128 32 0)) ((broadcastInDim S1x128 ![] bcast_S_S1x128) (constantI S_ 32 64#32))) ((broadcastInDim S1x128 ![] bcast_S_S1x128) (constantI S_ 32 1#32))) (Host.divsi ((broadcastInDim S1x128 ![1] bcast_S128_S1x128_1) (iotaInDim S128 32 0)) ((broadcastInDim S1x128 ![] bcast_S_S1x128) (constantI S_ 32 64#32))))))) : Vec Ideal S128x128 .bf16) := by
  entry_read
  simp only [List.flatten_cons, List.flatten_nil, List.cons_append, List.nil_append, List.append_nil, StableHlo.after_cons, StableHlo.after_nil]
  after_results_simp
  rfl

theorem entry_bd (k l : Fin 128) : @Eq EReal (V m c main_v9 (ix2 k l)) (if k.val / 64 = l.val / 64 then 1 else 0) := by
  rw [made_bd]
  pointwise
  refine Eq.trans (congrArg (fun z => (FloatOps.uitofp (F := Ideal) .bf16 z : EReal)) ((congrArg₂ (IntOp.cmpi CmpIPredicate.eq) (lane_head k) (lane_head l)).trans (head_eq k l))) ?_
  split
  · show ((((1#1 : BitVec 1).toNat : ℝ)) : EReal) = 1
    simp
  · show ((((0#1 : BitVec 1).toNat : ℝ)) : EReal) = 0
    simp

theorem entry_qn (r : Fin 1) (l : Fin 128) : @Eq EReal (V m c main_v43 (ix2 r l)) (m ((c : Thread nD τ).loc main_arg1) (ix1 ⟨l.val % 64, by omega⟩)) := by
  entry_read
  simp only [List.flatten_cons, List.flatten_nil, List.cons_append, List.nil_append, List.append_nil, StableHlo.after_cons, StableHlo.after_nil]
  after_results_simp
  refine (show _ = (((broadcastInDim S1x128 ![1] bcast_S128_S1x128_1) (shapeCast S128 ((broadcastInDim S2x64 ![0, 1] bcast_S1x64_S2x64_0_1) (shapeCast S1x64 (m ((c : Thread nD τ).loc main_arg1)) shapeCasts_S64_S1x64)) shapeCasts_S2x64_S128)) : FVec Ideal S1x128 .f32) (ix2 r l) from rfl).trans ?_
  pointwise

theorem entry_kn (r : Fin 1) (l : Fin 128) : @Eq EReal (V m c main_v47 (ix2 r l)) (m ((c : Thread nD τ).loc main_arg2) (ix1 ⟨l.val % 64, by omega⟩)) := by
  entry_read
  simp only [List.flatten_cons, List.flatten_nil, List.cons_append, List.nil_append, List.append_nil, StableHlo.after_cons, StableHlo.after_nil]
  after_results_simp
  refine (show _ = (((broadcastInDim S1x128 ![1] bcast_S128_S1x128_1) (shapeCast S128 ((broadcastInDim S2x64 ![0, 1] bcast_S1x64_S2x64_0_1) (shapeCast S1x64 (m ((c : Thread nD τ).loc main_arg2)) shapeCasts_S64_S1x64)) shapeCasts_S2x64_S128)) : FVec Ideal S1x128 .f32) (ix2 r l) from rfl).trans ?_
  pointwise

theorem windows : ∀ t : Fin cfg0.N, win0_0.index t = ![t.val, 1] ∧ win0_1.index t = ![t.val, 9] ∧ win0_2.index t = ![t.val % 32, 0]
    ∧ win0_3.index t = ![t.val % 32, 0] ∧ win0_4.index t = ![t.val % 32, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![t.val, 0] := by
  decide +kernel

theorem points (t : Fin cfg0.N) : t.val < 64 := t.isLt

theorem block_p (t : Fin cfg0.N) (i : Fin 256) (l : Fin 1152) :
    X0_0 m c t (ix2 i l) = m ((c : Thread nD τ).loc main_arg0) (ix2 ⟨256 * t.val + i.val, by have := points t; omega⟩ ⟨1152 + l.val, by omega⟩) := by
  have hw := (windows t).1
  unfold X0_0 Pipeline.Window.fill
  rw [dif_pos (moved0_0 t _)]
  blk_ext [iblk, V_main_arg0, hw]

theorem block_i (t : Fin cfg0.N) (i : Fin 256) (l : Fin 384) :
    iblk m c 1 t (ix2 i l) = m ((c : Thread nD τ).loc main_arg0) (ix2 ⟨256 * t.val + i.val, by have := points t; omega⟩ ⟨3456 + l.val, by omega⟩) := by
  have hw := (windows t).2.1
  blk_ext [iblk, V_main_arg0, hw]

theorem block_c (t : Fin cfg0.N) (i : Fin 256) (l : Fin 128) :
    @Eq EReal (iblk m c 2 t (ix2 i l)) (tabC (fun j => cosT (ix2 ⟨256 * (t.val % 32) + i.val, by omega⟩ j)) ⟨l.val % 64, by omega⟩) := by
  have hw := (windows t).2.2.1
  refine Eq.trans ?_ (entry_c m c ⟨256 * (t.val % 32) + i.val, by omega⟩ l)
  blk_ext [iblk, hw]

theorem block_s1 (t : Fin cfg0.N) (i : Fin 256) (l : Fin 128) :
    @Eq EReal (iblk m c 3 t (ix2 i l)) (tab1 (fun j => sinT (ix2 ⟨256 * (t.val % 32) + i.val, by omega⟩ j)) ⟨l.val % 64, by omega⟩) := by
  have hw := (windows t).2.2.2.1
  refine Eq.trans ?_ (entry_s1 m c ⟨256 * (t.val % 32) + i.val, by omega⟩ l)
  blk_ext [iblk, hw]

theorem block_s2 (t : Fin cfg0.N) (i : Fin 256) (l : Fin 128) :
    @Eq EReal (iblk m c 4 t (ix2 i l)) (tab2 (fun j => sinT (ix2 ⟨256 * (t.val % 32) + i.val, by omega⟩ j)) ⟨l.val % 64, by omega⟩) := by
  have hw := (windows t).2.2.2.2.1
  refine Eq.trans ?_ (entry_s2 m c ⟨256 * (t.val % 32) + i.val, by omega⟩ l)
  blk_ext [iblk, hw]

theorem block_bd (t : Fin cfg0.N) (k l : Fin 128) : @Eq EReal (iblk m c 5 t (ix2 k l)) (if k.val / 64 = l.val / 64 then 1 else 0) := by
  have hw := (windows t).2.2.2.2.2.1
  refine Eq.trans ?_ (entry_bd m c k l)
  blk_ext [iblk, hw]

theorem block_qn (t : Fin cfg0.N) (i : Fin 1) (l : Fin 128) : @Eq EReal (iblk m c 6 t (ix2 i l)) (m ((c : Thread nD τ).loc main_arg1) (ix1 ⟨l.val % 64, by omega⟩)) := by
  have hw := (windows t).2.2.2.2.2.2.1
  refine Eq.trans ?_ (entry_qn m c i l)
  blk_ext [iblk, hw]

theorem block_kn (t : Fin cfg0.N) (i : Fin 1) (l : Fin 128) : @Eq EReal (iblk m c 7 t (ix2 i l)) (m ((c : Thread nD τ).loc main_arg2) (ix1 ⟨l.val % 64, by omega⟩)) := by
  have hw := (windows t).2.2.2.2.2.2.2.1
  refine Eq.trans ?_ (entry_kn m c i l)
  blk_ext [iblk, hw]

end Cert.AttnPrompt

end
-- ==== Proof.AttnMath.lean ====
/- The head norm and the rotation by position, as the lanes of a column piece carry them and as one head's 64 lanes do. -/
module

public import proofs.«01_k».proof.Proof.Attn

@[expose] public section

set_option maxRecDepth 16384

noncomputable section

open Idealize.ShloMosaic Idealize.ShloMosaic.TcCoe Idealize.SL.Sem

namespace Cert.Attn

/-- Lane `l` of a head divided by the head's root mean square, and scaled. -/
def normH (x g : Fin 64 → EReal) (l : Fin 64) : EReal :=
  x l * Ideal.rsqrt (Ideal.div (∑ j, x j * x j) (Ideal.ofBits .f32 0x42800000#32) + Ideal.ofBits .f32 0x358637BD#32) * g l

/-- The rotation of a head's first sixteen lanes, paired eight apart, by position. -/
def ropeH (x : Fin 64 → EReal) (co si : Fin 8 → EReal) (l : Fin 64) : EReal :=
  if h : l.val < 8 then x l * co ⟨l.val, h⟩ - x ⟨l.val + 8, by omega⟩ * si ⟨l.val, h⟩
  else if h : l.val - 8 < 8 then x l * co ⟨l.val - 8, h⟩ + x ⟨l.val - 8, by omega⟩ * si ⟨l.val - 8, h⟩
  else x l

/-- A head's lanes among those of a column piece. -/
abbrev headOf (x : Fin 128 → EReal) (l : Fin 128) (j : Fin 64) : EReal := x ⟨64 * (l.val / 64) + j.val, by omega⟩

theorem rotL_eq (x : Fin 128 → EReal) (co si : Fin 8 → EReal) (l : Fin 128) :
    rotL x (fun l => tabC co ⟨l.val % 64, by omega⟩) (fun l => tab1 si ⟨l.val % 64, by omega⟩) (fun l => tab2 si ⟨l.val % 64, by omega⟩) l
      = ropeH (headOf x l) co si ⟨l.val % 64, by omega⟩ := by
  have hz : Ideal.ofBits FTy.f32 0x00000000#32 = (0 : EReal) := Ideal.ofBits_zero_f32
  have ho : Ideal.ofBits FTy.f32 0x3F800000#32 = (1 : EReal) := by
    simp [Ideal.ofBits, Ideal.ieee]
    rw [← EReal.coe_mul, ← EReal.coe_one]
    norm_num
  have hl : (⟨64 * (l.val / 64) + l.val % 64, by omega⟩ : Fin 128) = l := Fin.ext (by show 64 * (l.val / 64) + l.val % 64 = l.val; omega)
  unfold rotL ropeH tabC tab1 tab2 headOf
  dsimp only
  rw [hz, ho, hl]
  by_cases h : l.val % 64 < 8
  · have h1 : (⟨(l.val + 128 - 120) % 128, Nat.mod_lt _ (by decide)⟩ : Fin 128) = ⟨64 * (l.val / 64) + (l.val % 64 + 8), by omega⟩ :=
      Fin.ext (by show (l.val + 128 - 120) % 128 = 64 * (l.val / 64) + (l.val % 64 + 8); omega)
    rw [dif_pos h, dif_pos h, dif_pos h, dif_pos h, mul_zero, add_zero, mul_neg, h1, sub_eq_add_neg]
  · by_cases h8 : l.val % 64 - 8 < 8
    · have h1 : (⟨(l.val + 128 - 8) % 128, Nat.mod_lt _ (by decide)⟩ : Fin 128) = ⟨64 * (l.val / 64) + (l.val % 64 - 8), by omega⟩ :=
        Fin.ext (by show (l.val + 128 - 8) % 128 = 64 * (l.val / 64) + (l.val % 64 - 8); omega)
      rw [dif_neg h, dif_neg h, dif_neg h, dif_neg h, dif_pos h8, dif_pos h8, dif_pos h8, mul_zero, add_zero, h1]
    · rw [dif_neg h, dif_neg h, dif_neg h, dif_neg h, dif_neg h8, dif_neg h8, dif_neg h8, mul_zero, mul_zero, add_zero, add_zero, mul_one]

theorem sum_halves (f : Fin 128 → EReal) : ∑ k, f k = (∑ j : Fin 64, f ⟨j.val, by omega⟩) + ∑ j : Fin 64, f ⟨64 + j.val, by omega⟩ :=
  Fin.sum_univ_add (a := 64) (b := 64) f

theorem sum_head (f : Fin 128 → EReal) (l : Fin 128) :
    (∑ k : Fin 128, f k * (if k.val / 64 = l.val / 64 then (1 : EReal) else 0)) = ∑ j, headOf f l j := by
  rw [sum_halves]
  by_cases h : l.val < 64
  · have e0 : ∀ j : Fin 64, f ⟨j.val, by omega⟩ * (if j.val / 64 = l.val / 64 then (1 : EReal) else 0) = headOf f l j := fun j => by
      rw [if_pos (by omega), mul_one]
      exact congrArg f (Fin.ext (by show j.val = 64 * (l.val / 64) + j.val; omega))
    have e1 : ∀ j : Fin 64, f ⟨64 + j.val, by omega⟩ * (if (64 + j.val) / 64 = l.val / 64 then (1 : EReal) else 0) = 0 := fun j => by
      rw [if_neg (by omega), mul_zero]
    rw [Finset.sum_congr rfl fun j _ => e0 j, Finset.sum_congr rfl fun j _ => e1 j, Finset.sum_const_zero, add_zero]
  · have e0 : ∀ j : Fin 64, f ⟨j.val, by omega⟩ * (if j.val / 64 = l.val / 64 then (1 : EReal) else 0) = 0 := fun j => by
      rw [if_neg (by omega), mul_zero]
    have e1 : ∀ j : Fin 64, f ⟨64 + j.val, by omega⟩ * (if (64 + j.val) / 64 = l.val / 64 then (1 : EReal) else 0) = headOf f l j := fun j => by
      rw [if_pos (by omega), mul_one]
      exact congrArg f (Fin.ext (by show 64 + j.val = 64 * (l.val / 64) + j.val; omega))
    rw [Finset.sum_congr rfl fun j _ => e0 j, Finset.sum_congr rfl fun j _ => e1 j, Finset.sum_const_zero, zero_add]

theorem normL_eq (x g : Fin 128 → EReal) (hx : ∀ k, x k = ((x k).toReal : EReal)) (l : Fin 128) :
    normL x g (fun k l => if k.val / 64 = l.val / 64 then 1 else 0) l = normH (headOf x l) (headOf g l) ⟨l.val % 64, by omega⟩ := by
  have hl : (⟨64 * (l.val / 64) + l.val % 64, by omega⟩ : Fin 128) = l := Fin.ext (by show 64 * (l.val / 64) + l.val % 64 = l.val; omega)
  have h64 : Ideal.ofBits FTy.f32 0x42800000#32 = ((64 : ℝ) : EReal) := by
    simp [Ideal.ofBits, Ideal.ieee]
    norm_num
    rw [← EReal.coe_mul]
    norm_num
  have hi : Ideal.ofBits FTy.f32 0x3C800000#32 = ((1 / 64 : ℝ) : EReal) := by
    simp [Ideal.ofBits, Ideal.ieee]
    norm_num
    rw [← EReal.coe_mul]
    norm_num
  have hsub : ∀ k, x k * x k - x k * x k = 0 := fun k => by
    rw [hx k, ← EReal.coe_mul, ← EReal.coe_sub, sub_self, EReal.coe_zero]
  unfold normL normH
  rw [sum_head (fun k => x k * x k) l]
  have hs : (∑ k : Fin 128, (x k * x k - x k * x k) * (if k.val / 64 = l.val / 64 then (1 : EReal) else 0)) = 0 :=
    Finset.sum_eq_zero fun k _ => by rw [hsub, zero_mul]
  rw [hs, add_zero, h64, Ideal.div_coe (by norm_num : (64 : ℝ) ≠ 0), hi]
  unfold headOf
  dsimp only
  rw [hl]

theorem rot_norm_eq (x g : Fin 128 → EReal) (hx : ∀ k, x k = ((x k).toReal : EReal)) (co si : Fin 8 → EReal) (l : Fin 128) :
    rotL (normL x g (fun k l => if k.val / 64 = l.val / 64 then 1 else 0)) (fun l => tabC co ⟨l.val % 64, by omega⟩) (fun l => tab1 si ⟨l.val % 64, by omega⟩) (fun l => tab2 si ⟨l.val % 64, by omega⟩) l
      = ropeH (normH (headOf x l) (headOf g l)) co si ⟨l.val % 64, by omega⟩ := by
  rw [rotL_eq]
  refine congrArg (fun f => ropeH f co si ⟨l.val % 64, by omega⟩) (funext fun j => ?_)
  refine (normL_eq x g hx ⟨64 * (l.val / 64) + j.val, by omega⟩).trans ?_
  have hd : (64 * (l.val / 64) + j.val) / 64 = l.val / 64 := by omega
  have hm : (⟨(64 * (l.val / 64) + j.val) % 64, by omega⟩ : Fin 64) = j := Fin.ext (by show (64 * (l.val / 64) + j.val) % 64 = j.val; omega)
  have hh : ∀ z : Fin 128 → EReal, headOf z ⟨64 * (l.val / 64) + j.val, by omega⟩ = headOf z l := fun z => funext fun i => by
    refine congrArg z (Fin.ext ?_)
    show 64 * ((64 * (l.val / 64) + j.val) / 64) + i.val = 64 * (l.val / 64) + i.val
    rw [hd]
  rw [hh, hh]
  exact congrArg _ hm

end Cert.Attn

end
-- ==== Proof.AttnPrompt.lean ====
/- The rows the attention reads, prepared over the prompt: what the call writes, in terms of the arrays it is given. -/
module

public import proofs.«01_k».proof.Proof.AttnPromptTab
public import proofs.«01_k».proof.Proof.AttnMath

@[expose] public section

set_option maxRecDepth 16384

noncomputable section

open Idealize.ShloMosaic Idealize.ShloMosaic.TcCoe Idealize.SL.Sem
open Idealize.ShloMosaic.Pipeline (Dat)
open Cert.Kernel9Ideal Cert.Kernel9Ideal.Gen Cert.Kernel9Ideal.Value Cert.Attn

namespace Cert.AttnPrompt

section

variable (x c s1 s2 : Vec Ideal S256x128 .f32) (bd : Vec Ideal S128x128 .bf16) (g : Vec Ideal S1x128 .f32) (r : Fin 256) (l : Fin 128)

/-- The rotation of a piece's row. -/
abbrev rotOf (x : Fin 128 → EReal) : EReal := rotL x (fun l => c (ix2 r l)) (fun l => s1 (ix2 r l)) (fun l => s2 (ix2 r l)) l

/-- The norm of a piece's row. -/
abbrev normOf : Fin 128 → EReal := normL (fun l => x (ix2 r l)) (fun l => g (ix2 0 l)) (fun k l => bd (ix2 k l))

theorem pay_q0 : @Eq EReal (k0_pay7 c s1 s2 bd x g (ix2 r l)) (rotOf c s1 s2 r l (normOf x bd g r) * Ideal.ofBits .f32 0x3E000000#32) := by
  unfold rotOf normOf rotL normL
  pointwise [k0_pay3, k0_pay4, k0_pay5, k0_pay6, k0_pay7]

theorem pay_q1 : @Eq EReal (k0_pay8 (k0_pay3 c) (k0_pay4 s1) (k0_pay5 s2) (k0_pay6 bd) x g (ix2 r l)) (rotOf c s1 s2 r l (normOf x bd g r) * Ideal.ofBits .f32 0x3E000000#32) := by
  unfold rotOf normOf rotL normL
  pointwise [k0_pay3, k0_pay4, k0_pay5, k0_pay6, k0_pay8]

theorem pay_q2 : @Eq EReal (k0_pay14 (k0_pay3 c) (k0_pay4 s1) (k0_pay5 s2) (k0_pay6 bd) x (k0_pay9 g) (k0_pay12 x) (k0_pay13 (k0_pay6 bd) x) (constant S256x128 .f32 0x00000000#32) (ix2 r l))
    (rotOf c s1 s2 r l (normOf x bd g r) * Ideal.ofBits .f32 0x3E000000#32) := by
  unfold rotOf normOf rotL normL
  pointwise [k0_pay3, k0_pay4, k0_pay5, k0_pay6, k0_pay9, k0_pay10, k0_pay11, k0_pay12, k0_pay13, k0_pay14]

theorem pay_k0 : @Eq EReal (k0_pay18 (k0_pay5 s2) (k0_pay15 (k0_pay6 bd) x g) (k0_pay16 (k0_pay3 c) (k0_pay6 bd) x g) (k0_pay17 (k0_pay4 s1) (k0_pay6 bd) x g) (ix2 r l)) (rotOf c s1 s2 r l (normOf x bd g r)) := by
  unfold rotOf normOf rotL normL
  pointwise [k0_pay3, k0_pay4, k0_pay5, k0_pay6, k0_pay15, k0_pay16, k0_pay17, k0_pay18]

theorem pay_k1 : @Eq EReal (k0_pay19 (k0_pay3 c) (k0_pay4 s1) (k0_pay5 s2) (k0_pay6 bd) x g (ix2 r l)) (rotOf c s1 s2 r l (normOf x bd g r)) := by
  unfold rotOf normOf rotL normL
  pointwise [k0_pay3, k0_pay4, k0_pay5, k0_pay6, k0_pay19]

theorem pay_k2 : @Eq EReal (k0_pay24 (k0_pay3 c) (k0_pay4 s1) (k0_pay5 s2) (k0_pay6 bd) x (k0_pay20 g) (k0_pay22 x) (k0_pay23 x) (ix2 r l)) (rotOf c s1 s2 r l (normOf x bd g r)) := by
  unfold rotOf normOf rotL normL
  pointwise [k0_pay3, k0_pay4, k0_pay5, k0_pay6, k0_pay20, k0_pay21, k0_pay22, k0_pay23, k0_pay24]

theorem pay_i0 : @Eq EReal (k0_pay25 (k0_pay3 c) (k0_pay4 s1) (k0_pay5 s2) x (ix2 r l)) (rotOf c s1 s2 r l (fun l => x (ix2 r l))) := by
  unfold rotOf rotL
  pointwise [k0_pay3, k0_pay4, k0_pay5, k0_pay25]

theorem pay_i1 : @Eq EReal (k0_pay1 (k0_pay5 s2) x (k0_pay26 (k0_pay3 c) x) (k0_pay27 (k0_pay4 s1) x) (ix2 r l)) (rotOf c s1 s2 r l (fun l => x (ix2 r l))) := by
  unfold rotOf rotL
  pointwise [k0_pay3, k0_pay4, k0_pay5, k0_pay26, k0_pay27, k0_pay1]

theorem lane_lt : ∀ l : Fin 128, IntOp.cmpi .slt (BitVec.ofNat 32 l.val) 64#32 = if l.val < 64 then 1#1 else 0#1 := by decide +kernel

theorem pay_w_lo (hl : l.val < 64) : @Eq EReal (k0_pay2 (k0_pay3 c) (k0_pay4 s1) (k0_pay5 s2) x (ix2 r l)) (rotOf c s1 s2 r l (fun l => x (ix2 r l))) := by
  have hc := lane_lt l
  rw [if_pos hl] at hc
  unfold rotOf rotL
  pointwise [k0_pay3, k0_pay4, k0_pay5, k0_pay2]
  rw [hc]
  rfl

theorem pay_w_hi (hl : ¬l.val < 64) : @Eq EReal (k0_pay2 (k0_pay3 c) (k0_pay4 s1) (k0_pay5 s2) x (ix2 r l)) (x (ix2 r l)) := by
  have hc := lane_lt l
  rw [if_neg hl] at hc
  pointwise [k0_pay3, k0_pay4, k0_pay5, k0_pay2]
  rw [hc]
  show (x (ix2 r l) * (1 : EReal) + 0) + 0 = x (ix2 r l)
  rw [mul_one, add_zero, add_zero]

end

section

variable (x0 : Vec Ideal S256x1152 .f32) (x1 : Vec Ideal S256x384 .f32) (x2 x3 x4 : Vec Ideal S256x128 .f32) (x5 : Vec Ideal S128x128 .bf16) (x6 : Vec Ideal S1x128 .f32) (r : Fin 256)

/-- A block's normed and rotated column, of the columns from `o` on. -/
def outN (o : ℕ) (ho : o + 384 ≤ 1152) (l : Fin 384) : EReal :=
  rotOf x2 x3 x4 r ⟨l.val % 128, by omega⟩ (normL (fun k => x0 (ix2 r ⟨o + (128 * (l.val / 128) + k.val), by omega⟩)) (fun k => x6 (ix2 0 k)) (fun k l => x5 (ix2 k l)))

/-- A block's rotated column of the index queries. -/
def outI (l : Fin 256) : EReal :=
  rotOf x2 x3 x4 r ⟨l.val % 128, by omega⟩ (fun k => x1 (ix2 r ⟨128 * (l.val / 128) + k.val, by omega⟩))

/-- A block's column of the index key and weights. -/
def outW (l : Fin 128) : EReal :=
  if l.val < 64 then rotOf x2 x3 x4 r l (fun k => x1 (ix2 r ⟨256 + k.val, by omega⟩)) else x1 (ix2 r ⟨256 + l.val, by omega⟩)

end

section

variable (c : Dev nD) (i : grid0.Coords) (arg1 : Memref sig .tc .vmem S256x1152 .f32) (harg1 : arg1.IsWhole) (arg2 : Memref sig .tc .vmem S256x384 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S256x384 .bf16) (harg9 : arg9.IsWhole) (arg10 : Memref sig .tc .vmem S256x384 .f32) (harg10 : arg10.IsWhole) (arg11 : Memref sig .tc .vmem S256x384 .f32) (harg11 : arg11.IsWhole) (arg12 : Memref sig .tc .vmem S256x256 .bf16) (harg12 : arg12.IsWhole) (arg13 : Memref sig .tc .vmem S256x128 .f32) (harg13 : arg13.IsWhole)
    (x0 : Vec Ideal S256x1152 .f32) (x1 : Vec Ideal S256x384 .f32) (x2 : Vec Ideal S256x128 .f32) (x3 : Vec Ideal S256x128 .f32) (x4 : Vec Ideal S256x128 .f32) (x5 : Vec Ideal S128x128 .bf16) (x6 : Vec Ideal S1x128 .f32) (x7 : Vec Ideal S1x128 .f32)

theorem out8 (r : Fin 256) (l : Fin 384) : @Eq EReal (out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r l)) (outN x0 x2 x3 x4 x5 x6 r 0 (by decide) l * Ideal.ofBits .f32 0x3E000000#32) := by
  frame_open
  simp (disch := decide) only [↓ View.readCov_skip, ↓ View.readCov_cons_toLoadRect, ↓ View.readCov_fill]
  frame_out
  rcases (by omega : l.val < 128 ∨ (128 ≤ l.val ∧ l.val < 256) ∨ 256 ≤ l.val) with h | h | h
  · refine (miss 256 _ _ _ r l (by omega)).trans ?_
    refine (miss 128 _ _ _ r l (by omega)).trans ?_
    refine (hit 0 _ _ _ r l ⟨l.val % 128, by omega⟩ (by show l.val = 0 + l.val % 128; omega)).trans ((pay_q0 _ _ _ _ _ _ r _).trans ?_)
    exact congrArg (fun f => rotOf x2 x3 x4 r ⟨l.val % 128, by omega⟩ (normL f (fun k => x6 (ix2 0 k)) (fun k l => x5 (ix2 k l))) * Ideal.ofBits .f32 0x3E000000#32) (funext fun k => ld_cols 0 _ x0 r k ⟨0 + (128 * (l.val / 128) + k.val), by omega⟩ (by show 0 + (128 * (l.val / 128) + k.val) = 0 + k.val; omega))
  · refine (miss 256 _ _ _ r l (by omega)).trans ?_
    refine (hit 128 _ _ _ r l ⟨l.val % 128, by omega⟩ (by show l.val = 128 + l.val % 128; omega)).trans ((pay_q1 _ _ _ _ _ _ r _).trans ?_)
    exact congrArg (fun f => rotOf x2 x3 x4 r ⟨l.val % 128, by omega⟩ (normL f (fun k => x6 (ix2 0 k)) (fun k l => x5 (ix2 k l))) * Ideal.ofBits .f32 0x3E000000#32) (funext fun k => ld_cols 128 _ x0 r k ⟨0 + (128 * (l.val / 128) + k.val), by omega⟩ (by show 0 + (128 * (l.val / 128) + k.val) = 128 + k.val; omega))
  · refine (hit 256 _ _ _ r l ⟨l.val % 128, by omega⟩ (by show l.val = 256 + l.val % 128; omega)).trans ((pay_q2 _ _ _ _ _ _ r _).trans ?_)
    exact congrArg (fun f => rotOf x2 x3 x4 r ⟨l.val % 128, by omega⟩ (normL f (fun k => x6 (ix2 0 k)) (fun k l => x5 (ix2 k l))) * Ideal.ofBits .f32 0x3E000000#32) (funext fun k => ld_cols 256 _ x0 r k ⟨0 + (128 * (l.val / 128) + k.val), by omega⟩ (by show 0 + (128 * (l.val / 128) + k.val) = 256 + k.val; omega))

theorem out9 (r : Fin 256) (l : Fin 384) : @Eq EReal (out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r l)) (outN x0 x2 x3 x4 x5 x7 r 384 (by decide) l) := by
  frame_open
  simp (disch := decide) only [↓ View.readCov_skip, ↓ View.readCov_cons_toLoadRect, ↓ View.readCov_fill]
  frame_out
  rcases (by omega : l.val < 128 ∨ (128 ≤ l.val ∧ l.val < 256) ∨ 256 ≤ l.val) with h | h | h
  · refine (miss 256 _ _ _ r l (by omega)).trans ?_
    refine (miss 128 _ _ _ r l (by omega)).trans ?_
    refine (hit 0 _ _ _ r l ⟨l.val % 128, by omega⟩ (by show l.val = 0 + l.val % 128; omega)).trans ((pay_k0 _ _ _ _ _ _ r _).trans ?_)
    exact congrArg (fun f => rotOf x2 x3 x4 r ⟨l.val % 128, by omega⟩ (normL f (fun k => x7 (ix2 0 k)) (fun k l => x5 (ix2 k l)))) (funext fun k => ld_cols 384 _ x0 r k ⟨384 + (128 * (l.val / 128) + k.val), by omega⟩ (by show 384 + (128 * (l.val / 128) + k.val) = 384 + k.val; omega))
  · refine (miss 256 _ _ _ r l (by omega)).trans ?_
    refine (hit 128 _ _ _ r l ⟨l.val % 128, by omega⟩ (by show l.val = 128 + l.val % 128; omega)).trans ((pay_k1 _ _ _ _ _ _ r _).trans ?_)
    exact congrArg (fun f => rotOf x2 x3 x4 r ⟨l.val % 128, by omega⟩ (normL f (fun k => x7 (ix2 0 k)) (fun k l => x5 (ix2 k l)))) (funext fun k => ld_cols 512 _ x0 r k ⟨384 + (128 * (l.val / 128) + k.val), by omega⟩ (by show 384 + (128 * (l.val / 128) + k.val) = 512 + k.val; omega))
  · refine (hit 256 _ _ _ r l ⟨l.val % 128, by omega⟩ (by show l.val = 256 + l.val % 128; omega)).trans ((pay_k2 _ _ _ _ _ _ r _).trans ?_)
    exact congrArg (fun f => rotOf x2 x3 x4 r ⟨l.val % 128, by omega⟩ (normL f (fun k => x7 (ix2 0 k)) (fun k l => x5 (ix2 k l)))) (funext fun k => ld_cols 640 _ x0 r k ⟨384 + (128 * (l.val / 128) + k.val), by omega⟩ (by show 384 + (128 * (l.val / 128) + k.val) = 640 + k.val; omega))

theorem out10 (r : Fin 256) (l : Fin 384) : @Eq EReal (out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r l)) (x0 (ix2 r ⟨768 + l.val, by omega⟩)) := by
  frame_open
  simp (disch := decide) only [↓ View.readCov_skip, ↓ View.readCov_cons_toLoadRect, ↓ View.readCov_fill]
  frame_out
  exact ld_cols 768 _ x0 r l ⟨768 + l.val, by omega⟩ rfl

theorem out11 (r : Fin 256) (l : Fin 256) : @Eq EReal (out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r l)) (outI x1 x2 x3 x4 r l) := by
  frame_open
  simp (disch := decide) only [↓ View.readCov_skip, ↓ View.readCov_cons_toLoadRect, ↓ View.readCov_fill]
  frame_out
  rcases (by omega : l.val < 128 ∨ 128 ≤ l.val) with h | h
  · refine (miss 128 _ _ _ r l (by omega)).trans ?_
    refine (hit 0 _ _ _ r l ⟨l.val % 128, by omega⟩ (by show l.val = 0 + l.val % 128; omega)).trans ((pay_i0 _ _ _ _ r _).trans ?_)
    exact congrArg (fun f => rotOf x2 x3 x4 r ⟨l.val % 128, by omega⟩ f) (funext fun k => ld_cols 0 _ x1 r k ⟨128 * (l.val / 128) + k.val, by omega⟩ (by show 128 * (l.val / 128) + k.val = 0 + k.val; omega))
  · refine (hit 128 _ _ _ r l ⟨l.val % 128, by omega⟩ (by show l.val = 128 + l.val % 128; omega)).trans ((pay_i1 _ _ _ _ r _).trans ?_)
    exact congrArg (fun f => rotOf x2 x3 x4 r ⟨l.val % 128, by omega⟩ f) (funext fun k => ld_cols 128 _ x1 r k ⟨128 * (l.val / 128) + k.val, by omega⟩ (by show 128 * (l.val / 128) + k.val = 128 + k.val; omega))

theorem out12 (r : Fin 256) (l : Fin 128) : @Eq EReal (out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r l)) (outW x1 x2 x3 x4 r l) := by
  frame_open
  simp (disch := decide) only [↓ View.readCov_skip, ↓ View.readCov_cons_toLoadRect, ↓ View.readCov_fill]
  frame_out
  unfold outW
  by_cases h : l.val < 64
  · rw [if_pos h]
    refine (pay_w_lo _ _ _ _ r l h).trans ?_
    exact congrArg (fun f => rotOf x2 x3 x4 r l f) (funext fun k => ld_cols 256 _ x1 r k ⟨256 + k.val, by omega⟩ rfl)
  · rw [if_neg h]
    exact (pay_w_hi _ _ _ _ r l h).trans (ld_cols 256 _ x1 r l ⟨256 + l.val, by omega⟩ rfl)

end

section

variable (p : Vec Ideal S17408x3840 .f32) (g : Vec Ideal S64 .f32) (r : Fin 16384)

/-- The cosines of a row's position. -/
def co (r : Fin 16384) (j : Fin 8) : EReal := cosT (ix2 ⟨r.val % 8192, by omega⟩ j)

/-- The sines of a row's position. -/
def si (r : Fin 16384) (j : Fin 8) : EReal := sinT (ix2 ⟨r.val % 8192, by omega⟩ j)

/-- A row's normed and rotated column `l` of the columns from `o` on. -/
def headN (o : ℕ) (ho : o + 384 ≤ 3840) (l : Fin 384) : EReal :=
  ropeH (normH (fun j => p (ix2 ⟨r.val, by omega⟩ ⟨o + (64 * (l.val / 64) + j.val), by omega⟩)) (fun j => g (ix1 j))) (co r) (si r) ⟨l.val % 64, by omega⟩

/-- A row's rotated column `l` of the index queries. -/
def headI (l : Fin 256) : EReal :=
  ropeH (fun j => p (ix2 ⟨r.val, by omega⟩ ⟨3456 + (64 * (l.val / 64) + j.val), by omega⟩)) (co r) (si r) ⟨l.val % 64, by omega⟩

/-- A row's column `l` of the index key, rotated, and the index weights. -/
def headW (l : Fin 128) : EReal :=
  if l.val < 64 then ropeH (fun j => p (ix2 ⟨r.val, by omega⟩ ⟨3712 + j.val, by omega⟩)) (co r) (si r) ⟨l.val % 64, by omega⟩
  else p (ix2 ⟨r.val, by omega⟩ ⟨3712 + l.val, by omega⟩)

end

variable (m : ((l : Loc nD τ sig) → Buf (Elt Ideal) l)) (c : Dev nD)

/-- The queries' and keys' columns are real. -/
def RealQK (p : Vec Ideal S17408x3840 .f32) : Prop :=
  ∀ (r : Fin 16384) (k : Fin 768), p (ix2 ⟨r.val, by omega⟩ ⟨1152 + k.val, by omega⟩) = ((p (ix2 ⟨r.val, by omega⟩ ⟨1152 + k.val, by omega⟩)).toReal : EReal)

/-- The queries. -/
def G8 (i : S16384x384.Idx) : EReal := headN (m ((c : Thread nD τ).loc main_arg0)) (m ((c : Thread nD τ).loc main_arg1)) (i 0) 1152 (by decide) (i 1) * Ideal.ofBits .f32 0x3E000000#32

/-- The keys. -/
def G9 (i : S16384x384.Idx) : EReal := headN (m ((c : Thread nD τ).loc main_arg0)) (m ((c : Thread nD τ).loc main_arg2)) (i 0) 1536 (by decide) (i 1)

/-- The values. -/
def G10 (i : S16384x384.Idx) : EReal :=
  m ((c : Thread nD τ).loc main_arg0) (ix2 ⟨(i 0).val, by have : (i 0).val < 16384 := (i 0).isLt; omega⟩ ⟨1920 + (i 1).val, by have : (i 1).val < 384 := (i 1).isLt; omega⟩)

/-- The index queries. -/
def G11 (i : S16384x256.Idx) : EReal := headI (m ((c : Thread nD τ).loc main_arg0)) (i 0) (i 1)

/-- The index key and weights. -/
def G12 (i : S16384x128.Idx) : EReal := headW (m ((c : Thread nD τ).loc main_arg0)) (i 0) (i 1)

section

variable (t : Fin cfg0.N) (r : Fin 256)

/-- The row of the whole array that row `r` of point `t`'s block is. -/
abbrev rowAt : Fin 16384 := ⟨256 * t.val + r.val, by have := points t; omega⟩

theorem tabs_c : (fun k => (iblk m c 2 t (ix2 r k) : EReal)) = fun k => tabC (co (rowAt t r)) ⟨k.val % 64, by omega⟩ := funext fun k => by
  refine (block_c m c t r k).trans (congrArg (fun f => tabC f _) (funext fun j => congrArg (fun q => cosT (ix2 q j)) (Fin.ext ?_)))
  have := points t
  show 256 * (t.val % 32) + r.val = (256 * t.val + r.val) % 8192
  omega

theorem tabs_1 : (fun k => (iblk m c 3 t (ix2 r k) : EReal)) = fun k => tab1 (si (rowAt t r)) ⟨k.val % 64, by omega⟩ := funext fun k => by
  refine (block_s1 m c t r k).trans (congrArg (fun f => tab1 f _) (funext fun j => congrArg (fun q => sinT (ix2 q j)) (Fin.ext ?_)))
  have := points t
  show 256 * (t.val % 32) + r.val = (256 * t.val + r.val) % 8192
  omega

theorem tabs_2 : (fun k => (iblk m c 4 t (ix2 r k) : EReal)) = fun k => tab2 (si (rowAt t r)) ⟨k.val % 64, by omega⟩ := funext fun k => by
  refine (block_s2 m c t r k).trans (congrArg (fun f => tab2 f _) (funext fun j => congrArg (fun q => sinT (ix2 q j)) (Fin.ext ?_)))
  have := points t
  show 256 * (t.val % 32) + r.val = (256 * t.val + r.val) % 8192
  omega

theorem tab_bd : (fun k l => (iblk m c 5 t (ix2 k l) : EReal)) = fun k l => if k.val / 64 = l.val / 64 then (1 : EReal) else 0 :=
  funext fun k => funext fun l => block_bd m c t k l

theorem norm_ok (o : ℕ) (ho : o + 384 ≤ 768) (g : Vec Ideal S64 .f32) (x6 : Vec Ideal S1x128 .f32) (hg : ∀ k : Fin 128, @Eq EReal (x6 (ix2 0 k)) (g (ix1 ⟨k.val % 64, by omega⟩)))
    (H : RealQK (m ((c : Thread nD τ).loc main_arg0))) (l : Fin 384) :
    outN (X0_0 m c t) (iblk m c 2 t) (iblk m c 3 t) (iblk m c 4 t) (iblk m c 5 t) x6 r o (by omega) l
      = headN (m ((c : Thread nD τ).loc main_arg0)) g (rowAt t r) (1152 + o) (by omega) l := by
  have ht := points t
  unfold outN rotOf
  rw [tabs_c, tabs_1, tabs_2, tab_bd]
  have hx : (fun k : Fin 128 => (X0_0 m c t (ix2 r ⟨o + (128 * (l.val / 128) + k.val), by omega⟩) : EReal))
      = fun k => m ((c : Thread nD τ).loc main_arg0) (ix2 ⟨(256 * t.val + r.val), by omega⟩ ⟨1152 + (o + (128 * (l.val / 128) + k.val)), by omega⟩) :=
    funext fun k => block_p m c t r _
  have hgf : (fun k : Fin 128 => (x6 (ix2 0 k) : EReal)) = fun k => g (ix1 ⟨k.val % 64, by omega⟩) := funext hg
  rw [hx, hgf]
  refine (rot_norm_eq _ _ (fun k => H (rowAt t r) ⟨o + (128 * (l.val / 128) + k.val), by omega⟩) _ _ _).trans ?_
  unfold headN headOf
  have h1 : (fun j : Fin 64 => (m ((c : Thread nD τ).loc main_arg0) (ix2 ⟨(256 * t.val + r.val), by omega⟩ ⟨1152 + (o + (128 * (l.val / 128) + (64 * (l.val % 128 / 64) + j.val))), by omega⟩) : EReal))
      = fun j => m ((c : Thread nD τ).loc main_arg0) (ix2 ⟨(rowAt t r).val, by omega⟩ ⟨1152 + o + (64 * (l.val / 64) + j.val), by omega⟩) := funext fun j =>
    congrArg (fun q => m ((c : Thread nD τ).loc main_arg0) (ix2 ⟨(256 * t.val + r.val), by omega⟩ q)) (Fin.ext (by show 1152 + (o + (128 * (l.val / 128) + (64 * (l.val % 128 / 64) + j.val))) = 1152 + o + (64 * (l.val / 64) + j.val); omega))
  have h2 : (fun j : Fin 64 => (g (ix1 ⟨(64 * (l.val % 128 / 64) + j.val) % 64, by omega⟩) : EReal)) = fun j => g (ix1 j) := funext fun j =>
    congrArg (fun q => g (ix1 q)) (Fin.ext (by show (64 * (l.val % 128 / 64) + j.val) % 64 = j.val; omega))
  have h3 : (⟨l.val % 128 % 64, by omega⟩ : Fin 64) = ⟨l.val % 64, by omega⟩ := Fin.ext (by show l.val % 128 % 64 = l.val % 64; omega)
  dsimp only
  rw [h1, h2, h3]

theorem ok8 (H : RealQK (m ((c : Thread nD τ).loc main_arg0))) (l : Fin 384) :
    outN (X0_0 m c t) (iblk m c 2 t) (iblk m c 3 t) (iblk m c 4 t) (iblk m c 5 t) (iblk m c 6 t) r 0 (by decide) l * Ideal.ofBits .f32 0x3E000000#32 = G8 m c (ix2 (rowAt t r) l) :=
  congrArg (· * Ideal.ofBits .f32 0x3E000000#32) (norm_ok m c t r 0 (by decide) (m ((c : Thread nD τ).loc main_arg1)) _ (fun k => block_qn m c t 0 k) H l)

theorem ok9 (H : RealQK (m ((c : Thread nD τ).loc main_arg0))) (l : Fin 384) :
    outN (X0_0 m c t) (iblk m c 2 t) (iblk m c 3 t) (iblk m c 4 t) (iblk m c 5 t) (iblk m c 7 t) r 384 (by decide) l = G9 m c (ix2 (rowAt t r) l) :=
  norm_ok m c t r 384 (by decide) (m ((c : Thread nD τ).loc main_arg2)) _ (fun k => block_kn m c t 0 k) H l

theorem ok10 (l : Fin 384) : (X0_0 m c t (ix2 r ⟨768 + l.val, by omega⟩) : EReal) = G10 m c (ix2 (rowAt t r) l) := by
  refine (block_p m c t r _).trans ?_
  unfold G10
  have ht := points t
  exact congrArg (fun q => m ((c : Thread nD τ).loc main_arg0) (ix2 ⟨(256 * t.val + r.val), by omega⟩ q)) (Fin.ext (by show 1152 + (768 + l.val) = 1920 + l.val; omega))

theorem ok11 (l : Fin 256) : outI (iblk m c 1 t) (iblk m c 2 t) (iblk m c 3 t) (iblk m c 4 t) r l = G11 m c (ix2 (rowAt t r) l) := by
  have ht := points t
  unfold outI rotOf
  rw [tabs_c, tabs_1, tabs_2]
  have hx : (fun k : Fin 128 => (iblk m c 1 t (ix2 r ⟨128 * (l.val / 128) + k.val, by omega⟩) : EReal))
      = fun k => m ((c : Thread nD τ).loc main_arg0) (ix2 ⟨(256 * t.val + r.val), by omega⟩ ⟨3456 + (128 * (l.val / 128) + k.val), by omega⟩) :=
    funext fun k => block_i m c t r _
  rw [hx]
  refine (rotL_eq _ _ _ _).trans ?_
  unfold G11 headI headOf
  have h1 : (fun j : Fin 64 => (m ((c : Thread nD τ).loc main_arg0) (ix2 ⟨(256 * t.val + r.val), by omega⟩ ⟨3456 + (128 * (l.val / 128) + (64 * (l.val % 128 / 64) + j.val)), by omega⟩) : EReal))
      = fun j => m ((c : Thread nD τ).loc main_arg0) (ix2 ⟨(rowAt t r).val, by omega⟩ ⟨3456 + (64 * (l.val / 64) + j.val), by omega⟩) := funext fun j =>
    congrArg (fun q => m ((c : Thread nD τ).loc main_arg0) (ix2 ⟨(256 * t.val + r.val), by omega⟩ q)) (Fin.ext (by show 3456 + (128 * (l.val / 128) + (64 * (l.val % 128 / 64) + j.val)) = 3456 + (64 * (l.val / 64) + j.val); omega))
  have h3 : (⟨l.val % 128 % 64, by omega⟩ : Fin 64) = ⟨l.val % 64, by omega⟩ := Fin.ext (by show l.val % 128 % 64 = l.val % 64; omega)
  dsimp only
  rw [h1, h3]
  rfl

theorem ok12 (l : Fin 128) : outW (iblk m c 1 t) (iblk m c 2 t) (iblk m c 3 t) (iblk m c 4 t) r l = G12 m c (ix2 (rowAt t r) l) := by
  have ht := points t
  unfold outW G12 headW
  show (if l.val < 64 then _ else _) = (if l.val < 64 then _ else _)
  by_cases h : l.val < 64
  · rw [if_pos h, if_pos h]
    unfold rotOf
    rw [tabs_c, tabs_1, tabs_2]
    have hx : (fun k : Fin 128 => (iblk m c 1 t (ix2 r ⟨256 + k.val, by omega⟩) : EReal))
        = fun k => m ((c : Thread nD τ).loc main_arg0) (ix2 ⟨(256 * t.val + r.val), by omega⟩ ⟨3456 + (256 + k.val), by omega⟩) :=
      funext fun k => block_i m c t r _
    rw [hx]
    refine (rotL_eq _ _ _ _).trans ?_
    unfold headOf
    have h1 : (fun j : Fin 64 => (m ((c : Thread nD τ).loc main_arg0) (ix2 ⟨(256 * t.val + r.val), by omega⟩ ⟨3456 + (256 + (64 * (l.val / 64) + j.val)), by omega⟩) : EReal))
        = fun j => m ((c : Thread nD τ).loc main_arg0) (ix2 ⟨(rowAt t r).val, by omega⟩ ⟨3712 + j.val, by omega⟩) := funext fun j =>
      congrArg (fun q => m ((c : Thread nD τ).loc main_arg0) (ix2 ⟨(256 * t.val + r.val), by omega⟩ q)) (Fin.ext (by show 3456 + (256 + (64 * (l.val / 64) + j.val)) = 3712 + j.val; omega))
    dsimp only
    rw [h1]
    rfl
  · rw [if_neg h, if_neg h]
    refine (block_i m c t r _).trans ?_
    exact congrArg (fun q => m ((c : Thread nD τ).loc main_arg0) (ix2 ⟨(256 * t.val + r.val), by omega⟩ q)) (Fin.ext (by show 3456 + (256 + l.val) = 3712 + l.val; omega))

end

theorem flushes8 : ∀ t : Fin cfg0.N, (cfg0.win 8).flush t = true := by decide +kernel
theorem flushes9 : ∀ t : Fin cfg0.N, (cfg0.win 9).flush t = true := by decide +kernel
theorem flushes10 : ∀ t : Fin cfg0.N, (cfg0.win 10).flush t = true := by decide +kernel
theorem flushes11 : ∀ t : Fin cfg0.N, (cfg0.win 11).flush t = true := by decide +kernel
theorem flushes12 : ∀ t : Fin cfg0.N, (cfg0.win 12).flush t = true := by decide +kernel

theorem point8 (t : Fin cfg0.N) (H : RealQK (m ((c : Thread nD τ).loc main_arg0))) (r : Fin 256) (l : Fin 384) :
    @Eq EReal (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) (ix2 r l)) (G8 m c (ix2 (rowAt t r) l)) :=
  Eq.trans (out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) r l) (ok8 m c t r H l)

theorem emb8 (t : Fin cfg0.N) (r : Fin 256) (l : Fin 384) : (((cfg0.win 8).blk t).view.emb (ix2 r l) : S16384x384.Idx) = ix2 (rowAt t r) l := by
  have hw := (windows t).2.2.2.2.2.2.2.2.1
  funext a
  refine Fin.ext ?_
  match a with
  | 0 =>
    show win0_8.index t (0 : Fin 2) * 256 + 1 * r.val = 256 * t.val + r.val
    rw [hw]; show t.val * 256 + 1 * r.val = _; omega
  | 1 =>
    show win0_8.index t (1 : Fin 2) * 384 + 1 * l.val = l.val
    rw [hw]; show 0 * 384 + 1 * l.val = _; omega

set_option maxHeartbeats 1000000 in
theorem at8 (H : RealQK (m ((c : Thread nD τ).loc main_arg0))) (t : Fin cfg0.N) (r : Fin 256) (l : Fin 384) :
    @Eq EReal ((dats m 0 c).arrAt 8 cfg0.N (ix2 (rowAt t r) l)) (G8 m c (ix2 (rowAt t r) l)) := by
  have hb := congrFun (blocks8 m c t (flushes8 t)) (ix2 r l)
  rw [flushed8_A] at hb
  have hp := point8 m c t H r l
  rw [← hp, ← emb8 t r l]
  exact hb

theorem final8 (H : RealQK (m ((c : Thread nD τ).loc main_arg0))) : (dats m 0 c).arrAt 8 cfg0.N = G8 m c := by
  funext i
  have h0 : (i 0).val < 16384 := (i 0).isLt
  have ht : (i 0).val / 256 < cfg0.N := by show (i 0).val / 256 < 64; omega
  have hi : i = (ix2 (rowAt ⟨(i 0).val / 256, ht⟩ ⟨(i 0).val % 256, Nat.mod_lt _ (by decide)⟩) (i 1) : S16384x384.Idx) := by
    funext a
    match a with
    | 0 => exact Fin.ext (by show (i 0).val = 256 * ((i 0).val / 256) + (i 0).val % 256; omega)
    | 1 => rfl
  rw [hi]
  exact at8 m c H ⟨(i 0).val / 256, ht⟩ ⟨(i 0).val % 256, Nat.mod_lt _ (by decide)⟩ (i 1)

theorem point9 (t : Fin cfg0.N) (H : RealQK (m ((c : Thread nD τ).loc main_arg0))) (r : Fin 256) (l : Fin 384) :
    @Eq EReal (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) (ix2 r l)) (G9 m c (ix2 (rowAt t r) l)) :=
  Eq.trans (out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) r l) (ok9 m c t r H l)

theorem emb9 (t : Fin cfg0.N) (r : Fin 256) (l : Fin 384) : (((cfg0.win 9).blk t).view.emb (ix2 r l) : S16384x384.Idx) = ix2 (rowAt t r) l := by
  have hw := (windows t).2.2.2.2.2.2.2.2.2.1
  funext a
  refine Fin.ext ?_
  match a with
  | 0 =>
    show win0_9.index t (0 : Fin 2) * 256 + 1 * r.val = 256 * t.val + r.val
    rw [hw]; show t.val * 256 + 1 * r.val = _; omega
  | 1 =>
    show win0_9.index t (1 : Fin 2) * 384 + 1 * l.val = l.val
    rw [hw]; show 0 * 384 + 1 * l.val = _; omega

set_option maxHeartbeats 1000000 in
theorem at9 (H : RealQK (m ((c : Thread nD τ).loc main_arg0))) (t : Fin cfg0.N) (r : Fin 256) (l : Fin 384) :
    @Eq EReal ((dats m 0 c).arrAt 9 cfg0.N (ix2 (rowAt t r) l)) (G9 m c (ix2 (rowAt t r) l)) := by
  have hb := congrFun (blocks9 m c t (flushes9 t)) (ix2 r l)
  rw [flushed9_A] at hb
  have hp := point9 m c t H r l
  rw [← hp, ← emb9 t r l]
  exact hb

theorem final9 (H : RealQK (m ((c : Thread nD τ).loc main_arg0))) : (dats m 0 c).arrAt 9 cfg0.N = G9 m c := by
  funext i
  have h0 : (i 0).val < 16384 := (i 0).isLt
  have ht : (i 0).val / 256 < cfg0.N := by show (i 0).val / 256 < 64; omega
  have hi : i = (ix2 (rowAt ⟨(i 0).val / 256, ht⟩ ⟨(i 0).val % 256, Nat.mod_lt _ (by decide)⟩) (i 1) : S16384x384.Idx) := by
    funext a
    match a with
    | 0 => exact Fin.ext (by show (i 0).val = 256 * ((i 0).val / 256) + (i 0).val % 256; omega)
    | 1 => rfl
  rw [hi]
  exact at9 m c H ⟨(i 0).val / 256, ht⟩ ⟨(i 0).val % 256, Nat.mod_lt _ (by decide)⟩ (i 1)

theorem point10 (t : Fin cfg0.N) (r : Fin 256) (l : Fin 384) :
    @Eq EReal (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) (ix2 r l)) (G10 m c (ix2 (rowAt t r) l)) :=
  Eq.trans (out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) r l) (ok10 m c t r l)

theorem emb10 (t : Fin cfg0.N) (r : Fin 256) (l : Fin 384) : (((cfg0.win 10).blk t).view.emb (ix2 r l) : S16384x384.Idx) = ix2 (rowAt t r) l := by
  have hw := (windows t).2.2.2.2.2.2.2.2.2.2.1
  funext a
  refine Fin.ext ?_
  match a with
  | 0 =>
    show win0_10.index t (0 : Fin 2) * 256 + 1 * r.val = 256 * t.val + r.val
    rw [hw]; show t.val * 256 + 1 * r.val = _; omega
  | 1 =>
    show win0_10.index t (1 : Fin 2) * 384 + 1 * l.val = l.val
    rw [hw]; show 0 * 384 + 1 * l.val = _; omega

set_option maxHeartbeats 1000000 in
theorem at10 (t : Fin cfg0.N) (r : Fin 256) (l : Fin 384) :
    @Eq EReal ((dats m 0 c).arrAt 10 cfg0.N (ix2 (rowAt t r) l)) (G10 m c (ix2 (rowAt t r) l)) := by
  have hb := congrFun (blocks10 m c t (flushes10 t)) (ix2 r l)
  rw [flushed10_A] at hb
  have hp := point10 m c t r l
  rw [← hp, ← emb10 t r l]
  exact hb

theorem final10 : (dats m 0 c).arrAt 10 cfg0.N = G10 m c := by
  funext i
  have h0 : (i 0).val < 16384 := (i 0).isLt
  have ht : (i 0).val / 256 < cfg0.N := by show (i 0).val / 256 < 64; omega
  have hi : i = (ix2 (rowAt ⟨(i 0).val / 256, ht⟩ ⟨(i 0).val % 256, Nat.mod_lt _ (by decide)⟩) (i 1) : S16384x384.Idx) := by
    funext a
    match a with
    | 0 => exact Fin.ext (by show (i 0).val = 256 * ((i 0).val / 256) + (i 0).val % 256; omega)
    | 1 => rfl
  rw [hi]
  exact at10 m c ⟨(i 0).val / 256, ht⟩ ⟨(i 0).val % 256, Nat.mod_lt _ (by decide)⟩ (i 1)

theorem point11 (t : Fin cfg0.N) (r : Fin 256) (l : Fin 256) :
    @Eq EReal (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) (ix2 r l)) (G11 m c (ix2 (rowAt t r) l)) :=
  Eq.trans (out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) r l) (ok11 m c t r l)

theorem emb11 (t : Fin cfg0.N) (r : Fin 256) (l : Fin 256) : (((cfg0.win 11).blk t).view.emb (ix2 r l) : S16384x256.Idx) = ix2 (rowAt t r) l := by
  have hw := (windows t).2.2.2.2.2.2.2.2.2.2.2.1
  funext a
  refine Fin.ext ?_
  match a with
  | 0 =>
    show win0_11.index t (0 : Fin 2) * 256 + 1 * r.val = 256 * t.val + r.val
    rw [hw]; show t.val * 256 + 1 * r.val = _; omega
  | 1 =>
    show win0_11.index t (1 : Fin 2) * 256 + 1 * l.val = l.val
    rw [hw]; show 0 * 256 + 1 * l.val = _; omega

set_option maxHeartbeats 1000000 in
theorem at11 (t : Fin cfg0.N) (r : Fin 256) (l : Fin 256) :
    @Eq EReal ((dats m 0 c).arrAt 11 cfg0.N (ix2 (rowAt t r) l)) (G11 m c (ix2 (rowAt t r) l)) := by
  have hb := congrFun (blocks11 m c t (flushes11 t)) (ix2 r l)
  rw [flushed11_A] at hb
  have hp := point11 m c t r l
  rw [← hp, ← emb11 t r l]
  exact hb

theorem final11 : (dats m 0 c).arrAt 11 cfg0.N = G11 m c := by
  funext i
  have h0 : (i 0).val < 16384 := (i 0).isLt
  have ht : (i 0).val / 256 < cfg0.N := by show (i 0).val / 256 < 64; omega
  have hi : i = (ix2 (rowAt ⟨(i 0).val / 256, ht⟩ ⟨(i 0).val % 256, Nat.mod_lt _ (by decide)⟩) (i 1) : S16384x256.Idx) := by
    funext a
    match a with
    | 0 => exact Fin.ext (by show (i 0).val = 256 * ((i 0).val / 256) + (i 0).val % 256; omega)
    | 1 => rfl
  rw [hi]
  exact at11 m c ⟨(i 0).val / 256, ht⟩ ⟨(i 0).val % 256, Nat.mod_lt _ (by decide)⟩ (i 1)

theorem point12 (t : Fin cfg0.N) (r : Fin 256) (l : Fin 128) :
    @Eq EReal (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) (ix2 r l)) (G12 m c (ix2 (rowAt t r) l)) :=
  Eq.trans (out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) r l) (ok12 m c t r l)

theorem emb12 (t : Fin cfg0.N) (r : Fin 256) (l : Fin 128) : (((cfg0.win 12).blk t).view.emb (ix2 r l) : S16384x128.Idx) = ix2 (rowAt t r) l := by
  have hw := (windows t).2.2.2.2.2.2.2.2.2.2.2.2
  funext a
  refine Fin.ext ?_
  match a with
  | 0 =>
    show win0_12.index t (0 : Fin 2) * 256 + 1 * r.val = 256 * t.val + r.val
    rw [hw]; show t.val * 256 + 1 * r.val = _; omega
  | 1 =>
    show win0_12.index t (1 : Fin 2) * 128 + 1 * l.val = l.val
    rw [hw]; show 0 * 128 + 1 * l.val = _; omega

set_option maxHeartbeats 1000000 in
theorem at12 (t : Fin cfg0.N) (r : Fin 256) (l : Fin 128) :
    @Eq EReal ((dats m 0 c).arrAt 12 cfg0.N (ix2 (rowAt t r) l)) (G12 m c (ix2 (rowAt t r) l)) := by
  have hb := congrFun (blocks12 m c t (flushes12 t)) (ix2 r l)
  rw [flushed12_A] at hb
  have hp := point12 m c t r l
  rw [← hp, ← emb12 t r l]
  exact hb

theorem final12 : (dats m 0 c).arrAt 12 cfg0.N = G12 m c := by
  funext i
  have h0 : (i 0).val < 16384 := (i 0).isLt
  have ht : (i 0).val / 256 < cfg0.N := by show (i 0).val / 256 < 64; omega
  have hi : i = (ix2 (rowAt ⟨(i 0).val / 256, ht⟩ ⟨(i 0).val % 256, Nat.mod_lt _ (by decide)⟩) (i 1) : S16384x128.Idx) := by
    funext a
    match a with
    | 0 => exact Fin.ext (by show (i 0).val = 256 * ((i 0).val / 256) + (i 0).val % 256; omega)
    | 1 => rfl
  rw [hi]
  exact at12 m c ⟨(i 0).val / 256, ht⟩ ⟨(i 0).val % 256, Nat.mod_lt _ (by decide)⟩ (i 1)

end Cert.AttnPrompt

end
-- ==== Proof.AttnPromptRef.lean ====
/- The rows the attention reads, prepared over the prompt, in the plain program. -/
module

public import proofs.«01_k».proof.Proof.AttnPrompt
public import proofs.«01_k».proof.Proof.Gen.Reference9Ideal.Run

@[expose] public section

set_option maxRecDepth 16384

noncomputable section

open Idealize.ShloMosaic Idealize.ShloMosaic.TcCoe Idealize.SL.Sem Idealize.ShloMosaic.StableHlo
open Cert.Reference9Ideal Cert.Reference9Ideal.Gen Cert.Reference9Ideal.Value Cert.Attn

namespace Cert.AttnPrompt

variable (V : Valuation τ sig (Elt Ideal))

/-- The array of the rows. -/
abbrev pOf : Vec Ideal S17408x3840 .f32 := V (Proc.devRef .tc main_arg0)

theorem q_x (b : Fin 2) (t : Fin 8192) (h : Fin 6) (j : Fin 64) :
    @Eq EReal (res_main_v3 V (ix4 b t h j)) (pOf V (ix2 ⟨(b.val * 8192 + t.val), by omega⟩ ⟨1152 + (h.val * 64 + j.val), by omega⟩)) := by
  unfold res_main_v3 res_main_v0
  pointwise

theorem q_n (b : Fin 2) (t : Fin 8192) (h : Fin 6) (j : Fin 64) :
    @Eq EReal (res_main_v16 V (ix4 b t h j)) (normH (fun j => res_main_v3 V (ix4 b t h j)) (fun j => (V (Proc.devRef .tc main_arg1) : Vec Ideal S64 .f32) (ix1 j)) j) := by
  unfold res_main_v16 normH
  pointwise

theorem q_c (q : Fin 8192) (t : Fin 8192) (hq : q.val % 8192 = t.val) (j : Fin 8) : @Eq EReal (res_main_v30 V (ix3 t 0 j)) (cosT (ix2 q j)) := by
  obtain rfl : q = t := Fin.ext (by omega)
  unfold res_main_v30 res_main_v28 res_main_v1 cosT angT
  pointwise

theorem q_s (q : Fin 8192) (t : Fin 8192) (hq : q.val % 8192 = t.val) (j : Fin 8) : @Eq EReal (res_main_v32 V (ix3 t 0 j)) (sinT (ix2 q j)) := by
  obtain rfl : q = t := Fin.ext (by omega)
  unfold res_main_v32 res_main_v28 res_main_v1 sinT angT
  pointwise

theorem q_r (b : Fin 2) (t : Fin 8192) (h : Fin 6) (l : Fin 64) :
    @Eq EReal (((concatenate S2x8192x6x64 3 [⟨S2x8192x6x8, ((subf (F := Ideal) (φ := .f32) (mulf (F := Ideal) (φ := .f32) (res_main_v33 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v30 V)))) (mulf (F := Ideal) (φ := .f32) (res_main_v34 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v32 V))))) : (⟨S2x8192x6x8, .f32⟩ : BufTy).Contents (Elt Ideal))⟩, ⟨S2x8192x6x8, ((addf (F := Ideal) (φ := .f32) (mulf (F := Ideal) (φ := .f32) (res_main_v34 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v30 V)))) (mulf (F := Ideal) (φ := .f32) (res_main_v33 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v32 V))))) : (⟨S2x8192x6x8, .f32⟩ : BufTy).Contents (Elt Ideal))⟩, ⟨S2x8192x6x48, ((extractStridedSlice S2x8192x6x48 ![0, 0, 0, 16] (res_main_v16 V) slices_S2x8192x6x64_S2x8192x6x48_0_0_0_16) : (⟨S2x8192x6x48, .f32⟩ : BufTy).Contents (Elt Ideal))⟩] concatenates_S2x8192x6x8_S2x8192x6x8_S2x8192x6x48_S2x8192x6x64_d3 : (⟨S2x8192x6x64, .f32⟩ : BufTy).Contents (Elt Ideal))) (ix4 b t h l))
      (ropeH (fun j => res_main_v16 V (ix4 b t h j)) (fun j => res_main_v30 V (ix3 t 0 j)) (fun j => res_main_v32 V (ix3 t 0 j)) l) := by
  unfold res_main_v33 res_main_v34 ropeH
  pointwise
  refine dite_congr rfl (fun h1 => ?_) (fun h1 => ?_)
  · rw [show (⟨8 + l.val, by omega⟩ : Fin 64) = ⟨l.val + 8, by omega⟩ from Fin.ext (Nat.add_comm _ _)]
  · refine dite_congr rfl (fun h2 => ?_) (fun h2 => ?_)
    · rw [show (⟨8 + (l.val - 8), by omega⟩ : Fin 64) = l from Fin.ext (by show 8 + (l.val - 8) = l.val; omega)]
    · exact congrArg (fun q => res_main_v16 V (ix4 b t h q)) (Fin.ext (by show 16 + (l.val - 8 - 8) = l.val; omega))

theorem k_x (b : Fin 2) (t : Fin 8192) (h : Fin 6) (j : Fin 64) :
    @Eq EReal (res_main_v54 V (ix4 b t h j)) (pOf V (ix2 ⟨(b.val * 8192 + t.val), by omega⟩ ⟨1536 + (h.val * 64 + j.val), by omega⟩)) := by
  unfold res_main_v54 res_main_v0
  pointwise

theorem k_n (b : Fin 2) (t : Fin 8192) (h : Fin 6) (j : Fin 64) :
    @Eq EReal (res_main_v67 V (ix4 b t h j)) (normH (fun j => res_main_v54 V (ix4 b t h j)) (fun j => (V (Proc.devRef .tc main_arg2) : Vec Ideal S64 .f32) (ix1 j)) j) := by
  unfold res_main_v67 normH
  pointwise

theorem k_c (q : Fin 8192) (t : Fin 8192) (hq : q.val % 8192 = t.val) (j : Fin 8) : @Eq EReal (res_main_v81 V (ix3 t 0 j)) (cosT (ix2 q j)) := by
  obtain rfl : q = t := Fin.ext (by omega)
  unfold res_main_v81 res_main_v79 res_main_v1 cosT angT
  pointwise

theorem k_s (q : Fin 8192) (t : Fin 8192) (hq : q.val % 8192 = t.val) (j : Fin 8) : @Eq EReal (res_main_v83 V (ix3 t 0 j)) (sinT (ix2 q j)) := by
  obtain rfl : q = t := Fin.ext (by omega)
  unfold res_main_v83 res_main_v79 res_main_v1 sinT angT
  pointwise

theorem k_r (b : Fin 2) (t : Fin 8192) (h : Fin 6) (l : Fin 64) :
    @Eq EReal (((concatenate S2x8192x6x64 3 [⟨S2x8192x6x8, ((subf (F := Ideal) (φ := .f32) (mulf (F := Ideal) (φ := .f32) (res_main_v84 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v81 V)))) (mulf (F := Ideal) (φ := .f32) (res_main_v85 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v83 V))))) : (⟨S2x8192x6x8, .f32⟩ : BufTy).Contents (Elt Ideal))⟩, ⟨S2x8192x6x8, ((addf (F := Ideal) (φ := .f32) (mulf (F := Ideal) (φ := .f32) (res_main_v85 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v81 V)))) (mulf (F := Ideal) (φ := .f32) (res_main_v84 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v83 V))))) : (⟨S2x8192x6x8, .f32⟩ : BufTy).Contents (Elt Ideal))⟩, ⟨S2x8192x6x48, ((extractStridedSlice S2x8192x6x48 ![0, 0, 0, 16] (res_main_v67 V) slices_S2x8192x6x64_S2x8192x6x48_0_0_0_16) : (⟨S2x8192x6x48, .f32⟩ : BufTy).Contents (Elt Ideal))⟩] concatenates_S2x8192x6x8_S2x8192x6x8_S2x8192x6x48_S2x8192x6x64_d3 : (⟨S2x8192x6x64, .f32⟩ : BufTy).Contents (Elt Ideal))) (ix4 b t h l))
      (ropeH (fun j => res_main_v67 V (ix4 b t h j)) (fun j => res_main_v81 V (ix3 t 0 j)) (fun j => res_main_v83 V (ix3 t 0 j)) l) := by
  unfold res_main_v84 res_main_v85 ropeH
  pointwise
  refine dite_congr rfl (fun h1 => ?_) (fun h1 => ?_)
  · rw [show (⟨8 + l.val, by omega⟩ : Fin 64) = ⟨l.val + 8, by omega⟩ from Fin.ext (Nat.add_comm _ _)]
  · refine dite_congr rfl (fun h2 => ?_) (fun h2 => ?_)
    · rw [show (⟨8 + (l.val - 8), by omega⟩ : Fin 64) = l from Fin.ext (by show 8 + (l.val - 8) = l.val; omega)]
    · exact congrArg (fun q => res_main_v67 V (ix4 b t h q)) (Fin.ext (by show 16 + (l.val - 8 - 8) = l.val; omega))

theorem i_x (b : Fin 2) (t : Fin 8192) (h : Fin 4) (j : Fin 64) :
    @Eq EReal (res_main_v103 V (ix4 b t h j)) (pOf V (ix2 ⟨(b.val * 8192 + t.val), by omega⟩ ⟨3456 + (h.val * 64 + j.val), by omega⟩)) := by
  unfold res_main_v103 res_main_v0
  pointwise

theorem i_c (q : Fin 8192) (t : Fin 8192) (hq : q.val % 8192 = t.val) (j : Fin 8) : @Eq EReal (res_main_v117 V (ix3 t 0 j)) (cosT (ix2 q j)) := by
  obtain rfl : q = t := Fin.ext (by omega)
  unfold res_main_v117 res_main_v115 res_main_v1 cosT angT
  pointwise

theorem i_s (q : Fin 8192) (t : Fin 8192) (hq : q.val % 8192 = t.val) (j : Fin 8) : @Eq EReal (res_main_v119 V (ix3 t 0 j)) (sinT (ix2 q j)) := by
  obtain rfl : q = t := Fin.ext (by omega)
  unfold res_main_v119 res_main_v115 res_main_v1 sinT angT
  pointwise

theorem i_r (b : Fin 2) (t : Fin 8192) (h : Fin 4) (l : Fin 64) :
    @Eq EReal (((concatenate S2x8192x4x64 3 [⟨S2x8192x4x8, ((subf (F := Ideal) (φ := .f32) (mulf (F := Ideal) (φ := .f32) (res_main_v120 V) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v117 V)))) (mulf (F := Ideal) (φ := .f32) (res_main_v121 V) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v119 V))))) : (⟨S2x8192x4x8, .f32⟩ : BufTy).Contents (Elt Ideal))⟩, ⟨S2x8192x4x8, ((addf (F := Ideal) (φ := .f32) (mulf (F := Ideal) (φ := .f32) (res_main_v121 V) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v117 V)))) (mulf (F := Ideal) (φ := .f32) (res_main_v120 V) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v119 V))))) : (⟨S2x8192x4x8, .f32⟩ : BufTy).Contents (Elt Ideal))⟩, ⟨S2x8192x4x48, ((extractStridedSlice S2x8192x4x48 ![0, 0, 0, 16] (res_main_v103 V) slices_S2x8192x4x64_S2x8192x4x48_0_0_0_16) : (⟨S2x8192x4x48, .f32⟩ : BufTy).Contents (Elt Ideal))⟩] concatenates_S2x8192x4x8_S2x8192x4x8_S2x8192x4x48_S2x8192x4x64_d3 : (⟨S2x8192x4x64, .f32⟩ : BufTy).Contents (Elt Ideal))) (ix4 b t h l))
      (ropeH (fun j => res_main_v103 V (ix4 b t h j)) (fun j => res_main_v117 V (ix3 t 0 j)) (fun j => res_main_v119 V (ix3 t 0 j)) l) := by
  unfold res_main_v120 res_main_v121 ropeH
  pointwise
  refine dite_congr rfl (fun h1 => ?_) (fun h1 => ?_)
  · rw [show (⟨8 + l.val, by omega⟩ : Fin 64) = ⟨l.val + 8, by omega⟩ from Fin.ext (Nat.add_comm _ _)]
  · refine dite_congr rfl (fun h2 => ?_) (fun h2 => ?_)
    · rw [show (⟨8 + (l.val - 8), by omega⟩ : Fin 64) = l from Fin.ext (by show 8 + (l.val - 8) = l.val; omega)]
    · exact congrArg (fun q => res_main_v103 V (ix4 b t h q)) (Fin.ext (by show 16 + (l.val - 8 - 8) = l.val; omega))

theorem w_x (b : Fin 2) (t : Fin 8192) (h : Fin 1) (j : Fin 64) :
    @Eq EReal (res_main_v139 V (ix4 b t h j)) (pOf V (ix2 ⟨(b.val * 8192 + t.val), by omega⟩ ⟨3712 + (h.val * 64 + j.val), by omega⟩)) := by
  unfold res_main_v139 res_main_v0
  pointwise

theorem w_c (q : Fin 8192) (t : Fin 8192) (hq : q.val % 8192 = t.val) (j : Fin 8) : @Eq EReal (res_main_v153 V (ix3 t 0 j)) (cosT (ix2 q j)) := by
  obtain rfl : q = t := Fin.ext (by omega)
  unfold res_main_v153 res_main_v151 res_main_v1 cosT angT
  pointwise

theorem w_s (q : Fin 8192) (t : Fin 8192) (hq : q.val % 8192 = t.val) (j : Fin 8) : @Eq EReal (res_main_v155 V (ix3 t 0 j)) (sinT (ix2 q j)) := by
  obtain rfl : q = t := Fin.ext (by omega)
  unfold res_main_v155 res_main_v151 res_main_v1 sinT angT
  pointwise

theorem w_r (b : Fin 2) (t : Fin 8192) (h : Fin 1) (l : Fin 64) :
    @Eq EReal (((concatenate S2x8192x1x64 3 [⟨S2x8192x1x8, ((subf (F := Ideal) (φ := .f32) (mulf (F := Ideal) (φ := .f32) (res_main_v156 V) (broadcastInDim S2x8192x1x8 ![0, 1, 2, 3] bcast_S1x8192x1x8_S2x8192x1x8_0_1_2_3 (broadcastInDim S1x8192x1x8 ![1, 2, 3] bcast_S8192x1x8_S1x8192x1x8_1_2_3 (res_main_v153 V)))) (mulf (F := Ideal) (φ := .f32) (res_main_v157 V) (broadcastInDim S2x8192x1x8 ![0, 1, 2, 3] bcast_S1x8192x1x8_S2x8192x1x8_0_1_2_3 (broadcastInDim S1x8192x1x8 ![1, 2, 3] bcast_S8192x1x8_S1x8192x1x8_1_2_3 (res_main_v155 V))))) : (⟨S2x8192x1x8, .f32⟩ : BufTy).Contents (Elt Ideal))⟩, ⟨S2x8192x1x8, ((addf (F := Ideal) (φ := .f32) (mulf (F := Ideal) (φ := .f32) (res_main_v157 V) (broadcastInDim S2x8192x1x8 ![0, 1, 2, 3] bcast_S1x8192x1x8_S2x8192x1x8_0_1_2_3 (broadcastInDim S1x8192x1x8 ![1, 2, 3] bcast_S8192x1x8_S1x8192x1x8_1_2_3 (res_main_v153 V)))) (mulf (F := Ideal) (φ := .f32) (res_main_v156 V) (broadcastInDim S2x8192x1x8 ![0, 1, 2, 3] bcast_S1x8192x1x8_S2x8192x1x8_0_1_2_3 (broadcastInDim S1x8192x1x8 ![1, 2, 3] bcast_S8192x1x8_S1x8192x1x8_1_2_3 (res_main_v155 V))))) : (⟨S2x8192x1x8, .f32⟩ : BufTy).Contents (Elt Ideal))⟩, ⟨S2x8192x1x48, ((extractStridedSlice S2x8192x1x48 ![0, 0, 0, 16] (res_main_v139 V) slices_S2x8192x1x64_S2x8192x1x48_0_0_0_16) : (⟨S2x8192x1x48, .f32⟩ : BufTy).Contents (Elt Ideal))⟩] concatenates_S2x8192x1x8_S2x8192x1x8_S2x8192x1x48_S2x8192x1x64_d3 : (⟨S2x8192x1x64, .f32⟩ : BufTy).Contents (Elt Ideal))) (ix4 b t h l))
      (ropeH (fun j => res_main_v139 V (ix4 b t h j)) (fun j => res_main_v153 V (ix3 t 0 j)) (fun j => res_main_v155 V (ix3 t 0 j)) l) := by
  obtain rfl : h = 0 := Subsingleton.elim _ _
  unfold res_main_v156 res_main_v157 ropeH
  pointwise
  refine dite_congr rfl (fun h1 => ?_) (fun h1 => ?_)
  · rw [show (⟨8 + l.val, by omega⟩ : Fin 64) = ⟨l.val + 8, by omega⟩ from Fin.ext (Nat.add_comm _ _)]
  · refine dite_congr rfl (fun h2 => ?_) (fun h2 => ?_)
    · rw [show (⟨8 + (l.val - 8), by omega⟩ : Fin 64) = l from Fin.ext (by show 8 + (l.val - 8) = l.val; omega)]
    · exact congrArg (fun q => res_main_v139 V (ix4 b t 0 q)) (Fin.ext (by show 16 + (l.val - 8 - 8) = l.val; omega))

theorem q_out (e : Vec Ideal S2x8192x6x64 .f32) (r : Fin 16384) (l : Fin 384) :
    @Eq EReal ((truncf (F := Ideal) .bf16 (shapeCast S16384x384 (mulf (F := Ideal) (φ := .f32) e (broadcastInDim S2x8192x6x64 ![] bcast_S_S2x8192x6x64 (constant (F := Ideal) S_ .f32 0x3E000000#32))) shapeCasts_S2x8192x6x64_S16384x384) bitsLt_bf16_f32 : Vec Ideal S16384x384 .bf16) (ix2 r l)) (e (ix4 ⟨r.val / 8192, by omega⟩ ⟨r.val % 8192, by omega⟩ ⟨l.val / 64, by omega⟩ ⟨l.val % 64, by omega⟩) * Ideal.ofBits .f32 0x3E000000#32) := by
  pointwise

theorem q_head (r : Fin 16384) (l : Fin 384) :
    ropeH (fun j => res_main_v16 V (ix4 ⟨r.val / 8192, by omega⟩ ⟨r.val % 8192, by omega⟩ ⟨l.val / 64, by omega⟩ j)) (fun j => res_main_v30 V (ix3 ⟨r.val % 8192, by omega⟩ 0 j)) (fun j => res_main_v32 V (ix3 ⟨r.val % 8192, by omega⟩ 0 j)) ⟨l.val % 64, by omega⟩ = ropeH (normH (fun j => pOf V (ix2 ⟨r.val, by omega⟩ ⟨1152 + (64 * (l.val / 64) + j.val), by omega⟩)) (fun j => (V (Proc.devRef .tc main_arg1) : Vec Ideal S64 .f32) (ix1 j))) (co r) (si r) ⟨l.val % 64, by omega⟩ := by
  have e1 : (fun j => (res_main_v16 V (ix4 ⟨r.val / 8192, by omega⟩ ⟨r.val % 8192, by omega⟩ ⟨l.val / 64, by omega⟩ j) : EReal)) = normH (fun j => pOf V (ix2 ⟨r.val, by omega⟩ ⟨1152 + (64 * (l.val / 64) + j.val), by omega⟩)) (fun j => (V (Proc.devRef .tc main_arg1) : Vec Ideal S64 .f32) (ix1 j)) :=
    funext fun j => (q_n V ⟨r.val / 8192, by omega⟩ ⟨r.val % 8192, by omega⟩ ⟨l.val / 64, by omega⟩ j).trans (congrArg (fun f => normH f (fun j => (V (Proc.devRef .tc main_arg1) : Vec Ideal S64 .f32) (ix1 j)) j) (funext fun j => ((q_x V ⟨r.val / 8192, by omega⟩ ⟨r.val % 8192, by omega⟩ ⟨l.val / 64, by omega⟩ j).trans (congrArg₂ (fun a b => pOf V (ix2 a b)) (Fin.ext (by show (r.val / 8192 * 8192 + r.val % 8192) = r.val; omega)) (Fin.ext (by show 1152 + (l.val / 64 * 64 + j.val) = 1152 + (64 * (l.val / 64) + j.val); omega))))))
  have e2 : (fun j => (res_main_v30 V (ix3 ⟨r.val % 8192, by omega⟩ 0 j) : EReal)) = co r :=
    funext fun j => q_c V ⟨r.val % 8192, by omega⟩ ⟨r.val % 8192, by omega⟩ (by show r.val % 8192 % 8192 = r.val % 8192; omega) j
  have e3 : (fun j => (res_main_v32 V (ix3 ⟨r.val % 8192, by omega⟩ 0 j) : EReal)) = si r :=
    funext fun j => q_s V ⟨r.val % 8192, by omega⟩ ⟨r.val % 8192, by omega⟩ (by show r.val % 8192 % 8192 = r.val % 8192; omega) j
  exact congr (congr (congr (congrArg ropeH e1) e2) e3) rfl

theorem reference_q (r : Fin 16384) (l : Fin 384) :
    @Eq EReal ((truncf (F := Ideal) .bf16 (shapeCast S16384x384 (mulf (F := Ideal) (φ := .f32) ((concatenate S2x8192x6x64 3 [⟨S2x8192x6x8, ((subf (F := Ideal) (φ := .f32) (mulf (F := Ideal) (φ := .f32) (res_main_v33 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v30 V)))) (mulf (F := Ideal) (φ := .f32) (res_main_v34 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v32 V))))) : (⟨S2x8192x6x8, .f32⟩ : BufTy).Contents (Elt Ideal))⟩, ⟨S2x8192x6x8, ((addf (F := Ideal) (φ := .f32) (mulf (F := Ideal) (φ := .f32) (res_main_v34 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v30 V)))) (mulf (F := Ideal) (φ := .f32) (res_main_v33 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v32 V))))) : (⟨S2x8192x6x8, .f32⟩ : BufTy).Contents (Elt Ideal))⟩, ⟨S2x8192x6x48, ((extractStridedSlice S2x8192x6x48 ![0, 0, 0, 16] (res_main_v16 V) slices_S2x8192x6x64_S2x8192x6x48_0_0_0_16) : (⟨S2x8192x6x48, .f32⟩ : BufTy).Contents (Elt Ideal))⟩] concatenates_S2x8192x6x8_S2x8192x6x8_S2x8192x6x48_S2x8192x6x64_d3 : (⟨S2x8192x6x64, .f32⟩ : BufTy).Contents (Elt Ideal))) (broadcastInDim S2x8192x6x64 ![] bcast_S_S2x8192x6x64 (constant (F := Ideal) S_ .f32 0x3E000000#32))) shapeCasts_S2x8192x6x64_S16384x384) bitsLt_bf16_f32 : Vec Ideal S16384x384 .bf16) (ix2 r l)) (headN (pOf V) (V (Proc.devRef .tc main_arg1) : Vec Ideal S64 .f32) r 1152 (by decide) l * Ideal.ofBits .f32 0x3E000000#32) :=
  (q_out _ r l).trans (congrArg (fun f : EReal => f * Ideal.ofBits .f32 0x3E000000#32) ((q_r V ⟨r.val / 8192, by omega⟩ ⟨r.val % 8192, by omega⟩ ⟨l.val / 64, by omega⟩ ⟨l.val % 64, by omega⟩).trans (q_head V r l)))

theorem k_out (e : Vec Ideal S2x8192x6x64 .f32) (r : Fin 16384) (l : Fin 384) :
    @Eq EReal ((shapeCast S16384x384 e shapeCasts_S2x8192x6x64_S16384x384 : Vec Ideal S16384x384 .f32) (ix2 r l)) (e (ix4 ⟨r.val / 8192, by omega⟩ ⟨r.val % 8192, by omega⟩ ⟨l.val / 64, by omega⟩ ⟨l.val % 64, by omega⟩)) := by
  pointwise

theorem k_head (r : Fin 16384) (l : Fin 384) :
    ropeH (fun j => res_main_v67 V (ix4 ⟨r.val / 8192, by omega⟩ ⟨r.val % 8192, by omega⟩ ⟨l.val / 64, by omega⟩ j)) (fun j => res_main_v81 V (ix3 ⟨r.val % 8192, by omega⟩ 0 j)) (fun j => res_main_v83 V (ix3 ⟨r.val % 8192, by omega⟩ 0 j)) ⟨l.val % 64, by omega⟩ = ropeH (normH (fun j => pOf V (ix2 ⟨r.val, by omega⟩ ⟨1536 + (64 * (l.val / 64) + j.val), by omega⟩)) (fun j => (V (Proc.devRef .tc main_arg2) : Vec Ideal S64 .f32) (ix1 j))) (co r) (si r) ⟨l.val % 64, by omega⟩ := by
  have e1 : (fun j => (res_main_v67 V (ix4 ⟨r.val / 8192, by omega⟩ ⟨r.val % 8192, by omega⟩ ⟨l.val / 64, by omega⟩ j) : EReal)) = normH (fun j => pOf V (ix2 ⟨r.val, by omega⟩ ⟨1536 + (64 * (l.val / 64) + j.val), by omega⟩)) (fun j => (V (Proc.devRef .tc main_arg2) : Vec Ideal S64 .f32) (ix1 j)) :=
    funext fun j => (k_n V ⟨r.val / 8192, by omega⟩ ⟨r.val % 8192, by omega⟩ ⟨l.val / 64, by omega⟩ j).trans (congrArg (fun f => normH f (fun j => (V (Proc.devRef .tc main_arg2) : Vec Ideal S64 .f32) (ix1 j)) j) (funext fun j => ((k_x V ⟨r.val / 8192, by omega⟩ ⟨r.val % 8192, by omega⟩ ⟨l.val / 64, by omega⟩ j).trans (congrArg₂ (fun a b => pOf V (ix2 a b)) (Fin.ext (by show (r.val / 8192 * 8192 + r.val % 8192) = r.val; omega)) (Fin.ext (by show 1536 + (l.val / 64 * 64 + j.val) = 1536 + (64 * (l.val / 64) + j.val); omega))))))
  have e2 : (fun j => (res_main_v81 V (ix3 ⟨r.val % 8192, by omega⟩ 0 j) : EReal)) = co r :=
    funext fun j => k_c V ⟨r.val % 8192, by omega⟩ ⟨r.val % 8192, by omega⟩ (by show r.val % 8192 % 8192 = r.val % 8192; omega) j
  have e3 : (fun j => (res_main_v83 V (ix3 ⟨r.val % 8192, by omega⟩ 0 j) : EReal)) = si r :=
    funext fun j => k_s V ⟨r.val % 8192, by omega⟩ ⟨r.val % 8192, by omega⟩ (by show r.val % 8192 % 8192 = r.val % 8192; omega) j
  exact congr (congr (congr (congrArg ropeH e1) e2) e3) rfl

theorem reference_k (r : Fin 16384) (l : Fin 384) :
    @Eq EReal ((shapeCast S16384x384 ((concatenate S2x8192x6x64 3 [⟨S2x8192x6x8, ((subf (F := Ideal) (φ := .f32) (mulf (F := Ideal) (φ := .f32) (res_main_v84 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v81 V)))) (mulf (F := Ideal) (φ := .f32) (res_main_v85 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v83 V))))) : (⟨S2x8192x6x8, .f32⟩ : BufTy).Contents (Elt Ideal))⟩, ⟨S2x8192x6x8, ((addf (F := Ideal) (φ := .f32) (mulf (F := Ideal) (φ := .f32) (res_main_v85 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v81 V)))) (mulf (F := Ideal) (φ := .f32) (res_main_v84 V) (broadcastInDim S2x8192x6x8 ![0, 1, 2, 3] bcast_S1x8192x1x8_S2x8192x6x8_0_1_2_3 (broadcastInDim S1x8192x1x8 ![1, 2, 3] bcast_S8192x1x8_S1x8192x1x8_1_2_3 (res_main_v83 V))))) : (⟨S2x8192x6x8, .f32⟩ : BufTy).Contents (Elt Ideal))⟩, ⟨S2x8192x6x48, ((extractStridedSlice S2x8192x6x48 ![0, 0, 0, 16] (res_main_v67 V) slices_S2x8192x6x64_S2x8192x6x48_0_0_0_16) : (⟨S2x8192x6x48, .f32⟩ : BufTy).Contents (Elt Ideal))⟩] concatenates_S2x8192x6x8_S2x8192x6x8_S2x8192x6x48_S2x8192x6x64_d3 : (⟨S2x8192x6x64, .f32⟩ : BufTy).Contents (Elt Ideal))) shapeCasts_S2x8192x6x64_S16384x384 : Vec Ideal S16384x384 .f32) (ix2 r l)) (headN (pOf V) (V (Proc.devRef .tc main_arg2) : Vec Ideal S64 .f32) r 1536 (by decide) l) :=
  (k_out _ r l).trans (congrArg (fun f : EReal => f) ((k_r V ⟨r.val / 8192, by omega⟩ ⟨r.val % 8192, by omega⟩ ⟨l.val / 64, by omega⟩ ⟨l.val % 64, by omega⟩).trans (k_head V r l)))

theorem i_out (e : Vec Ideal S2x8192x4x64 .f32) (r : Fin 16384) (l : Fin 256) :
    @Eq EReal ((truncf (F := Ideal) .bf16 (shapeCast S16384x256 e shapeCasts_S2x8192x4x64_S16384x256) bitsLt_bf16_f32 : Vec Ideal S16384x256 .bf16) (ix2 r l)) (e (ix4 ⟨r.val / 8192, by omega⟩ ⟨r.val % 8192, by omega⟩ ⟨l.val / 64, by omega⟩ ⟨l.val % 64, by omega⟩)) := by
  pointwise

theorem i_head (r : Fin 16384) (l : Fin 256) :
    ropeH (fun j => res_main_v103 V (ix4 ⟨r.val / 8192, by omega⟩ ⟨r.val % 8192, by omega⟩ ⟨l.val / 64, by omega⟩ j)) (fun j => res_main_v117 V (ix3 ⟨r.val % 8192, by omega⟩ 0 j)) (fun j => res_main_v119 V (ix3 ⟨r.val % 8192, by omega⟩ 0 j)) ⟨l.val % 64, by omega⟩ = ropeH (fun j => pOf V (ix2 ⟨r.val, by omega⟩ ⟨3456 + (64 * (l.val / 64) + j.val), by omega⟩)) (co r) (si r) ⟨l.val % 64, by omega⟩ := by
  have e1 : (fun j => (res_main_v103 V (ix4 ⟨r.val / 8192, by omega⟩ ⟨r.val % 8192, by omega⟩ ⟨l.val / 64, by omega⟩ j) : EReal)) = fun j => pOf V (ix2 ⟨r.val, by omega⟩ ⟨3456 + (64 * (l.val / 64) + j.val), by omega⟩) :=
    funext fun j => ((i_x V ⟨r.val / 8192, by omega⟩ ⟨r.val % 8192, by omega⟩ ⟨l.val / 64, by omega⟩ j).trans (congrArg₂ (fun a b => pOf V (ix2 a b)) (Fin.ext (by show (r.val / 8192 * 8192 + r.val % 8192) = r.val; omega)) (Fin.ext (by show 3456 + (l.val / 64 * 64 + j.val) = 3456 + (64 * (l.val / 64) + j.val); omega))))
  have e2 : (fun j => (res_main_v117 V (ix3 ⟨r.val % 8192, by omega⟩ 0 j) : EReal)) = co r :=
    funext fun j => i_c V ⟨r.val % 8192, by omega⟩ ⟨r.val % 8192, by omega⟩ (by show r.val % 8192 % 8192 = r.val % 8192; omega) j
  have e3 : (fun j => (res_main_v119 V (ix3 ⟨r.val % 8192, by omega⟩ 0 j) : EReal)) = si r :=
    funext fun j => i_s V ⟨r.val % 8192, by omega⟩ ⟨r.val % 8192, by omega⟩ (by show r.val % 8192 % 8192 = r.val % 8192; omega) j
  exact congr (congr (congr (congrArg ropeH e1) e2) e3) rfl

theorem reference_i (r : Fin 16384) (l : Fin 256) :
    @Eq EReal ((truncf (F := Ideal) .bf16 (shapeCast S16384x256 ((concatenate S2x8192x4x64 3 [⟨S2x8192x4x8, ((subf (F := Ideal) (φ := .f32) (mulf (F := Ideal) (φ := .f32) (res_main_v120 V) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v117 V)))) (mulf (F := Ideal) (φ := .f32) (res_main_v121 V) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v119 V))))) : (⟨S2x8192x4x8, .f32⟩ : BufTy).Contents (Elt Ideal))⟩, ⟨S2x8192x4x8, ((addf (F := Ideal) (φ := .f32) (mulf (F := Ideal) (φ := .f32) (res_main_v121 V) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v117 V)))) (mulf (F := Ideal) (φ := .f32) (res_main_v120 V) (broadcastInDim S2x8192x4x8 ![0, 1, 2, 3] bcast_S1x8192x1x8_S2x8192x4x8_0_1_2_3 (broadcastInDim S1x8192x1x8 ![1, 2, 3] bcast_S8192x1x8_S1x8192x1x8_1_2_3 (res_main_v119 V))))) : (⟨S2x8192x4x8, .f32⟩ : BufTy).Contents (Elt Ideal))⟩, ⟨S2x8192x4x48, ((extractStridedSlice S2x8192x4x48 ![0, 0, 0, 16] (res_main_v103 V) slices_S2x8192x4x64_S2x8192x4x48_0_0_0_16) : (⟨S2x8192x4x48, .f32⟩ : BufTy).Contents (Elt Ideal))⟩] concatenates_S2x8192x4x8_S2x8192x4x8_S2x8192x4x48_S2x8192x4x64_d3 : (⟨S2x8192x4x64, .f32⟩ : BufTy).Contents (Elt Ideal))) shapeCasts_S2x8192x4x64_S16384x256) bitsLt_bf16_f32 : Vec Ideal S16384x256 .bf16) (ix2 r l)) (headI (pOf V) r l) :=
  (i_out _ r l).trans (congrArg (fun f : EReal => f) ((i_r V ⟨r.val / 8192, by omega⟩ ⟨r.val % 8192, by omega⟩ ⟨l.val / 64, by omega⟩ ⟨l.val % 64, by omega⟩).trans (i_head V r l)))

theorem w_out (e : Vec Ideal S2x8192x1x64 .f32) (z : Vec Ideal S16384x3840 .f32) (r : Fin 16384) (l : Fin 128) :
    @Eq EReal ((concatenate S16384x128 1 [⟨S16384x64, (shapeCast S16384x64 e shapeCasts_S2x8192x1x64_S16384x64)⟩, ⟨S16384x64, (extractStridedSlice S16384x64 ![0, 3776] z slices_S16384x3840_S16384x64_0_3776)⟩] concatenates_S16384x64_S16384x64_S16384x128_d1 : Vec Ideal S16384x128 .f32) (ix2 r l)) (if l.val < 64 then e (ix4 ⟨r.val / 8192, by omega⟩ ⟨r.val % 8192, by omega⟩ 0 ⟨l.val % 64, by omega⟩) else z (ix2 r ⟨3712 + l.val, by omega⟩)) := by
  by_cases h : l.val < 64
  · rw [if_pos h]
    pointwise
    refine (dif_pos h).trans ?_
    exact congrArg (fun q => e (ix4 ⟨r.val / 8192, by omega⟩ ⟨r.val % 8192, by omega⟩ 0 q)) (Fin.ext (by show l.val = l.val % 64; omega))
  · rw [if_neg h]
    pointwise
    refine (dif_neg h).trans ?_
    exact congrArg (fun q => z (ix2 r q)) (Fin.ext (by show 3776 + (l.val - 64) = 3712 + l.val; omega))

theorem w_head (r : Fin 16384) (l : Fin 128) :
    ropeH (fun j => res_main_v139 V (ix4 ⟨r.val / 8192, by omega⟩ ⟨r.val % 8192, by omega⟩ 0 j)) (fun j => res_main_v153 V (ix3 ⟨r.val % 8192, by omega⟩ 0 j)) (fun j => res_main_v155 V (ix3 ⟨r.val % 8192, by omega⟩ 0 j)) ⟨l.val % 64, by omega⟩ = ropeH (fun j => pOf V (ix2 ⟨r.val, by omega⟩ ⟨3712 + j.val, by omega⟩)) (co r) (si r) ⟨l.val % 64, by omega⟩ := by
  have e1 : (fun j => (res_main_v139 V (ix4 ⟨r.val / 8192, by omega⟩ ⟨r.val % 8192, by omega⟩ 0 j) : EReal)) = fun j => pOf V (ix2 ⟨r.val, by omega⟩ ⟨3712 + j.val, by omega⟩) :=
    funext fun j => ((w_x V ⟨r.val / 8192, by omega⟩ ⟨r.val % 8192, by omega⟩ 0 j).trans (congrArg₂ (fun a b => pOf V (ix2 a b)) (Fin.ext (by show (r.val / 8192 * 8192 + r.val % 8192) = r.val; omega)) (Fin.ext (by show 3712 + ((0 : Fin 1).val * 64 + j.val) = 3712 + j.val; simp))))
  have e2 : (fun j => (res_main_v153 V (ix3 ⟨r.val % 8192, by omega⟩ 0 j) : EReal)) = co r :=
    funext fun j => w_c V ⟨r.val % 8192, by omega⟩ ⟨r.val % 8192, by omega⟩ (by show r.val % 8192 % 8192 = r.val % 8192; omega) j
  have e3 : (fun j => (res_main_v155 V (ix3 ⟨r.val % 8192, by omega⟩ 0 j) : EReal)) = si r :=
    funext fun j => w_s V ⟨r.val % 8192, by omega⟩ ⟨r.val % 8192, by omega⟩ (by show r.val % 8192 % 8192 = r.val % 8192; omega) j
  exact congr (congr (congr (congrArg ropeH e1) e2) e3) rfl

theorem reference_w (r : Fin 16384) (l : Fin 128) :
    @Eq EReal ((concatenate S16384x128 1 [⟨S16384x64, (shapeCast S16384x64 ((concatenate S2x8192x1x64 3 [⟨S2x8192x1x8, ((subf (F := Ideal) (φ := .f32) (mulf (F := Ideal) (φ := .f32) (res_main_v156 V) (broadcastInDim S2x8192x1x8 ![0, 1, 2, 3] bcast_S1x8192x1x8_S2x8192x1x8_0_1_2_3 (broadcastInDim S1x8192x1x8 ![1, 2, 3] bcast_S8192x1x8_S1x8192x1x8_1_2_3 (res_main_v153 V)))) (mulf (F := Ideal) (φ := .f32) (res_main_v157 V) (broadcastInDim S2x8192x1x8 ![0, 1, 2, 3] bcast_S1x8192x1x8_S2x8192x1x8_0_1_2_3 (broadcastInDim S1x8192x1x8 ![1, 2, 3] bcast_S8192x1x8_S1x8192x1x8_1_2_3 (res_main_v155 V))))) : (⟨S2x8192x1x8, .f32⟩ : BufTy).Contents (Elt Ideal))⟩, ⟨S2x8192x1x8, ((addf (F := Ideal) (φ := .f32) (mulf (F := Ideal) (φ := .f32) (res_main_v157 V) (broadcastInDim S2x8192x1x8 ![0, 1, 2, 3] bcast_S1x8192x1x8_S2x8192x1x8_0_1_2_3 (broadcastInDim S1x8192x1x8 ![1, 2, 3] bcast_S8192x1x8_S1x8192x1x8_1_2_3 (res_main_v153 V)))) (mulf (F := Ideal) (φ := .f32) (res_main_v156 V) (broadcastInDim S2x8192x1x8 ![0, 1, 2, 3] bcast_S1x8192x1x8_S2x8192x1x8_0_1_2_3 (broadcastInDim S1x8192x1x8 ![1, 2, 3] bcast_S8192x1x8_S1x8192x1x8_1_2_3 (res_main_v155 V))))) : (⟨S2x8192x1x8, .f32⟩ : BufTy).Contents (Elt Ideal))⟩, ⟨S2x8192x1x48, ((extractStridedSlice S2x8192x1x48 ![0, 0, 0, 16] (res_main_v139 V) slices_S2x8192x1x64_S2x8192x1x48_0_0_0_16) : (⟨S2x8192x1x48, .f32⟩ : BufTy).Contents (Elt Ideal))⟩] concatenates_S2x8192x1x8_S2x8192x1x8_S2x8192x1x48_S2x8192x1x64_d3 : (⟨S2x8192x1x64, .f32⟩ : BufTy).Contents (Elt Ideal))) shapeCasts_S2x8192x1x64_S16384x64)⟩, ⟨S16384x64, (extractStridedSlice S16384x64 ![0, 3776] (res_main_v0 V) slices_S16384x3840_S16384x64_0_3776)⟩] concatenates_S16384x64_S16384x64_S16384x128_d1 : Vec Ideal S16384x128 .f32) (ix2 r l)) (headW (pOf V) r l) := by
  refine (w_out _ _ r l).trans ?_
  unfold headW
  by_cases h : l.val < 64
  · rw [if_pos h, if_pos h]
    exact (w_r V ⟨r.val / 8192, by omega⟩ ⟨r.val % 8192, by omega⟩ 0 ⟨l.val % 64, by omega⟩).trans (w_head V r l)
  · rw [if_neg h, if_neg h]
    unfold res_main_v0
    pointwise

theorem reference_v (r : Fin 16384) (l : Fin 384) :
    @Eq EReal ((extractStridedSlice S16384x384 ![0, 1920] (res_main_v0 V) slices_S16384x3840_S16384x384_0_1920 : Vec Ideal S16384x384 .f32) (ix2 r l)) (pOf V (ix2 ⟨r.val, by omega⟩ ⟨1920 + l.val, by omega⟩)) := by
  unfold res_main_v0
  pointwise

end Cert.AttnPrompt

end
-- ==== Proof.Finite9.lean ====
/- What the precondition `finite9` says: the queries' and keys' columns are real numbers. -/
module

public import proofs.«01_k».proof.Pre_finite9
public import proofs.«01_k».proof.Proof.Finite

@[expose] public section

set_option maxRecDepth 16384

noncomputable section

open Idealize.ShloMosaic Cert.Gdn.Finite

namespace Cert.Attn.Finite9

/-- The precondition's shape relations. -/
instance facts : Cert.Pre_finite9.Facts where
  slices_S17408x3840_S16384x768_0_1152 := by decide
  bcast_S_S16384x768 := by decide
  reducesTo_S16384x768_S_d0_1 := by decide
  h_S_ := by decide

open Cert.Pre_finite9 in
/-- Under the precondition the queries' and keys' columns are real. -/
theorem decode (p : FVec Ideal S17408x3840 .f32) (a b : FVec Ideal S64 .f32) (i₀ : S_.Idx) (e : fn (F := Ideal) p a b i₀ = 1#1) (r : Fin 16384) (k : Fin 768) :
    p (ix2 ⟨r.val, by omega⟩ ⟨1152 + k.val, by omega⟩) = ((p (ix2 ⟨r.val, by omega⟩ ⟨1152 + k.val, by omega⟩)).toReal : EReal) := by
  unfold fn at e
  dsimp only at e
  have := real_of_lt _ (ix2 r k) _ (Host.reduce_andi_all _ _ _ _ _ e (ix2 r k))
  have hsl : ∀ hh, extractStridedSlice S16384x768 ![0, 1152] p hh (ix2 r k) = p (ix2 ⟨r.val, by omega⟩ ⟨1152 + k.val, by omega⟩) := by
    intro hh
    pointwise
  rw [hsl] at this
  exact this

end Cert.Attn.Finite9

end
-- ==== Proof.AttnSampleTab.lean ====
/- The operands of the preparation of the attention's rows over the short sequences: the blocks a grid point reads, and the tables the host makes. -/
module

public import proofs.«01_k».proof.Proof.Gen.Kernel10Ideal.Value
public import proofs.«01_k».proof.Proof.Attn

@[expose] public section

set_option maxRecDepth 16384

noncomputable section

open Idealize.ShloMosaic Idealize.ShloMosaic.TcCoe Idealize.SL.Sem
open Idealize.ShloMosaic.Pipeline (Dat)
open Cert.Kernel10Ideal Cert.Kernel10Ideal.Gen Cert.Kernel10Ideal.Value Cert.Attn

namespace Cert.AttnSample

/-- The angle of each position and frequency. -/
def angT : Vec Ideal S128x8 .f32 := ((mulf (F := Ideal) (φ := .f32)) ((broadcastInDim S128x8 ![0, 1] bcast_S128x1_S128x8_0_1) ((broadcastInDim S128x1 ![0] bcast_S128_S128x1_0) ((sitofp (F := Ideal) .f32) (shapeCast S128 ((broadcastInDim S16x8 ![0, 1] bcast_S1x8_S16x8_0_1) (shapeCast S1x8 ((addi) ((broadcastInDim S8 ![] bcast_S_S8) (constantI S_ 32 2048#32)) (iotaInDim S8 32 0)) shapeCasts_S8_S1x8)) shapeCasts_S16x8_S128)))) ((broadcastInDim S128x8 ![0, 1] bcast_S1x8_S128x8_0_1) ((broadcastInDim S1x8 ![1] bcast_S8_S1x8_1) ((Host.powf (F := Ideal) (φ := .f32)) ((broadcastInDim S8 ![] bcast_S_S8) (constant (F := Ideal) S_ .f32 0x48F42400#32)) ((Host.divf (F := Ideal) (φ := .f32)) ((Host.negf (F := Ideal) (φ := .f32)) (sitofp (F := Ideal) .f32 (iotaInDim S8 32 0))) ((broadcastInDim S8 ![] bcast_S_S8) (constant (F := Ideal) S_ .f32 0x41000000#32)))))))

/-- Its cosine. -/
def cosT : Vec Ideal S128x8 .f32 := Host.cos (F := Ideal) (φ := .f32) angT

/-- Its sine. -/
def sinT : Vec Ideal S128x8 .f32 := Host.sin (F := Ideal) (φ := .f32) angT

/-- One head's lanes of the table the lane itself is scaled by. -/
def catC : Vec Ideal S128x64 .f32 := concatenate S128x64 1 [⟨S128x8, (cosT : Vec Ideal S128x8 .f32)⟩, ⟨S128x8, (cosT : Vec Ideal S128x8 .f32)⟩, ⟨S128x48, (((broadcastInDim S128x48 ![] bcast_S_S128x48) (constant (F := Ideal) S_ .f32 0x3F800000#32)) : Vec Ideal S128x48 .f32)⟩] concatenates_S128x8_S128x8_S128x48_S128x64_d1

/-- One head's lanes of the table the lane eight on is scaled by. -/
def cat1 : Vec Ideal S128x64 .f32 := concatenate S128x64 1 [⟨S128x8, (((Host.negf (F := Ideal) (φ := .f32)) sinT) : Vec Ideal S128x8 .f32)⟩, ⟨S128x8, (((broadcastInDim S128x8 ![] bcast_S_S128x8) (constant (F := Ideal) S_ .f32 0x00000000#32)) : Vec Ideal S128x8 .f32)⟩, ⟨S128x48, (((broadcastInDim S128x48 ![] bcast_S_S128x48) (constant (F := Ideal) S_ .f32 0x00000000#32)) : Vec Ideal S128x48 .f32)⟩] concatenates_S128x8_S128x8_S128x48_S128x64_d1

/-- One head's lanes of the table the lane eight back is scaled by. -/
def cat2 : Vec Ideal S128x64 .f32 := concatenate S128x64 1 [⟨S128x8, (((broadcastInDim S128x8 ![] bcast_S_S128x8) (constant (F := Ideal) S_ .f32 0x00000000#32)) : Vec Ideal S128x8 .f32)⟩, ⟨S128x8, (sinT : Vec Ideal S128x8 .f32)⟩, ⟨S128x48, (((broadcastInDim S128x48 ![] bcast_S_S128x48) (constant (F := Ideal) S_ .f32 0x00000000#32)) : Vec Ideal S128x48 .f32)⟩] concatenates_S128x8_S128x8_S128x48_S128x64_d1

/-- A head's lanes repeated over a column piece. -/
def tileT (z : Vec Ideal S128x64 .f32) : Vec Ideal S128x128 .f32 := (shapeCast S128x128 ((broadcastInDim S1x128x2x64 ![0, 1, 2, 3] bcast_S1x128x1x64_S1x128x2x64_0_1_2_3) (shapeCast S1x128x1x64 z shapeCasts_S128x64_S1x128x1x64)) shapeCasts_S1x128x2x64_S128x128)

theorem cat3_congr {a a' b b' : Vec Ideal S128x8 .f32} {d d' : Vec Ideal S128x48 .f32} (ha : a = a') (hb : b = b') (hd : d = d') :
    (concatenate S128x64 1 [⟨S128x8, a⟩, ⟨S128x8, b⟩, ⟨S128x48, d⟩] concatenates_S128x8_S128x8_S128x48_S128x64_d1 : Vec Ideal S128x64 .f32)
      = concatenate S128x64 1 [⟨S128x8, a'⟩, ⟨S128x8, b'⟩, ⟨S128x48, d'⟩] concatenates_S128x8_S128x8_S128x48_S128x64_d1 := by
  subst ha hb hd
  rfl

theorem tileT_entry (z : Vec Ideal S128x64 .f32) (r : Fin 128) (l : Fin 128) : @Eq EReal (tileT z (ix2 r l)) (z (ix2 r ⟨l.val % 64, by omega⟩)) := by
  unfold tileT
  pointwise

theorem catC_entry (r : Fin 128) (l : Fin 64) : @Eq EReal (catC (ix2 r l)) (tabC (fun j => cosT (ix2 r j)) l) := by
  unfold catC tabC
  pointwise

theorem cat1_entry (r : Fin 128) (l : Fin 64) : @Eq EReal (cat1 (ix2 r l)) (tab1 (fun j => sinT (ix2 r j)) l) := by
  unfold cat1 tab1
  pointwise
  by_cases h : l.val < 8 <;> simp [h]

theorem cat2_entry (r : Fin 128) (l : Fin 64) : @Eq EReal (cat2 (ix2 r l)) (tab2 (fun j => sinT (ix2 r j)) l) := by
  unfold cat2 tab2
  pointwise

variable (m : ((l : Loc nD τ sig) → Buf (Elt Ideal) l)) (c : Dev nD)

theorem made_c : V m c main_v38 = tileT catC := by
  entry_read
  simp only [List.flatten_cons, List.flatten_nil, List.cons_append, List.nil_append, List.append_nil, StableHlo.after_cons, StableHlo.after_nil]
  after_results_simp
  try dsimp only [Matrix.cons_val]
  unfold catC
  refine congrArg tileT (cat3_congr (a' := cosT) (b' := cosT) (d' := ((broadcastInDim S128x48 ![] bcast_S_S128x48) (constant (F := Ideal) S_ .f32 0x3F800000#32))) ?_ ?_ ?_) <;> (after_results_simp; try rfl)

theorem entry_c (r : Fin 128) (l : Fin 128) : @Eq EReal (V m c main_v38 (ix2 r l)) (tabC (fun j => cosT (ix2 r j)) ⟨l.val % 64, by omega⟩) := by
  rw [made_c]
  exact (tileT_entry _ r l).trans (catC_entry r _)

theorem made_s1 : V m c main_v41 = tileT cat1 := by
  entry_read
  simp only [List.flatten_cons, List.flatten_nil, List.cons_append, List.nil_append, List.append_nil, StableHlo.after_cons, StableHlo.after_nil]
  after_results_simp
  try dsimp only [Matrix.cons_val]
  unfold cat1
  refine congrArg tileT (cat3_congr (a' := ((Host.negf (F := Ideal) (φ := .f32)) sinT)) (b' := ((broadcastInDim S128x8 ![] bcast_S_S128x8) (constant (F := Ideal) S_ .f32 0x00000000#32))) (d' := ((broadcastInDim S128x48 ![] bcast_S_S128x48) (constant (F := Ideal) S_ .f32 0x00000000#32))) ?_ ?_ ?_) <;> (after_results_simp; try rfl)

theorem entry_s1 (r : Fin 128) (l : Fin 128) : @Eq EReal (V m c main_v41 (ix2 r l)) (tab1 (fun j => sinT (ix2 r j)) ⟨l.val % 64, by omega⟩) := by
  rw [made_s1]
  exact (tileT_entry _ r l).trans (cat1_entry r _)

theorem made_s2 : V m c main_v44 = tileT cat2 := by
  entry_read
  simp only [List.flatten_cons, List.flatten_nil, List.cons_append, List.nil_append, List.append_nil, StableHlo.after_cons, StableHlo.after_nil]
  after_results_simp
  try dsimp only [Matrix.cons_val]
  unfold cat2
  refine congrArg tileT (cat3_congr (a' := ((broadcastInDim S128x8 ![] bcast_S_S128x8) (constant (F := Ideal) S_ .f32 0x00000000#32))) (b' := sinT) (d' := ((broadcastInDim S128x48 ![] bcast_S_S128x48) (constant (F := Ideal) S_ .f32 0x00000000#32))) ?_ ?_ ?_) <;> (after_results_simp; try rfl)

theorem entry_s2 (r : Fin 128) (l : Fin 128) : @Eq EReal (V m c main_v44 (ix2 r l)) (tab2 (fun j => sinT (ix2 r j)) ⟨l.val % 64, by omega⟩) := by
  rw [made_s2]
  exact (tileT_entry _ r l).trans (cat2_entry r _)

theorem lane_head : ∀ k : Fin 128, Scalar.select
    (IntOp.andi (IntOp.cmpi CmpIPredicate.ne (if BitVec.ofNat 32 k.val = 0 then 0 else if (BitVec.ofNat 32 k.val).msb = true then -1 else 1 : BitVec 32)
        (if 64#32 = 0 then 0 else if (64#32).msb = true then -1 else 1 : BitVec 32))
      (IntOp.cmpi CmpIPredicate.ne (IntOp.remsi ArithUnit.host (BitVec.ofNat 32 k.val) 64#32) 0#32))
    (IntOp.subi (IntOp.divsi ArithUnit.host (BitVec.ofNat 32 k.val) 64#32) 1#32) (IntOp.divsi ArithUnit.host (BitVec.ofNat 32 k.val) 64#32)
    = BitVec.ofNat 32 (k.val / 64) := by
  decide +kernel

theorem head_eq : ∀ k l : Fin 128, IntOp.cmpi CmpIPredicate.eq (BitVec.ofNat 32 (k.val / 64)) (BitVec.ofNat 32 (l.val / 64)) = if k.val / 64 = l.val / 64 then 1#1 else 0#1 := by
  decide +kernel

theorem made_bd : V m c main_v14 = ((uitofp (F := Ideal) .bf16 ((cmpi .eq) ((broadcastInDim S128x128 ![0, 1] bcast_S128x1_S128x128_0_1) (select (andi ((cmpi .ne) (signi ((broadcastInDim S128x1 ![0] bcast_S128_S128x1_0) (iotaInDim S128 32 0))) ((broadcastInDim S128x1 ![] bcast_S_S128x1) (signi (constantI S_ 32 64#32)))) ((cmpi .ne) (Host.remsi ((broadcastInDim S128x1 ![0] bcast_S128_S128x1_0) (iotaInDim S128 32 0)) ((broadcastInDim S128x1 ![] bcast_S_S128x1) (constantI S_ 32 64#32))) ((broadcastInDim S128x1 ![] bcast_S_S128x1) (constantI S_ 32 0#32)))) (subi (Host.divsi ((broadcastInDim S128x1 ![0] bcast_S128_S128x1_0) (iotaInDim S128 32 0)) ((broadcastInDim S128x1 ![] bcast_S_S128x1) (constantI S_ 32 64#32))) ((broadcastInDim S128x1 ![] bcast_S_S128x1) (constantI S_ 32 1#32))) (Host.divsi ((broadcastInDim S128x1 ![0] bcast_S128_S128x1_0) (iotaInDim S128 32 0)) ((broadcastInDim S128x1 ![] bcast_S_S128x1) (constantI S_ 32 64#32))))) ((broadcastInDim S128x128 ![0, 1] bcast_S1x128_S128x128_0_1) (select (andi ((cmpi .ne) (signi ((broadcastInDim S1x128 ![1] bcast_S128_S1x128_1) (iotaInDim S128 32 0))) ((broadcastInDim S1x128 ![] bcast_S_S1x128) (signi (constantI S_ 32 64#32)))) ((cmpi .ne) (Host.remsi ((broadcastInDim S1x128 ![1] bcast_S128_S1x128_1) (iotaInDim S128 32 0)) ((broadcastInDim S1x128 ![] bcast_S_S1x128) (constantI S_ 32 64#32))) ((broadcastInDim S1x128 ![] bcast_S_S1x128) (constantI S_ 32 0#32)))) (subi (Host.divsi ((broadcastInDim S1x128 ![1] bcast_S128_S1x128_1) (iotaInDim S128 32 0)) ((broadcastInDim S1x128 ![] bcast_S_S1x128) (constantI S_ 32 64#32))) ((broadcastInDim S1x128 ![] bcast_S_S1x128) (constantI S_ 32 1#32))) (Host.divsi ((broadcastInDim S1x128 ![1] bcast_S128_S1x128_1) (iotaInDim S128 32 0)) ((broadcastInDim S1x128 ![] bcast_S_S1x128) (constantI S_ 32 64#32))))))) : Vec Ideal S128x128 .bf16) := by
  entry_read
  simp only [List.flatten_cons, List.flatten_nil, List.cons_append, List.nil_append, List.append_nil, StableHlo.after_cons, StableHlo.after_nil]
  after_results_simp
  rfl

theorem entry_bd (k l : Fin 128) : @Eq EReal (V m c main_v14 (ix2 k l)) (if k.val / 64 = l.val / 64 then 1 else 0) := by
  rw [made_bd]
  pointwise
  refine Eq.trans (congrArg (fun z => (FloatOps.uitofp (F := Ideal) .bf16 z : EReal)) ((congrArg₂ (IntOp.cmpi CmpIPredicate.eq) (lane_head k) (lane_head l)).trans (head_eq k l))) ?_
  split
  · show ((((1#1 : BitVec 1).toNat : ℝ)) : EReal) = 1
    simp
  · show ((((0#1 : BitVec 1).toNat : ℝ)) : EReal) = 0
    simp

theorem entry_qn (r : Fin 1) (l : Fin 128) : @Eq EReal (V m c main_v48 (ix2 r l)) (m ((c : Thread nD τ).loc main_arg1) (ix1 ⟨l.val % 64, by omega⟩)) := by
  entry_read
  simp only [List.flatten_cons, List.flatten_nil, List.cons_append, List.nil_append, List.append_nil, StableHlo.after_cons, StableHlo.after_nil]
  after_results_simp
  refine (show _ = (((broadcastInDim S1x128 ![1] bcast_S128_S1x128_1) (shapeCast S128 ((broadcastInDim S2x64 ![0, 1] bcast_S1x64_S2x64_0_1) (shapeCast S1x64 (m ((c : Thread nD τ).loc main_arg1)) shapeCasts_S64_S1x64)) shapeCasts_S2x64_S128)) : FVec Ideal S1x128 .f32) (ix2 r l) from rfl).trans ?_
  pointwise

theorem entry_kn (r : Fin 1) (l : Fin 128) : @Eq EReal (V m c main_v52 (ix2 r l)) (m ((c : Thread nD τ).loc main_arg2) (ix1 ⟨l.val % 64, by omega⟩)) := by
  entry_read
  simp only [List.flatten_cons, List.flatten_nil, List.cons_append, List.nil_append, List.append_nil, StableHlo.after_cons, StableHlo.after_nil]
  after_results_simp
  refine (show _ = (((broadcastInDim S1x128 ![1] bcast_S128_S1x128_1) (shapeCast S128 ((broadcastInDim S2x64 ![0, 1] bcast_S1x64_S2x64_0_1) (shapeCast S1x64 (m ((c : Thread nD τ).loc main_arg2)) shapeCasts_S64_S1x64)) shapeCasts_S2x64_S128)) : FVec Ideal S1x128 .f32) (ix2 r l) from rfl).trans ?_
  pointwise

theorem windows : ∀ t : Fin cfg0.N, win0_0.index t = ![128 + t.val, 1] ∧ win0_1.index t = ![128 + t.val, 9] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![t.val, 0] := by
  decide +kernel

theorem points (t : Fin cfg0.N) : t.val < 8 := t.isLt

theorem block_p (t : Fin cfg0.N) (i : Fin 128) (l : Fin 1152) :
    X0_0 m c t (ix2 i l) = m ((c : Thread nD τ).loc main_arg0) (ix2 ⟨16384 + (128 * t.val + i.val), by have := points t; omega⟩ ⟨1152 + l.val, by omega⟩) := by
  have hw := (windows t).1
  unfold X0_0 Pipeline.Window.fill
  rw [dif_pos (moved0_0 t _)]
  blk_ext [iblk, V_main_arg0, hw]

theorem block_i (t : Fin cfg0.N) (i : Fin 128) (l : Fin 384) :
    iblk m c 1 t (ix2 i l) = m ((c : Thread nD τ).loc main_arg0) (ix2 ⟨16384 + (128 * t.val + i.val), by have := points t; omega⟩ ⟨3456 + l.val, by omega⟩) := by
  have hw := (windows t).2.1
  blk_ext [iblk, V_main_arg0, hw]

theorem block_c (t : Fin cfg0.N) (i : Fin 128) (l : Fin 128) :
    @Eq EReal (iblk m c 2 t (ix2 i l)) (tabC (fun j => cosT (ix2 i j)) ⟨l.val % 64, by omega⟩) := by
  have hw := (windows t).2.2.1
  refine Eq.trans ?_ (entry_c m c i l)
  blk_ext [iblk, hw]

theorem block_s1 (t : Fin cfg0.N) (i : Fin 128) (l : Fin 128) :
    @Eq EReal (iblk m c 3 t (ix2 i l)) (tab1 (fun j => sinT (ix2 i j)) ⟨l.val % 64, by omega⟩) := by
  have hw := (windows t).2.2.2.1
  refine Eq.trans ?_ (entry_s1 m c i l)
  blk_ext [iblk, hw]

theorem block_s2 (t : Fin cfg0.N) (i : Fin 128) (l : Fin 128) :
    @Eq EReal (iblk m c 4 t (ix2 i l)) (tab2 (fun j => sinT (ix2 i j)) ⟨l.val % 64, by omega⟩) := by
  have hw := (windows t).2.2.2.2.1
  refine Eq.trans ?_ (entry_s2 m c i l)
  blk_ext [iblk, hw]

theorem block_bd (t : Fin cfg0.N) (k l : Fin 128) : @Eq EReal (iblk m c 5 t (ix2 k l)) (if k.val / 64 = l.val / 64 then 1 else 0) := by
  have hw := (windows t).2.2.2.2.2.1
  refine Eq.trans ?_ (entry_bd m c k l)
  blk_ext [iblk, hw]

theorem block_qn (t : Fin cfg0.N) (i : Fin 1) (l : Fin 128) : @Eq EReal (iblk m c 6 t (ix2 i l)) (m ((c : Thread nD τ).loc main_arg1) (ix1 ⟨l.val % 64, by omega⟩)) := by
  have hw := (windows t).2.2.2.2.2.2.1
  refine Eq.trans ?_ (entry_qn m c i l)
  blk_ext [iblk, hw]

theorem block_kn (t : Fin cfg0.N) (i : Fin 1) (l : Fin 128) : @Eq EReal (iblk m c 7 t (ix2 i l)) (m ((c : Thread nD τ).loc main_arg2) (ix1 ⟨l.val % 64, by omega⟩)) := by
  have hw := (windows t).2.2.2.2.2.2.2.1
  refine Eq.trans ?_ (entry_kn m c i l)
  blk_ext [iblk, hw]

end Cert.AttnSample

end
-- ==== Proof.AttnSample.lean ====
/- The rows the attention reads, prepared over the short sequences: what the call writes, in terms of the arrays it is given. -/
module

public import proofs.«01_k».proof.Proof.AttnSampleTab
public import proofs.«01_k».proof.Proof.AttnMath

@[expose] public section

set_option maxRecDepth 16384

noncomputable section

open Idealize.ShloMosaic Idealize.ShloMosaic.TcCoe Idealize.SL.Sem
open Idealize.ShloMosaic.Pipeline (Dat)
open Cert.Kernel10Ideal Cert.Kernel10Ideal.Gen Cert.Kernel10Ideal.Value Cert.Attn

namespace Cert.AttnSample

section

variable (x c s1 s2 : Vec Ideal S128x128 .f32) (bd : Vec Ideal S128x128 .bf16) (g : Vec Ideal S1x128 .f32) (r : Fin 128) (l : Fin 128)

/-- The rotation of a piece's row. -/
abbrev rotOf (x : Fin 128 → EReal) : EReal := rotL x (fun l => c (ix2 r l)) (fun l => s1 (ix2 r l)) (fun l => s2 (ix2 r l)) l

/-- The norm of a piece's row. -/
abbrev normOf : Fin 128 → EReal := normL (fun l => x (ix2 r l)) (fun l => g (ix2 0 l)) (fun k l => bd (ix2 k l))

theorem pay_q0 : @Eq EReal (k0_pay7 c s1 s2 bd x g (ix2 r l)) (rotOf c s1 s2 r l (normOf x bd g r) * Ideal.ofBits .f32 0x3E000000#32) := by
  unfold rotOf normOf rotL normL
  pointwise [k0_pay3, k0_pay4, k0_pay5, k0_pay6, k0_pay7]

theorem pay_q1 : @Eq EReal (k0_pay8 (k0_pay3 c) (k0_pay4 s1) (k0_pay5 s2) (k0_pay6 bd) x g (ix2 r l)) (rotOf c s1 s2 r l (normOf x bd g r) * Ideal.ofBits .f32 0x3E000000#32) := by
  unfold rotOf normOf rotL normL
  pointwise [k0_pay3, k0_pay4, k0_pay5, k0_pay6, k0_pay8]

theorem pay_q2 : @Eq EReal (k0_pay14 (k0_pay3 c) (k0_pay4 s1) (k0_pay5 s2) (k0_pay6 bd) x (k0_pay9 g) (k0_pay12 x) (k0_pay13 (k0_pay6 bd) x) (constant S128x128 .f32 0x00000000#32) (ix2 r l))
    (rotOf c s1 s2 r l (normOf x bd g r) * Ideal.ofBits .f32 0x3E000000#32) := by
  unfold rotOf normOf rotL normL
  pointwise [k0_pay3, k0_pay4, k0_pay5, k0_pay6, k0_pay9, k0_pay10, k0_pay11, k0_pay12, k0_pay13, k0_pay14]

theorem pay_k0 : @Eq EReal (k0_pay18 (k0_pay5 s2) (k0_pay15 (k0_pay6 bd) x g) (k0_pay16 (k0_pay3 c) (k0_pay6 bd) x g) (k0_pay17 (k0_pay4 s1) (k0_pay6 bd) x g) (ix2 r l)) (rotOf c s1 s2 r l (normOf x bd g r)) := by
  unfold rotOf normOf rotL normL
  pointwise [k0_pay3, k0_pay4, k0_pay5, k0_pay6, k0_pay15, k0_pay16, k0_pay17, k0_pay18]

theorem pay_k1 : @Eq EReal (k0_pay19 (k0_pay3 c) (k0_pay4 s1) (k0_pay5 s2) (k0_pay6 bd) x g (ix2 r l)) (rotOf c s1 s2 r l (normOf x bd g r)) := by
  unfold rotOf normOf rotL normL
  pointwise [k0_pay3, k0_pay4, k0_pay5, k0_pay6, k0_pay19]

theorem pay_k2 : @Eq EReal (k0_pay24 (k0_pay3 c) (k0_pay4 s1) (k0_pay5 s2) (k0_pay6 bd) x (k0_pay20 g) (k0_pay22 x) (k0_pay23 x) (ix2 r l)) (rotOf c s1 s2 r l (normOf x bd g r)) := by
  unfold rotOf normOf rotL normL
  pointwise [k0_pay3, k0_pay4, k0_pay5, k0_pay6, k0_pay20, k0_pay21, k0_pay22, k0_pay23, k0_pay24]

theorem pay_i0 : @Eq EReal (k0_pay25 (k0_pay3 c) (k0_pay4 s1) (k0_pay5 s2) x (ix2 r l)) (rotOf c s1 s2 r l (fun l => x (ix2 r l))) := by
  unfold rotOf rotL
  pointwise [k0_pay3, k0_pay4, k0_pay5, k0_pay25]

theorem pay_i1 : @Eq EReal (k0_pay1 (k0_pay5 s2) x (k0_pay26 (k0_pay3 c) x) (k0_pay27 (k0_pay4 s1) x) (ix2 r l)) (rotOf c s1 s2 r l (fun l => x (ix2 r l))) := by
  unfold rotOf rotL
  pointwise [k0_pay3, k0_pay4, k0_pay5, k0_pay26, k0_pay27, k0_pay1]

theorem lane_lt : ∀ l : Fin 128, IntOp.cmpi .slt (BitVec.ofNat 32 l.val) 64#32 = if l.val < 64 then 1#1 else 0#1 := by decide +kernel

theorem pay_w_lo (hl : l.val < 64) : @Eq EReal (k0_pay2 (k0_pay3 c) (k0_pay4 s1) (k0_pay5 s2) x (ix2 r l)) (rotOf c s1 s2 r l (fun l => x (ix2 r l))) := by
  have hc := lane_lt l
  rw [if_pos hl] at hc
  unfold rotOf rotL
  pointwise [k0_pay3, k0_pay4, k0_pay5, k0_pay2]
  rw [hc]
  rfl

theorem pay_w_hi (hl : ¬l.val < 64) : @Eq EReal (k0_pay2 (k0_pay3 c) (k0_pay4 s1) (k0_pay5 s2) x (ix2 r l)) (x (ix2 r l)) := by
  have hc := lane_lt l
  rw [if_neg hl] at hc
  pointwise [k0_pay3, k0_pay4, k0_pay5, k0_pay2]
  rw [hc]
  show (x (ix2 r l) * (1 : EReal) + 0) + 0 = x (ix2 r l)
  rw [mul_one, add_zero, add_zero]

end

section

variable (x0 : Vec Ideal S128x1152 .f32) (x1 : Vec Ideal S128x384 .f32) (x2 x3 x4 : Vec Ideal S128x128 .f32) (x5 : Vec Ideal S128x128 .bf16) (x6 : Vec Ideal S1x128 .f32) (r : Fin 128)

/-- A block's normed and rotated column, of the columns from `o` on. -/
def outN (o : ℕ) (ho : o + 384 ≤ 1152) (l : Fin 384) : EReal :=
  rotOf x2 x3 x4 r ⟨l.val % 128, by omega⟩ (normL (fun k => x0 (ix2 r ⟨o + (128 * (l.val / 128) + k.val), by omega⟩)) (fun k => x6 (ix2 0 k)) (fun k l => x5 (ix2 k l)))

/-- A block's rotated column of the index queries. -/
def outI (l : Fin 256) : EReal :=
  rotOf x2 x3 x4 r ⟨l.val % 128, by omega⟩ (fun k => x1 (ix2 r ⟨128 * (l.val / 128) + k.val, by omega⟩))

/-- A block's column of the index key and weights. -/
def outW (l : Fin 128) : EReal :=
  if l.val < 64 then rotOf x2 x3 x4 r l (fun k => x1 (ix2 r ⟨256 + k.val, by omega⟩)) else x1 (ix2 r ⟨256 + l.val, by omega⟩)

end

section

variable (c : Dev nD) (i : grid0.Coords) (arg1 : Memref sig .tc .vmem S128x1152 .f32) (harg1 : arg1.IsWhole) (arg2 : Memref sig .tc .vmem S128x384 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S128x384 .bf16) (harg9 : arg9.IsWhole) (arg10 : Memref sig .tc .vmem S128x384 .f32) (harg10 : arg10.IsWhole) (arg11 : Memref sig .tc .vmem S128x384 .f32) (harg11 : arg11.IsWhole) (arg12 : Memref sig .tc .vmem S128x256 .bf16) (harg12 : arg12.IsWhole) (arg13 : Memref sig .tc .vmem S128x128 .f32) (harg13 : arg13.IsWhole)
    (x0 : Vec Ideal S128x1152 .f32) (x1 : Vec Ideal S128x384 .f32) (x2 : Vec Ideal S128x128 .f32) (x3 : Vec Ideal S128x128 .f32) (x4 : Vec Ideal S128x128 .f32) (x5 : Vec Ideal S128x128 .bf16) (x6 : Vec Ideal S1x128 .f32) (x7 : Vec Ideal S1x128 .f32)

theorem out8 (r : Fin 128) (l : Fin 384) : @Eq EReal (out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r l)) (outN x0 x2 x3 x4 x5 x6 r 0 (by decide) l * Ideal.ofBits .f32 0x3E000000#32) := by
  frame_open
  simp (disch := decide) only [↓ View.readCov_skip, ↓ View.readCov_cons_toLoadRect, ↓ View.readCov_fill]
  frame_out
  rcases (by omega : l.val < 128 ∨ (128 ≤ l.val ∧ l.val < 256) ∨ 256 ≤ l.val) with h | h | h
  · refine (miss 256 _ _ _ r l (by omega)).trans ?_
    refine (miss 128 _ _ _ r l (by omega)).trans ?_
    refine (hit 0 _ _ _ r l ⟨l.val % 128, by omega⟩ (by show l.val = 0 + l.val % 128; omega)).trans ((pay_q0 _ _ _ _ _ _ r _).trans ?_)
    exact congrArg (fun f => rotOf x2 x3 x4 r ⟨l.val % 128, by omega⟩ (normL f (fun k => x6 (ix2 0 k)) (fun k l => x5 (ix2 k l))) * Ideal.ofBits .f32 0x3E000000#32) (funext fun k => ld_cols 0 _ x0 r k ⟨0 + (128 * (l.val / 128) + k.val), by omega⟩ (by show 0 + (128 * (l.val / 128) + k.val) = 0 + k.val; omega))
  · refine (miss 256 _ _ _ r l (by omega)).trans ?_
    refine (hit 128 _ _ _ r l ⟨l.val % 128, by omega⟩ (by show l.val = 128 + l.val % 128; omega)).trans ((pay_q1 _ _ _ _ _ _ r _).trans ?_)
    exact congrArg (fun f => rotOf x2 x3 x4 r ⟨l.val % 128, by omega⟩ (normL f (fun k => x6 (ix2 0 k)) (fun k l => x5 (ix2 k l))) * Ideal.ofBits .f32 0x3E000000#32) (funext fun k => ld_cols 128 _ x0 r k ⟨0 + (128 * (l.val / 128) + k.val), by omega⟩ (by show 0 + (128 * (l.val / 128) + k.val) = 128 + k.val; omega))
  · refine (hit 256 _ _ _ r l ⟨l.val % 128, by omega⟩ (by show l.val = 256 + l.val % 128; omega)).trans ((pay_q2 _ _ _ _ _ _ r _).trans ?_)
    exact congrArg (fun f => rotOf x2 x3 x4 r ⟨l.val % 128, by omega⟩ (normL f (fun k => x6 (ix2 0 k)) (fun k l => x5 (ix2 k l))) * Ideal.ofBits .f32 0x3E000000#32) (funext fun k => ld_cols 256 _ x0 r k ⟨0 + (128 * (l.val / 128) + k.val), by omega⟩ (by show 0 + (128 * (l.val / 128) + k.val) = 256 + k.val; omega))

theorem out9 (r : Fin 128) (l : Fin 384) : @Eq EReal (out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r l)) (outN x0 x2 x3 x4 x5 x7 r 384 (by decide) l) := by
  frame_open
  simp (disch := decide) only [↓ View.readCov_skip, ↓ View.readCov_cons_toLoadRect, ↓ View.readCov_fill]
  frame_out
  rcases (by omega : l.val < 128 ∨ (128 ≤ l.val ∧ l.val < 256) ∨ 256 ≤ l.val) with h | h | h
  · refine (miss 256 _ _ _ r l (by omega)).trans ?_
    refine (miss 128 _ _ _ r l (by omega)).trans ?_
    refine (hit 0 _ _ _ r l ⟨l.val % 128, by omega⟩ (by show l.val = 0 + l.val % 128; omega)).trans ((pay_k0 _ _ _ _ _ _ r _).trans ?_)
    exact congrArg (fun f => rotOf x2 x3 x4 r ⟨l.val % 128, by omega⟩ (normL f (fun k => x7 (ix2 0 k)) (fun k l => x5 (ix2 k l)))) (funext fun k => ld_cols 384 _ x0 r k ⟨384 + (128 * (l.val / 128) + k.val), by omega⟩ (by show 384 + (128 * (l.val / 128) + k.val) = 384 + k.val; omega))
  · refine (miss 256 _ _ _ r l (by omega)).trans ?_
    refine (hit 128 _ _ _ r l ⟨l.val % 128, by omega⟩ (by show l.val = 128 + l.val % 128; omega)).trans ((pay_k1 _ _ _ _ _ _ r _).trans ?_)
    exact congrArg (fun f => rotOf x2 x3 x4 r ⟨l.val % 128, by omega⟩ (normL f (fun k => x7 (ix2 0 k)) (fun k l => x5 (ix2 k l)))) (funext fun k => ld_cols 512 _ x0 r k ⟨384 + (128 * (l.val / 128) + k.val), by omega⟩ (by show 384 + (128 * (l.val / 128) + k.val) = 512 + k.val; omega))
  · refine (hit 256 _ _ _ r l ⟨l.val % 128, by omega⟩ (by show l.val = 256 + l.val % 128; omega)).trans ((pay_k2 _ _ _ _ _ _ r _).trans ?_)
    exact congrArg (fun f => rotOf x2 x3 x4 r ⟨l.val % 128, by omega⟩ (normL f (fun k => x7 (ix2 0 k)) (fun k l => x5 (ix2 k l)))) (funext fun k => ld_cols 640 _ x0 r k ⟨384 + (128 * (l.val / 128) + k.val), by omega⟩ (by show 384 + (128 * (l.val / 128) + k.val) = 640 + k.val; omega))

theorem out10 (r : Fin 128) (l : Fin 384) : @Eq EReal (out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r l)) (x0 (ix2 r ⟨768 + l.val, by omega⟩)) := by
  frame_open
  simp (disch := decide) only [↓ View.readCov_skip, ↓ View.readCov_cons_toLoadRect, ↓ View.readCov_fill]
  frame_out
  exact ld_cols 768 _ x0 r l ⟨768 + l.val, by omega⟩ rfl

theorem out11 (r : Fin 128) (l : Fin 256) : @Eq EReal (out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r l)) (outI x1 x2 x3 x4 r l) := by
  frame_open
  simp (disch := decide) only [↓ View.readCov_skip, ↓ View.readCov_cons_toLoadRect, ↓ View.readCov_fill]
  frame_out
  rcases (by omega : l.val < 128 ∨ 128 ≤ l.val) with h | h
  · refine (miss 128 _ _ _ r l (by omega)).trans ?_
    refine (hit 0 _ _ _ r l ⟨l.val % 128, by omega⟩ (by show l.val = 0 + l.val % 128; omega)).trans ((pay_i0 _ _ _ _ r _).trans ?_)
    exact congrArg (fun f => rotOf x2 x3 x4 r ⟨l.val % 128, by omega⟩ f) (funext fun k => ld_cols 0 _ x1 r k ⟨128 * (l.val / 128) + k.val, by omega⟩ (by show 128 * (l.val / 128) + k.val = 0 + k.val; omega))
  · refine (hit 128 _ _ _ r l ⟨l.val % 128, by omega⟩ (by show l.val = 128 + l.val % 128; omega)).trans ((pay_i1 _ _ _ _ r _).trans ?_)
    exact congrArg (fun f => rotOf x2 x3 x4 r ⟨l.val % 128, by omega⟩ f) (funext fun k => ld_cols 128 _ x1 r k ⟨128 * (l.val / 128) + k.val, by omega⟩ (by show 128 * (l.val / 128) + k.val = 128 + k.val; omega))

theorem out12 (r : Fin 128) (l : Fin 128) : @Eq EReal (out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r l)) (outW x1 x2 x3 x4 r l) := by
  frame_open
  simp (disch := decide) only [↓ View.readCov_skip, ↓ View.readCov_cons_toLoadRect, ↓ View.readCov_fill]
  frame_out
  unfold outW
  by_cases h : l.val < 64
  · rw [if_pos h]
    refine (pay_w_lo _ _ _ _ r l h).trans ?_
    exact congrArg (fun f => rotOf x2 x3 x4 r l f) (funext fun k => ld_cols 256 _ x1 r k ⟨256 + k.val, by omega⟩ rfl)
  · rw [if_neg h]
    exact (pay_w_hi _ _ _ _ r l h).trans (ld_cols 256 _ x1 r l ⟨256 + l.val, by omega⟩ rfl)

end

section

variable (p : Vec Ideal S17408x3840 .f32) (g : Vec Ideal S64 .f32) (r : Fin 1024)

/-- The cosines of a row's position. -/
def co (r : Fin 1024) (j : Fin 8) : EReal := cosT (ix2 ⟨r.val % 128, by omega⟩ j)

/-- The sines of a row's position. -/
def si (r : Fin 1024) (j : Fin 8) : EReal := sinT (ix2 ⟨r.val % 128, by omega⟩ j)

/-- A row's normed and rotated column `l` of the columns from `o` on. -/
def headN (o : ℕ) (ho : o + 384 ≤ 3840) (l : Fin 384) : EReal :=
  ropeH (normH (fun j => p (ix2 ⟨16384 + r.val, by omega⟩ ⟨o + (64 * (l.val / 64) + j.val), by omega⟩)) (fun j => g (ix1 j))) (co r) (si r) ⟨l.val % 64, by omega⟩

/-- A row's rotated column `l` of the index queries. -/
def headI (l : Fin 256) : EReal :=
  ropeH (fun j => p (ix2 ⟨16384 + r.val, by omega⟩ ⟨3456 + (64 * (l.val / 64) + j.val), by omega⟩)) (co r) (si r) ⟨l.val % 64, by omega⟩

/-- A row's column `l` of the index key, rotated, and the index weights. -/
def headW (l : Fin 128) : EReal :=
  if l.val < 64 then ropeH (fun j => p (ix2 ⟨16384 + r.val, by omega⟩ ⟨3712 + j.val, by omega⟩)) (co r) (si r) ⟨l.val % 64, by omega⟩
  else p (ix2 ⟨16384 + r.val, by omega⟩ ⟨3712 + l.val, by omega⟩)

end

variable (m : ((l : Loc nD τ sig) → Buf (Elt Ideal) l)) (c : Dev nD)

/-- The queries' and keys' columns are real. -/
def RealQK (p : Vec Ideal S17408x3840 .f32) : Prop :=
  ∀ (r : Fin 1024) (k : Fin 768), p (ix2 ⟨16384 + r.val, by omega⟩ ⟨1152 + k.val, by omega⟩) = ((p (ix2 ⟨16384 + r.val, by omega⟩ ⟨1152 + k.val, by omega⟩)).toReal : EReal)

/-- The queries. -/
def G8 (i : S1024x384.Idx) : EReal := headN (m ((c : Thread nD τ).loc main_arg0)) (m ((c : Thread nD τ).loc main_arg1)) (i 0) 1152 (by decide) (i 1) * Ideal.ofBits .f32 0x3E000000#32

/-- The keys. -/
def G9 (i : S1024x384.Idx) : EReal := headN (m ((c : Thread nD τ).loc main_arg0)) (m ((c : Thread nD τ).loc main_arg2)) (i 0) 1536 (by decide) (i 1)

/-- The values. -/
def G10 (i : S1024x384.Idx) : EReal :=
  m ((c : Thread nD τ).loc main_arg0) (ix2 ⟨16384 + (i 0).val, by have : (i 0).val < 1024 := (i 0).isLt; omega⟩ ⟨1920 + (i 1).val, by have : (i 1).val < 384 := (i 1).isLt; omega⟩)

/-- The index queries. -/
def G11 (i : S1024x256.Idx) : EReal := headI (m ((c : Thread nD τ).loc main_arg0)) (i 0) (i 1)

/-- The index key and weights. -/
def G12 (i : S1024x128.Idx) : EReal := headW (m ((c : Thread nD τ).loc main_arg0)) (i 0) (i 1)

section

variable (t : Fin cfg0.N) (r : Fin 128)

/-- The row of the whole array that row `r` of point `t`'s block is. -/
abbrev rowAt : Fin 1024 := ⟨128 * t.val + r.val, by have := points t; omega⟩

theorem tabs_c : (fun k => (iblk m c 2 t (ix2 r k) : EReal)) = fun k => tabC (co (rowAt t r)) ⟨k.val % 64, by omega⟩ := funext fun k => by
  refine (block_c m c t r k).trans (congrArg (fun f => tabC f _) (funext fun j => congrArg (fun q => cosT (ix2 q j)) (Fin.ext ?_)))
  have := points t
  show r.val = (128 * t.val + r.val) % 128
  omega

theorem tabs_1 : (fun k => (iblk m c 3 t (ix2 r k) : EReal)) = fun k => tab1 (si (rowAt t r)) ⟨k.val % 64, by omega⟩ := funext fun k => by
  refine (block_s1 m c t r k).trans (congrArg (fun f => tab1 f _) (funext fun j => congrArg (fun q => sinT (ix2 q j)) (Fin.ext ?_)))
  have := points t
  show r.val = (128 * t.val + r.val) % 128
  omega

theorem tabs_2 : (fun k => (iblk m c 4 t (ix2 r k) : EReal)) = fun k => tab2 (si (rowAt t r)) ⟨k.val % 64, by omega⟩ := funext fun k => by
  refine (block_s2 m c t r k).trans (congrArg (fun f => tab2 f _) (funext fun j => congrArg (fun q => sinT (ix2 q j)) (Fin.ext ?_)))
  have := points t
  show r.val = (128 * t.val + r.val) % 128
  omega

theorem tab_bd : (fun k l => (iblk m c 5 t (ix2 k l) : EReal)) = fun k l => if k.val / 64 = l.val / 64 then (1 : EReal) else 0 :=
  funext fun k => funext fun l => block_bd m c t k l

theorem norm_ok (o : ℕ) (ho : o + 384 ≤ 768) (g : Vec Ideal S64 .f32) (x6 : Vec Ideal S1x128 .f32) (hg : ∀ k : Fin 128, @Eq EReal (x6 (ix2 0 k)) (g (ix1 ⟨k.val % 64, by omega⟩)))
    (H : RealQK (m ((c : Thread nD τ).loc main_arg0))) (l : Fin 384) :
    outN (X0_0 m c t) (iblk m c 2 t) (iblk m c 3 t) (iblk m c 4 t) (iblk m c 5 t) x6 r o (by omega) l
      = headN (m ((c : Thread nD τ).loc main_arg0)) g (rowAt t r) (1152 + o) (by omega) l := by
  have ht := points t
  unfold outN rotOf
  rw [tabs_c, tabs_1, tabs_2, tab_bd]
  have hx : (fun k : Fin 128 => (X0_0 m c t (ix2 r ⟨o + (128 * (l.val / 128) + k.val), by omega⟩) : EReal))
      = fun k => m ((c : Thread nD τ).loc main_arg0) (ix2 ⟨16384 + (128 * t.val + r.val), by omega⟩ ⟨1152 + (o + (128 * (l.val / 128) + k.val)), by omega⟩) :=
    funext fun k => block_p m c t r _
  have hgf : (fun k : Fin 128 => (x6 (ix2 0 k) : EReal)) = fun k => g (ix1 ⟨k.val % 64, by omega⟩) := funext hg
  rw [hx, hgf]
  refine (rot_norm_eq _ _ (fun k => H (rowAt t r) ⟨o + (128 * (l.val / 128) + k.val), by omega⟩) _ _ _).trans ?_
  unfold headN headOf
  have h1 : (fun j : Fin 64 => (m ((c : Thread nD τ).loc main_arg0) (ix2 ⟨16384 + (128 * t.val + r.val), by omega⟩ ⟨1152 + (o + (128 * (l.val / 128) + (64 * (l.val % 128 / 64) + j.val))), by omega⟩) : EReal))
      = fun j => m ((c : Thread nD τ).loc main_arg0) (ix2 ⟨16384 + (rowAt t r).val, by omega⟩ ⟨1152 + o + (64 * (l.val / 64) + j.val), by omega⟩) := funext fun j =>
    congrArg (fun q => m ((c : Thread nD τ).loc main_arg0) (ix2 ⟨16384 + (128 * t.val + r.val), by omega⟩ q)) (Fin.ext (by show 1152 + (o + (128 * (l.val / 128) + (64 * (l.val % 128 / 64) + j.val))) = 1152 + o + (64 * (l.val / 64) + j.val); omega))
  have h2 : (fun j : Fin 64 => (g (ix1 ⟨(64 * (l.val % 128 / 64) + j.val) % 64, by omega⟩) : EReal)) = fun j => g (ix1 j) := funext fun j =>
    congrArg (fun q => g (ix1 q)) (Fin.ext (by show (64 * (l.val % 128 / 64) + j.val) % 64 = j.val; omega))
  have h3 : (⟨l.val % 128 % 64, by omega⟩ : Fin 64) = ⟨l.val % 64, by omega⟩ := Fin.ext (by show l.val % 128 % 64 = l.val % 64; omega)
  dsimp only
  rw [h1, h2, h3]

theorem ok8 (H : RealQK (m ((c : Thread nD τ).loc main_arg0))) (l : Fin 384) :
    outN (X0_0 m c t) (iblk m c 2 t) (iblk m c 3 t) (iblk m c 4 t) (iblk m c 5 t) (iblk m c 6 t) r 0 (by decide) l * Ideal.ofBits .f32 0x3E000000#32 = G8 m c (ix2 (rowAt t r) l) :=
  congrArg (· * Ideal.ofBits .f32 0x3E000000#32) (norm_ok m c t r 0 (by decide) (m ((c : Thread nD τ).loc main_arg1)) _ (fun k => block_qn m c t 0 k) H l)

theorem ok9 (H : RealQK (m ((c : Thread nD τ).loc main_arg0))) (l : Fin 384) :
    outN (X0_0 m c t) (iblk m c 2 t) (iblk m c 3 t) (iblk m c 4 t) (iblk m c 5 t) (iblk m c 7 t) r 384 (by decide) l = G9 m c (ix2 (rowAt t r) l) :=
  norm_ok m c t r 384 (by decide) (m ((c : Thread nD τ).loc main_arg2)) _ (fun k => block_kn m c t 0 k) H l

theorem ok10 (l : Fin 384) : (X0_0 m c t (ix2 r ⟨768 + l.val, by omega⟩) : EReal) = G10 m c (ix2 (rowAt t r) l) := by
  refine (block_p m c t r _).trans ?_
  unfold G10
  have ht := points t
  exact congrArg (fun q => m ((c : Thread nD τ).loc main_arg0) (ix2 ⟨16384 + (128 * t.val + r.val), by omega⟩ q)) (Fin.ext (by show 1152 + (768 + l.val) = 1920 + l.val; omega))

theorem ok11 (l : Fin 256) : outI (iblk m c 1 t) (iblk m c 2 t) (iblk m c 3 t) (iblk m c 4 t) r l = G11 m c (ix2 (rowAt t r) l) := by
  have ht := points t
  unfold outI rotOf
  rw [tabs_c, tabs_1, tabs_2]
  have hx : (fun k : Fin 128 => (iblk m c 1 t (ix2 r ⟨128 * (l.val / 128) + k.val, by omega⟩) : EReal))
      = fun k => m ((c : Thread nD τ).loc main_arg0) (ix2 ⟨16384 + (128 * t.val + r.val), by omega⟩ ⟨3456 + (128 * (l.val / 128) + k.val), by omega⟩) :=
    funext fun k => block_i m c t r _
  rw [hx]
  refine (rotL_eq _ _ _ _).trans ?_
  unfold G11 headI headOf
  have h1 : (fun j : Fin 64 => (m ((c : Thread nD τ).loc main_arg0) (ix2 ⟨16384 + (128 * t.val + r.val), by omega⟩ ⟨3456 + (128 * (l.val / 128) + (64 * (l.val % 128 / 64) + j.val)), by omega⟩) : EReal))
      = fun j => m ((c : Thread nD τ).loc main_arg0) (ix2 ⟨16384 + (rowAt t r).val, by omega⟩ ⟨3456 + (64 * (l.val / 64) + j.val), by omega⟩) := funext fun j =>
    congrArg (fun q => m ((c : Thread nD τ).loc main_arg0) (ix2 ⟨16384 + (128 * t.val + r.val), by omega⟩ q)) (Fin.ext (by show 3456 + (128 * (l.val / 128) + (64 * (l.val % 128 / 64) + j.val)) = 3456 + (64 * (l.val / 64) + j.val); omega))
  have h3 : (⟨l.val % 128 % 64, by omega⟩ : Fin 64) = ⟨l.val % 64, by omega⟩ := Fin.ext (by show l.val % 128 % 64 = l.val % 64; omega)
  dsimp only
  rw [h1, h3]
  rfl

theorem ok12 (l : Fin 128) : outW (iblk m c 1 t) (iblk m c 2 t) (iblk m c 3 t) (iblk m c 4 t) r l = G12 m c (ix2 (rowAt t r) l) := by
  have ht := points t
  unfold outW G12 headW
  show (if l.val < 64 then _ else _) = (if l.val < 64 then _ else _)
  by_cases h : l.val < 64
  · rw [if_pos h, if_pos h]
    unfold rotOf
    rw [tabs_c, tabs_1, tabs_2]
    have hx : (fun k : Fin 128 => (iblk m c 1 t (ix2 r ⟨256 + k.val, by omega⟩) : EReal))
        = fun k => m ((c : Thread nD τ).loc main_arg0) (ix2 ⟨16384 + (128 * t.val + r.val), by omega⟩ ⟨3456 + (256 + k.val), by omega⟩) :=
      funext fun k => block_i m c t r _
    rw [hx]
    refine (rotL_eq _ _ _ _).trans ?_
    unfold headOf
    have h1 : (fun j : Fin 64 => (m ((c : Thread nD τ).loc main_arg0) (ix2 ⟨16384 + (128 * t.val + r.val), by omega⟩ ⟨3456 + (256 + (64 * (l.val / 64) + j.val)), by omega⟩) : EReal))
        = fun j => m ((c : Thread nD τ).loc main_arg0) (ix2 ⟨16384 + (rowAt t r).val, by omega⟩ ⟨3712 + j.val, by omega⟩) := funext fun j =>
      congrArg (fun q => m ((c : Thread nD τ).loc main_arg0) (ix2 ⟨16384 + (128 * t.val + r.val), by omega⟩ q)) (Fin.ext (by show 3456 + (256 + (64 * (l.val / 64) + j.val)) = 3712 + j.val; omega))
    dsimp only
    rw [h1]
    rfl
  · rw [if_neg h, if_neg h]
    refine (block_i m c t r _).trans ?_
    exact congrArg (fun q => m ((c : Thread nD τ).loc main_arg0) (ix2 ⟨16384 + (128 * t.val + r.val), by omega⟩ q)) (Fin.ext (by show 3456 + (256 + l.val) = 3712 + l.val; omega))

end

theorem flushes8 : ∀ t : Fin cfg0.N, (cfg0.win 8).flush t = true := by decide +kernel
theorem flushes9 : ∀ t : Fin cfg0.N, (cfg0.win 9).flush t = true := by decide +kernel
theorem flushes10 : ∀ t : Fin cfg0.N, (cfg0.win 10).flush t = true := by decide +kernel
theorem flushes11 : ∀ t : Fin cfg0.N, (cfg0.win 11).flush t = true := by decide +kernel
theorem flushes12 : ∀ t : Fin cfg0.N, (cfg0.win 12).flush t = true := by decide +kernel

theorem point8 (t : Fin cfg0.N) (H : RealQK (m ((c : Thread nD τ).loc main_arg0))) (r : Fin 128) (l : Fin 384) :
    @Eq EReal (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) (ix2 r l)) (G8 m c (ix2 (rowAt t r) l)) :=
  Eq.trans (out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) r l) (ok8 m c t r H l)

theorem emb8 (t : Fin cfg0.N) (r : Fin 128) (l : Fin 384) : (((cfg0.win 8).blk t).view.emb (ix2 r l) : S1024x384.Idx) = ix2 (rowAt t r) l := by
  have hw := (windows t).2.2.2.2.2.2.2.2.1
  funext a
  refine Fin.ext ?_
  match a with
  | 0 =>
    show win0_8.index t (0 : Fin 2) * 128 + 1 * r.val = 128 * t.val + r.val
    rw [hw]; show t.val * 128 + 1 * r.val = _; omega
  | 1 =>
    show win0_8.index t (1 : Fin 2) * 384 + 1 * l.val = l.val
    rw [hw]; show 0 * 384 + 1 * l.val = _; omega

set_option maxHeartbeats 1000000 in
theorem at8 (H : RealQK (m ((c : Thread nD τ).loc main_arg0))) (t : Fin cfg0.N) (r : Fin 128) (l : Fin 384) :
    @Eq EReal ((dats m 0 c).arrAt 8 cfg0.N (ix2 (rowAt t r) l)) (G8 m c (ix2 (rowAt t r) l)) := by
  have hb := congrFun (blocks8 m c t (flushes8 t)) (ix2 r l)
  rw [flushed8_A] at hb
  have hp := point8 m c t H r l
  rw [← hp, ← emb8 t r l]
  exact hb

theorem final8 (H : RealQK (m ((c : Thread nD τ).loc main_arg0))) : (dats m 0 c).arrAt 8 cfg0.N = G8 m c := by
  funext i
  have h0 : (i 0).val < 1024 := (i 0).isLt
  have ht : (i 0).val / 128 < cfg0.N := by show (i 0).val / 128 < 8; omega
  have hi : i = (ix2 (rowAt ⟨(i 0).val / 128, ht⟩ ⟨(i 0).val % 128, Nat.mod_lt _ (by decide)⟩) (i 1) : S1024x384.Idx) := by
    funext a
    match a with
    | 0 => exact Fin.ext (by show (i 0).val = 128 * ((i 0).val / 128) + (i 0).val % 128; omega)
    | 1 => rfl
  rw [hi]
  exact at8 m c H ⟨(i 0).val / 128, ht⟩ ⟨(i 0).val % 128, Nat.mod_lt _ (by decide)⟩ (i 1)

theorem point9 (t : Fin cfg0.N) (H : RealQK (m ((c : Thread nD τ).loc main_arg0))) (r : Fin 128) (l : Fin 384) :
    @Eq EReal (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) (ix2 r l)) (G9 m c (ix2 (rowAt t r) l)) :=
  Eq.trans (out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) r l) (ok9 m c t r H l)

theorem emb9 (t : Fin cfg0.N) (r : Fin 128) (l : Fin 384) : (((cfg0.win 9).blk t).view.emb (ix2 r l) : S1024x384.Idx) = ix2 (rowAt t r) l := by
  have hw := (windows t).2.2.2.2.2.2.2.2.2.1
  funext a
  refine Fin.ext ?_
  match a with
  | 0 =>
    show win0_9.index t (0 : Fin 2) * 128 + 1 * r.val = 128 * t.val + r.val
    rw [hw]; show t.val * 128 + 1 * r.val = _; omega
  | 1 =>
    show win0_9.index t (1 : Fin 2) * 384 + 1 * l.val = l.val
    rw [hw]; show 0 * 384 + 1 * l.val = _; omega

set_option maxHeartbeats 1000000 in
theorem at9 (H : RealQK (m ((c : Thread nD τ).loc main_arg0))) (t : Fin cfg0.N) (r : Fin 128) (l : Fin 384) :
    @Eq EReal ((dats m 0 c).arrAt 9 cfg0.N (ix2 (rowAt t r) l)) (G9 m c (ix2 (rowAt t r) l)) := by
  have hb := congrFun (blocks9 m c t (flushes9 t)) (ix2 r l)
  rw [flushed9_A] at hb
  have hp := point9 m c t H r l
  rw [← hp, ← emb9 t r l]
  exact hb

theorem final9 (H : RealQK (m ((c : Thread nD τ).loc main_arg0))) : (dats m 0 c).arrAt 9 cfg0.N = G9 m c := by
  funext i
  have h0 : (i 0).val < 1024 := (i 0).isLt
  have ht : (i 0).val / 128 < cfg0.N := by show (i 0).val / 128 < 8; omega
  have hi : i = (ix2 (rowAt ⟨(i 0).val / 128, ht⟩ ⟨(i 0).val % 128, Nat.mod_lt _ (by decide)⟩) (i 1) : S1024x384.Idx) := by
    funext a
    match a with
    | 0 => exact Fin.ext (by show (i 0).val = 128 * ((i 0).val / 128) + (i 0).val % 128; omega)
    | 1 => rfl
  rw [hi]
  exact at9 m c H ⟨(i 0).val / 128, ht⟩ ⟨(i 0).val % 128, Nat.mod_lt _ (by decide)⟩ (i 1)

theorem point10 (t : Fin cfg0.N) (r : Fin 128) (l : Fin 384) :
    @Eq EReal (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) (ix2 r l)) (G10 m c (ix2 (rowAt t r) l)) :=
  Eq.trans (out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) r l) (ok10 m c t r l)

theorem emb10 (t : Fin cfg0.N) (r : Fin 128) (l : Fin 384) : (((cfg0.win 10).blk t).view.emb (ix2 r l) : S1024x384.Idx) = ix2 (rowAt t r) l := by
  have hw := (windows t).2.2.2.2.2.2.2.2.2.2.1
  funext a
  refine Fin.ext ?_
  match a with
  | 0 =>
    show win0_10.index t (0 : Fin 2) * 128 + 1 * r.val = 128 * t.val + r.val
    rw [hw]; show t.val * 128 + 1 * r.val = _; omega
  | 1 =>
    show win0_10.index t (1 : Fin 2) * 384 + 1 * l.val = l.val
    rw [hw]; show 0 * 384 + 1 * l.val = _; omega

set_option maxHeartbeats 1000000 in
theorem at10 (t : Fin cfg0.N) (r : Fin 128) (l : Fin 384) :
    @Eq EReal ((dats m 0 c).arrAt 10 cfg0.N (ix2 (rowAt t r) l)) (G10 m c (ix2 (rowAt t r) l)) := by
  have hb := congrFun (blocks10 m c t (flushes10 t)) (ix2 r l)
  rw [flushed10_A] at hb
  have hp := point10 m c t r l
  rw [← hp, ← emb10 t r l]
  exact hb

theorem final10 : (dats m 0 c).arrAt 10 cfg0.N = G10 m c := by
  funext i
  have h0 : (i 0).val < 1024 := (i 0).isLt
  have ht : (i 0).val / 128 < cfg0.N := by show (i 0).val / 128 < 8; omega
  have hi : i = (ix2 (rowAt ⟨(i 0).val / 128, ht⟩ ⟨(i 0).val % 128, Nat.mod_lt _ (by decide)⟩) (i 1) : S1024x384.Idx) := by
    funext a
    match a with
    | 0 => exact Fin.ext (by show (i 0).val = 128 * ((i 0).val / 128) + (i 0).val % 128; omega)
    | 1 => rfl
  rw [hi]
  exact at10 m c ⟨(i 0).val / 128, ht⟩ ⟨(i 0).val % 128, Nat.mod_lt _ (by decide)⟩ (i 1)

theorem point11 (t : Fin cfg0.N) (r : Fin 128) (l : Fin 256) :
    @Eq EReal (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) (ix2 r l)) (G11 m c (ix2 (rowAt t r) l)) :=
  Eq.trans (out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) r l) (ok11 m c t r l)

theorem emb11 (t : Fin cfg0.N) (r : Fin 128) (l : Fin 256) : (((cfg0.win 11).blk t).view.emb (ix2 r l) : S1024x256.Idx) = ix2 (rowAt t r) l := by
  have hw := (windows t).2.2.2.2.2.2.2.2.2.2.2.1
  funext a
  refine Fin.ext ?_
  match a with
  | 0 =>
    show win0_11.index t (0 : Fin 2) * 128 + 1 * r.val = 128 * t.val + r.val
    rw [hw]; show t.val * 128 + 1 * r.val = _; omega
  | 1 =>
    show win0_11.index t (1 : Fin 2) * 256 + 1 * l.val = l.val
    rw [hw]; show 0 * 256 + 1 * l.val = _; omega

set_option maxHeartbeats 1000000 in
theorem at11 (t : Fin cfg0.N) (r : Fin 128) (l : Fin 256) :
    @Eq EReal ((dats m 0 c).arrAt 11 cfg0.N (ix2 (rowAt t r) l)) (G11 m c (ix2 (rowAt t r) l)) := by
  have hb := congrFun (blocks11 m c t (flushes11 t)) (ix2 r l)
  rw [flushed11_A] at hb
  have hp := point11 m c t r l
  rw [← hp, ← emb11 t r l]
  exact hb

theorem final11 : (dats m 0 c).arrAt 11 cfg0.N = G11 m c := by
  funext i
  have h0 : (i 0).val < 1024 := (i 0).isLt
  have ht : (i 0).val / 128 < cfg0.N := by show (i 0).val / 128 < 8; omega
  have hi : i = (ix2 (rowAt ⟨(i 0).val / 128, ht⟩ ⟨(i 0).val % 128, Nat.mod_lt _ (by decide)⟩) (i 1) : S1024x256.Idx) := by
    funext a
    match a with
    | 0 => exact Fin.ext (by show (i 0).val = 128 * ((i 0).val / 128) + (i 0).val % 128; omega)
    | 1 => rfl
  rw [hi]
  exact at11 m c ⟨(i 0).val / 128, ht⟩ ⟨(i 0).val % 128, Nat.mod_lt _ (by decide)⟩ (i 1)

theorem point12 (t : Fin cfg0.N) (r : Fin 128) (l : Fin 128) :
    @Eq EReal (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) (ix2 r l)) (G12 m c (ix2 (rowAt t r) l)) :=
  Eq.trans (out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) r l) (ok12 m c t r l)

theorem emb12 (t : Fin cfg0.N) (r : Fin 128) (l : Fin 128) : (((cfg0.win 12).blk t).view.emb (ix2 r l) : S1024x128.Idx) = ix2 (rowAt t r) l := by
  have hw := (windows t).2.2.2.2.2.2.2.2.2.2.2.2
  funext a
  refine Fin.ext ?_
  match a with
  | 0 =>
    show win0_12.index t (0 : Fin 2) * 128 + 1 * r.val = 128 * t.val + r.val
    rw [hw]; show t.val * 128 + 1 * r.val = _; omega
  | 1 =>
    show win0_12.index t (1 : Fin 2) * 128 + 1 * l.val = l.val
    rw [hw]; show 0 * 128 + 1 * l.val = _; omega

set_option maxHeartbeats 1000000 in
theorem at12 (t : Fin cfg0.N) (r : Fin 128) (l : Fin 128) :
    @Eq EReal ((dats m 0 c).arrAt 12 cfg0.N (ix2 (rowAt t r) l)) (G12 m c (ix2 (rowAt t r) l)) := by
  have hb := congrFun (blocks12 m c t (flushes12 t)) (ix2 r l)
  rw [flushed12_A] at hb
  have hp := point12 m c t r l
  rw [← hp, ← emb12 t r l]
  exact hb

theorem final12 : (dats m 0 c).arrAt 12 cfg0.N = G12 m c := by
  funext i
  have h0 : (i 0).val < 1024 := (i 0).isLt
  have ht : (i 0).val / 128 < cfg0.N := by show (i 0).val / 128 < 8; omega
  have hi : i = (ix2 (rowAt ⟨(i 0).val / 128, ht⟩ ⟨(i 0).val % 128, Nat.mod_lt _ (by decide)⟩) (i 1) : S1024x128.Idx) := by
    funext a
    match a with
    | 0 => exact Fin.ext (by show (i 0).val = 128 * ((i 0).val / 128) + (i 0).val % 128; omega)
    | 1 => rfl
  rw [hi]
  exact at12 m c ⟨(i 0).val / 128, ht⟩ ⟨(i 0).val % 128, Nat.mod_lt _ (by decide)⟩ (i 1)

end Cert.AttnSample

end
-- ==== Proof.AttnSampleRef.lean ====
/- The rows the attention reads, prepared over the short sequences, in the plain program. -/
module

public import proofs.«01_k».proof.Proof.AttnSample
public import proofs.«01_k».proof.Proof.Gen.Reference10Ideal.Run

@[expose] public section

set_option maxRecDepth 16384

noncomputable section

open Idealize.ShloMosaic Idealize.ShloMosaic.TcCoe Idealize.SL.Sem Idealize.ShloMosaic.StableHlo
open Cert.Reference10Ideal Cert.Reference10Ideal.Gen Cert.Reference10Ideal.Value Cert.Attn

namespace Cert.AttnSample

variable (V : Valuation τ sig (Elt Ideal))

/-- The array of the rows. -/
abbrev pOf : Vec Ideal S17408x3840 .f32 := V (Proc.devRef .tc main_arg0)

theorem q_x (b : Fin 128) (t : Fin 8) (h : Fin 6) (j : Fin 64) :
    @Eq EReal (res_main_v5 V (ix4 b t h j)) (pOf V (ix2 ⟨16384 + (b.val * 8 + t.val), by omega⟩ ⟨1152 + (h.val * 64 + j.val), by omega⟩)) := by
  unfold res_main_v5 res_main_v0
  pointwise

theorem q_n (b : Fin 128) (t : Fin 8) (h : Fin 6) (j : Fin 64) :
    @Eq EReal (res_main_v18 V (ix4 b t h j)) (normH (fun j => res_main_v5 V (ix4 b t h j)) (fun j => (V (Proc.devRef .tc main_arg1) : Vec Ideal S64 .f32) (ix1 j)) j) := by
  unfold res_main_v18 normH
  pointwise

theorem q_c (q : Fin 128) (t : Fin 8) (hq : q.val % 8 = t.val) (j : Fin 8) : @Eq EReal (res_main_v32 V (ix3 t 0 j)) (cosT (ix2 q j)) := by
  unfold res_main_v32 res_main_v30 res_main_v3 cosT angT
  pointwise
  rw [hq]

theorem q_s (q : Fin 128) (t : Fin 8) (hq : q.val % 8 = t.val) (j : Fin 8) : @Eq EReal (res_main_v34 V (ix3 t 0 j)) (sinT (ix2 q j)) := by
  unfold res_main_v34 res_main_v30 res_main_v3 sinT angT
  pointwise
  rw [hq]

theorem q_r (b : Fin 128) (t : Fin 8) (h : Fin 6) (l : Fin 64) :
    @Eq EReal (((concatenate S128x8x6x64 3 [⟨S128x8x6x8, ((subf (F := Ideal) (φ := .f32) (mulf (F := Ideal) (φ := .f32) (res_main_v35 V) (broadcastInDim S128x8x6x8 ![0, 1, 2, 3] bcast_S1x8x1x8_S128x8x6x8_0_1_2_3 (broadcastInDim S1x8x1x8 ![1, 2, 3] bcast_S8x1x8_S1x8x1x8_1_2_3 (res_main_v32 V)))) (mulf (F := Ideal) (φ := .f32) (res_main_v36 V) (broadcastInDim S128x8x6x8 ![0, 1, 2, 3] bcast_S1x8x1x8_S128x8x6x8_0_1_2_3 (broadcastInDim S1x8x1x8 ![1, 2, 3] bcast_S8x1x8_S1x8x1x8_1_2_3 (res_main_v34 V))))) : (⟨S128x8x6x8, .f32⟩ : BufTy).Contents (Elt Ideal))⟩, ⟨S128x8x6x8, ((addf (F := Ideal) (φ := .f32) (mulf (F := Ideal) (φ := .f32) (res_main_v36 V) (broadcastInDim S128x8x6x8 ![0, 1, 2, 3] bcast_S1x8x1x8_S128x8x6x8_0_1_2_3 (broadcastInDim S1x8x1x8 ![1, 2, 3] bcast_S8x1x8_S1x8x1x8_1_2_3 (res_main_v32 V)))) (mulf (F := Ideal) (φ := .f32) (res_main_v35 V) (broadcastInDim S128x8x6x8 ![0, 1, 2, 3] bcast_S1x8x1x8_S128x8x6x8_0_1_2_3 (broadcastInDim S1x8x1x8 ![1, 2, 3] bcast_S8x1x8_S1x8x1x8_1_2_3 (res_main_v34 V))))) : (⟨S128x8x6x8, .f32⟩ : BufTy).Contents (Elt Ideal))⟩, ⟨S128x8x6x48, ((extractStridedSlice S128x8x6x48 ![0, 0, 0, 16] (res_main_v18 V) slices_S128x8x6x64_S128x8x6x48_0_0_0_16) : (⟨S128x8x6x48, .f32⟩ : BufTy).Contents (Elt Ideal))⟩] concatenates_S128x8x6x8_S128x8x6x8_S128x8x6x48_S128x8x6x64_d3 : (⟨S128x8x6x64, .f32⟩ : BufTy).Contents (Elt Ideal))) (ix4 b t h l))
      (ropeH (fun j => res_main_v18 V (ix4 b t h j)) (fun j => res_main_v32 V (ix3 t 0 j)) (fun j => res_main_v34 V (ix3 t 0 j)) l) := by
  unfold res_main_v35 res_main_v36 ropeH
  pointwise
  refine dite_congr rfl (fun h1 => ?_) (fun h1 => ?_)
  · rw [show (⟨8 + l.val, by omega⟩ : Fin 64) = ⟨l.val + 8, by omega⟩ from Fin.ext (Nat.add_comm _ _)]
  · refine dite_congr rfl (fun h2 => ?_) (fun h2 => ?_)
    · rw [show (⟨8 + (l.val - 8), by omega⟩ : Fin 64) = l from Fin.ext (by show 8 + (l.val - 8) = l.val; omega)]
    · exact congrArg (fun q => res_main_v18 V (ix4 b t h q)) (Fin.ext (by show 16 + (l.val - 8 - 8) = l.val; omega))

theorem k_x (b : Fin 128) (t : Fin 8) (h : Fin 6) (j : Fin 64) :
    @Eq EReal (res_main_v56 V (ix4 b t h j)) (pOf V (ix2 ⟨16384 + (b.val * 8 + t.val), by omega⟩ ⟨1536 + (h.val * 64 + j.val), by omega⟩)) := by
  unfold res_main_v56 res_main_v0
  pointwise

theorem k_n (b : Fin 128) (t : Fin 8) (h : Fin 6) (j : Fin 64) :
    @Eq EReal (res_main_v69 V (ix4 b t h j)) (normH (fun j => res_main_v56 V (ix4 b t h j)) (fun j => (V (Proc.devRef .tc main_arg2) : Vec Ideal S64 .f32) (ix1 j)) j) := by
  unfold res_main_v69 normH
  pointwise

theorem k_c (q : Fin 128) (t : Fin 8) (hq : q.val % 8 = t.val) (j : Fin 8) : @Eq EReal (res_main_v83 V (ix3 t 0 j)) (cosT (ix2 q j)) := by
  unfold res_main_v83 res_main_v81 res_main_v3 cosT angT
  pointwise
  rw [hq]

theorem k_s (q : Fin 128) (t : Fin 8) (hq : q.val % 8 = t.val) (j : Fin 8) : @Eq EReal (res_main_v85 V (ix3 t 0 j)) (sinT (ix2 q j)) := by
  unfold res_main_v85 res_main_v81 res_main_v3 sinT angT
  pointwise
  rw [hq]

theorem k_r (b : Fin 128) (t : Fin 8) (h : Fin 6) (l : Fin 64) :
    @Eq EReal (((concatenate S128x8x6x64 3 [⟨S128x8x6x8, ((subf (F := Ideal) (φ := .f32) (mulf (F := Ideal) (φ := .f32) (res_main_v86 V) (broadcastInDim S128x8x6x8 ![0, 1, 2, 3] bcast_S1x8x1x8_S128x8x6x8_0_1_2_3 (broadcastInDim S1x8x1x8 ![1, 2, 3] bcast_S8x1x8_S1x8x1x8_1_2_3 (res_main_v83 V)))) (mulf (F := Ideal) (φ := .f32) (res_main_v87 V) (broadcastInDim S128x8x6x8 ![0, 1, 2, 3] bcast_S1x8x1x8_S128x8x6x8_0_1_2_3 (broadcastInDim S1x8x1x8 ![1, 2, 3] bcast_S8x1x8_S1x8x1x8_1_2_3 (res_main_v85 V))))) : (⟨S128x8x6x8, .f32⟩ : BufTy).Contents (Elt Ideal))⟩, ⟨S128x8x6x8, ((addf (F := Ideal) (φ := .f32) (mulf (F := Ideal) (φ := .f32) (res_main_v87 V) (broadcastInDim S128x8x6x8 ![0, 1, 2, 3] bcast_S1x8x1x8_S128x8x6x8_0_1_2_3 (broadcastInDim S1x8x1x8 ![1, 2, 3] bcast_S8x1x8_S1x8x1x8_1_2_3 (res_main_v83 V)))) (mulf (F := Ideal) (φ := .f32) (res_main_v86 V) (broadcastInDim S128x8x6x8 ![0, 1, 2, 3] bcast_S1x8x1x8_S128x8x6x8_0_1_2_3 (broadcastInDim S1x8x1x8 ![1, 2, 3] bcast_S8x1x8_S1x8x1x8_1_2_3 (res_main_v85 V))))) : (⟨S128x8x6x8, .f32⟩ : BufTy).Contents (Elt Ideal))⟩, ⟨S128x8x6x48, ((extractStridedSlice S128x8x6x48 ![0, 0, 0, 16] (res_main_v69 V) slices_S128x8x6x64_S128x8x6x48_0_0_0_16) : (⟨S128x8x6x48, .f32⟩ : BufTy).Contents (Elt Ideal))⟩] concatenates_S128x8x6x8_S128x8x6x8_S128x8x6x48_S128x8x6x64_d3 : (⟨S128x8x6x64, .f32⟩ : BufTy).Contents (Elt Ideal))) (ix4 b t h l))
      (ropeH (fun j => res_main_v69 V (ix4 b t h j)) (fun j => res_main_v83 V (ix3 t 0 j)) (fun j => res_main_v85 V (ix3 t 0 j)) l) := by
  unfold res_main_v86 res_main_v87 ropeH
  pointwise
  refine dite_congr rfl (fun h1 => ?_) (fun h1 => ?_)
  · rw [show (⟨8 + l.val, by omega⟩ : Fin 64) = ⟨l.val + 8, by omega⟩ from Fin.ext (Nat.add_comm _ _)]
  · refine dite_congr rfl (fun h2 => ?_) (fun h2 => ?_)
    · rw [show (⟨8 + (l.val - 8), by omega⟩ : Fin 64) = l from Fin.ext (by show 8 + (l.val - 8) = l.val; omega)]
    · exact congrArg (fun q => res_main_v69 V (ix4 b t h q)) (Fin.ext (by show 16 + (l.val - 8 - 8) = l.val; omega))

theorem i_x (b : Fin 128) (t : Fin 8) (h : Fin 4) (j : Fin 64) :
    @Eq EReal (res_main_v105 V (ix4 b t h j)) (pOf V (ix2 ⟨16384 + (b.val * 8 + t.val), by omega⟩ ⟨3456 + (h.val * 64 + j.val), by omega⟩)) := by
  unfold res_main_v105 res_main_v0
  pointwise

theorem i_c (q : Fin 128) (t : Fin 8) (hq : q.val % 8 = t.val) (j : Fin 8) : @Eq EReal (res_main_v119 V (ix3 t 0 j)) (cosT (ix2 q j)) := by
  unfold res_main_v119 res_main_v117 res_main_v3 cosT angT
  pointwise
  rw [hq]

theorem i_s (q : Fin 128) (t : Fin 8) (hq : q.val % 8 = t.val) (j : Fin 8) : @Eq EReal (res_main_v121 V (ix3 t 0 j)) (sinT (ix2 q j)) := by
  unfold res_main_v121 res_main_v117 res_main_v3 sinT angT
  pointwise
  rw [hq]

theorem i_r (b : Fin 128) (t : Fin 8) (h : Fin 4) (l : Fin 64) :
    @Eq EReal (((concatenate S128x8x4x64 3 [⟨S128x8x4x8, ((subf (F := Ideal) (φ := .f32) (mulf (F := Ideal) (φ := .f32) (res_main_v122 V) (broadcastInDim S128x8x4x8 ![0, 1, 2, 3] bcast_S1x8x1x8_S128x8x4x8_0_1_2_3 (broadcastInDim S1x8x1x8 ![1, 2, 3] bcast_S8x1x8_S1x8x1x8_1_2_3 (res_main_v119 V)))) (mulf (F := Ideal) (φ := .f32) (res_main_v123 V) (broadcastInDim S128x8x4x8 ![0, 1, 2, 3] bcast_S1x8x1x8_S128x8x4x8_0_1_2_3 (broadcastInDim S1x8x1x8 ![1, 2, 3] bcast_S8x1x8_S1x8x1x8_1_2_3 (res_main_v121 V))))) : (⟨S128x8x4x8, .f32⟩ : BufTy).Contents (Elt Ideal))⟩, ⟨S128x8x4x8, ((addf (F := Ideal) (φ := .f32) (mulf (F := Ideal) (φ := .f32) (res_main_v123 V) (broadcastInDim S128x8x4x8 ![0, 1, 2, 3] bcast_S1x8x1x8_S128x8x4x8_0_1_2_3 (broadcastInDim S1x8x1x8 ![1, 2, 3] bcast_S8x1x8_S1x8x1x8_1_2_3 (res_main_v119 V)))) (mulf (F := Ideal) (φ := .f32) (res_main_v122 V) (broadcastInDim S128x8x4x8 ![0, 1, 2, 3] bcast_S1x8x1x8_S128x8x4x8_0_1_2_3 (broadcastInDim S1x8x1x8 ![1, 2, 3] bcast_S8x1x8_S1x8x1x8_1_2_3 (res_main_v121 V))))) : (⟨S128x8x4x8, .f32⟩ : BufTy).Contents (Elt Ideal))⟩, ⟨S128x8x4x48, ((extractStridedSlice S128x8x4x48 ![0, 0, 0, 16] (res_main_v105 V) slices_S128x8x4x64_S128x8x4x48_0_0_0_16) : (⟨S128x8x4x48, .f32⟩ : BufTy).Contents (Elt Ideal))⟩] concatenates_S128x8x4x8_S128x8x4x8_S128x8x4x48_S128x8x4x64_d3 : (⟨S128x8x4x64, .f32⟩ : BufTy).Contents (Elt Ideal))) (ix4 b t h l))
      (ropeH (fun j => res_main_v105 V (ix4 b t h j)) (fun j => res_main_v119 V (ix3 t 0 j)) (fun j => res_main_v121 V (ix3 t 0 j)) l) := by
  unfold res_main_v122 res_main_v123 ropeH
  pointwise
  refine dite_congr rfl (fun h1 => ?_) (fun h1 => ?_)
  · rw [show (⟨8 + l.val, by omega⟩ : Fin 64) = ⟨l.val + 8, by omega⟩ from Fin.ext (Nat.add_comm _ _)]
  · refine dite_congr rfl (fun h2 => ?_) (fun h2 => ?_)
    · rw [show (⟨8 + (l.val - 8), by omega⟩ : Fin 64) = l from Fin.ext (by show 8 + (l.val - 8) = l.val; omega)]
    · exact congrArg (fun q => res_main_v105 V (ix4 b t h q)) (Fin.ext (by show 16 + (l.val - 8 - 8) = l.val; omega))

theorem w_x (b : Fin 128) (t : Fin 8) (h : Fin 1) (j : Fin 64) :
    @Eq EReal (res_main_v141 V (ix4 b t h j)) (pOf V (ix2 ⟨16384 + (b.val * 8 + t.val), by omega⟩ ⟨3712 + (h.val * 64 + j.val), by omega⟩)) := by
  unfold res_main_v141 res_main_v0
  pointwise

theorem w_c (q : Fin 128) (t : Fin 8) (hq : q.val % 8 = t.val) (j : Fin 8) : @Eq EReal (res_main_v155 V (ix3 t 0 j)) (cosT (ix2 q j)) := by
  unfold res_main_v155 res_main_v153 res_main_v3 cosT angT
  pointwise
  rw [hq]

theorem w_s (q : Fin 128) (t : Fin 8) (hq : q.val % 8 = t.val) (j : Fin 8) : @Eq EReal (res_main_v157 V (ix3 t 0 j)) (sinT (ix2 q j)) := by
  unfold res_main_v157 res_main_v153 res_main_v3 sinT angT
  pointwise
  rw [hq]

theorem w_r (b : Fin 128) (t : Fin 8) (h : Fin 1) (l : Fin 64) :
    @Eq EReal (((concatenate S128x8x1x64 3 [⟨S128x8x1x8, ((subf (F := Ideal) (φ := .f32) (mulf (F := Ideal) (φ := .f32) (res_main_v158 V) (broadcastInDim S128x8x1x8 ![0, 1, 2, 3] bcast_S1x8x1x8_S128x8x1x8_0_1_2_3 (broadcastInDim S1x8x1x8 ![1, 2, 3] bcast_S8x1x8_S1x8x1x8_1_2_3 (res_main_v155 V)))) (mulf (F := Ideal) (φ := .f32) (res_main_v159 V) (broadcastInDim S128x8x1x8 ![0, 1, 2, 3] bcast_S1x8x1x8_S128x8x1x8_0_1_2_3 (broadcastInDim S1x8x1x8 ![1, 2, 3] bcast_S8x1x8_S1x8x1x8_1_2_3 (res_main_v157 V))))) : (⟨S128x8x1x8, .f32⟩ : BufTy).Contents (Elt Ideal))⟩, ⟨S128x8x1x8, ((addf (F := Ideal) (φ := .f32) (mulf (F := Ideal) (φ := .f32) (res_main_v159 V) (broadcastInDim S128x8x1x8 ![0, 1, 2, 3] bcast_S1x8x1x8_S128x8x1x8_0_1_2_3 (broadcastInDim S1x8x1x8 ![1, 2, 3] bcast_S8x1x8_S1x8x1x8_1_2_3 (res_main_v155 V)))) (mulf (F := Ideal) (φ := .f32) (res_main_v158 V) (broadcastInDim S128x8x1x8 ![0, 1, 2, 3] bcast_S1x8x1x8_S128x8x1x8_0_1_2_3 (broadcastInDim S1x8x1x8 ![1, 2, 3] bcast_S8x1x8_S1x8x1x8_1_2_3 (res_main_v157 V))))) : (⟨S128x8x1x8, .f32⟩ : BufTy).Contents (Elt Ideal))⟩, ⟨S128x8x1x48, ((extractStridedSlice S128x8x1x48 ![0, 0, 0, 16] (res_main_v141 V) slices_S128x8x1x64_S128x8x1x48_0_0_0_16) : (⟨S128x8x1x48, .f32⟩ : BufTy).Contents (Elt Ideal))⟩] concatenates_S128x8x1x8_S128x8x1x8_S128x8x1x48_S128x8x1x64_d3 : (⟨S128x8x1x64, .f32⟩ : BufTy).Contents (Elt Ideal))) (ix4 b t h l))
      (ropeH (fun j => res_main_v141 V (ix4 b t h j)) (fun j => res_main_v155 V (ix3 t 0 j)) (fun j => res_main_v157 V (ix3 t 0 j)) l) := by
  obtain rfl : h = 0 := Subsingleton.elim _ _
  unfold res_main_v158 res_main_v159 ropeH
  pointwise
  refine dite_congr rfl (fun h1 => ?_) (fun h1 => ?_)
  · rw [show (⟨8 + l.val, by omega⟩ : Fin 64) = ⟨l.val + 8, by omega⟩ from Fin.ext (Nat.add_comm _ _)]
  · refine dite_congr rfl (fun h2 => ?_) (fun h2 => ?_)
    · rw [show (⟨8 + (l.val - 8), by omega⟩ : Fin 64) = l from Fin.ext (by show 8 + (l.val - 8) = l.val; omega)]
    · exact congrArg (fun q => res_main_v141 V (ix4 b t 0 q)) (Fin.ext (by show 16 + (l.val - 8 - 8) = l.val; omega))

theorem q_out (e : Vec Ideal S128x8x6x64 .f32) (r : Fin 1024) (l : Fin 384) :
    @Eq EReal ((truncf (F := Ideal) .bf16 (shapeCast S1024x384 (mulf (F := Ideal) (φ := .f32) e (broadcastInDim S128x8x6x64 ![] bcast_S_S128x8x6x64 (constant (F := Ideal) S_ .f32 0x3E000000#32))) shapeCasts_S128x8x6x64_S1024x384) bitsLt_bf16_f32 : Vec Ideal S1024x384 .bf16) (ix2 r l)) (e (ix4 ⟨r.val / 8, by omega⟩ ⟨r.val % 8, by omega⟩ ⟨l.val / 64, by omega⟩ ⟨l.val % 64, by omega⟩) * Ideal.ofBits .f32 0x3E000000#32) := by
  pointwise

theorem q_head (r : Fin 1024) (l : Fin 384) :
    ropeH (fun j => res_main_v18 V (ix4 ⟨r.val / 8, by omega⟩ ⟨r.val % 8, by omega⟩ ⟨l.val / 64, by omega⟩ j)) (fun j => res_main_v32 V (ix3 ⟨r.val % 8, by omega⟩ 0 j)) (fun j => res_main_v34 V (ix3 ⟨r.val % 8, by omega⟩ 0 j)) ⟨l.val % 64, by omega⟩ = ropeH (normH (fun j => pOf V (ix2 ⟨16384 + r.val, by omega⟩ ⟨1152 + (64 * (l.val / 64) + j.val), by omega⟩)) (fun j => (V (Proc.devRef .tc main_arg1) : Vec Ideal S64 .f32) (ix1 j))) (co r) (si r) ⟨l.val % 64, by omega⟩ := by
  have e1 : (fun j => (res_main_v18 V (ix4 ⟨r.val / 8, by omega⟩ ⟨r.val % 8, by omega⟩ ⟨l.val / 64, by omega⟩ j) : EReal)) = normH (fun j => pOf V (ix2 ⟨16384 + r.val, by omega⟩ ⟨1152 + (64 * (l.val / 64) + j.val), by omega⟩)) (fun j => (V (Proc.devRef .tc main_arg1) : Vec Ideal S64 .f32) (ix1 j)) :=
    funext fun j => (q_n V ⟨r.val / 8, by omega⟩ ⟨r.val % 8, by omega⟩ ⟨l.val / 64, by omega⟩ j).trans (congrArg (fun f => normH f (fun j => (V (Proc.devRef .tc main_arg1) : Vec Ideal S64 .f32) (ix1 j)) j) (funext fun j => ((q_x V ⟨r.val / 8, by omega⟩ ⟨r.val % 8, by omega⟩ ⟨l.val / 64, by omega⟩ j).trans (congrArg₂ (fun a b => pOf V (ix2 a b)) (Fin.ext (by show 16384 + (r.val / 8 * 8 + r.val % 8) = 16384 + r.val; omega)) (Fin.ext (by show 1152 + (l.val / 64 * 64 + j.val) = 1152 + (64 * (l.val / 64) + j.val); omega))))))
  have e2 : (fun j => (res_main_v32 V (ix3 ⟨r.val % 8, by omega⟩ 0 j) : EReal)) = co r :=
    funext fun j => q_c V ⟨r.val % 128, by omega⟩ ⟨r.val % 8, by omega⟩ (by show r.val % 128 % 8 = r.val % 8; omega) j
  have e3 : (fun j => (res_main_v34 V (ix3 ⟨r.val % 8, by omega⟩ 0 j) : EReal)) = si r :=
    funext fun j => q_s V ⟨r.val % 128, by omega⟩ ⟨r.val % 8, by omega⟩ (by show r.val % 128 % 8 = r.val % 8; omega) j
  exact congr (congr (congr (congrArg ropeH e1) e2) e3) rfl

theorem reference_q (r : Fin 1024) (l : Fin 384) :
    @Eq EReal ((truncf (F := Ideal) .bf16 (shapeCast S1024x384 (mulf (F := Ideal) (φ := .f32) ((concatenate S128x8x6x64 3 [⟨S128x8x6x8, ((subf (F := Ideal) (φ := .f32) (mulf (F := Ideal) (φ := .f32) (res_main_v35 V) (broadcastInDim S128x8x6x8 ![0, 1, 2, 3] bcast_S1x8x1x8_S128x8x6x8_0_1_2_3 (broadcastInDim S1x8x1x8 ![1, 2, 3] bcast_S8x1x8_S1x8x1x8_1_2_3 (res_main_v32 V)))) (mulf (F := Ideal) (φ := .f32) (res_main_v36 V) (broadcastInDim S128x8x6x8 ![0, 1, 2, 3] bcast_S1x8x1x8_S128x8x6x8_0_1_2_3 (broadcastInDim S1x8x1x8 ![1, 2, 3] bcast_S8x1x8_S1x8x1x8_1_2_3 (res_main_v34 V))))) : (⟨S128x8x6x8, .f32⟩ : BufTy).Contents (Elt Ideal))⟩, ⟨S128x8x6x8, ((addf (F := Ideal) (φ := .f32) (mulf (F := Ideal) (φ := .f32) (res_main_v36 V) (broadcastInDim S128x8x6x8 ![0, 1, 2, 3] bcast_S1x8x1x8_S128x8x6x8_0_1_2_3 (broadcastInDim S1x8x1x8 ![1, 2, 3] bcast_S8x1x8_S1x8x1x8_1_2_3 (res_main_v32 V)))) (mulf (F := Ideal) (φ := .f32) (res_main_v35 V) (broadcastInDim S128x8x6x8 ![0, 1, 2, 3] bcast_S1x8x1x8_S128x8x6x8_0_1_2_3 (broadcastInDim S1x8x1x8 ![1, 2, 3] bcast_S8x1x8_S1x8x1x8_1_2_3 (res_main_v34 V))))) : (⟨S128x8x6x8, .f32⟩ : BufTy).Contents (Elt Ideal))⟩, ⟨S128x8x6x48, ((extractStridedSlice S128x8x6x48 ![0, 0, 0, 16] (res_main_v18 V) slices_S128x8x6x64_S128x8x6x48_0_0_0_16) : (⟨S128x8x6x48, .f32⟩ : BufTy).Contents (Elt Ideal))⟩] concatenates_S128x8x6x8_S128x8x6x8_S128x8x6x48_S128x8x6x64_d3 : (⟨S128x8x6x64, .f32⟩ : BufTy).Contents (Elt Ideal))) (broadcastInDim S128x8x6x64 ![] bcast_S_S128x8x6x64 (constant (F := Ideal) S_ .f32 0x3E000000#32))) shapeCasts_S128x8x6x64_S1024x384) bitsLt_bf16_f32 : Vec Ideal S1024x384 .bf16) (ix2 r l)) (headN (pOf V) (V (Proc.devRef .tc main_arg1) : Vec Ideal S64 .f32) r 1152 (by decide) l * Ideal.ofBits .f32 0x3E000000#32) :=
  (q_out _ r l).trans (congrArg (fun f : EReal => f * Ideal.ofBits .f32 0x3E000000#32) ((q_r V ⟨r.val / 8, by omega⟩ ⟨r.val % 8, by omega⟩ ⟨l.val / 64, by omega⟩ ⟨l.val % 64, by omega⟩).trans (q_head V r l)))

theorem k_out (e : Vec Ideal S128x8x6x64 .f32) (r : Fin 1024) (l : Fin 384) :
    @Eq EReal ((shapeCast S1024x384 e shapeCasts_S128x8x6x64_S1024x384 : Vec Ideal S1024x384 .f32) (ix2 r l)) (e (ix4 ⟨r.val / 8, by omega⟩ ⟨r.val % 8, by omega⟩ ⟨l.val / 64, by omega⟩ ⟨l.val % 64, by omega⟩)) := by
  pointwise

theorem k_head (r : Fin 1024) (l : Fin 384) :
    ropeH (fun j => res_main_v69 V (ix4 ⟨r.val / 8, by omega⟩ ⟨r.val % 8, by omega⟩ ⟨l.val / 64, by omega⟩ j)) (fun j => res_main_v83 V (ix3 ⟨r.val % 8, by omega⟩ 0 j)) (fun j => res_main_v85 V (ix3 ⟨r.val % 8, by omega⟩ 0 j)) ⟨l.val % 64, by omega⟩ = ropeH (normH (fun j => pOf V (ix2 ⟨16384 + r.val, by omega⟩ ⟨1536 + (64 * (l.val / 64) + j.val), by omega⟩)) (fun j => (V (Proc.devRef .tc main_arg2) : Vec Ideal S64 .f32) (ix1 j))) (co r) (si r) ⟨l.val % 64, by omega⟩ := by
  have e1 : (fun j => (res_main_v69 V (ix4 ⟨r.val / 8, by omega⟩ ⟨r.val % 8, by omega⟩ ⟨l.val / 64, by omega⟩ j) : EReal)) = normH (fun j => pOf V (ix2 ⟨16384 + r.val, by omega⟩ ⟨1536 + (64 * (l.val / 64) + j.val), by omega⟩)) (fun j => (V (Proc.devRef .tc main_arg2) : Vec Ideal S64 .f32) (ix1 j)) :=
    funext fun j => (k_n V ⟨r.val / 8, by omega⟩ ⟨r.val % 8, by omega⟩ ⟨l.val / 64, by omega⟩ j).trans (congrArg (fun f => normH f (fun j => (V (Proc.devRef .tc main_arg2) : Vec Ideal S64 .f32) (ix1 j)) j) (funext fun j => ((k_x V ⟨r.val / 8, by omega⟩ ⟨r.val % 8, by omega⟩ ⟨l.val / 64, by omega⟩ j).trans (congrArg₂ (fun a b => pOf V (ix2 a b)) (Fin.ext (by show 16384 + (r.val / 8 * 8 + r.val % 8) = 16384 + r.val; omega)) (Fin.ext (by show 1536 + (l.val / 64 * 64 + j.val) = 1536 + (64 * (l.val / 64) + j.val); omega))))))
  have e2 : (fun j => (res_main_v83 V (ix3 ⟨r.val % 8, by omega⟩ 0 j) : EReal)) = co r :=
    funext fun j => k_c V ⟨r.val % 128, by omega⟩ ⟨r.val % 8, by omega⟩ (by show r.val % 128 % 8 = r.val % 8; omega) j
  have e3 : (fun j => (res_main_v85 V (ix3 ⟨r.val % 8, by omega⟩ 0 j) : EReal)) = si r :=
    funext fun j => k_s V ⟨r.val % 128, by omega⟩ ⟨r.val % 8, by omega⟩ (by show r.val % 128 % 8 = r.val % 8; omega) j
  exact congr (congr (congr (congrArg ropeH e1) e2) e3) rfl

theorem reference_k (r : Fin 1024) (l : Fin 384) :
    @Eq EReal ((shapeCast S1024x384 ((concatenate S128x8x6x64 3 [⟨S128x8x6x8, ((subf (F := Ideal) (φ := .f32) (mulf (F := Ideal) (φ := .f32) (res_main_v86 V) (broadcastInDim S128x8x6x8 ![0, 1, 2, 3] bcast_S1x8x1x8_S128x8x6x8_0_1_2_3 (broadcastInDim S1x8x1x8 ![1, 2, 3] bcast_S8x1x8_S1x8x1x8_1_2_3 (res_main_v83 V)))) (mulf (F := Ideal) (φ := .f32) (res_main_v87 V) (broadcastInDim S128x8x6x8 ![0, 1, 2, 3] bcast_S1x8x1x8_S128x8x6x8_0_1_2_3 (broadcastInDim S1x8x1x8 ![1, 2, 3] bcast_S8x1x8_S1x8x1x8_1_2_3 (res_main_v85 V))))) : (⟨S128x8x6x8, .f32⟩ : BufTy).Contents (Elt Ideal))⟩, ⟨S128x8x6x8, ((addf (F := Ideal) (φ := .f32) (mulf (F := Ideal) (φ := .f32) (res_main_v87 V) (broadcastInDim S128x8x6x8 ![0, 1, 2, 3] bcast_S1x8x1x8_S128x8x6x8_0_1_2_3 (broadcastInDim S1x8x1x8 ![1, 2, 3] bcast_S8x1x8_S1x8x1x8_1_2_3 (res_main_v83 V)))) (mulf (F := Ideal) (φ := .f32) (res_main_v86 V) (broadcastInDim S128x8x6x8 ![0, 1, 2, 3] bcast_S1x8x1x8_S128x8x6x8_0_1_2_3 (broadcastInDim S1x8x1x8 ![1, 2, 3] bcast_S8x1x8_S1x8x1x8_1_2_3 (res_main_v85 V))))) : (⟨S128x8x6x8, .f32⟩ : BufTy).Contents (Elt Ideal))⟩, ⟨S128x8x6x48, ((extractStridedSlice S128x8x6x48 ![0, 0, 0, 16] (res_main_v69 V) slices_S128x8x6x64_S128x8x6x48_0_0_0_16) : (⟨S128x8x6x48, .f32⟩ : BufTy).Contents (Elt Ideal))⟩] concatenates_S128x8x6x8_S128x8x6x8_S128x8x6x48_S128x8x6x64_d3 : (⟨S128x8x6x64, .f32⟩ : BufTy).Contents (Elt Ideal))) shapeCasts_S128x8x6x64_S1024x384 : Vec Ideal S1024x384 .f32) (ix2 r l)) (headN (pOf V) (V (Proc.devRef .tc main_arg2) : Vec Ideal S64 .f32) r 1536 (by decide) l) :=
  (k_out _ r l).trans (congrArg (fun f : EReal => f) ((k_r V ⟨r.val / 8, by omega⟩ ⟨r.val % 8, by omega⟩ ⟨l.val / 64, by omega⟩ ⟨l.val % 64, by omega⟩).trans (k_head V r l)))

theorem i_out (e : Vec Ideal S128x8x4x64 .f32) (r : Fin 1024) (l : Fin 256) :
    @Eq EReal ((truncf (F := Ideal) .bf16 (shapeCast S1024x256 e shapeCasts_S128x8x4x64_S1024x256) bitsLt_bf16_f32 : Vec Ideal S1024x256 .bf16) (ix2 r l)) (e (ix4 ⟨r.val / 8, by omega⟩ ⟨r.val % 8, by omega⟩ ⟨l.val / 64, by omega⟩ ⟨l.val % 64, by omega⟩)) := by
  pointwise

theorem i_head (r : Fin 1024) (l : Fin 256) :
    ropeH (fun j => res_main_v105 V (ix4 ⟨r.val / 8, by omega⟩ ⟨r.val % 8, by omega⟩ ⟨l.val / 64, by omega⟩ j)) (fun j => res_main_v119 V (ix3 ⟨r.val % 8, by omega⟩ 0 j)) (fun j => res_main_v121 V (ix3 ⟨r.val % 8, by omega⟩ 0 j)) ⟨l.val % 64, by omega⟩ = ropeH (fun j => pOf V (ix2 ⟨16384 + r.val, by omega⟩ ⟨3456 + (64 * (l.val / 64) + j.val), by omega⟩)) (co r) (si r) ⟨l.val % 64, by omega⟩ := by
  have e1 : (fun j => (res_main_v105 V (ix4 ⟨r.val / 8, by omega⟩ ⟨r.val % 8, by omega⟩ ⟨l.val / 64, by omega⟩ j) : EReal)) = fun j => pOf V (ix2 ⟨16384 + r.val, by omega⟩ ⟨3456 + (64 * (l.val / 64) + j.val), by omega⟩) :=
    funext fun j => ((i_x V ⟨r.val / 8, by omega⟩ ⟨r.val % 8, by omega⟩ ⟨l.val / 64, by omega⟩ j).trans (congrArg₂ (fun a b => pOf V (ix2 a b)) (Fin.ext (by show 16384 + (r.val / 8 * 8 + r.val % 8) = 16384 + r.val; omega)) (Fin.ext (by show 3456 + (l.val / 64 * 64 + j.val) = 3456 + (64 * (l.val / 64) + j.val); omega))))
  have e2 : (fun j => (res_main_v119 V (ix3 ⟨r.val % 8, by omega⟩ 0 j) : EReal)) = co r :=
    funext fun j => i_c V ⟨r.val % 128, by omega⟩ ⟨r.val % 8, by omega⟩ (by show r.val % 128 % 8 = r.val % 8; omega) j
  have e3 : (fun j => (res_main_v121 V (ix3 ⟨r.val % 8, by omega⟩ 0 j) : EReal)) = si r :=
    funext fun j => i_s V ⟨r.val % 128, by omega⟩ ⟨r.val % 8, by omega⟩ (by show r.val % 128 % 8 = r.val % 8; omega) j
  exact congr (congr (congr (congrArg ropeH e1) e2) e3) rfl

theorem reference_i (r : Fin 1024) (l : Fin 256) :
    @Eq EReal ((truncf (F := Ideal) .bf16 (shapeCast S1024x256 ((concatenate S128x8x4x64 3 [⟨S128x8x4x8, ((subf (F := Ideal) (φ := .f32) (mulf (F := Ideal) (φ := .f32) (res_main_v122 V) (broadcastInDim S128x8x4x8 ![0, 1, 2, 3] bcast_S1x8x1x8_S128x8x4x8_0_1_2_3 (broadcastInDim S1x8x1x8 ![1, 2, 3] bcast_S8x1x8_S1x8x1x8_1_2_3 (res_main_v119 V)))) (mulf (F := Ideal) (φ := .f32) (res_main_v123 V) (broadcastInDim S128x8x4x8 ![0, 1, 2, 3] bcast_S1x8x1x8_S128x8x4x8_0_1_2_3 (broadcastInDim S1x8x1x8 ![1, 2, 3] bcast_S8x1x8_S1x8x1x8_1_2_3 (res_main_v121 V))))) : (⟨S128x8x4x8, .f32⟩ : BufTy).Contents (Elt Ideal))⟩, ⟨S128x8x4x8, ((addf (F := Ideal) (φ := .f32) (mulf (F := Ideal) (φ := .f32) (res_main_v123 V) (broadcastInDim S128x8x4x8 ![0, 1, 2, 3] bcast_S1x8x1x8_S128x8x4x8_0_1_2_3 (broadcastInDim S1x8x1x8 ![1, 2, 3] bcast_S8x1x8_S1x8x1x8_1_2_3 (res_main_v119 V)))) (mulf (F := Ideal) (φ := .f32) (res_main_v122 V) (broadcastInDim S128x8x4x8 ![0, 1, 2, 3] bcast_S1x8x1x8_S128x8x4x8_0_1_2_3 (broadcastInDim S1x8x1x8 ![1, 2, 3] bcast_S8x1x8_S1x8x1x8_1_2_3 (res_main_v121 V))))) : (⟨S128x8x4x8, .f32⟩ : BufTy).Contents (Elt Ideal))⟩, ⟨S128x8x4x48, ((extractStridedSlice S128x8x4x48 ![0, 0, 0, 16] (res_main_v105 V) slices_S128x8x4x64_S128x8x4x48_0_0_0_16) : (⟨S128x8x4x48, .f32⟩ : BufTy).Contents (Elt Ideal))⟩] concatenates_S128x8x4x8_S128x8x4x8_S128x8x4x48_S128x8x4x64_d3 : (⟨S128x8x4x64, .f32⟩ : BufTy).Contents (Elt Ideal))) shapeCasts_S128x8x4x64_S1024x256) bitsLt_bf16_f32 : Vec Ideal S1024x256 .bf16) (ix2 r l)) (headI (pOf V) r l) :=
  (i_out _ r l).trans (congrArg (fun f : EReal => f) ((i_r V ⟨r.val / 8, by omega⟩ ⟨r.val % 8, by omega⟩ ⟨l.val / 64, by omega⟩ ⟨l.val % 64, by omega⟩).trans (i_head V r l)))

theorem w_out (e : Vec Ideal S128x8x1x64 .f32) (z : Vec Ideal S1024x3840 .f32) (r : Fin 1024) (l : Fin 128) :
    @Eq EReal ((concatenate S1024x128 1 [⟨S1024x64, (shapeCast S1024x64 e shapeCasts_S128x8x1x64_S1024x64)⟩, ⟨S1024x64, (extractStridedSlice S1024x64 ![0, 3776] z slices_S1024x3840_S1024x64_0_3776)⟩] concatenates_S1024x64_S1024x64_S1024x128_d1 : Vec Ideal S1024x128 .f32) (ix2 r l)) (if l.val < 64 then e (ix4 ⟨r.val / 8, by omega⟩ ⟨r.val % 8, by omega⟩ 0 ⟨l.val % 64, by omega⟩) else z (ix2 r ⟨3712 + l.val, by omega⟩)) := by
  by_cases h : l.val < 64
  · rw [if_pos h]
    pointwise
    refine (dif_pos h).trans ?_
    exact congrArg (fun q => e (ix4 ⟨r.val / 8, by omega⟩ ⟨r.val % 8, by omega⟩ 0 q)) (Fin.ext (by show l.val = l.val % 64; omega))
  · rw [if_neg h]
    pointwise
    refine (dif_neg h).trans ?_
    exact congrArg (fun q => z (ix2 r q)) (Fin.ext (by show 3776 + (l.val - 64) = 3712 + l.val; omega))

theorem w_head (r : Fin 1024) (l : Fin 128) :
    ropeH (fun j => res_main_v141 V (ix4 ⟨r.val / 8, by omega⟩ ⟨r.val % 8, by omega⟩ 0 j)) (fun j => res_main_v155 V (ix3 ⟨r.val % 8, by omega⟩ 0 j)) (fun j => res_main_v157 V (ix3 ⟨r.val % 8, by omega⟩ 0 j)) ⟨l.val % 64, by omega⟩ = ropeH (fun j => pOf V (ix2 ⟨16384 + r.val, by omega⟩ ⟨3712 + j.val, by omega⟩)) (co r) (si r) ⟨l.val % 64, by omega⟩ := by
  have e1 : (fun j => (res_main_v141 V (ix4 ⟨r.val / 8, by omega⟩ ⟨r.val % 8, by omega⟩ 0 j) : EReal)) = fun j => pOf V (ix2 ⟨16384 + r.val, by omega⟩ ⟨3712 + j.val, by omega⟩) :=
    funext fun j => ((w_x V ⟨r.val / 8, by omega⟩ ⟨r.val % 8, by omega⟩ 0 j).trans (congrArg₂ (fun a b => pOf V (ix2 a b)) (Fin.ext (by show 16384 + (r.val / 8 * 8 + r.val % 8) = 16384 + r.val; omega)) (Fin.ext (by show 3712 + ((0 : Fin 1).val * 64 + j.val) = 3712 + j.val; simp))))
  have e2 : (fun j => (res_main_v155 V (ix3 ⟨r.val % 8, by omega⟩ 0 j) : EReal)) = co r :=
    funext fun j => w_c V ⟨r.val % 128, by omega⟩ ⟨r.val % 8, by omega⟩ (by show r.val % 128 % 8 = r.val % 8; omega) j
  have e3 : (fun j => (res_main_v157 V (ix3 ⟨r.val % 8, by omega⟩ 0 j) : EReal)) = si r :=
    funext fun j => w_s V ⟨r.val % 128, by omega⟩ ⟨r.val % 8, by omega⟩ (by show r.val % 128 % 8 = r.val % 8; omega) j
  exact congr (congr (congr (congrArg ropeH e1) e2) e3) rfl

theorem reference_w (r : Fin 1024) (l : Fin 128) :
    @Eq EReal ((concatenate S1024x128 1 [⟨S1024x64, (shapeCast S1024x64 ((concatenate S128x8x1x64 3 [⟨S128x8x1x8, ((subf (F := Ideal) (φ := .f32) (mulf (F := Ideal) (φ := .f32) (res_main_v158 V) (broadcastInDim S128x8x1x8 ![0, 1, 2, 3] bcast_S1x8x1x8_S128x8x1x8_0_1_2_3 (broadcastInDim S1x8x1x8 ![1, 2, 3] bcast_S8x1x8_S1x8x1x8_1_2_3 (res_main_v155 V)))) (mulf (F := Ideal) (φ := .f32) (res_main_v159 V) (broadcastInDim S128x8x1x8 ![0, 1, 2, 3] bcast_S1x8x1x8_S128x8x1x8_0_1_2_3 (broadcastInDim S1x8x1x8 ![1, 2, 3] bcast_S8x1x8_S1x8x1x8_1_2_3 (res_main_v157 V))))) : (⟨S128x8x1x8, .f32⟩ : BufTy).Contents (Elt Ideal))⟩, ⟨S128x8x1x8, ((addf (F := Ideal) (φ := .f32) (mulf (F := Ideal) (φ := .f32) (res_main_v159 V) (broadcastInDim S128x8x1x8 ![0, 1, 2, 3] bcast_S1x8x1x8_S128x8x1x8_0_1_2_3 (broadcastInDim S1x8x1x8 ![1, 2, 3] bcast_S8x1x8_S1x8x1x8_1_2_3 (res_main_v155 V)))) (mulf (F := Ideal) (φ := .f32) (res_main_v158 V) (broadcastInDim S128x8x1x8 ![0, 1, 2, 3] bcast_S1x8x1x8_S128x8x1x8_0_1_2_3 (broadcastInDim S1x8x1x8 ![1, 2, 3] bcast_S8x1x8_S1x8x1x8_1_2_3 (res_main_v157 V))))) : (⟨S128x8x1x8, .f32⟩ : BufTy).Contents (Elt Ideal))⟩, ⟨S128x8x1x48, ((extractStridedSlice S128x8x1x48 ![0, 0, 0, 16] (res_main_v141 V) slices_S128x8x1x64_S128x8x1x48_0_0_0_16) : (⟨S128x8x1x48, .f32⟩ : BufTy).Contents (Elt Ideal))⟩] concatenates_S128x8x1x8_S128x8x1x8_S128x8x1x48_S128x8x1x64_d3 : (⟨S128x8x1x64, .f32⟩ : BufTy).Contents (Elt Ideal))) shapeCasts_S128x8x1x64_S1024x64)⟩, ⟨S1024x64, (extractStridedSlice S1024x64 ![0, 3776] (res_main_v0 V) slices_S1024x3840_S1024x64_0_3776)⟩] concatenates_S1024x64_S1024x64_S1024x128_d1 : Vec Ideal S1024x128 .f32) (ix2 r l)) (headW (pOf V) r l) := by
  refine (w_out _ _ r l).trans ?_
  unfold headW
  by_cases h : l.val < 64
  · rw [if_pos h, if_pos h]
    exact (w_r V ⟨r.val / 8, by omega⟩ ⟨r.val % 8, by omega⟩ 0 ⟨l.val % 64, by omega⟩).trans (w_head V r l)
  · rw [if_neg h, if_neg h]
    unfold res_main_v0
    pointwise

theorem reference_v (r : Fin 1024) (l : Fin 384) :
    @Eq EReal ((extractStridedSlice S1024x384 ![0, 1920] (res_main_v0 V) slices_S1024x3840_S1024x384_0_1920 : Vec Ideal S1024x384 .f32) (ix2 r l)) (pOf V (ix2 ⟨16384 + r.val, by omega⟩ ⟨1920 + l.val, by omega⟩)) := by
  unfold res_main_v0
  pointwise

end Cert.AttnSample

end
-- ==== Proof.Finite10.lean ====
/- What the precondition `finite10` says: the queries' and keys' columns are real numbers. -/
module

public import proofs.«01_k».proof.Pre_finite10
public import proofs.«01_k».proof.Proof.Finite

@[expose] public section

set_option maxRecDepth 16384

noncomputable section

open Idealize.ShloMosaic Cert.Gdn.Finite

namespace Cert.Attn.Finite10

/-- The precondition's shape relations. -/
instance facts : Cert.Pre_finite10.Facts where
  slices_S17408x3840_S1024x768_16384_1152 := by decide
  bcast_S_S1024x768 := by decide
  reducesTo_S1024x768_S_d0_1 := by decide
  h_S_ := by decide

open Cert.Pre_finite10 in
/-- Under the precondition the queries' and keys' columns are real. -/
theorem decode (p : FVec Ideal S17408x3840 .f32) (a b : FVec Ideal S64 .f32) (i₀ : S_.Idx) (e : fn (F := Ideal) p a b i₀ = 1#1) (r : Fin 1024) (k : Fin 768) :
    p (ix2 ⟨16384 + r.val, by omega⟩ ⟨1152 + k.val, by omega⟩) = ((p (ix2 ⟨16384 + r.val, by omega⟩ ⟨1152 + k.val, by omega⟩)).toReal : EReal) := by
  unfold fn at e
  dsimp only at e
  have := real_of_lt _ (ix2 r k) _ (Host.reduce_andi_all _ _ _ _ _ e (ix2 r k))
  have hsl : ∀ hh, extractStridedSlice S1024x768 ![16384, 1152] p hh (ix2 r k) = p (ix2 ⟨16384 + r.val, by omega⟩ ⟨1152 + k.val, by omega⟩) := by
    intro hh
    pointwise
  rw [hsl] at this
  exact this

end Cert.Attn.Finite10

end
-- ==== Proof.Ffn.lean ====
/- The feed-forward half, one grid point: what it stores and the blocks it is given. Point `t` works on row block `t / 11`
   and on the 256 hidden columns from column `256 (t % 11)` on. -/
module

public import proofs.«01_k».proof.Proof.Gen.Kernel2Ideal.Value
public import proofs.«01_k».proof.Proof.Norm

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen Cert.Kernel2Ideal.Value Cert.Layer

namespace Cert.Ffn

theorem pay_norm (x : Vec Ideal S512x1024 .f32) (g : Vec Ideal S1x1024 .f32) (r : Fin 512) (k : Fin 1024) :
    @Eq EReal (k0_pay1 x g (ix2 r k)) (normed (fun i => x (ix2 r i)) (fun i => g (ix2 0 i)) k) := by
  unfold normed
  pointwise [k0_pay1]

theorem pay_zero (r : Fin 512) (d : Fin 1024) : @Eq EReal (k0_pay2 (F := Ideal) (ix2 r d)) 0 := by
  pointwise [k0_pay2]

/-- One point's step of the accumulator: the 256 hidden columns' share of the last product is added. -/
theorem pay_step (h : Vec Ideal S512x1024 .bf16) (wg wu : Vec Ideal S1024x256 .bf16) (a : Vec Ideal S512x1024 .f32) (wd : Vec Ideal S256x1024 .bf16)
    (r : Fin 512) (d : Fin 1024) :
    @Eq EReal (k0_pay3 h wg wu a wd (ix2 r d))
      (a (ix2 r d) + ∑ l : Fin 256, gated (∑ k : Fin 1024, h (ix2 r k) * wg (ix2 k l)) (∑ k : Fin 1024, h (ix2 r k) * wu (ix2 k l)) * wd (ix2 l d)) := by
  unfold gated
  pointwise [k0_pay3]
  simp only [zero_sub]

theorem pay_last (x a : Vec Ideal S512x1024 .f32) (r : Fin 512) (d : Fin 1024) :
    @Eq EReal (k0_pay4 x a (ix2 r d)) (x (ix2 r d) + Ideal.ofBits .f32 0x3F000000#32 * a (ix2 r d)) := by
  pointwise [k0_pay4]

variable (m : ((l : Loc nD τ sig) → Buf (Elt Ideal) l)) (c : Dev nD)

theorem windows : ∀ t : Fin cfg0.N, win0_0.index t = ![t.val / 11, 0] ∧ win0_1.index t = ![0, 0] ∧ win0_2.index t = ![0, t.val % 11] ∧
    win0_3.index t = ![0, t.val % 11] ∧ win0_4.index t = ![t.val % 11, 0] ∧ win0_5.index t = ![t.val / 11, 0] := by
  decide +kernel

theorem N374 (t : Fin cfg0.N) : t.val < 374 := t.isLt

theorem block_x (t : Fin cfg0.N) (i : Fin 512) (l : Fin 1024) :
    iblk m c 0 t (ix2 i l) = m ((c : Thread nD τ).loc main_arg0) (ix2 ⟨512 * (t.val / 11) + i.val, by have := N374 t; omega⟩ l) := by
  have hw := (windows t).1
  blk_ext [iblk, V_main_arg0, hw]

theorem entry_g (l : Fin 1024) : V m c main_v0 (ix2 (0 : Fin 1) l) = m ((c : Thread nD τ).loc main_arg1) (ix1 l) := by
  entry_read
  pointwise

theorem block_g (t : Fin cfg0.N) (l : Fin 1024) : iblk m c 1 t (ix2 0 l) = m ((c : Thread nD τ).loc main_arg1) (ix1 l) := by
  have hw := (windows t).2.1
  refine Eq.trans ?_ (entry_g m c l)
  blk_ext [iblk, hw]

theorem entry_wg (i : Fin 1024) (l : Fin 2816) : V m c main_v1 (ix2 i l) = m ((c : Thread nD τ).loc main_arg2) (ix2 i l) := by
  entry_read
  pointwise

theorem block_wg (t : Fin cfg0.N) (i : Fin 1024) (l : Fin 256) :
    iblk m c 2 t (ix2 i l) = m ((c : Thread nD τ).loc main_arg2) (ix2 i ⟨256 * (t.val % 11) + l.val, by omega⟩) := by
  have hw := (windows t).2.2.1
  refine Eq.trans ?_ (entry_wg m c i _)
  blk_ext [iblk, hw]

theorem entry_wu (i : Fin 1024) (l : Fin 2816) : V m c main_v2 (ix2 i l) = m ((c : Thread nD τ).loc main_arg3) (ix2 i l) := by
  entry_read
  pointwise

theorem block_wu (t : Fin cfg0.N) (i : Fin 1024) (l : Fin 256) :
    iblk m c 3 t (ix2 i l) = m ((c : Thread nD τ).loc main_arg3) (ix2 i ⟨256 * (t.val % 11) + l.val, by omega⟩) := by
  have hw := (windows t).2.2.2.1
  refine Eq.trans ?_ (entry_wu m c i _)
  blk_ext [iblk, hw]

theorem entry_wd (i : Fin 2816) (l : Fin 1024) : V m c main_v3 (ix2 i l) = m ((c : Thread nD τ).loc main_arg4) (ix2 i l) := by
  entry_read
  pointwise

theorem block_wd (t : Fin cfg0.N) (i : Fin 256) (l : Fin 1024) :
    iblk m c 4 t (ix2 i l) = m ((c : Thread nD τ).loc main_arg4) (ix2 ⟨256 * (t.val % 11) + i.val, by omega⟩ l) := by
  have hw := (windows t).2.2.2.2.1
  refine Eq.trans ?_ (entry_wd m c _ l)
  blk_ext [iblk, hw]

section

variable (i : grid0.Coords) (arg2 : Memref sig .tc .vmem S512x1024 .f32) (harg2 : arg2.IsWhole) (arg3 : Memref sig .tc .vmem S1x1024 .f32) (harg3 : arg3.IsWhole)
  (arg4 : Memref sig .tc .vmem S1024x256 .bf16) (harg4 : arg4.IsWhole) (arg5 : Memref sig .tc .vmem S1024x256 .bf16) (harg5 : arg5.IsWhole)
  (arg6 : Memref sig .tc .vmem S256x1024 .bf16) (harg6 : arg6.IsWhole) (arg7 : Memref sig .tc .vmem S512x1024 .f32) (harg7 : arg7.IsWhole)
  (arg8 : Memref sig .tc .vmem S512x1024 .bf16) (harg8 : arg8.IsWhole) (arg9 : Memref sig .tc .vmem S512x1024 .f32) (harg9 : arg9.IsWhole)
  (x0 : Vec Ideal S512x1024 .f32) (x1 : Vec Ideal S1x1024 .f32) (x2 x3 : Vec Ideal S1024x256 .bf16) (x4 : Vec Ideal S256x1024 .bf16)
  (xs0 : Vec Ideal S512x1024 .bf16) (xs1 : Vec Ideal S512x1024 .f32)

/-- At a row block's first point the first scratch takes the normed rows. -/
theorem rows_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 = k0_pay1 x0 x1 := by
  frame_open
  simp (disch := decide) only [↓ View.readCov_skip, ↓ View.readCov_cons_toLoadRect, ↓ View.readCov_fill]
  frame_out

/-- There the accumulator starts from zero. -/
theorem acc_A (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4
      = k0_pay3 (k0_pay1 x0 x1) x2 x3 (k0_pay2 (F := Ideal)) x4 := by
  frame_open
  simp (disch := decide) only [↓ View.readCov_skip, ↓ View.readCov_cons_toLoadRect, ↓ View.readCov_fill]
  frame_out

/-- At the points between it goes on from what it holds. -/
theorem acc_B (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 x4 xs0 xs1
      = k0_pay3 xs0 x2 x3 xs1 x4 := by
  frame_open
  simp (disch := decide) only [↓ View.readCov_skip, ↓ View.readCov_cons_toLoadRect, ↓ View.readCov_fill]
  frame_out

/-- So at the last point of a row block. -/
theorem acc_C (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 x4 xs0 xs1
      = k0_pay3 xs0 x2 x3 xs1 x4 := by
  frame_open
  simp (disch := decide) only [↓ View.readCov_skip, ↓ View.readCov_cons_toLoadRect, ↓ View.readCov_fill]
  frame_out

/-- There half of the accumulator is added to the rows and written out. -/
theorem out_C (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 x4 xs0 xs1
      = k0_pay4 x0 (k0_pay3 xs0 x2 x3 xs1 x4) := by
  frame_open
  simp (disch := decide) only [↓ View.readCov_skip, ↓ View.readCov_cons_toLoadRect, ↓ View.readCov_fill]
  frame_out

end

end Cert.Ffn

end
-- ==== Proof.FfnGrid.lean ====
/- The feed-forward half over the grid: after each point the accumulator is the sum over the hidden columns seen so far;
   the last point of a row block has seen all 2816. -/
module

public import proofs.«01_k».proof.Proof.Ffn

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen Cert.Kernel2Ideal.Value Cert.Layer

namespace Cert.Ffn

/-- The sum of the first `n` entries of `f`. -/
def upTo (f : Fin 2816 → EReal) (n : ℕ) : EReal := ∑ l ∈ Finset.range n, if h : l < 2816 then f ⟨l, h⟩ else 0

theorem upTo_zero (f : Fin 2816 → EReal) : upTo f 0 = 0 := rfl

theorem upTo_step (f : Fin 2816 → EReal) (n : ℕ) (hn : n + 256 ≤ 2816) :
    upTo f n + ∑ l : Fin 256, f ⟨n + l.val, by omega⟩ = upTo f (n + 256) := by
  unfold upTo
  rw [Finset.sum_range_add, Finset.sum_range (n := 256)]
  refine congrArg _ (Finset.sum_congr rfl fun l _ => ?_)
  rw [dif_pos (by omega)]

theorem upTo_all (f : Fin 2816 → EReal) : upTo f 2816 = ∑ l, f l := by
  unfold upTo
  rw [Finset.sum_range]
  exact Finset.sum_congr rfl fun l _ => dif_pos l.isLt

/-- Hidden column `l`'s share of the half's output at row `r`, column `d`. -/
def share (x : Vec Ideal S17408x1024 .f32) (g : Vec Ideal S1024 .f32) (wg wu : Vec Ideal S1024x2816 .f32) (wd : Vec Ideal S2816x1024 .f32)
    (r : Fin 17408) (d : Fin 1024) (l : Fin 2816) : EReal :=
  gated (∑ k : Fin 1024, normed (fun i => x (ix2 r i)) (fun i => g (ix1 i)) k * wg (ix2 k l))
    (∑ k : Fin 1024, normed (fun i => x (ix2 r i)) (fun i => g (ix1 i)) k * wu (ix2 k l)) * wd (ix2 l d)

/-- The half at row `r`, column `d`: the row plus one half of the gated unit's output. -/
def entry (x : Vec Ideal S17408x1024 .f32) (g : Vec Ideal S1024 .f32) (wg wu : Vec Ideal S1024x2816 .f32) (wd : Vec Ideal S2816x1024 .f32)
    (r : Fin 17408) (d : Fin 1024) : EReal :=
  x (ix2 r d) + Ideal.ofBits .f32 0x3F000000#32 * ∑ l, share x g wg wu wd r d l

variable (m : ((l : Loc nD τ sig) → Buf (Elt Ideal) l)) (c : Dev nD)

/-- The row of the arrays that row `r` of point `t`'s block is. -/
def rowOf (t : Fin cfg0.N) (r : Fin 512) : Fin 17408 := ⟨512 * (t.val / 11) + r.val, by have := N374 t; omega⟩

theorem rowOf_congr (t t' : Fin cfg0.N) (h : t.val / 11 = t'.val / 11) (r : Fin 512) : rowOf t r = rowOf t' r :=
  Fin.ext (by show 512 * (t.val / 11) + r.val = 512 * (t'.val / 11) + r.val; rw [h])

/-- A normed row of the launch's arguments. -/
def row (r : Fin 17408) (k : Fin 1024) : EReal :=
  normed (fun i => m ((c : Thread nD τ).loc main_arg0) (ix2 r i)) (fun i => m ((c : Thread nD τ).loc main_arg1) (ix1 i)) k

/-- The shares of the launch's arguments. -/
def argShare (r : Fin 17408) (d : Fin 1024) : Fin 2816 → EReal :=
  share (m ((c : Thread nD τ).loc main_arg0)) (m ((c : Thread nD τ).loc main_arg1)) (m ((c : Thread nD τ).loc main_arg2))
    (m ((c : Thread nD τ).loc main_arg3)) (m ((c : Thread nD τ).loc main_arg4)) r d

theorem norm_block (t : Fin cfg0.N) (r : Fin 512) (k : Fin 1024) : @Eq EReal (k0_pay1 (iblk m c 0 t) (iblk m c 1 t) (ix2 r k)) (row m c (rowOf t r) k) := by
  rw [pay_norm]
  simp only [block_x, block_g]
  rfl

/-- One point's step from the sum over the columns before its own. -/
theorem step (t : Fin cfg0.N) (h : Vec Ideal S512x1024 .bf16) (a : Vec Ideal S512x1024 .f32)
    (hh : ∀ r k, @Eq EReal (h (ix2 r k)) (row m c (rowOf t r) k))
    (ha : ∀ r d, @Eq EReal (a (ix2 r d)) (upTo (argShare m c (rowOf t r) d) (256 * (t.val % 11)))) (r : Fin 512) (d : Fin 1024) :
    @Eq EReal (k0_pay3 h (iblk m c 2 t) (iblk m c 3 t) a (iblk m c 4 t) (ix2 r d)) (upTo (argShare m c (rowOf t r) d) (256 * (t.val % 11) + 256)) := by
  rw [pay_step, ha, ← upTo_step _ _ (by omega)]
  refine congrArg _ (Finset.sum_congr rfl fun l _ => ?_)
  simp only [hh, block_wg, block_wu, block_wd]
  rfl

/-- After each point: the first scratch is the normed rows, the accumulator the sum so far; at a row block's last point the
    block written is the half's output. -/
def Good (t : Fin cfg0.N) : Prop :=
  (∀ r k, @Eq EReal ((outsAt0 m c t.val t.isLt).2.1 (ix2 r k)) (row m c (rowOf t r) k))
    ∧ (∀ r d, @Eq EReal ((outsAt0 m c t.val t.isLt).2.2 (ix2 r d)) (upTo (argShare m c (rowOf t r) d) (256 * (t.val % 11) + 256)))
    ∧ (t.val % 11 = 10 → ∀ r d, @Eq EReal ((outsAt0 m c t.val t.isLt).1 (ix2 r d))
      (entry (m ((c : Thread nD τ).loc main_arg0)) (m ((c : Thread nD τ).loc main_arg1)) (m ((c : Thread nD τ).loc main_arg2))
        (m ((c : Thread nD τ).loc main_arg3)) (m ((c : Thread nD τ).loc main_arg4)) (rowOf t r) d))

theorem good_first (t : Fin cfg0.N) (h0 : t.val % 11 = 0) : Good m c t := by
  have h1 : ¬ t.val % 11 = 10 := by omega
  unfold Good
  rw [outsAt0_A m c t h0 h1]
  dsimp only
  rw [rows_A, acc_A]
  refine ⟨norm_block m c t, step m c t _ _ (norm_block m c t) (fun r d => ?_), fun h => absurd h h1⟩
  rw [pay_zero, h0]
  rfl

theorem good_next (t : Fin cfg0.N) (h0 : ¬ t.val % 11 = 0)
    (hr : ∀ r k, @Eq EReal ((outsAt0 m c (t.val - 1) (Nat.lt_of_le_of_lt (Nat.sub_le _ _) t.isLt)).2.1 (ix2 r k)) (row m c (rowOf t r) k))
    (ha : ∀ r d, @Eq EReal ((outsAt0 m c (t.val - 1) (Nat.lt_of_le_of_lt (Nat.sub_le _ _) t.isLt)).2.2 (ix2 r d))
      (upTo (argShare m c (rowOf t r) d) (256 * (t.val % 11)))) : Good m c t := by
  unfold Good
  by_cases h1 : t.val % 11 = 10
  · rw [outsAt0_C m c t h0 h1]
    dsimp only
    rw [acc_C, out_C]
    refine ⟨hr, step m c t _ _ hr ha, fun _ r d => ?_⟩
    rw [pay_last, step m c t _ _ hr ha, block_x, h1, show 256 * 10 + 256 = 2816 from rfl, upTo_all]
    rfl
  · rw [outsAt0_B m c t h0 h1]
    dsimp only
    rw [acc_B]
    exact ⟨hr, step m c t _ _ hr ha, fun h => absurd h h1⟩

theorem good : ∀ (n : ℕ) (hn : n < cfg0.N), Good m c ⟨n, hn⟩ := by
  intro n
  induction n with
  | zero => intro hn; exact good_first m c ⟨0, hn⟩ rfl
  | succ n ih =>
    intro hn
    by_cases h0 : (n + 1) % 11 = 0
    · exact good_first m c ⟨n + 1, hn⟩ h0
    · have hrow := rowOf_congr (⟨n, Nat.lt_of_succ_lt hn⟩ : Fin cfg0.N) ⟨n + 1, hn⟩ (by show n / 11 = (n + 1) / 11; omega)
      have ih' := ih (Nat.lt_of_succ_lt hn)
      refine good_next m c ⟨n + 1, hn⟩ h0 (fun r k => ?_) fun r d => ?_
      · have h := ih'.1 r k
        rw [hrow] at h
        exact h
      · have h := ih'.2.1 r d
        have e : 256 * (n % 11) + 256 = 256 * ((n + 1) % 11) := by omega
        dsimp only at h ⊢
        rw [hrow, e] at h
        exact h

/-- The kernel's result. -/
theorem G5_eq (r : Fin 17408) (d : Fin 1024) :
    @Eq EReal (G5 m c (ix2 r d)) (entry (m ((c : Thread nD τ).loc main_arg0)) (m ((c : Thread nD τ).loc main_arg1)) (m ((c : Thread nD τ).loc main_arg2))
      (m ((c : Thread nD τ).loc main_arg3)) (m ((c : Thread nD τ).loc main_arg4)) r d) := by
  have hpt : pt5Of (ix2 r d) = 11 * (r.val / 512) + 10 := by
    show 11 * (1 * (r.val / 512 - 0) + 1 * (d.val / 1024 - 0)) + 10 = _
    omega
  have hlt : 11 * (r.val / 512) + 10 < cfg0.N := by show _ < 374; omega
  unfold G5
  rw [dif_pos (by rw [hpt]; exact hlt)]
  rw [fold0_congr m c (pt5Of (ix2 r d)) (by rw [hpt]; omega) (11 * (r.val / 512) + 10) (by omega) hpt, ← outsAt0_sweep m c _ hlt]
  have hloc : loc5Of (ix2 r d) = ix2 ⟨r.val % 512, Nat.mod_lt _ (by decide)⟩ d := by
    funext a
    match a with
    | 0 => rfl
    | 1 => exact Fin.ext (by show d.val % 1024 = d.val; omega)
  rw [hloc]
  refine ((good m c _ hlt).2.2 (by show (11 * (r.val / 512) + 10) % 11 = 10; omega) _ _).trans ?_
  congr 1
  refine Fin.ext ?_
  show 512 * ((11 * (r.val / 512) + 10) / 11) + r.val % 512 = r.val
  omega

end Cert.Ffn

end
-- ==== Proof.FfnRef.lean ====
/- The feed-forward half in the plain program. -/
module

public import proofs.«01_k».proof.Proof.FfnGrid
public import proofs.«01_k».proof.Proof.Gen.Reference2Ideal.Run

@[expose] public section

set_option maxRecDepth 16384

noncomputable section

open Idealize.ShloMosaic Idealize.ShloMosaic.TcCoe Idealize.SL.Sem Idealize.ShloMosaic.StableHlo
open Cert.Reference2Ideal Cert.Reference2Ideal.Gen Cert.Layer

namespace Cert.Ffn

theorem reference (x : Vec Ideal S17408x1024 .f32) (g : Vec Ideal S1024 .f32) (wg wu : Vec Ideal S1024x2816 .f32) (wd : Vec Ideal S2816x1024 .f32)
    (r : Fin 17408) (d : Fin 1024) :
    @Eq EReal ((addf x (mulf (broadcastInDim S17408x1024 ![] bcast_S_S17408x1024 (constant S_ .f32 0x3F000000#32)) (Host.dotGeneral (φ₁ := .f32) (φ₂ := .f32) dot_S17408x2816_S2816x1024_S17408x1024_1_0_0_1_n_n none (mulf (mulf (Host.dotGeneral (φ₁ := .f32) (φ₂ := .f32) dot_S17408x1024_S1024x2816_S17408x2816_1_0_0_1_n_n none (mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))) wg) (Host.divf (broadcastInDim S17408x2816 ![] bcast_S_S17408x2816 (constant S_ .f32 0x3F800000#32)) (addf (broadcastInDim S17408x2816 ![] bcast_S_S17408x2816 (constant S_ .f32 0x3F800000#32)) (Host.exp (Host.negf (Host.dotGeneral (φ₁ := .f32) (φ₂ := .f32) dot_S17408x1024_S1024x2816_S17408x2816_1_0_0_1_n_n none (mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))) wg)))))) (Host.dotGeneral (φ₁ := .f32) (φ₂ := .f32) dot_S17408x1024_S1024x2816_S17408x2816_1_0_0_1_n_n none (mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))) wu)) wd)) : FVec Ideal S17408x1024 .f32) (ix2 r d)) (entry x g wg wu wd r d) := by
  unfold entry share gated normed
  pointwise

end Cert.Ffn

end
-- ==== Proof.Inproj.lean ====
/- The input projection: the normed rows, kept in the scratch across the column blocks, times the weights. -/
module

public import proofs.«01_k».proof.Proof.Gen.Kernel3Ideal.Value
public import proofs.«01_k».proof.Proof.Norm

@[expose] public section

set_option maxRecDepth 16384

noncomputable section

open Idealize.ShloMosaic Idealize.ShloMosaic.TcCoe Idealize.SL.Sem
open Idealize.ShloMosaic.Pipeline (Dat)
open Cert.Kernel3Ideal Cert.Kernel3Ideal.Gen Cert.Kernel3Ideal.Value Cert.Layer

namespace Cert.Inproj

theorem pay_norm (x : Vec Ideal S512x1024 .f32) (g : Vec Ideal S1x1024 .f32) (r : Fin 512) (k : Fin 1024) :
    @Eq EReal (k0_pay1 x g (ix2 r k)) (normed (fun i => x (ix2 r i)) (fun i => g (ix2 0 i)) k) := by
  unfold normed
  pointwise [k0_pay1]

theorem pay_out (h : Vec Ideal S512x1024 .bf16) (w : Vec Ideal S1024x768 .bf16) (r : Fin 512) (d : Fin 768) :
    @Eq EReal (k0_pay2 h w (ix2 r d)) (∑ k : Fin 1024, h (ix2 r k) * w (ix2 k d)) := by
  pointwise [k0_pay2]

variable (m : ((l : Loc nD τ sig) → Buf (Elt Ideal) l)) (c : Dev nD)

theorem windows : ∀ t : Fin cfg0.N, win0_0.index t = ![t.val / 5, 0] ∧ win0_1.index t = ![0, 0] ∧ win0_2.index t = ![0, t.val % 5] ∧
    win0_3.index t = ![t.val / 5, t.val % 5] := by
  decide +kernel

theorem N170 (t : Fin cfg0.N) : t.val < 170 := t.isLt

theorem block_x (t : Fin cfg0.N) (i : Fin 512) (l : Fin 1024) :
    iblk m c 0 t (ix2 i l) = m ((c : Thread nD τ).loc main_arg0) (ix2 ⟨512 * (t.val / 5) + i.val, by have := N170 t; omega⟩ l) := by
  have hw := (windows t).1
  blk_ext [iblk, V_main_arg0, hw]

theorem entry_g (l : Fin 1024) : V m c main_v0 (ix2 (0 : Fin 1) l) = m ((c : Thread nD τ).loc main_arg1) (ix1 l) := by
  entry_read
  pointwise

theorem block_g (t : Fin cfg0.N) (l : Fin 1024) : iblk m c 1 t (ix2 0 l) = m ((c : Thread nD τ).loc main_arg1) (ix1 l) := by
  have hw := (windows t).2.1
  refine Eq.trans ?_ (entry_g m c l)
  blk_ext [iblk, hw]

theorem entry_w (i : Fin 1024) (l : Fin 3840) : V m c main_v1 (ix2 i l) = m ((c : Thread nD τ).loc main_arg2) (ix2 i l) := by
  entry_read
  pointwise

theorem block_w (t : Fin cfg0.N) (i : Fin 1024) (l : Fin 768) :
    iblk m c 2 t (ix2 i l) = m ((c : Thread nD τ).loc main_arg2) (ix2 i ⟨768 * (t.val % 5) + l.val, by omega⟩) := by
  have hw := (windows t).2.2.1
  refine Eq.trans ?_ (entry_w m c i _)
  blk_ext [iblk, hw]

section

variable (i : grid0.Coords) (arg2 : Memref sig .tc .vmem S512x1024 .f32) (harg2 : arg2.IsWhole) (arg3 : Memref sig .tc .vmem S1x1024 .f32) (harg3 : arg3.IsWhole)
  (arg4 : Memref sig .tc .vmem S1024x768 .bf16) (harg4 : arg4.IsWhole) (arg5 : Memref sig .tc .vmem S512x768 .f32) (harg5 : arg5.IsWhole)
  (arg6 : Memref sig .tc .vmem S512x1024 .bf16) (harg6 : arg6.IsWhole) (x0 : Vec Ideal S512x1024 .f32) (x1 : Vec Ideal S1x1024 .f32) (x2 : Vec Ideal S1024x768 .bf16) (xs0 : Vec Ideal S512x1024 .bf16)

/-- At a row block's first point the scratch takes the normed rows. -/
theorem scratch_A (hc0 : cond0_0 i) : sout0_A_0 c i arg2 harg2 arg3 harg3 arg4 harg4 arg5 harg5 arg6 harg6 hc0 x0 x1 x2 = k0_pay1 x0 x1 := by
  frame_open
  simp (disch := decide) only [↓ View.readCov_skip, ↓ View.readCov_cons_toLoadRect, ↓ View.readCov_fill]
  frame_out

/-- There the block written is their product with the weights' columns. -/
theorem out_A (hc0 : cond0_0 i) : out0_A_3 c i arg2 harg2 arg3 harg3 arg4 harg4 arg5 harg5 arg6 harg6 hc0 x0 x1 x2 = k0_pay2 (k0_pay1 x0 x1) x2 := by
  frame_open
  simp (disch := decide) only [↓ View.readCov_skip, ↓ View.readCov_cons_toLoadRect, ↓ View.readCov_fill]
  frame_out

/-- At the other points it is the scratch's product. -/
theorem out_B (hc0 : ¬cond0_0 i) : out0_B_3 c i arg2 harg2 arg3 harg3 arg4 harg4 arg5 harg5 arg6 harg6 hc0 x0 x1 x2 xs0 = k0_pay2 xs0 x2 := by
  frame_open
  simp (disch := decide) only [↓ View.readCov_skip, ↓ View.readCov_cons_toLoadRect, ↓ View.readCov_fill]
  frame_out

end

/-- The input projection at row `r`, column `d`. -/
def entry (x : Vec Ideal S17408x1024 .f32) (g : Vec Ideal S1024 .f32) (w : Vec Ideal S1024x3840 .f32) (r : Fin 17408) (d : Fin 3840) : EReal :=
  ∑ k : Fin 1024, normed (fun i => x (ix2 r i)) (fun i => g (ix1 i)) k * w (ix2 k d)

/-- The normed rows of the launch's arguments that the point at `t` works on. -/
def rows (t : Fin cfg0.N) (r : Fin 512) (k : Fin 1024) : EReal :=
  normed (fun i => m ((c : Thread nD τ).loc main_arg0) (ix2 (⟨512 * (t.val / 5) + r.val, by have := N170 t; omega⟩ : Fin 17408) i))
    (fun i => m ((c : Thread nD τ).loc main_arg1) (ix1 i)) k

theorem rows_congr (t t' : Fin cfg0.N) (h : t.val / 5 = t'.val / 5) (r : Fin 512) (k : Fin 1024) : rows m c t r k = rows m c t' r k := by
  unfold rows
  simp only [h]

theorem norm_block (t : Fin cfg0.N) (r : Fin 512) (k : Fin 1024) : @Eq EReal (k0_pay1 (iblk m c 0 t) (iblk m c 1 t) (ix2 r k)) (rows m c t r k) := by
  rw [pay_norm]
  simp only [block_x, block_g]
  rfl

/-- The product at point `t` of any scratch that holds the point's normed rows. -/
theorem out_rows (t : Fin cfg0.N) (h : Vec Ideal S512x1024 .bf16) (hh : ∀ r k, @Eq EReal (h (ix2 r k)) (rows m c t r k)) (r : Fin 512) (d : Fin 768) :
    @Eq EReal (k0_pay2 h (iblk m c 2 t) (ix2 r d))
      (entry (m ((c : Thread nD τ).loc main_arg0)) (m ((c : Thread nD τ).loc main_arg1)) (m ((c : Thread nD τ).loc main_arg2))
        ⟨512 * (t.val / 5) + r.val, by have := N170 t; omega⟩ ⟨768 * (t.val % 5) + d.val, by omega⟩) := by
  rw [pay_out]
  refine Finset.sum_congr rfl fun k _ => ?_
  rw [hh, block_w]
  rfl

/-- After each point: the scratch is the normed rows, the block written their product. -/
def Good (t : Fin cfg0.N) : Prop :=
  (∀ r k, @Eq EReal ((outsAt0 m c t.val t.isLt).2 (ix2 r k)) (rows m c t r k))
    ∧ ∀ r d, @Eq EReal ((outsAt0 m c t.val t.isLt).1 (ix2 r d))
      (entry (m ((c : Thread nD τ).loc main_arg0)) (m ((c : Thread nD τ).loc main_arg1)) (m ((c : Thread nD τ).loc main_arg2))
        ⟨512 * (t.val / 5) + r.val, by have := N170 t; omega⟩ ⟨768 * (t.val % 5) + d.val, by omega⟩)

theorem good_first (t : Fin cfg0.N) (h0 : t.val % 5 = 0) : Good m c t := by
  unfold Good
  rw [outsAt0_A m c t h0]
  dsimp only
  rw [scratch_A, out_A]
  exact ⟨norm_block m c t, out_rows m c t _ (norm_block m c t)⟩

theorem good_next (t : Fin cfg0.N) (h0 : ¬ t.val % 5 = 0)
    (hp : ∀ r k, @Eq EReal ((outsAt0 m c (t.val - 1) (Nat.lt_of_le_of_lt (Nat.sub_le _ _) t.isLt)).2 (ix2 r k)) (rows m c t r k)) : Good m c t := by
  unfold Good
  rw [outsAt0_B m c t h0]
  dsimp only
  rw [out_B]
  exact ⟨hp, out_rows m c t _ hp⟩

theorem good : ∀ (n : ℕ) (hn : n < cfg0.N), Good m c ⟨n, hn⟩ := by
  intro n
  induction n with
  | zero => intro hn; exact good_first m c ⟨0, hn⟩ rfl
  | succ n ih =>
    intro hn
    by_cases h0 : (n + 1) % 5 = 0
    · exact good_first m c ⟨n + 1, hn⟩ h0
    · refine good_next m c ⟨n + 1, hn⟩ h0 fun r k => ?_
      exact ((ih (Nat.lt_of_succ_lt hn)).1 r k).trans (rows_congr m c _ _ (by show n / 5 = (n + 1) / 5; omega) r k)

/-- The kernel's result. -/
theorem G3_eq (r : Fin 17408) (d : Fin 3840) :
    @Eq EReal (G3 m c (ix2 r d)) (entry (m ((c : Thread nD τ).loc main_arg0)) (m ((c : Thread nD τ).loc main_arg1)) (m ((c : Thread nD τ).loc main_arg2)) r d) := by
  have hpt : pt3Of (ix2 r d) = 5 * (r.val / 512) + d.val / 768 := by
    show 5 * (r.val / 512 - 0) + 1 * (d.val / 768 - 0) = _
    omega
  have hlt : 5 * (r.val / 512) + d.val / 768 < cfg0.N := by show _ < 170; omega
  unfold G3
  rw [dif_pos (by rw [hpt]; exact hlt)]
  rw [fold0_congr m c (pt3Of (ix2 r d)) (by rw [hpt]; omega) (5 * (r.val / 512) + d.val / 768) (by omega) hpt, ← outsAt0_sweep m c _ hlt]
  have hloc : loc3Of (ix2 r d) = ix2 ⟨r.val % 512, Nat.mod_lt _ (by decide)⟩ ⟨d.val % 768, Nat.mod_lt _ (by decide)⟩ := by
    funext a
    match a with
    | 0 => rfl
    | 1 => rfl
  rw [hloc]
  refine ((good m c _ hlt).2 _ _).trans ?_
  congr 1 <;> refine Fin.ext ?_
  · show 512 * ((5 * (r.val / 512) + d.val / 768) / 5) + r.val % 512 = r.val
    omega
  · show 768 * ((5 * (r.val / 512) + d.val / 768) % 5) + d.val % 768 = d.val
    omega

end Cert.Inproj

end
-- ==== Proof.InprojRef.lean ====
/- The input projection in the plain program. -/
module

public import proofs.«01_k».proof.Proof.Inproj
public import proofs.«01_k».proof.Proof.Gen.Reference3Ideal.Run

@[expose] public section

set_option maxRecDepth 16384

noncomputable section

open Idealize.ShloMosaic Idealize.ShloMosaic.TcCoe Idealize.SL.Sem Idealize.ShloMosaic.StableHlo
open Cert.Reference3Ideal Cert.Reference3Ideal.Gen Cert.Layer

namespace Cert.Inproj

theorem reference (x : Vec Ideal S17408x1024 .f32) (g : Vec Ideal S1024 .f32) (w : Vec Ideal S1024x3840 .f32) (r : Fin 17408) (d : Fin 3840) :
    @Eq EReal ((Host.dotGeneral (φ₁ := .f32) (φ₂ := .f32) dot_S17408x1024_S1024x3840_S17408x3840_1_0_0_1_n_n none (mulf (mulf x (broadcastInDim S17408x1024 ![0, 1] bcast_S17408x1_S17408x1024_0_1 (Host.rsqrt (addf (Host.divf (broadcastInDim S17408x1 ![0] bcast_S17408_S17408x1_0 (Host.reduceAdd (mulf x x) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))) w : FVec Ideal S17408x3840 .f32) (ix2 r d))
      (entry x g w r d) := by
  unfold entry normed
  pointwise

end Cert.Inproj

end
-- ==== Proof.Outproj.lean ====
/- The output projection: the kernel's three products of a block of rows are the product of the rows laid side by side. -/
module

public import proofs.«01_k».proof.Proof.Gen.Kernel4Ideal.Value
public import proofs.«01_k».proof.Proof.Gen.Reference4Ideal.Run
public import Idealize.ShloMosaic.Lib.VecWindow
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen Cert.Kernel4Ideal.Value

namespace Cert.Outproj

/-- The output projection at row `r`, column `d`: `x` and the three groups' shares of the product. -/
def entry (x : Vec Ideal S17408x1024 .f32) (ya : Vec Ideal S17408x256 .f32) (yb yc : Vec Ideal S17408x384 .f32) (w : Vec Ideal S1024x1024 .f32)
    (r : Fin 17408) (d : Fin 1024) : EReal :=
  x (ix2 r d) + ((∑ k : Fin 256, ya (ix2 r k) * w (ix2 ⟨k.val, by omega⟩ d)) + (∑ k : Fin 384, yb (ix2 r k) * w (ix2 ⟨256 + k.val, by omega⟩ d))
    + (∑ k : Fin 384, yc (ix2 r k) * w (ix2 ⟨640 + k.val, by omega⟩ d)))

theorem pay (v0 : Vec Ideal S512x256 .f32) (v2 : Vec Ideal S256x1024 .bf16) (v5 : Vec Ideal S512x384 .f32) (v7 : Vec Ideal S384x1024 .bf16)
    (v11 : Vec Ideal S512x384 .f32) (v13 : Vec Ideal S384x1024 .bf16) (v17 : Vec Ideal S512x1024 .f32) (r : Fin 512) (d : Fin 1024) :
    k0_pay1 v0 v2 v5 v7 v11 v13 v17 (ix2 r d) = v17 (ix2 r d) + ((∑ k : Fin 256, v0 (ix2 r k) * v2 (ix2 k d)) + (∑ k : Fin 384, v5 (ix2 r k) * v7 (ix2 k d))
      + (∑ k : Fin 384, v11 (ix2 r k) * v13 (ix2 k d))) := by
  pointwise [k0_pay1]

variable (m : ((l : Loc nD τ sig) → Buf (Elt Ideal) l)) (c : Dev nD)

theorem windows : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![t.val, 0] := by
  decide +kernel

theorem N34 (t : Fin cfg0.N) : t.val < 34 := t.isLt

theorem block_x (t : Fin cfg0.N) (i : Fin 512) (l : Fin 1024) :
    iblk m c 0 t (ix2 i l) = m ((c : Thread nD τ).loc main_arg0) (ix2 ⟨512 * t.val + i.val, by have := N34 t; omega⟩ l) := by
  have hw := (windows t).1
  blk_ext [iblk, V_main_arg0, hw]

theorem block_a (t : Fin cfg0.N) (i : Fin 512) (l : Fin 256) :
    iblk m c 1 t (ix2 i l) = m ((c : Thread nD τ).loc main_arg1) (ix2 ⟨512 * t.val + i.val, by have := N34 t; omega⟩ l) := by
  have hw := (windows t).2.1
  blk_ext [iblk, V_main_arg1, hw]

theorem block_b (t : Fin cfg0.N) (i : Fin 512) (l : Fin 384) :
    iblk m c 2 t (ix2 i l) = m ((c : Thread nD τ).loc main_arg2) (ix2 ⟨512 * t.val + i.val, by have := N34 t; omega⟩ l) := by
  have hw := (windows t).2.2.1
  blk_ext [iblk, V_main_arg2, hw]

theorem block_c (t : Fin cfg0.N) (i : Fin 512) (l : Fin 384) :
    iblk m c 3 t (ix2 i l) = m ((c : Thread nD τ).loc main_arg3) (ix2 ⟨512 * t.val + i.val, by have := N34 t; omega⟩ l) := by
  have hw := (windows t).2.2.2.1
  blk_ext [iblk, V_main_arg3, hw]

theorem entry_w (i : Fin 1024) (l : Fin 1024) : V m c main_v0 (ix2 i l) = m ((c : Thread nD τ).loc main_arg4) (ix2 i l) := by
  entry_read
  pointwise

theorem block_w (t : Fin cfg0.N) (i : Fin 1024) (l : Fin 1024) :
    iblk m c 4 t (ix2 i l) = m ((c : Thread nD τ).loc main_arg4) (ix2 i l) := by
  have hw := (windows t).2.2.2.2.1
  refine Eq.trans ?_ (entry_w m c i l)
  blk_ext [iblk, hw]

/-- The whole result over the launch's arguments. -/
def G : Buf (Elt Ideal) ((c : Thread nD τ).loc main_v1) := fun i =>
  entry (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem ld_rows (X : Vec Ideal S1024x1024 .bf16) (o n : ℕ) (h : ∀ a, (![o, 0] : Fin 2 → ℕ) a + (![n, 1024] : Fin 2 → ℕ) a ≤ S1024x1024.size a)
    (hn : o + n ≤ 1024) (k : Fin n) (d : Fin 1024) :
    View.ld X (Rect.unit (s := S1024x1024) ![o, 0] ![n, 1024] h) (ix2 k d) = X (ix2 ⟨o + k.val, by omega⟩ d) := by
  refine congrArg X (funext fun a => Fin.ext ?_)
  match a with
  | 0 => simp [Rect.emb_apply]
  | 1 => simp [Rect.emb_apply]

theorem zero2 : (![0, 0] : Fin 2 → ℕ) = fun _ => 0 := by funext a; match a with | 0 => rfl | 1 => rfl

theorem out_pay (x0 : Vec Ideal S512x1024 .f32) (x1 : Vec Ideal S512x256 .f32) (x2 x3 : Vec Ideal S512x384 .f32) (x4 : Vec Ideal S1024x1024 .bf16) :
    out0_5 x0 x1 x2 x3 x4 = k0_pay1 x1 (View.ld x4 r0_1) x2 (View.ld x4 r0_3) x3 (View.ld x4 r0_4) x0 := by
  unfold out0_5
  rw [View.canon_unit_zero zero2]
  rw [View.ld_unit_zero (S := S512x256) zero2, View.ld_unit_zero (S := S512x384) zero2, View.ld_unit_zero (S := S512x384) zero2, View.ld_unit_zero (S := S512x1024) zero2]

theorem point (t : Fin cfg0.N) (r : Fin 512) (d : Fin 1024) :
    out0_5 (iblk m c 0 t) (iblk m c 1 t) (iblk m c 2 t) (iblk m c 3 t) (iblk m c 4 t) (ix2 r d)
      = G m c (ix2 ⟨512 * t.val + r.val, by have := N34 t; omega⟩ d) := by
  rw [out_pay, pay]
  unfold G entry
  have hw1 : ∀ k : Fin 256, View.ld (iblk m c 4 t) r0_1 (ix2 k d) = m ((c : Thread nD τ).loc main_arg4) (ix2 ⟨k.val, by omega⟩ d) := fun k => by
    refine (ld_rows _ 0 256 _ (by omega) k d).trans ?_
    rw [block_w]
    congr 2
    exact Fin.ext (Nat.zero_add _)
  have hw2 : ∀ k : Fin 384, View.ld (iblk m c 4 t) r0_3 (ix2 k d) = m ((c : Thread nD τ).loc main_arg4) (ix2 ⟨256 + k.val, by omega⟩ d) := fun k =>
    (ld_rows _ 256 384 _ (by omega) k d).trans (block_w m c t _ d)
  have hw3 : ∀ k : Fin 384, View.ld (iblk m c 4 t) r0_4 (ix2 k d) = m ((c : Thread nD τ).loc main_arg4) (ix2 ⟨640 + k.val, by omega⟩ d) := fun k =>
    (ld_rows _ 640 384 _ (by omega) k d).trans (block_w m c t _ d)
  simp only [hw1, hw2, hw3, block_x, block_a, block_b, block_c]
  rfl

theorem flushes : ∀ t : Fin cfg0.N, (cfg0.win 5).flush t = true := by decide +kernel

/-- The kernel's result. -/
theorem final : (dats m 0 c).arrAt 5 cfg0.N = G m c := by
  funext i
  have h0 : (i 0).val < 17408 := (i 0).isLt
  have ht : (i 0).val / 512 < cfg0.N := by show (i 0).val / 512 < 34; omega
  have hw := (windows ⟨(i 0).val / 512, ht⟩).2.2.2.2.2
  have hb := congrFun (blocks5 m c ⟨(i 0).val / 512, ht⟩ (flushes _))
    (ix2 ⟨(i 0).val % 512, Nat.mod_lt _ (by decide)⟩ (i 1))
  have he : ((cfg0.win 5).blk ⟨(i 0).val / 512, ht⟩).view.emb (ix2 ⟨(i 0).val % 512, Nat.mod_lt _ (by decide)⟩ (i 1)) = i := by
    funext a
    refine Fin.ext ?_
    match a with
    | 0 =>
      show win0_5.index ⟨(i 0).val / 512, ht⟩ (0 : Fin 2) * 512 + 1 * ((i 0).val % 512) = (i 0).val
      rw [hw]; show (i 0).val / 512 * 512 + 1 * ((i 0).val % 512) = _; omega
    | 1 =>
      show win0_5.index ⟨(i 0).val / 512, ht⟩ (1 : Fin 2) * 1024 + 1 * (i 1).val = (i 1).val
      rw [hw]; show 0 * 1024 + 1 * (i 1).val = _; omega
  rw [flushed5] at hb
  have hp := point m c ⟨(i 0).val / 512, ht⟩ ⟨(i 0).val % 512, Nat.mod_lt _ (by decide)⟩ (i 1)
  have hi : (ix2 ⟨512 * ((i 0).val / 512) + (i 0).val % 512, by omega⟩ (i 1) : S17408x1024.Idx) = i := by
    funext a
    match a with
    | 0 => exact Fin.ext (by show 512 * ((i 0).val / 512) + (i 0).val % 512 = _; omega)
    | 1 => rfl
  refine ((congrArg _ he.symm).trans hb).trans (hp.trans (congrArg (G m c) hi))

end Cert.Outproj

end
-- ==== Proof.OutprojRef.lean ====
/- The output projection in the plain program: the rows laid side by side, times the weights. -/
module

public import proofs.«01_k».proof.Proof.Outproj

@[expose] public section

set_option maxRecDepth 16384

noncomputable section

open Idealize.ShloMosaic Idealize.ShloMosaic.TcCoe Idealize.SL.Sem Idealize.ShloMosaic.StableHlo
open Cert.Reference4Ideal Cert.Reference4Ideal.Gen

namespace Cert.Outproj

/-- A sum over the side-by-side columns, group by group. -/
theorem sum_groups (f : Fin 1024 → EReal) :
    ∑ k, f k = ((∑ k : Fin 256, f ⟨k.val, by omega⟩) + (∑ k : Fin 384, f ⟨256 + k.val, by omega⟩)) + (∑ k : Fin 384, f ⟨640 + k.val, by omega⟩) := by
  have h1 := Fin.sum_univ_add (a := 640) (b := 384) f
  have h2 := Fin.sum_univ_add (a := 256) (b := 384) fun k : Fin 640 => f (Fin.castAdd 384 k)
  rw [h2] at h1
  exact h1

theorem reference (x : Vec Ideal S17408x1024 .f32) (ya : Vec Ideal S17408x256 .f32) (yb yc : Vec Ideal S17408x384 .f32) (w : Vec Ideal S1024x1024 .f32) (r : Fin 17408) (d : Fin 1024) :
    @Eq EReal ((addf x (Host.dotGeneral (φ₁ := .f32) (φ₂ := .f32) dot_S17408x1024_S1024x1024_S17408x1024_1_0_0_1_n_n none
      (concatenate S17408x1024 1 [⟨S17408x256, ya⟩, ⟨S17408x384, yb⟩, ⟨S17408x384, yc⟩] concatenates_S17408x256_S17408x384_S17408x384_S17408x1024_d1 : Vec Ideal S17408x1024 .f32) w) : FVec Ideal S17408x1024 .f32) (ix2 r d))
      (entry x ya yb yc w r d) := by
  unfold entry
  pointwise
  rw [sum_groups]
  refine congrArg _ (congrArg₂ _ (congrArg₂ _ ?_ ?_) ?_)
  · refine Finset.sum_congr rfl fun k _ => ?_
    rw [dif_pos k.isLt]
  · refine Finset.sum_congr rfl fun k _ => ?_
    rw [dif_neg (by show ¬ 256 + k.val < 256; omega), dif_pos (by show 256 + k.val - 256 < 384; omega)]
    exact congrArg (fun n => yb (ix2 r n) * _) (Fin.ext (by show 256 + k.val - 256 = k.val; omega))
  · refine Finset.sum_congr rfl fun k _ => ?_
    rw [dif_neg (by show ¬ 640 + k.val < 256; omega), dif_neg (by show ¬ 640 + k.val - 256 < 384; omega)]
    exact congrArg (fun n => yc (ix2 r n) * _) (Fin.ext (by show 640 + k.val - 256 - 384 = k.val; omega))

end Cert.Outproj

end
-- ==== Proof.lean ====
module

public import proofs.«01_k».proof.Proof.Gen.KernelIdeal.Value
public import proofs.«01_k».proof.Proof.Gen.ReferenceIdeal.Run
public import proofs.«01_k».proof.Proof.Gen.ReferenceIdeal.Step
public import proofs.«01_k».proof.Defs
public import proofs.«01_k».proof.Proof.Tie
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2Ideal.Value
public import proofs.«01_k».proof.Proof.Gen.Reference2Ideal.Run
public import proofs.«01_k».proof.Proof.Gen.Kernel2.Frame
public import proofs.«01_k».proof.Proof.Gen.Kernel2Ideal.Frame
public import proofs.«01_k».proof.Proof.Gen.Kernel3Ideal.Value
public import proofs.«01_k».proof.Proof.Gen.Reference3Ideal.Run
public import proofs.«01_k».proof.Proof.Gen.Kernel3.Frame
public import proofs.«01_k».proof.Proof.Gen.Kernel3Ideal.Frame
public import proofs.«01_k».proof.Proof.Gen.Kernel4Ideal.Value
public import proofs.«01_k».proof.Proof.Gen.Reference4Ideal.Run
public import proofs.«01_k».proof.Proof.Gen.Kernel4.Frame
public import proofs.«01_k».proof.Proof.Gen.Kernel4Ideal.Frame
public import proofs.«01_k».proof.Proof.Gen.Kernel5Ideal.Value
public import proofs.«01_k».proof.Proof.Gen.Reference5Ideal.Run
public import proofs.«01_k».proof.Proof.Gen.Kernel5.Frame
public import proofs.«01_k».proof.Proof.Gen.Kernel5Ideal.Frame
public import proofs.«01_k».proof.Proof.ConvPromptRef
public import proofs.«01_k».proof.Proof.Gen.Kernel6Ideal.Value
public import proofs.«01_k».proof.Proof.Gen.Reference6Ideal.Run
public import proofs.«01_k».proof.Proof.Gen.Kernel6.Frame
public import proofs.«01_k».proof.Proof.Gen.Kernel6Ideal.Frame
public import proofs.«01_k».proof.Proof.ConvSampleRef
public import proofs.«01_k».proof.Proof.Gen.Kernel9Ideal.Value
public import proofs.«01_k».proof.Proof.Gen.Reference9Ideal.Run
public import proofs.«01_k».proof.Proof.Gen.Kernel9.Frame
public import proofs.«01_k».proof.Proof.Gen.Kernel9Ideal.Frame
public import proofs.«01_k».proof.Proof.AttnPromptRef
public import proofs.«01_k».proof.Proof.Finite9
public import proofs.«01_k».proof.Proof.Gen.Kernel10Ideal.Value
public import proofs.«01_k».proof.Proof.Gen.Reference10Ideal.Run
public import proofs.«01_k».proof.Proof.Gen.Kernel10.Frame
public import proofs.«01_k».proof.Proof.Gen.Kernel10Ideal.Frame
public import proofs.«01_k».proof.Proof.AttnSampleRef
public import proofs.«01_k».proof.Proof.Finite10
public import proofs.«01_k».proof.Proof.FfnRef
public import proofs.«01_k».proof.Proof.InprojRef
public import proofs.«01_k».proof.Proof.OutprojRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

set_option maxRecDepth 16384

/-- The reference runs, keeps its arguments and ends with its counters at zero. -/
theorem frameReference : quiescent_ReferenceIdeal := fun m ρ _ =>
  (θ_run Cert.ReferenceIdeal.defs _ _).mono (fun r h => ⟨fun c => (h c).2.2, sem_eq_zero_of_no_sems (by decide) _⟩) (Cert.ReferenceIdeal.Value.run m ρ)

/-- Kernel and reference end with equal results. -/
theorem value : algebraic_KernelIdeal_ReferenceIdeal_pre_finite := fun m g m' g' hpre hargs =>
  ⟨fun c => Cert.KernelIdeal.Value.G7 m c, fun c => Cert.KernelIdeal.Value.G8 m c, Cert.KernelIdeal.Value.run m g,
    (θ_run Cert.ReferenceIdeal.defs _ _).mono (fun r h c => by
      obtain ⟨a0, a1, a2, a3, a4, a5, a6⟩ := hargs c
      obtain ⟨e7, e8⟩ := Cert.Gdn.Tie.results m m' c ⟨a0, a1, a2, a3, a4, a5, a6⟩ (hpre c)
      exact ⟨(h c).1.trans e7, (h c).2.1.trans e8, (h c).2.2⟩) (Cert.ReferenceIdeal.Value.run m' g')⟩

/-- The reference of program 2 runs, keeps its arguments and ends with its counters at zero. -/
theorem frameReference2 : quiescent_Reference2Ideal := fun m ρ _ =>
  (θ_run Cert.Reference2Ideal.defs _ _).mono (fun r h => ⟨fun c => (h c).2, sem_eq_zero_of_no_sems (by decide) _⟩) (Cert.Reference2Ideal.Value.run m ρ)

/-- The reference of program 3 runs, keeps its arguments and ends with its counters at zero. -/
theorem frameReference3 : quiescent_Reference3Ideal := fun m ρ _ =>
  (θ_run Cert.Reference3Ideal.defs _ _).mono (fun r h => ⟨fun c => (h c).2, sem_eq_zero_of_no_sems (by decide) _⟩) (Cert.Reference3Ideal.Value.run m ρ)

/-- The reference of program 4 runs, keeps its arguments and ends with its counters at zero. -/
theorem frameReference4 : quiescent_Reference4Ideal := fun m ρ _ =>
  (θ_run Cert.Reference4Ideal.defs _ _).mono (fun r h => ⟨fun c => (h c).2, sem_eq_zero_of_no_sems (by decide) _⟩) (Cert.Reference4Ideal.Value.run m ρ)

/-- The reference of program 5 runs, keeps its arguments and ends with its counters at zero. -/
theorem frameReference5 : quiescent_Reference5Ideal := fun m ρ _ =>
  (θ_run Cert.Reference5Ideal.defs _ _).mono (fun r h => ⟨fun c => (h c).2.2, sem_eq_zero_of_no_sems (by decide) _⟩) (Cert.Reference5Ideal.Value.run m ρ)

/-- The reference of program 6 runs, keeps its arguments and ends with its counters at zero. -/
theorem frameReference6 : quiescent_Reference6Ideal := fun m ρ _ =>
  (θ_run Cert.Reference6Ideal.defs _ _).mono (fun r h => ⟨fun c => (h c).2.2, sem_eq_zero_of_no_sems (by decide) _⟩) (Cert.Reference6Ideal.Value.run m ρ)

/-- The reference of program 9 runs, keeps its arguments and ends with its counters at zero. -/
theorem frameReference9 : quiescent_Reference9Ideal := fun m ρ _ =>
  (θ_run Cert.Reference9Ideal.defs _ _).mono (fun r h => ⟨fun c => (h c).2.2.2.2.2, sem_eq_zero_of_no_sems (by decide) _⟩) (Cert.Reference9Ideal.Value.run m ρ)

/-- The reference of program 10 runs, keeps its arguments and ends with its counters at zero. -/
theorem frameReference10 : quiescent_Reference10Ideal := fun m ρ _ =>
  (θ_run Cert.Reference10Ideal.defs _ _).mono (fun r h => ⟨fun c => (h c).2.2.2.2.2, sem_eq_zero_of_no_sems (by decide) _⟩) (Cert.Reference10Ideal.Value.run m ρ)

/-- The feed-forward half and its plain form end with equal results. -/
theorem value2 : algebraic_Kernel2Ideal_Reference2Ideal := fun m g m' g' _ hargs =>
  ⟨fun c => Cert.Kernel2Ideal.Value.G5 m c, Cert.Kernel2Ideal.Value.run m g,
    (θ_run Cert.Reference2Ideal.defs _ _).mono (fun r h c => by
      obtain ⟨a0, a1, a2, a3, a4⟩ := hargs c
      refine ⟨?_, (h c).2⟩
      refine (h c).1.trans ?_
      rw [a0, a1, a2, a3, a4]
      funext i
      rw [show i = ix2 (i 0) (i 1) from funext fun a => match a with | 0 => rfl | 1 => rfl]
      exact (Cert.Ffn.reference _ _ _ _ _ _ _).trans (Cert.Ffn.G5_eq m c _ _).symm) (Cert.Reference2Ideal.Value.run m' g')⟩

/-- The input projection and its plain form end with equal results. -/
theorem value3 : algebraic_Kernel3Ideal_Reference3Ideal := fun m g m' g' _ hargs =>
  ⟨fun c => Cert.Kernel3Ideal.Value.G3 m c, Cert.Kernel3Ideal.Value.run m g,
    (θ_run Cert.Reference3Ideal.defs _ _).mono (fun r h c => by
      obtain ⟨a0, a1, a2⟩ := hargs c
      refine ⟨?_, (h c).2⟩
      refine (h c).1.trans ?_
      rw [a0, a1, a2]
      funext i
      rw [show i = ix2 (i 0) (i 1) from funext fun a => match a with | 0 => rfl | 1 => rfl]
      exact (Cert.Inproj.reference _ _ _ _ _).trans (Cert.Inproj.G3_eq m c _ _).symm) (Cert.Reference3Ideal.Value.run m' g')⟩

/-- The output projection and its plain form end with equal results. -/
theorem value4 : algebraic_Kernel4Ideal_Reference4Ideal := fun m g m' g' _ hargs =>
  ⟨fun c => Cert.Outproj.G m c, (θ_run Cert.Kernel4Ideal.defs _ _).mono (fun r h c => ⟨(h c).1.trans (Cert.Outproj.final m c), (h c).2⟩) (Cert.Kernel4Ideal.Value.run_blocks m g),
    (θ_run Cert.Reference4Ideal.defs _ _).mono (fun r h c => by
      obtain ⟨a0, a1, a2, a3, a4⟩ := hargs c
      refine ⟨?_, (h c).2⟩
      refine (h c).1.trans ?_
      rw [a0, a1, a2, a3, a4]
      funext i
      rw [show i = ix2 (i 0) (i 1) from funext fun a => match a with | 0 => rfl | 1 => rfl]
      exact Cert.Outproj.reference _ _ _ _ _ _ _) (Cert.Reference4Ideal.Value.run m' g')⟩

/-- The gated convolution over the long sequences and its plain form end with equal results. -/
theorem value5 : algebraic_Kernel5Ideal_Reference5Ideal := fun m g m' g' _ hargs =>
  ⟨fun c => Cert.Kernel5Ideal.Value.G3 m c, fun c => Cert.Kernel5Ideal.Value.G4 m c, Cert.Kernel5Ideal.Value.run m g,
    (θ_run Cert.Reference5Ideal.defs _ _).mono (fun r h c => by
      obtain ⟨a0, a1, a2⟩ := hargs c
      refine ⟨?_, ?_, (h c).2.2⟩
      · refine (h c).1.trans ?_
        rw [a0, a1, a2]
        funext i
        rw [show i = ix2 (i 0) (i 1) from funext fun a => match a with | 0 => rfl | 1 => rfl]
        exact (Cert.ConvPrompt.reference_y _ _ _ _ _).trans (Cert.ConvPrompt.G3_eq m c _ _).symm
      · refine (h c).2.1.trans ?_
        rw [a0, a2]
        funext i
        rw [show i = ix3 (i 0) (i 1) (i 2) from funext fun a => match a with | 0 => rfl | 1 => rfl | 2 => rfl]
        exact (Cert.ConvPrompt.reference_state _ _ _ _ _).trans (Cert.ConvPrompt.G4_eq m c _ _ _).symm) (Cert.Reference5Ideal.Value.run m' g')⟩

/-- The gated convolution over the short sequences and its plain form end with equal results. -/
theorem value6 : algebraic_Kernel6Ideal_Reference6Ideal := fun m g m' g' _ hargs =>
  ⟨fun c => Cert.ConvSample.Gy m c, fun c => Cert.ConvSample.Gs m c,
    (θ_run Cert.Kernel6Ideal.defs _ _).mono (fun r h c => ⟨(h c).1.trans (Cert.ConvSample.final3 m c), (h c).2.1.trans (Cert.ConvSample.final4 m c), (h c).2.2⟩) (Cert.Kernel6Ideal.Value.run_blocks m g),
    (θ_run Cert.Reference6Ideal.defs _ _).mono (fun r h c => by
      obtain ⟨a0, a1, a2⟩ := hargs c
      refine ⟨?_, ?_, (h c).2.2⟩
      · refine (h c).1.trans ?_
        rw [a0, a1, a2]
        funext i
        rw [show i = ix2 (i 0) (i 1) from funext fun a => match a with | 0 => rfl | 1 => rfl]
        exact Cert.ConvSample.reference_y _ _ _ _ _
      · refine (h c).2.1.trans ?_
        rw [a0, a2]
        funext i
        rw [show i = ix3 (i 0) (i 1) (i 2) from funext fun a => match a with | 0 => rfl | 1 => rfl | 2 => rfl]
        exact Cert.ConvSample.reference_state _ _ _ _ _) (Cert.Reference6Ideal.Value.run m' g')⟩

/-- The rows the attention reads, prepared over the prompt, and their plain form end with equal results when the queries' and keys' columns are finite. -/
theorem value9 : algebraic_Kernel9Ideal_Reference9Ideal_pre_finite9 := fun m g m' g' hpre hargs =>
  have H : ∀ c : Dev Cert.Kernel9Ideal.nD, Cert.AttnPrompt.RealQK (m ((c.tc : Thread Cert.Kernel9Ideal.nD Cert.Kernel9Ideal.τ).loc Cert.Kernel9Ideal.main_arg0)) :=
    fun c => Cert.Attn.Finite9.decode _ _ _ (fun i => i.elim0) (congrFun (hpre c) _)
  ⟨fun c => Cert.AttnPrompt.G8 m c, fun c => Cert.AttnPrompt.G9 m c, fun c => Cert.AttnPrompt.G10 m c, fun c => Cert.AttnPrompt.G11 m c, fun c => Cert.AttnPrompt.G12 m c,
    (θ_run Cert.Kernel9Ideal.defs _ _).mono (fun r h c => ⟨(h c).1.trans (Cert.AttnPrompt.final8 m c (H c)), (h c).2.1.trans (Cert.AttnPrompt.final9 m c (H c)), (h c).2.2.1.trans (Cert.AttnPrompt.final10 m c),
      (h c).2.2.2.1.trans (Cert.AttnPrompt.final11 m c), (h c).2.2.2.2.1.trans (Cert.AttnPrompt.final12 m c), (h c).2.2.2.2.2⟩) (Cert.Kernel9Ideal.Value.run_blocks m g),
    (θ_run Cert.Reference9Ideal.defs _ _).mono (fun r h c => by
      obtain ⟨a0, a1, a2⟩ := hargs c
      have ea0 : Cert.AttnPrompt.pOf (StableHlo.launchContents m' c) = m ((c.tc : Thread Cert.Kernel9Ideal.nD Cert.Kernel9Ideal.τ).loc Cert.Kernel9Ideal.main_arg0) := a0
      have ea1 : ((StableHlo.launchContents m' c) (Proc.devRef .tc Cert.Reference9Ideal.main_arg1) : Vec Ideal Cert.Reference9Ideal.S64 .f32) = m ((c.tc : Thread Cert.Kernel9Ideal.nD Cert.Kernel9Ideal.τ).loc Cert.Kernel9Ideal.main_arg1) := a1
      have ea2 : ((StableHlo.launchContents m' c) (Proc.devRef .tc Cert.Reference9Ideal.main_arg2) : Vec Ideal Cert.Reference9Ideal.S64 .f32) = m ((c.tc : Thread Cert.Kernel9Ideal.nD Cert.Kernel9Ideal.τ).loc Cert.Kernel9Ideal.main_arg2) := a2
      refine ⟨?_, ?_, ?_, ?_, ?_, (h c).2.2.2.2.2⟩
      · refine (h c).1.trans (funext fun i => ?_)
        rw [show i = ix2 (i 0) (i 1) from funext fun a => match a with | 0 => rfl | 1 => rfl]
        refine (Cert.AttnPrompt.reference_q (StableHlo.launchContents m' c) _ _).trans ?_
        rw [ea0, ea1]
        rfl
      · refine (h c).2.1.trans (funext fun i => ?_)
        rw [show i = ix2 (i 0) (i 1) from funext fun a => match a with | 0 => rfl | 1 => rfl]
        refine (Cert.AttnPrompt.reference_k (StableHlo.launchContents m' c) _ _).trans ?_
        rw [ea0, ea2]
        rfl
      · refine (h c).2.2.1.trans (funext fun i => ?_)
        rw [show i = ix2 (i 0) (i 1) from funext fun a => match a with | 0 => rfl | 1 => rfl]
        refine (Cert.AttnPrompt.reference_v (StableHlo.launchContents m' c) _ _).trans ?_
        rw [ea0]
        rfl
      · refine (h c).2.2.2.1.trans (funext fun i => ?_)
        rw [show i = ix2 (i 0) (i 1) from funext fun a => match a with | 0 => rfl | 1 => rfl]
        refine (Cert.AttnPrompt.reference_i (StableHlo.launchContents m' c) _ _).trans ?_
        rw [ea0]
        rfl
      · refine (h c).2.2.2.2.1.trans (funext fun i => ?_)
        rw [show i = ix2 (i 0) (i 1) from funext fun a => match a with | 0 => rfl | 1 => rfl]
        refine (Cert.AttnPrompt.reference_w (StableHlo.launchContents m' c) _ _).trans ?_
        rw [ea0]
        rfl) (Cert.Reference9Ideal.Value.run m' g')⟩

/-- The rows the attention reads, prepared over the short sequences, and their plain form end with equal results when the queries' and keys' columns are finite. -/
theorem value10 : algebraic_Kernel10Ideal_Reference10Ideal_pre_finite10 := fun m g m' g' hpre hargs =>
  have H : ∀ c : Dev Cert.Kernel10Ideal.nD, Cert.AttnSample.RealQK (m ((c.tc : Thread Cert.Kernel10Ideal.nD Cert.Kernel10Ideal.τ).loc Cert.Kernel10Ideal.main_arg0)) :=
    fun c => Cert.Attn.Finite10.decode _ _ _ (fun i => i.elim0) (congrFun (hpre c) _)
  ⟨fun c => Cert.AttnSample.G8 m c, fun c => Cert.AttnSample.G9 m c, fun c => Cert.AttnSample.G10 m c, fun c => Cert.AttnSample.G11 m c, fun c => Cert.AttnSample.G12 m c,
    (θ_run Cert.Kernel10Ideal.defs _ _).mono (fun r h c => ⟨(h c).1.trans (Cert.AttnSample.final8 m c (H c)), (h c).2.1.trans (Cert.AttnSample.final9 m c (H c)), (h c).2.2.1.trans (Cert.AttnSample.final10 m c),
      (h c).2.2.2.1.trans (Cert.AttnSample.final11 m c), (h c).2.2.2.2.1.trans (Cert.AttnSample.final12 m c), (h c).2.2.2.2.2⟩) (Cert.Kernel10Ideal.Value.run_blocks m g),
    (θ_run Cert.Reference10Ideal.defs _ _).mono (fun r h c => by
      obtain ⟨a0, a1, a2⟩ := hargs c
      have ea0 : Cert.AttnSample.pOf (StableHlo.launchContents m' c) = m ((c.tc : Thread Cert.Kernel10Ideal.nD Cert.Kernel10Ideal.τ).loc Cert.Kernel10Ideal.main_arg0) := a0
      have ea1 : ((StableHlo.launchContents m' c) (Proc.devRef .tc Cert.Reference10Ideal.main_arg1) : Vec Ideal Cert.Reference10Ideal.S64 .f32) = m ((c.tc : Thread Cert.Kernel10Ideal.nD Cert.Kernel10Ideal.τ).loc Cert.Kernel10Ideal.main_arg1) := a1
      have ea2 : ((StableHlo.launchContents m' c) (Proc.devRef .tc Cert.Reference10Ideal.main_arg2) : Vec Ideal Cert.Reference10Ideal.S64 .f32) = m ((c.tc : Thread Cert.Kernel10Ideal.nD Cert.Kernel10Ideal.τ).loc Cert.Kernel10Ideal.main_arg2) := a2
      refine ⟨?_, ?_, ?_, ?_, ?_, (h c).2.2.2.2.2⟩
      · refine (h c).1.trans (funext fun i => ?_)
        rw [show i = ix2 (i 0) (i 1) from funext fun a => match a with | 0 => rfl | 1 => rfl]
        refine (Cert.AttnSample.reference_q (StableHlo.launchContents m' c) _ _).trans ?_
        rw [ea0, ea1]
        rfl
      · refine (h c).2.1.trans (funext fun i => ?_)
        rw [show i = ix2 (i 0) (i 1) from funext fun a => match a with | 0 => rfl | 1 => rfl]
        refine (Cert.AttnSample.reference_k (StableHlo.launchContents m' c) _ _).trans ?_
        rw [ea0, ea2]
        rfl
      · refine (h c).2.2.1.trans (funext fun i => ?_)
        rw [show i = ix2 (i 0) (i 1) from funext fun a => match a with | 0 => rfl | 1 => rfl]
        refine (Cert.AttnSample.reference_v (StableHlo.launchContents m' c) _ _).trans ?_
        rw [ea0]
        rfl
      · refine (h c).2.2.2.1.trans (funext fun i => ?_)
        rw [show i = ix2 (i 0) (i 1) from funext fun a => match a with | 0 => rfl | 1 => rfl]
        refine (Cert.AttnSample.reference_i (StableHlo.launchContents m' c) _ _).trans ?_
        rw [ea0]
        rfl
      · refine (h c).2.2.2.2.1.trans (funext fun i => ?_)
        rw [show i = ix2 (i 0) (i 1) from funext fun a => match a with | 0 => rfl | 1 => rfl]
        refine (Cert.AttnSample.reference_w (StableHlo.launchContents m' c) _ _).trans ?_
        rw [ea0]
        rfl) (Cert.Reference10Ideal.Value.run m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, Cert.Gdn.Finite.facts, Cert.Attn.Finite9.facts, Cert.Attn.Finite10.facts,
  fun m ρ _ => Cert.Kernel.Gen.frame m ρ, fun m ρ _ => Cert.KernelIdeal.Gen.frame m ρ, fun m ρ _ => Cert.KernelIdeal.Gen.frame m ρ,
  frameReference, fun m ρ _ => frameReference m ρ trivial,
  fun m ρ _ => Cert.Kernel2.Gen.frame m ρ, fun m ρ _ => Cert.Kernel2Ideal.Gen.frame m ρ, frameReference2,
  fun m ρ _ => Cert.Kernel3.Gen.frame m ρ, fun m ρ _ => Cert.Kernel3Ideal.Gen.frame m ρ, frameReference3,
  fun m ρ _ => Cert.Kernel4.Gen.frame m ρ, fun m ρ _ => Cert.Kernel4Ideal.Gen.frame m ρ, frameReference4,
  fun m ρ _ => Cert.Kernel5.Gen.frame m ρ, fun m ρ _ => Cert.Kernel5Ideal.Gen.frame m ρ, frameReference5,
  fun m ρ _ => Cert.Kernel6.Gen.frame m ρ, fun m ρ _ => Cert.Kernel6Ideal.Gen.frame m ρ, frameReference6,
  fun m ρ _ => Cert.Kernel9.Gen.frame m ρ, fun m ρ _ => Cert.Kernel9Ideal.Gen.frame m ρ, fun m ρ _ => Cert.Kernel9Ideal.Gen.frame m ρ,
  frameReference9, fun m ρ _ => frameReference9 m ρ trivial,
  fun m ρ _ => Cert.Kernel10.Gen.frame m ρ, fun m ρ _ => Cert.Kernel10Ideal.Gen.frame m ρ, fun m ρ _ => Cert.Kernel10Ideal.Gen.frame m ρ,
  frameReference10, fun m ρ _ => frameReference10 m ρ trivial,
  trivial, value, trivial, value2, trivial, value3, trivial, value4, trivial, value5, trivial, value6, trivial, value9, trivial, value10⟩

end Cert.Proof

end
